-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_ReferenceQueryIdeal (m : (ℓ : Loc Cert.ReferenceQueryIdeal.nD Cert.ReferenceQueryIdeal.τ Cert.ReferenceQueryIdeal.sig) → Buf (Elt Ideal) ℓ) : Prop :=
  True

def Pre_KernelSsdIn (m : (ℓ : Loc Cert.KernelSsdIn.nD Cert.KernelSsdIn.τ Cert.KernelSsdIn.sig) → Buf (Elt Bits) ℓ) : Prop :=
  True

def Pre_KernelSsdInIdeal (m : (ℓ : Loc Cert.KernelSsdInIdeal.nD Cert.KernelSsdInIdeal.τ Cert.KernelSsdInIdeal.sig) → Buf (Elt Ideal) ℓ) : Prop :=
  True

def Pre_ReferenceSsdInIdeal (m : (ℓ : Loc Cert.ReferenceSsdInIdeal.nD Cert.ReferenceSsdInIdeal.τ Cert.ReferenceSsdInIdeal.sig) → Buf (Elt Ideal) ℓ) : Prop :=
  True

def Pre_KernelMlstmIn (m : (ℓ : Loc Cert.KernelMlstmIn.nD Cert.KernelMlstmIn.τ Cert.KernelMlstmIn.sig) → Buf (Elt Bits) ℓ) : Prop :=
  True

def Pre_KernelMlstmInIdeal (m : (ℓ : Loc Cert.KernelMlstmInIdeal.nD Cert.KernelMlstmInIdeal.τ Cert.KernelMlstmInIdeal.sig) → Buf (Elt Ideal) ℓ) : Prop :=
  True

def Pre_ReferenceMlstmInIdeal (m : (ℓ : Loc Cert.ReferenceMlstmInIdeal.nD Cert.ReferenceMlstmInIdeal.τ Cert.ReferenceMlstmInIdeal.sig) → Buf (Elt Ideal) ℓ) : Prop :=
  True

def Pre_KernelRglruIn (m : (ℓ : Loc Cert.KernelRglruIn.nD Cert.KernelRglruIn.τ Cert.KernelRglruIn.sig) → Buf (Elt Bits) ℓ) : Prop :=
  True

def Pre_KernelRglruInIdeal (m : (ℓ : Loc Cert.KernelRglruInIdeal.nD Cert.KernelRglruInIdeal.τ Cert.KernelRglruInIdeal.sig) → Buf (Elt Ideal) ℓ) : Prop :=
  True

def Pre_ReferenceRglruInIdeal (m : (ℓ : Loc Cert.ReferenceRglruInIdeal.nD Cert.ReferenceRglruInIdeal.τ Cert.ReferenceRglruInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelSsdOut (m : (ℓ : Loc Cert.KernelSsdOut.nD Cert.KernelSsdOut.τ Cert.KernelSsdOut.sig) → Buf (Elt Bits) ℓ) : Prop :=
  True

def Pre_KernelSsdOutIdeal (m : (ℓ : Loc Cert.KernelSsdOutIdeal.nD Cert.KernelSsdOutIdeal.τ Cert.KernelSsdOutIdeal.sig) → Buf (Elt Ideal) ℓ) : Prop :=
  True

def Pre_ReferenceSsdOutIdeal (m : (ℓ : Loc Cert.ReferenceSsdOutIdeal.nD Cert.ReferenceSsdOutIdeal.τ Cert.ReferenceSsdOutIdeal.sig) → Buf (Elt Ideal) ℓ) : Prop :=
  True

def Pre_KernelMlstm (m : (ℓ : Loc Cert.KernelMlstm.nD Cert.KernelMlstm.τ Cert.KernelMlstm.sig) → Buf (Elt Bits) ℓ) : Prop :=
  True

def Pre_KernelMlstmIdeal (m : (ℓ : Loc Cert.KernelMlstmIdeal.nD Cert.KernelMlstmIdeal.τ Cert.KernelMlstmIdeal.sig) → Buf (Elt Ideal) ℓ) : Prop :=
  True

def Pre_KernelMlstmIdeal_finite [hPre_finite : Cert.Pre_finite.Facts] (m : (ℓ : Loc Cert.KernelMlstmIdeal.nD Cert.KernelMlstmIdeal.τ Cert.KernelMlstmIdeal.sig) → Buf (Elt Ideal) ℓ) : Prop :=
  ∀ c : Dev Cert.KernelMlstmIdeal.nD,
    (Cert.Pre_finite.fn (F := Ideal) (m ((c.tc : Thread Cert.KernelMlstmIdeal.nD Cert.KernelMlstmIdeal.τ).loc Cert.KernelMlstmIdeal.main_arg0)) (m ((c.tc : Thread Cert.KernelMlstmIdeal.nD Cert.KernelMlstmIdeal.τ).loc Cert.KernelMlstmIdeal.main_arg1)) (m ((c.tc : Thread Cert.KernelMlstmIdeal.nD Cert.KernelMlstmIdeal.τ).loc Cert.KernelMlstmIdeal.main_arg2))) = (fun _ => 1#1)

def Pre_ReferenceMlstmIdeal (m : (ℓ : Loc Cert.ReferenceMlstmIdeal.nD Cert.ReferenceMlstmIdeal.τ Cert.ReferenceMlstmIdeal.sig) → Buf (Elt Ideal) ℓ) : Prop :=
  True

def Pre_ReferenceMlstmIdeal_finite [hPre_finite : Cert.Pre_finite.Facts] (m : (ℓ : Loc Cert.ReferenceMlstmIdeal.nD Cert.ReferenceMlstmIdeal.τ Cert.ReferenceMlstmIdeal.sig) → Buf (Elt Ideal) ℓ) : Prop :=
  ∀ c : Dev Cert.ReferenceMlstmIdeal.nD,
    (Cert.Pre_finite.fn (F := Ideal) (m ((c.tc : Thread Cert.ReferenceMlstmIdeal.nD Cert.ReferenceMlstmIdeal.τ).loc Cert.ReferenceMlstmIdeal.main_arg0)) (m ((c.tc : Thread Cert.ReferenceMlstmIdeal.nD Cert.ReferenceMlstmIdeal.τ).loc Cert.ReferenceMlstmIdeal.main_arg1)) (m ((c.tc : Thread Cert.ReferenceMlstmIdeal.nD Cert.ReferenceMlstmIdeal.τ).loc Cert.ReferenceMlstmIdeal.main_arg2))) = (fun _ => 1#1)

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelSsd (m : (ℓ : Loc Cert.KernelSsd.nD Cert.KernelSsd.τ Cert.KernelSsd.sig) → Buf (Elt Bits) ℓ) : Prop :=
  True

def Pre_KernelSsdIdeal (m : (ℓ : Loc Cert.KernelSsdIdeal.nD Cert.KernelSsdIdeal.τ Cert.KernelSsdIdeal.sig) → Buf (Elt Ideal) ℓ) : Prop :=
  True

def Pre_KernelSsdIdeal_finite_ssd [hPre_finite_ssd : Cert.Pre_finite_ssd.Facts] (m : (ℓ : Loc Cert.KernelSsdIdeal.nD Cert.KernelSsdIdeal.τ Cert.KernelSsdIdeal.sig) → Buf (Elt Ideal) ℓ) : Prop :=
  ∀ c : Dev Cert.KernelSsdIdeal.nD,
    (Cert.Pre_finite_ssd.fn (F := Ideal) (m ((c.tc : Thread Cert.KernelSsdIdeal.nD Cert.KernelSsdIdeal.τ).loc Cert.KernelSsdIdeal.main_arg0)) (m ((c.tc : Thread Cert.KernelSsdIdeal.nD Cert.KernelSsdIdeal.τ).loc Cert.KernelSsdIdeal.main_arg1)) (m ((c.tc : Thread Cert.KernelSsdIdeal.nD Cert.KernelSsdIdeal.τ).loc Cert.KernelSsdIdeal.main_arg2)) (m ((c.tc : Thread Cert.KernelSsdIdeal.nD Cert.KernelSsdIdeal.τ).loc Cert.KernelSsdIdeal.main_arg3))) = (fun _ => 1#1)

def Pre_ReferenceSsdIdeal (m : (ℓ : Loc Cert.ReferenceSsdIdeal.nD Cert.ReferenceSsdIdeal.τ Cert.ReferenceSsdIdeal.sig) → Buf (Elt Ideal) ℓ) : Prop :=
  True

def Pre_ReferenceSsdIdeal_finite_ssd [hPre_finite_ssd : Cert.Pre_finite_ssd.Facts] (m : (ℓ : Loc Cert.ReferenceSsdIdeal.nD Cert.ReferenceSsdIdeal.τ Cert.ReferenceSsdIdeal.sig) → Buf (Elt Ideal) ℓ) : Prop :=
  ∀ c : Dev Cert.ReferenceSsdIdeal.nD,
    (Cert.Pre_finite_ssd.fn (F := Ideal) (m ((c.tc : Thread Cert.ReferenceSsdIdeal.nD Cert.ReferenceSsdIdeal.τ).loc Cert.ReferenceSsdIdeal.main_arg0)) (m ((c.tc : Thread Cert.ReferenceSsdIdeal.nD Cert.ReferenceSsdIdeal.τ).loc Cert.ReferenceSsdIdeal.main_arg1)) (m ((c.tc : Thread Cert.ReferenceSsdIdeal.nD Cert.ReferenceSsdIdeal.τ).loc Cert.ReferenceSsdIdeal.main_arg2)) (m ((c.tc : Thread Cert.ReferenceSsdIdeal.nD Cert.ReferenceSsdIdeal.τ).loc Cert.ReferenceSsdIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4)
      ∧ r.2.mem ((c.tc : Thread Cert.KernelDown.nD Cert.KernelDown.τ).loc Cert.KernelDown.main_arg5) = m ((c.tc : Thread Cert.KernelDown.nD Cert.KernelDown.τ).loc Cert.KernelDown.main_arg5))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
      ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1)
      ∧ r.2.mem ((c.tc : Thread Cert.KernelGlu.nD Cert.KernelGlu.τ).loc Cert.KernelGlu.main_arg2) = m ((c.tc : Thread Cert.KernelGlu.nD Cert.KernelGlu.τ).loc Cert.KernelGlu.main_arg2)
      ∧ r.2.mem ((c.tc : Thread Cert.KernelGlu.nD Cert.KernelGlu.τ).loc Cert.KernelGlu.main_arg3) = m ((c.tc : Thread Cert.KernelGlu.nD Cert.KernelGlu.τ).loc Cert.KernelGlu.main_arg3)
      ∧ r.2.mem ((c.tc : Thread Cert.KernelGlu.nD Cert.KernelGlu.τ).loc Cert.KernelGlu.main_arg4) = m ((c.tc : Thread Cert.KernelGlu.nD Cert.KernelGlu.τ).loc Cert.KernelGlu.main_arg4))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
      ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
      ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2)
      ∧ r.2.mem ((c.tc : Thread Cert.ReferenceGluIdeal.nD Cert.ReferenceGluIdeal.τ).loc Cert.ReferenceGluIdeal.main_arg3) = m ((c.tc : Thread Cert.ReferenceGluIdeal.nD Cert.ReferenceGluIdeal.τ).loc Cert.ReferenceGluIdeal.main_arg3)
      ∧ r.2.mem ((c.tc : Thread Cert.ReferenceGluIdeal.nD Cert.ReferenceGluIdeal.τ).loc Cert.ReferenceGluIdeal.main_arg4) = m ((c.tc : Thread Cert.ReferenceGluIdeal.nD Cert.ReferenceGluIdeal.τ).loc Cert.ReferenceGluIdeal.main_arg4))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1)
      ∧ r.2.mem ((c.tc : Thread Cert.KernelQuery.nD Cert.KernelQuery.τ).loc Cert.KernelQuery.main_arg2) = m ((c.tc : Thread Cert.KernelQuery.nD Cert.KernelQuery.τ).loc Cert.KernelQuery.main_arg2))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1)
      ∧ r.2.mem ((c.tc : Thread Cert.KernelQueryIdeal.nD Cert.KernelQueryIdeal.τ).loc Cert.KernelQueryIdeal.main_arg2) = m ((c.tc : Thread Cert.KernelQueryIdeal.nD Cert.KernelQueryIdeal.τ).loc Cert.KernelQueryIdeal.main_arg2))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1)
      ∧ r.2.mem ((c.tc : Thread Cert.ReferenceQueryIdeal.nD Cert.ReferenceQueryIdeal.τ).loc Cert.ReferenceQueryIdeal.main_arg2) = m ((c.tc : Thread Cert.ReferenceQueryIdeal.nD Cert.ReferenceQueryIdeal.τ).loc Cert.ReferenceQueryIdeal.main_arg2))
      ∧ r.2.sem = fun _ => 0)

def quiescent_KernelSsdIn [hKernelSsdIn : Cert.KernelSsdIn.Facts] : Prop :=
  ∀ (m : (ℓ : Loc Cert.KernelSsdIn.nD Cert.KernelSsdIn.τ Cert.KernelSsdIn.sig) → Buf (Elt Bits) ℓ) (g : Dev Cert.KernelSsdIn.nD → PrngReg), Pre_KernelSsdIn m →
    θ_run (Cert.KernelSsdIn.defs (F := Bits)) (onTc (τ := Cert.KernelSsdIn.τ) (Cert.KernelSsdIn.main (F := Bits))) ⟨m, fun _ => 0, g⟩ (fun r => (∀ c : Dev Cert.KernelSsdIn.nD,
      r.2.mem ((c.tc : Thread Cert.KernelSsdIn.nD Cert.KernelSsdIn.τ).loc Cert.KernelSsdIn.main_arg0) = m ((c.tc : Thread Cert.KernelSsdIn.nD Cert.KernelSsdIn.τ).loc Cert.KernelSsdIn.main_arg0)
      ∧ r.2.mem ((c.tc : Thread Cert.KernelSsdIn.nD Cert.KernelSsdIn.τ).loc Cert.KernelSsdIn.main_arg1) = m ((c.tc : Thread Cert.KernelSsdIn.nD Cert.KernelSsdIn.τ).loc Cert.KernelSsdIn.main_arg1)
      ∧ r.2.mem ((c.tc : Thread Cert.KernelSsdIn.nD Cert.KernelSsdIn.τ).loc Cert.KernelSsdIn.main_arg2) = m ((c.tc : Thread Cert.KernelSsdIn.nD Cert.KernelSsdIn.τ).loc Cert.KernelSsdIn.main_arg2))
      ∧ r.2.sem = fun _ => 0)

def quiescent_KernelSsdInIdeal [hKernelSsdInIdeal : Cert.KernelSsdInIdeal.Facts] : Prop :=
  ∀ (m : (ℓ : Loc Cert.KernelSsdInIdeal.nD Cert.KernelSsdInIdeal.τ Cert.KernelSsdInIdeal.sig) → Buf (Elt Ideal) ℓ) (g : Dev Cert.KernelSsdInIdeal.nD → PrngReg), Pre_KernelSsdInIdeal m →
    θ_run (Cert.KernelSsdInIdeal.defs (F := Ideal)) (onTc (τ := Cert.KernelSsdInIdeal.τ) (Cert.KernelSsdInIdeal.main (F := Ideal))) ⟨m, fun _ => 0, g⟩ (fun r => (∀ c : Dev Cert.KernelSsdInIdeal.nD,
      r.2.mem ((c.tc : Thread Cert.KernelSsdInIdeal.nD Cert.KernelSsdInIdeal.τ).loc Cert.KernelSsdInIdeal.main_arg0) = m ((c.tc : Thread Cert.KernelSsdInIdeal.nD Cert.KernelSsdInIdeal.τ).loc Cert.KernelSsdInIdeal.main_arg0)
      ∧ r.2.mem ((c.tc : Thread Cert.KernelSsdInIdeal.nD Cert.KernelSsdInIdeal.τ).loc Cert.KernelSsdInIdeal.main_arg1) = m ((c.tc : Thread Cert.KernelSsdInIdeal.nD Cert.KernelSsdInIdeal.τ).loc Cert.KernelSsdInIdeal.main_arg1)
      ∧ r.2.mem ((c.tc : Thread Cert.KernelSsdInIdeal.nD Cert.KernelSsdInIdeal.τ).loc Cert.KernelSsdInIdeal.main_arg2) = m ((c.tc : Thread Cert.KernelSsdInIdeal.nD Cert.KernelSsdInIdeal.τ).loc Cert.KernelSsdInIdeal.main_arg2))
      ∧ r.2.sem = fun _ => 0)

def quiescent_ReferenceSsdInIdeal [hReferenceSsdInIdeal : Cert.ReferenceSsdInIdeal.Facts] : Prop :=
  ∀ (m : (ℓ : Loc Cert.ReferenceSsdInIdeal.nD Cert.ReferenceSsdInIdeal.τ Cert.ReferenceSsdInIdeal.sig) → Buf (Elt Ideal) ℓ) (g : Dev Cert.ReferenceSsdInIdeal.nD → PrngReg), Pre_ReferenceSsdInIdeal m →
    θ_run (Cert.ReferenceSsdInIdeal.defs (F := Ideal)) (onTc (τ := Cert.ReferenceSsdInIdeal.τ) (Cert.ReferenceSsdInIdeal.main (F := Ideal))) ⟨m, fun _ => 0, g⟩ (fun r => (∀ c : Dev Cert.ReferenceSsdInIdeal.nD,
      r.2.mem ((c.tc : Thread Cert.ReferenceSsdInIdeal.nD Cert.ReferenceSsdInIdeal.τ).loc Cert.ReferenceSsdInIdeal.main_arg0) = m ((c.tc : Thread Cert.ReferenceSsdInIdeal.nD Cert.ReferenceSsdInIdeal.τ).loc Cert.ReferenceSsdInIdeal.main_arg0)
      ∧ r.2.mem ((c.tc : Thread Cert.ReferenceSsdInIdeal.nD Cert.ReferenceSsdInIdeal.τ).loc Cert.ReferenceSsdInIdeal.main_arg1) = m ((c.tc : Thread Cert.ReferenceSsdInIdeal.nD Cert.ReferenceSsdInIdeal.τ).loc Cert.ReferenceSsdInIdeal.main_arg1)
      ∧ r.2.mem ((c.tc : Thread Cert.ReferenceSsdInIdeal.nD Cert.ReferenceSsdInIdeal.τ).loc Cert.ReferenceSsdInIdeal.main_arg2) = m ((c.tc : Thread Cert.ReferenceSsdInIdeal.nD Cert.ReferenceSsdInIdeal.τ).loc Cert.ReferenceSsdInIdeal.main_arg2))
      ∧ r.2.sem = fun _ => 0)

def quiescent_KernelMlstmIn [hKernelMlstmIn : Cert.KernelMlstmIn.Facts] : Prop :=
  ∀ (m : (ℓ : Loc Cert.KernelMlstmIn.nD Cert.KernelMlstmIn.τ Cert.KernelMlstmIn.sig) → Buf (Elt Bits) ℓ) (g : Dev Cert.KernelMlstmIn.nD → PrngReg), Pre_KernelMlstmIn m →
    θ_run (Cert.KernelMlstmIn.defs (F := Bits)) (onTc (τ := Cert.KernelMlstmIn.τ) (Cert.KernelMlstmIn.main (F := Bits))) ⟨m, fun _ => 0, g⟩ (fun r => (∀ c : Dev Cert.KernelMlstmIn.nD,
      r.2.mem ((c.tc : Thread Cert.KernelMlstmIn.nD Cert.KernelMlstmIn.τ).loc Cert.KernelMlstmIn.main_arg0) = m ((c.tc : Thread Cert.KernelMlstmIn.nD Cert.KernelMlstmIn.τ).loc Cert.KernelMlstmIn.main_arg0)
      ∧ r.2.mem ((c.tc : Thread Cert.KernelMlstmIn.nD Cert.KernelMlstmIn.τ).loc Cert.KernelMlstmIn.main_arg1) = m ((c.tc : Thread Cert.KernelMlstmIn.nD Cert.KernelMlstmIn.τ).loc Cert.KernelMlstmIn.main_arg1)
      ∧ r.2.mem ((c.tc : Thread Cert.KernelMlstmIn.nD Cert.KernelMlstmIn.τ).loc Cert.KernelMlstmIn.main_arg2) = m ((c.tc : Thread Cert.KernelMlstmIn.nD Cert.KernelMlstmIn.τ).loc Cert.KernelMlstmIn.main_arg2))
      ∧ r.2.sem = fun _ => 0)

def quiescent_KernelMlstmInIdeal [hKernelMlstmInIdeal : Cert.KernelMlstmInIdeal.Facts] : Prop :=
  ∀ (m : (ℓ : Loc Cert.KernelMlstmInIdeal.nD Cert.KernelMlstmInIdeal.τ Cert.KernelMlstmInIdeal.sig) → Buf (Elt Ideal) ℓ) (g : Dev Cert.KernelMlstmInIdeal.nD → PrngReg), Pre_KernelMlstmInIdeal m →
    θ_run (Cert.KernelMlstmInIdeal.defs (F := Ideal)) (onTc (τ := Cert.KernelMlstmInIdeal.τ) (Cert.KernelMlstmInIdeal.main (F := Ideal))) ⟨m, fun _ => 0, g⟩ (fun r => (∀ c : Dev Cert.KernelMlstmInIdeal.nD,
      r.2.mem ((c.tc : Thread Cert.KernelMlstmInIdeal.nD Cert.KernelMlstmInIdeal.τ).loc Cert.KernelMlstmInIdeal.main_arg0) = m ((c.tc : Thread Cert.KernelMlstmInIdeal.nD Cert.KernelMlstmInIdeal.τ).loc Cert.KernelMlstmInIdeal.main_arg0)
      ∧ r.2.mem ((c.tc : Thread Cert.KernelMlstmInIdeal.nD Cert.KernelMlstmInIdeal.τ).loc Cert.KernelMlstmInIdeal.main_arg1) = m ((c.tc : Thread Cert.KernelMlstmInIdeal.nD Cert.KernelMlstmInIdeal.τ).loc Cert.KernelMlstmInIdeal.main_arg1)
      ∧ r.2.mem ((c.tc : Thread Cert.KernelMlstmInIdeal.nD Cert.KernelMlstmInIdeal.τ).loc Cert.KernelMlstmInIdeal.main_arg2) = m ((c.tc : Thread Cert.KernelMlstmInIdeal.nD Cert.KernelMlstmInIdeal.τ).loc Cert.KernelMlstmInIdeal.main_arg2))
      ∧ r.2.sem = fun _ => 0)

def quiescent_ReferenceMlstmInIdeal [hReferenceMlstmInIdeal : Cert.ReferenceMlstmInIdeal.Facts] : Prop :=
  ∀ (m : (ℓ : Loc Cert.ReferenceMlstmInIdeal.nD Cert.ReferenceMlstmInIdeal.τ Cert.ReferenceMlstmInIdeal.sig) → Buf (Elt Ideal) ℓ) (g : Dev Cert.ReferenceMlstmInIdeal.nD → PrngReg), Pre_ReferenceMlstmInIdeal m →
    θ_run (Cert.ReferenceMlstmInIdeal.defs (F := Ideal)) (onTc (τ := Cert.ReferenceMlstmInIdeal.τ) (Cert.ReferenceMlstmInIdeal.main (F := Ideal))) ⟨m, fun _ => 0, g⟩ (fun r => (∀ c : Dev Cert.ReferenceMlstmInIdeal.nD,
      r.2.mem ((c.tc : Thread Cert.ReferenceMlstmInIdeal.nD Cert.ReferenceMlstmInIdeal.τ).loc Cert.ReferenceMlstmInIdeal.main_arg0) = m ((c.tc : Thread Cert.ReferenceMlstmInIdeal.nD Cert.ReferenceMlstmInIdeal.τ).loc Cert.ReferenceMlstmInIdeal.main_arg0)
      ∧ r.2.mem ((c.tc : Thread Cert.ReferenceMlstmInIdeal.nD Cert.ReferenceMlstmInIdeal.τ).loc Cert.ReferenceMlstmInIdeal.main_arg1) = m ((c.tc : Thread Cert.ReferenceMlstmInIdeal.nD Cert.ReferenceMlstmInIdeal.τ).loc Cert.ReferenceMlstmInIdeal.main_arg1)
      ∧ r.2.mem ((c.tc : Thread Cert.ReferenceMlstmInIdeal.nD Cert.ReferenceMlstmInIdeal.τ).loc Cert.ReferenceMlstmInIdeal.main_arg2) = m ((c.tc : Thread Cert.ReferenceMlstmInIdeal.nD Cert.ReferenceMlstmInIdeal.τ).loc Cert.ReferenceMlstmInIdeal.main_arg2))
      ∧ r.2.sem = fun _ => 0)

def quiescent_KernelRglruIn [hKernelRglruIn : Cert.KernelRglruIn.Facts] : Prop :=
  ∀ (m : (ℓ : Loc Cert.KernelRglruIn.nD Cert.KernelRglruIn.τ Cert.KernelRglruIn.sig) → Buf (Elt Bits) ℓ) (g : Dev Cert.KernelRglruIn.nD → PrngReg), Pre_KernelRglruIn m →
    θ_run (Cert.KernelRglruIn.defs (F := Bits)) (onTc (τ := Cert.KernelRglruIn.τ) (Cert.KernelRglruIn.main (F := Bits))) ⟨m, fun _ => 0, g⟩ (fun r => (∀ c : Dev Cert.KernelRglruIn.nD,
      r.2.mem ((c.tc : Thread Cert.KernelRglruIn.nD Cert.KernelRglruIn.τ).loc Cert.KernelRglruIn.main_arg0) = m ((c.tc : Thread Cert.KernelRglruIn.nD Cert.KernelRglruIn.τ).loc Cert.KernelRglruIn.main_arg0)
      ∧ r.2.mem ((c.tc : Thread Cert.KernelRglruIn.nD Cert.KernelRglruIn.τ).loc Cert.KernelRglruIn.main_arg1) = m ((c.tc : Thread Cert.KernelRglruIn.nD Cert.KernelRglruIn.τ).loc Cert.KernelRglruIn.main_arg1)
      ∧ r.2.mem ((c.tc : Thread Cert.KernelRglruIn.nD Cert.KernelRglruIn.τ).loc Cert.KernelRglruIn.main_arg2) = m ((c.tc : Thread Cert.KernelRglruIn.nD Cert.KernelRglruIn.τ).loc Cert.KernelRglruIn.main_arg2))
      ∧ r.2.sem = fun _ => 0)

def quiescent_KernelRglruInIdeal [hKernelRglruInIdeal : Cert.KernelRglruInIdeal.Facts] : Prop :=
  ∀ (m : (ℓ : Loc Cert.KernelRglruInIdeal.nD Cert.KernelRglruInIdeal.τ Cert.KernelRglruInIdeal.sig) → Buf (Elt Ideal) ℓ) (g : Dev Cert.KernelRglruInIdeal.nD → PrngReg), Pre_KernelRglruInIdeal m →
    θ_run (Cert.KernelRglruInIdeal.defs (F := Ideal)) (onTc (τ := Cert.KernelRglruInIdeal.τ) (Cert.KernelRglruInIdeal.main (F := Ideal))) ⟨m, fun _ => 0, g⟩ (fun r => (∀ c : Dev Cert.KernelRglruInIdeal.nD,
      r.2.mem ((c.tc : Thread Cert.KernelRglruInIdeal.nD Cert.KernelRglruInIdeal.τ).loc Cert.KernelRglruInIdeal.main_arg0) = m ((c.tc : Thread Cert.KernelRglruInIdeal.nD Cert.KernelRglruInIdeal.τ).loc Cert.KernelRglruInIdeal.main_arg0)
      ∧ r.2.mem ((c.tc : Thread Cert.KernelRglruInIdeal.nD Cert.KernelRglruInIdeal.τ).loc Cert.KernelRglruInIdeal.main_arg1) = m ((c.tc : Thread Cert.KernelRglruInIdeal.nD Cert.KernelRglruInIdeal.τ).loc Cert.KernelRglruInIdeal.main_arg1)
      ∧ r.2.mem ((c.tc : Thread Cert.KernelRglruInIdeal.nD Cert.KernelRglruInIdeal.τ).loc Cert.KernelRglruInIdeal.main_arg2) = m ((c.tc : Thread Cert.KernelRglruInIdeal.nD Cert.KernelRglruInIdeal.τ).loc Cert.KernelRglruInIdeal.main_arg2))
      ∧ r.2.sem = fun _ => 0)

def quiescent_ReferenceRglruInIdeal [hReferenceRglruInIdeal : Cert.ReferenceRglruInIdeal.Facts] : Prop :=
  ∀ (m : (ℓ : Loc Cert.ReferenceRglruInIdeal.nD Cert.ReferenceRglruInIdeal.τ Cert.ReferenceRglruInIdeal.sig) → Buf (Elt Ideal) ℓ) (g : Dev Cert.ReferenceRglruInIdeal.nD → PrngReg), Pre_ReferenceRglruInIdeal m →
    θ_run (Cert.ReferenceRglruInIdeal.defs (F := Ideal)) (onTc (τ := Cert.ReferenceRglruInIdeal.τ) (Cert.ReferenceRglruInIdeal.main (F := Ideal))) ⟨m, fun _ => 0, g⟩ (fun r => (∀ c : Dev Cert.ReferenceRglruInIdeal.nD,
      r.2.mem ((c.tc : Thread Cert.ReferenceRglruInIdeal.nD Cert.ReferenceRglruInIdeal.τ).loc Cert.ReferenceRglruInIdeal.main_arg0) = m ((c.tc : Thread Cert.ReferenceRglruInIdeal.nD Cert.ReferenceRglruInIdeal.τ).loc Cert.ReferenceRglruInIdeal.main_arg0)
      ∧ r.2.mem ((c.tc : Thread Cert.ReferenceRglruInIdeal.nD Cert.ReferenceRglruInIdeal.τ).loc Cert.ReferenceRglruInIdeal.main_arg1) = m ((c.tc : Thread Cert.ReferenceRglruInIdeal.nD Cert.ReferenceRglruInIdeal.τ).loc Cert.ReferenceRglruInIdeal.main_arg1)
      ∧ r.2.mem ((c.tc : Thread Cert.ReferenceRglruInIdeal.nD Cert.ReferenceRglruInIdeal.τ).loc Cert.ReferenceRglruInIdeal.main_arg2) = m ((c.tc : Thread Cert.ReferenceRglruInIdeal.nD Cert.ReferenceRglruInIdeal.τ).loc Cert.ReferenceRglruInIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelSsdOut [hKernelSsdOut : Cert.KernelSsdOut.Facts] : Prop :=
  ∀ (m : (ℓ : Loc Cert.KernelSsdOut.nD Cert.KernelSsdOut.τ Cert.KernelSsdOut.sig) → Buf (Elt Bits) ℓ) (g : Dev Cert.KernelSsdOut.nD → PrngReg), Pre_KernelSsdOut m →
    θ_run (Cert.KernelSsdOut.defs (F := Bits)) (onTc (τ := Cert.KernelSsdOut.τ) (Cert.KernelSsdOut.main (F := Bits))) ⟨m, fun _ => 0, g⟩ (fun r => (∀ c : Dev Cert.KernelSsdOut.nD,
      r.2.mem ((c.tc : Thread Cert.KernelSsdOut.nD Cert.KernelSsdOut.τ).loc Cert.KernelSsdOut.main_arg0) = m ((c.tc : Thread Cert.KernelSsdOut.nD Cert.KernelSsdOut.τ).loc Cert.KernelSsdOut.main_arg0)
      ∧ r.2.mem ((c.tc : Thread Cert.KernelSsdOut.nD Cert.KernelSsdOut.τ).loc Cert.KernelSsdOut.main_arg1) = m ((c.tc : Thread Cert.KernelSsdOut.nD Cert.KernelSsdOut.τ).loc Cert.KernelSsdOut.main_arg1)
      ∧ r.2.mem ((c.tc : Thread Cert.KernelSsdOut.nD Cert.KernelSsdOut.τ).loc Cert.KernelSsdOut.main_arg2) = m ((c.tc : Thread Cert.KernelSsdOut.nD Cert.KernelSsdOut.τ).loc Cert.KernelSsdOut.main_arg2)
      ∧ r.2.mem ((c.tc : Thread Cert.KernelSsdOut.nD Cert.KernelSsdOut.τ).loc Cert.KernelSsdOut.main_arg3) = m ((c.tc : Thread Cert.KernelSsdOut.nD Cert.KernelSsdOut.τ).loc Cert.KernelSsdOut.main_arg3))
      ∧ r.2.sem = fun _ => 0)

def quiescent_KernelSsdOutIdeal [hKernelSsdOutIdeal : Cert.KernelSsdOutIdeal.Facts] : Prop :=
  ∀ (m : (ℓ : Loc Cert.KernelSsdOutIdeal.nD Cert.KernelSsdOutIdeal.τ Cert.KernelSsdOutIdeal.sig) → Buf (Elt Ideal) ℓ) (g : Dev Cert.KernelSsdOutIdeal.nD → PrngReg), Pre_KernelSsdOutIdeal m →
    θ_run (Cert.KernelSsdOutIdeal.defs (F := Ideal)) (onTc (τ := Cert.KernelSsdOutIdeal.τ) (Cert.KernelSsdOutIdeal.main (F := Ideal))) ⟨m, fun _ => 0, g⟩ (fun r => (∀ c : Dev Cert.KernelSsdOutIdeal.nD,
      r.2.mem ((c.tc : Thread Cert.KernelSsdOutIdeal.nD Cert.KernelSsdOutIdeal.τ).loc Cert.KernelSsdOutIdeal.main_arg0) = m ((c.tc : Thread Cert.KernelSsdOutIdeal.nD Cert.KernelSsdOutIdeal.τ).loc Cert.KernelSsdOutIdeal.main_arg0)
      ∧ r.2.mem ((c.tc : Thread Cert.KernelSsdOutIdeal.nD Cert.KernelSsdOutIdeal.τ).loc Cert.KernelSsdOutIdeal.main_arg1) = m ((c.tc : Thread Cert.KernelSsdOutIdeal.nD Cert.KernelSsdOutIdeal.τ).loc Cert.KernelSsdOutIdeal.main_arg1)
      ∧ r.2.mem ((c.tc : Thread Cert.KernelSsdOutIdeal.nD Cert.KernelSsdOutIdeal.τ).loc Cert.KernelSsdOutIdeal.main_arg2) = m ((c.tc : Thread Cert.KernelSsdOutIdeal.nD Cert.KernelSsdOutIdeal.τ).loc Cert.KernelSsdOutIdeal.main_arg2)
      ∧ r.2.mem ((c.tc : Thread Cert.KernelSsdOutIdeal.nD Cert.KernelSsdOutIdeal.τ).loc Cert.KernelSsdOutIdeal.main_arg3) = m ((c.tc : Thread Cert.KernelSsdOutIdeal.nD Cert.KernelSsdOutIdeal.τ).loc Cert.KernelSsdOutIdeal.main_arg3))
      ∧ r.2.sem = fun _ => 0)

def quiescent_ReferenceSsdOutIdeal [hReferenceSsdOutIdeal : Cert.ReferenceSsdOutIdeal.Facts] : Prop :=
  ∀ (m : (ℓ : Loc Cert.ReferenceSsdOutIdeal.nD Cert.ReferenceSsdOutIdeal.τ Cert.ReferenceSsdOutIdeal.sig) → Buf (Elt Ideal) ℓ) (g : Dev Cert.ReferenceSsdOutIdeal.nD → PrngReg), Pre_ReferenceSsdOutIdeal m →
    θ_run (Cert.ReferenceSsdOutIdeal.defs (F := Ideal)) (onTc (τ := Cert.ReferenceSsdOutIdeal.τ) (Cert.ReferenceSsdOutIdeal.main (F := Ideal))) ⟨m, fun _ => 0, g⟩ (fun r => (∀ c : Dev Cert.ReferenceSsdOutIdeal.nD,
      r.2.mem ((c.tc : Thread Cert.ReferenceSsdOutIdeal.nD Cert.ReferenceSsdOutIdeal.τ).loc Cert.ReferenceSsdOutIdeal.main_arg0) = m ((c.tc : Thread Cert.ReferenceSsdOutIdeal.nD Cert.ReferenceSsdOutIdeal.τ).loc Cert.ReferenceSsdOutIdeal.main_arg0)
      ∧ r.2.mem ((c.tc : Thread Cert.ReferenceSsdOutIdeal.nD Cert.ReferenceSsdOutIdeal.τ).loc Cert.ReferenceSsdOutIdeal.main_arg1) = m ((c.tc : Thread Cert.ReferenceSsdOutIdeal.nD Cert.ReferenceSsdOutIdeal.τ).loc Cert.ReferenceSsdOutIdeal.main_arg1)
      ∧ r.2.mem ((c.tc : Thread Cert.ReferenceSsdOutIdeal.nD Cert.ReferenceSsdOutIdeal.τ).loc Cert.ReferenceSsdOutIdeal.main_arg2) = m ((c.tc : Thread Cert.ReferenceSsdOutIdeal.nD Cert.ReferenceSsdOutIdeal.τ).loc Cert.ReferenceSsdOutIdeal.main_arg2)
      ∧ r.2.mem ((c.tc : Thread Cert.ReferenceSsdOutIdeal.nD Cert.ReferenceSsdOutIdeal.τ).loc Cert.ReferenceSsdOutIdeal.main_arg3) = m ((c.tc : Thread Cert.ReferenceSsdOutIdeal.nD Cert.ReferenceSsdOutIdeal.τ).loc Cert.ReferenceSsdOutIdeal.main_arg3))
      ∧ r.2.sem = fun _ => 0)

def quiescent_KernelMlstm [hKernelMlstm : Cert.KernelMlstm.Facts] : Prop :=
  ∀ (m : (ℓ : Loc Cert.KernelMlstm.nD Cert.KernelMlstm.τ Cert.KernelMlstm.sig) → Buf (Elt Bits) ℓ) (g : Dev Cert.KernelMlstm.nD → PrngReg), Pre_KernelMlstm m →
    θ_run (Cert.KernelMlstm.defs (F := Bits)) (onTc (τ := Cert.KernelMlstm.τ) (Cert.KernelMlstm.main (F := Bits))) ⟨m, fun _ => 0, g⟩ (fun r => (∀ c : Dev Cert.KernelMlstm.nD,
      r.2.mem ((c.tc : Thread Cert.KernelMlstm.nD Cert.KernelMlstm.τ).loc Cert.KernelMlstm.main_arg0) = m ((c.tc : Thread Cert.KernelMlstm.nD Cert.KernelMlstm.τ).loc Cert.KernelMlstm.main_arg0)
      ∧ r.2.mem ((c.tc : Thread Cert.KernelMlstm.nD Cert.KernelMlstm.τ).loc Cert.KernelMlstm.main_arg1) = m ((c.tc : Thread Cert.KernelMlstm.nD Cert.KernelMlstm.τ).loc Cert.KernelMlstm.main_arg1)
      ∧ r.2.mem ((c.tc : Thread Cert.KernelMlstm.nD Cert.KernelMlstm.τ).loc Cert.KernelMlstm.main_arg2) = m ((c.tc : Thread Cert.KernelMlstm.nD Cert.KernelMlstm.τ).loc Cert.KernelMlstm.main_arg2))
      ∧ r.2.sem = fun _ => 0)

def quiescent_KernelMlstmIdeal [hKernelMlstmIdeal : Cert.KernelMlstmIdeal.Facts] : Prop :=
  ∀ (m : (ℓ : Loc Cert.KernelMlstmIdeal.nD Cert.KernelMlstmIdeal.τ Cert.KernelMlstmIdeal.sig) → Buf (Elt Ideal) ℓ) (g : Dev Cert.KernelMlstmIdeal.nD → PrngReg), Pre_KernelMlstmIdeal m →
    θ_run (Cert.KernelMlstmIdeal.defs (F := Ideal)) (onTc (τ := Cert.KernelMlstmIdeal.τ) (Cert.KernelMlstmIdeal.main (F := Ideal))) ⟨m, fun _ => 0, g⟩ (fun r => (∀ c : Dev Cert.KernelMlstmIdeal.nD,
      r.2.mem ((c.tc : Thread Cert.KernelMlstmIdeal.nD Cert.KernelMlstmIdeal.τ).loc Cert.KernelMlstmIdeal.main_arg0) = m ((c.tc : Thread Cert.KernelMlstmIdeal.nD Cert.KernelMlstmIdeal.τ).loc Cert.KernelMlstmIdeal.main_arg0)
      ∧ r.2.mem ((c.tc : Thread Cert.KernelMlstmIdeal.nD Cert.KernelMlstmIdeal.τ).loc Cert.KernelMlstmIdeal.main_arg1) = m ((c.tc : Thread Cert.KernelMlstmIdeal.nD Cert.KernelMlstmIdeal.τ).loc Cert.KernelMlstmIdeal.main_arg1)
      ∧ r.2.mem ((c.tc : Thread Cert.KernelMlstmIdeal.nD Cert.KernelMlstmIdeal.τ).loc Cert.KernelMlstmIdeal.main_arg2) = m ((c.tc : Thread Cert.KernelMlstmIdeal.nD Cert.KernelMlstmIdeal.τ).loc Cert.KernelMlstmIdeal.main_arg2))
      ∧ r.2.sem = fun _ => 0)

def quiescent_KernelMlstmIdeal_pre_finite [hKernelMlstmIdeal : Cert.KernelMlstmIdeal.Facts] [hPre_finite : Cert.Pre_finite.Facts] : Prop :=
  ∀ (m : (ℓ : Loc Cert.KernelMlstmIdeal.nD Cert.KernelMlstmIdeal.τ Cert.KernelMlstmIdeal.sig) → Buf (Elt Ideal) ℓ) (g : Dev Cert.KernelMlstmIdeal.nD → PrngReg), Pre_KernelMlstmIdeal_finite m →
    θ_run (Cert.KernelMlstmIdeal.defs (F := Ideal)) (onTc (τ := Cert.KernelMlstmIdeal.τ) (Cert.KernelMlstmIdeal.main (F := Ideal))) ⟨m, fun _ => 0, g⟩ (fun r => (∀ c : Dev Cert.KernelMlstmIdeal.nD,
      r.2.mem ((c.tc : Thread Cert.KernelMlstmIdeal.nD Cert.KernelMlstmIdeal.τ).loc Cert.KernelMlstmIdeal.main_arg0) = m ((c.tc : Thread Cert.KernelMlstmIdeal.nD Cert.KernelMlstmIdeal.τ).loc Cert.KernelMlstmIdeal.main_arg0)
      ∧ r.2.mem ((c.tc : Thread Cert.KernelMlstmIdeal.nD Cert.KernelMlstmIdeal.τ).loc Cert.KernelMlstmIdeal.main_arg1) = m ((c.tc : Thread Cert.KernelMlstmIdeal.nD Cert.KernelMlstmIdeal.τ).loc Cert.KernelMlstmIdeal.main_arg1)
      ∧ r.2.mem ((c.tc : Thread Cert.KernelMlstmIdeal.nD Cert.KernelMlstmIdeal.τ).loc Cert.KernelMlstmIdeal.main_arg2) = m ((c.tc : Thread Cert.KernelMlstmIdeal.nD Cert.KernelMlstmIdeal.τ).loc Cert.KernelMlstmIdeal.main_arg2))
      ∧ r.2.sem = fun _ => 0)

def quiescent_ReferenceMlstmIdeal [hReferenceMlstmIdeal : Cert.ReferenceMlstmIdeal.Facts] : Prop :=
  ∀ (m : (ℓ : Loc Cert.ReferenceMlstmIdeal.nD Cert.ReferenceMlstmIdeal.τ Cert.ReferenceMlstmIdeal.sig) → Buf (Elt Ideal) ℓ) (g : Dev Cert.ReferenceMlstmIdeal.nD → PrngReg), Pre_ReferenceMlstmIdeal m →
    θ_run (Cert.ReferenceMlstmIdeal.defs (F := Ideal)) (onTc (τ := Cert.ReferenceMlstmIdeal.τ) (Cert.ReferenceMlstmIdeal.main (F := Ideal))) ⟨m, fun _ => 0, g⟩ (fun r => (∀ c : Dev Cert.ReferenceMlstmIdeal.nD,
      r.2.mem ((c.tc : Thread Cert.ReferenceMlstmIdeal.nD Cert.ReferenceMlstmIdeal.τ).loc Cert.ReferenceMlstmIdeal.main_arg0) = m ((c.tc : Thread Cert.ReferenceMlstmIdeal.nD Cert.ReferenceMlstmIdeal.τ).loc Cert.ReferenceMlstmIdeal.main_arg0)
      ∧ r.2.mem ((c.tc : Thread Cert.ReferenceMlstmIdeal.nD Cert.ReferenceMlstmIdeal.τ).loc Cert.ReferenceMlstmIdeal.main_arg1) = m ((c.tc : Thread Cert.ReferenceMlstmIdeal.nD Cert.ReferenceMlstmIdeal.τ).loc Cert.ReferenceMlstmIdeal.main_arg1)
      ∧ r.2.mem ((c.tc : Thread Cert.ReferenceMlstmIdeal.nD Cert.ReferenceMlstmIdeal.τ).loc Cert.ReferenceMlstmIdeal.main_arg2) = m ((c.tc : Thread Cert.ReferenceMlstmIdeal.nD Cert.ReferenceMlstmIdeal.τ).loc Cert.ReferenceMlstmIdeal.main_arg2))
      ∧ r.2.sem = fun _ => 0)

def quiescent_ReferenceMlstmIdeal_pre_finite [hReferenceMlstmIdeal : Cert.ReferenceMlstmIdeal.Facts] [hPre_finite : Cert.Pre_finite.Facts] : Prop :=
  ∀ (m : (ℓ : Loc Cert.ReferenceMlstmIdeal.nD Cert.ReferenceMlstmIdeal.τ Cert.ReferenceMlstmIdeal.sig) → Buf (Elt Ideal) ℓ) (g : Dev Cert.ReferenceMlstmIdeal.nD → PrngReg), Pre_ReferenceMlstmIdeal_finite m →
    θ_run (Cert.ReferenceMlstmIdeal.defs (F := Ideal)) (onTc (τ := Cert.ReferenceMlstmIdeal.τ) (Cert.ReferenceMlstmIdeal.main (F := Ideal))) ⟨m, fun _ => 0, g⟩ (fun r => (∀ c : Dev Cert.ReferenceMlstmIdeal.nD,
      r.2.mem ((c.tc : Thread Cert.ReferenceMlstmIdeal.nD Cert.ReferenceMlstmIdeal.τ).loc Cert.ReferenceMlstmIdeal.main_arg0) = m ((c.tc : Thread Cert.ReferenceMlstmIdeal.nD Cert.ReferenceMlstmIdeal.τ).loc Cert.ReferenceMlstmIdeal.main_arg0)
      ∧ r.2.mem ((c.tc : Thread Cert.ReferenceMlstmIdeal.nD Cert.ReferenceMlstmIdeal.τ).loc Cert.ReferenceMlstmIdeal.main_arg1) = m ((c.tc : Thread Cert.ReferenceMlstmIdeal.nD Cert.ReferenceMlstmIdeal.τ).loc Cert.ReferenceMlstmIdeal.main_arg1)
      ∧ r.2.mem ((c.tc : Thread Cert.ReferenceMlstmIdeal.nD Cert.ReferenceMlstmIdeal.τ).loc Cert.ReferenceMlstmIdeal.main_arg2) = m ((c.tc : Thread Cert.ReferenceMlstmIdeal.nD Cert.ReferenceMlstmIdeal.τ).loc Cert.ReferenceMlstmIdeal.main_arg2))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_KernelSsd [hKernelSsd : Cert.KernelSsd.Facts] : Prop :=
  ∀ (m : (ℓ : Loc Cert.KernelSsd.nD Cert.KernelSsd.τ Cert.KernelSsd.sig) → Buf (Elt Bits) ℓ) (g : Dev Cert.KernelSsd.nD → PrngReg), Pre_KernelSsd m →
    θ_run (Cert.KernelSsd.defs (F := Bits)) (onTc (τ := Cert.KernelSsd.τ) (Cert.KernelSsd.main (F := Bits))) ⟨m, fun _ => 0, g⟩ (fun r => (∀ c : Dev Cert.KernelSsd.nD,
      r.2.mem ((c.tc : Thread Cert.KernelSsd.nD Cert.KernelSsd.τ).loc Cert.KernelSsd.main_arg0) = m ((c.tc : Thread Cert.KernelSsd.nD Cert.KernelSsd.τ).loc Cert.KernelSsd.main_arg0)
      ∧ r.2.mem ((c.tc : Thread Cert.KernelSsd.nD Cert.KernelSsd.τ).loc Cert.KernelSsd.main_arg1) = m ((c.tc : Thread Cert.KernelSsd.nD Cert.KernelSsd.τ).loc Cert.KernelSsd.main_arg1)
      ∧ r.2.mem ((c.tc : Thread Cert.KernelSsd.nD Cert.KernelSsd.τ).loc Cert.KernelSsd.main_arg2) = m ((c.tc : Thread Cert.KernelSsd.nD Cert.KernelSsd.τ).loc Cert.KernelSsd.main_arg2)
      ∧ r.2.mem ((c.tc : Thread Cert.KernelSsd.nD Cert.KernelSsd.τ).loc Cert.KernelSsd.main_arg3) = m ((c.tc : Thread Cert.KernelSsd.nD Cert.KernelSsd.τ).loc Cert.KernelSsd.main_arg3))
      ∧ r.2.sem = fun _ => 0)

def quiescent_KernelSsdIdeal [hKernelSsdIdeal : Cert.KernelSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3))
      ∧ r.2.sem = fun _ => 0)

def quiescent_KernelSsdIdeal_pre_finite_ssd [hKernelSsdIdeal : Cert.KernelSsdIdeal.Facts] [hPre_finite_ssd : Cert.Pre_finite_ssd.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal_finite_ssd m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3))
      ∧ r.2.sem = fun _ => 0)

def quiescent_ReferenceSsdIdeal [hReferenceSsdIdeal : Cert.ReferenceSsdIdeal.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1)
      ∧ r.2.mem ((c.tc : Thread Cert.ReferenceSsdIdeal.nD Cert.ReferenceSsdIdeal.τ).loc Cert.ReferenceSsdIdeal.main_arg2) = m ((c.tc : Thread Cert.ReferenceSsdIdeal.nD Cert.ReferenceSsdIdeal.τ).loc Cert.ReferenceSsdIdeal.main_arg2)
      ∧ r.2.mem ((c.tc : Thread Cert.ReferenceSsdIdeal.nD Cert.ReferenceSsdIdeal.τ).loc Cert.ReferenceSsdIdeal.main_arg3) = m ((c.tc : Thread Cert.ReferenceSsdIdeal.nD Cert.ReferenceSsdIdeal.τ).loc Cert.ReferenceSsdIdeal.main_arg3))
      ∧ r.2.sem = fun _ => 0)

def quiescent_ReferenceSsdIdeal_pre_finite_ssd [hReferenceSsdIdeal : Cert.ReferenceSsdIdeal.Facts] [hPre_finite_ssd : Cert.Pre_finite_ssd.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal_finite_ssd m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1)
      ∧ r.2.mem ((c.tc : Thread Cert.ReferenceSsdIdeal.nD Cert.ReferenceSsdIdeal.τ).loc Cert.ReferenceSsdIdeal.main_arg2) = m ((c.tc : Thread Cert.ReferenceSsdIdeal.nD Cert.ReferenceSsdIdeal.τ).loc Cert.ReferenceSsdIdeal.main_arg2)
      ∧ r.2.mem ((c.tc : Thread Cert.ReferenceSsdIdeal.nD Cert.ReferenceSsdIdeal.τ).loc Cert.ReferenceSsdIdeal.main_arg3) = m ((c.tc : Thread Cert.ReferenceSsdIdeal.nD Cert.ReferenceSsdIdeal.τ).loc Cert.ReferenceSsdIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v1) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v15) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  IdealRules.named_const.Statement Cert.KernelDownIdeal.κ "neg_log2_e" .bf16 0xBFB9#16 ((-((Real.log 2)⁻¹) : ℝ) : EReal)

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)
      ∧ m' ((c.tc : Thread Cert.ReferenceDownIdeal.nD Cert.ReferenceDownIdeal.τ).loc Cert.ReferenceDownIdeal.main_arg5) = m ((c.tc : Thread Cert.KernelDownIdeal.nD Cert.KernelDownIdeal.τ).loc Cert.KernelDownIdeal.main_arg5)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
          ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v46) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4)
          ∧ r.2.mem ((c.tc : Thread Cert.ReferenceDownIdeal.nD Cert.ReferenceDownIdeal.τ).loc Cert.ReferenceDownIdeal.main_arg5) = m' ((c.tc : Thread Cert.ReferenceDownIdeal.nD Cert.ReferenceDownIdeal.τ).loc Cert.ReferenceDownIdeal.main_arg5))

def preserves_KernelGlu_KernelGluIdeal : Prop :=
  IdealRules.named_const.Statement Cert.KernelGluIdeal.κ "neg_log2_e" .bf16 0xBFB9#16 ((-((Real.log 2)⁻¹) : ℝ) : EReal)

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)
      ∧ m' ((c.tc : Thread Cert.ReferenceGluIdeal.nD Cert.ReferenceGluIdeal.τ).loc Cert.ReferenceGluIdeal.main_arg2) = m ((c.tc : Thread Cert.KernelGluIdeal.nD Cert.KernelGluIdeal.τ).loc Cert.KernelGluIdeal.main_arg2)
      ∧ m' ((c.tc : Thread Cert.ReferenceGluIdeal.nD Cert.ReferenceGluIdeal.τ).loc Cert.ReferenceGluIdeal.main_arg3) = m ((c.tc : Thread Cert.KernelGluIdeal.nD Cert.KernelGluIdeal.τ).loc Cert.KernelGluIdeal.main_arg3)
      ∧ m' ((c.tc : Thread Cert.ReferenceGluIdeal.nD Cert.ReferenceGluIdeal.τ).loc Cert.ReferenceGluIdeal.main_arg4) = m ((c.tc : Thread Cert.KernelGluIdeal.nD Cert.KernelGluIdeal.τ).loc Cert.KernelGluIdeal.main_arg4)) →
    ∃ (v0 : (c : Dev Cert.KernelGluIdeal.nD) → Buf (Elt Ideal) ((c.tc : Thread Cert.KernelGluIdeal.nD Cert.KernelGluIdeal.τ).loc Cert.KernelGluIdeal.main_v1)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v1) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
          ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
          ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
          ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v33) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1)
          ∧ r.2.mem ((c.tc : Thread Cert.ReferenceGluIdeal.nD Cert.ReferenceGluIdeal.τ).loc Cert.ReferenceGluIdeal.main_arg2) = m' ((c.tc : Thread Cert.ReferenceGluIdeal.nD Cert.ReferenceGluIdeal.τ).loc Cert.ReferenceGluIdeal.main_arg2)
          ∧ r.2.mem ((c.tc : Thread Cert.ReferenceGluIdeal.nD Cert.ReferenceGluIdeal.τ).loc Cert.ReferenceGluIdeal.main_arg3) = m' ((c.tc : Thread Cert.ReferenceGluIdeal.nD Cert.ReferenceGluIdeal.τ).loc Cert.ReferenceGluIdeal.main_arg3)
          ∧ r.2.mem ((c.tc : Thread Cert.ReferenceGluIdeal.nD Cert.ReferenceGluIdeal.τ).loc Cert.ReferenceGluIdeal.main_arg4) = m' ((c.tc : Thread Cert.ReferenceGluIdeal.nD Cert.ReferenceGluIdeal.τ).loc Cert.ReferenceGluIdeal.main_arg4))

def preserves_KernelQuery_KernelQueryIdeal : Prop :=
  True

def algebraic_KernelQueryIdeal_ReferenceQueryIdeal [hKernelQueryIdeal : Cert.KernelQueryIdeal.Facts] [hReferenceQueryIdeal : Cert.ReferenceQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)
      ∧ m' ((c.tc : Thread Cert.ReferenceQueryIdeal.nD Cert.ReferenceQueryIdeal.τ).loc Cert.ReferenceQueryIdeal.main_arg2) = m ((c.tc : Thread Cert.KernelQueryIdeal.nD Cert.KernelQueryIdeal.τ).loc Cert.KernelQueryIdeal.main_arg2)) →
    ∃ (v0 : (c : Dev Cert.KernelQueryIdeal.nD) → Buf (Elt Ideal) ((c.tc : Thread Cert.KernelQueryIdeal.nD Cert.KernelQueryIdeal.τ).loc Cert.KernelQueryIdeal.main_v1)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v1) = v0 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1)
          ∧ r.2.mem ((c.tc : Thread Cert.KernelQueryIdeal.nD Cert.KernelQueryIdeal.τ).loc Cert.KernelQueryIdeal.main_arg2) = m ((c.tc : Thread Cert.KernelQueryIdeal.nD Cert.KernelQueryIdeal.τ).loc Cert.KernelQueryIdeal.main_arg2))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v15) = v0 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1)
          ∧ r.2.mem ((c.tc : Thread Cert.ReferenceQueryIdeal.nD Cert.ReferenceQueryIdeal.τ).loc Cert.ReferenceQueryIdeal.main_arg2) = m' ((c.tc : Thread Cert.ReferenceQueryIdeal.nD Cert.ReferenceQueryIdeal.τ).loc Cert.ReferenceQueryIdeal.main_arg2))

def preserves_KernelSsdIn_KernelSsdInIdeal : Prop :=
  True

def algebraic_KernelSsdInIdeal_ReferenceSsdInIdeal [hKernelSsdInIdeal : Cert.KernelSsdInIdeal.Facts] [hReferenceSsdInIdeal : Cert.ReferenceSsdInIdeal.Facts] : Prop :=
  ∀ (m : (ℓ : Loc Cert.KernelSsdInIdeal.nD Cert.KernelSsdInIdeal.τ Cert.KernelSsdInIdeal.sig) → Buf (Elt Ideal) ℓ) (g : Dev Cert.KernelSsdInIdeal.nD → PrngReg)
    (m' : (ℓ : Loc Cert.ReferenceSsdInIdeal.nD Cert.ReferenceSsdInIdeal.τ Cert.ReferenceSsdInIdeal.sig) → Buf (Elt Ideal) ℓ) (g' : Dev Cert.ReferenceSsdInIdeal.nD → PrngReg), Pre_KernelSsdInIdeal m →
    (∀ c : Dev Cert.KernelSsdInIdeal.nD,
      m' ((c.tc : Thread Cert.ReferenceSsdInIdeal.nD Cert.ReferenceSsdInIdeal.τ).loc Cert.ReferenceSsdInIdeal.main_arg0) = m ((c.tc : Thread Cert.KernelSsdInIdeal.nD Cert.KernelSsdInIdeal.τ).loc Cert.KernelSsdInIdeal.main_arg0)
      ∧ m' ((c.tc : Thread Cert.ReferenceSsdInIdeal.nD Cert.ReferenceSsdInIdeal.τ).loc Cert.ReferenceSsdInIdeal.main_arg1) = m ((c.tc : Thread Cert.KernelSsdInIdeal.nD Cert.KernelSsdInIdeal.τ).loc Cert.KernelSsdInIdeal.main_arg1)
      ∧ m' ((c.tc : Thread Cert.ReferenceSsdInIdeal.nD Cert.ReferenceSsdInIdeal.τ).loc Cert.ReferenceSsdInIdeal.main_arg2) = m ((c.tc : Thread Cert.KernelSsdInIdeal.nD Cert.KernelSsdInIdeal.τ).loc Cert.KernelSsdInIdeal.main_arg2)) →
    ∃ (v0 : (c : Dev Cert.KernelSsdInIdeal.nD) → Buf (Elt Ideal) ((c.tc : Thread Cert.KernelSsdInIdeal.nD Cert.KernelSsdInIdeal.τ).loc Cert.KernelSsdInIdeal.main_v1)),
      θ_run (Cert.KernelSsdInIdeal.defs (F := Ideal)) (onTc (τ := Cert.KernelSsdInIdeal.τ) (Cert.KernelSsdInIdeal.main (F := Ideal))) ⟨m, fun _ => 0, g⟩ (fun r => ∀ c : Dev Cert.KernelSsdInIdeal.nD,
          r.2.mem ((c.tc : Thread Cert.KernelSsdInIdeal.nD Cert.KernelSsdInIdeal.τ).loc Cert.KernelSsdInIdeal.main_v1) = v0 c
          ∧ r.2.mem ((c.tc : Thread Cert.KernelSsdInIdeal.nD Cert.KernelSsdInIdeal.τ).loc Cert.KernelSsdInIdeal.main_arg0) = m ((c.tc : Thread Cert.KernelSsdInIdeal.nD Cert.KernelSsdInIdeal.τ).loc Cert.KernelSsdInIdeal.main_arg0)
          ∧ r.2.mem ((c.tc : Thread Cert.KernelSsdInIdeal.nD Cert.KernelSsdInIdeal.τ).loc Cert.KernelSsdInIdeal.main_arg1) = m ((c.tc : Thread Cert.KernelSsdInIdeal.nD Cert.KernelSsdInIdeal.τ).loc Cert.KernelSsdInIdeal.main_arg1)
          ∧ r.2.mem ((c.tc : Thread Cert.KernelSsdInIdeal.nD Cert.KernelSsdInIdeal.τ).loc Cert.KernelSsdInIdeal.main_arg2) = m ((c.tc : Thread Cert.KernelSsdInIdeal.nD Cert.KernelSsdInIdeal.τ).loc Cert.KernelSsdInIdeal.main_arg2))
      ∧ θ_run (Cert.ReferenceSsdInIdeal.defs (F := Ideal)) (onTc (τ := Cert.ReferenceSsdInIdeal.τ) (Cert.ReferenceSsdInIdeal.main (F := Ideal))) ⟨m', fun _ => 0, g'⟩ (fun r => ∀ c : Dev Cert.ReferenceSsdInIdeal.nD,
          r.2.mem ((c.tc : Thread Cert.ReferenceSsdInIdeal.nD Cert.ReferenceSsdInIdeal.τ).loc Cert.ReferenceSsdInIdeal.main_v15) = v0 c
          ∧ r.2.mem ((c.tc : Thread Cert.ReferenceSsdInIdeal.nD Cert.ReferenceSsdInIdeal.τ).loc Cert.ReferenceSsdInIdeal.main_arg0) = m' ((c.tc : Thread Cert.ReferenceSsdInIdeal.nD Cert.ReferenceSsdInIdeal.τ).loc Cert.ReferenceSsdInIdeal.main_arg0)
          ∧ r.2.mem ((c.tc : Thread Cert.ReferenceSsdInIdeal.nD Cert.ReferenceSsdInIdeal.τ).loc Cert.ReferenceSsdInIdeal.main_arg1) = m' ((c.tc : Thread Cert.ReferenceSsdInIdeal.nD Cert.ReferenceSsdInIdeal.τ).loc Cert.ReferenceSsdInIdeal.main_arg1)
          ∧ r.2.mem ((c.tc : Thread Cert.ReferenceSsdInIdeal.nD Cert.ReferenceSsdInIdeal.τ).loc Cert.ReferenceSsdInIdeal.main_arg2) = m' ((c.tc : Thread Cert.ReferenceSsdInIdeal.nD Cert.ReferenceSsdInIdeal.τ).loc Cert.ReferenceSsdInIdeal.main_arg2))

def preserves_KernelMlstmIn_KernelMlstmInIdeal : Prop :=
  True

def algebraic_KernelMlstmInIdeal_ReferenceMlstmInIdeal [hKernelMlstmInIdeal : Cert.KernelMlstmInIdeal.Facts] [hReferenceMlstmInIdeal : Cert.ReferenceMlstmInIdeal.Facts] : Prop :=
  ∀ (m : (ℓ : Loc Cert.KernelMlstmInIdeal.nD Cert.KernelMlstmInIdeal.τ Cert.KernelMlstmInIdeal.sig) → Buf (Elt Ideal) ℓ) (g : Dev Cert.KernelMlstmInIdeal.nD → PrngReg)
    (m' : (ℓ : Loc Cert.ReferenceMlstmInIdeal.nD Cert.ReferenceMlstmInIdeal.τ Cert.ReferenceMlstmInIdeal.sig) → Buf (Elt Ideal) ℓ) (g' : Dev Cert.ReferenceMlstmInIdeal.nD → PrngReg), Pre_KernelMlstmInIdeal m →
    (∀ c : Dev Cert.KernelMlstmInIdeal.nD,
      m' ((c.tc : Thread Cert.ReferenceMlstmInIdeal.nD Cert.ReferenceMlstmInIdeal.τ).loc Cert.ReferenceMlstmInIdeal.main_arg0) = m ((c.tc : Thread Cert.KernelMlstmInIdeal.nD Cert.KernelMlstmInIdeal.τ).loc Cert.KernelMlstmInIdeal.main_arg0)
      ∧ m' ((c.tc : Thread Cert.ReferenceMlstmInIdeal.nD Cert.ReferenceMlstmInIdeal.τ).loc Cert.ReferenceMlstmInIdeal.main_arg1) = m ((c.tc : Thread Cert.KernelMlstmInIdeal.nD Cert.KernelMlstmInIdeal.τ).loc Cert.KernelMlstmInIdeal.main_arg1)
      ∧ m' ((c.tc : Thread Cert.ReferenceMlstmInIdeal.nD Cert.ReferenceMlstmInIdeal.τ).loc Cert.ReferenceMlstmInIdeal.main_arg2) = m ((c.tc : Thread Cert.KernelMlstmInIdeal.nD Cert.KernelMlstmInIdeal.τ).loc Cert.KernelMlstmInIdeal.main_arg2)) →
    ∃ (v0 : (c : Dev Cert.KernelMlstmInIdeal.nD) → Buf (Elt Ideal) ((c.tc : Thread Cert.KernelMlstmInIdeal.nD Cert.KernelMlstmInIdeal.τ).loc Cert.KernelMlstmInIdeal.main_v1)),
      θ_run (Cert.KernelMlstmInIdeal.defs (F := Ideal)) (onTc (τ := Cert.KernelMlstmInIdeal.τ) (Cert.KernelMlstmInIdeal.main (F := Ideal))) ⟨m, fun _ => 0, g⟩ (fun r => ∀ c : Dev Cert.KernelMlstmInIdeal.nD,
          r.2.mem ((c.tc : Thread Cert.KernelMlstmInIdeal.nD Cert.KernelMlstmInIdeal.τ).loc Cert.KernelMlstmInIdeal.main_v1) = v0 c
          ∧ r.2.mem ((c.tc : Thread Cert.KernelMlstmInIdeal.nD Cert.KernelMlstmInIdeal.τ).loc Cert.KernelMlstmInIdeal.main_arg0) = m ((c.tc : Thread Cert.KernelMlstmInIdeal.nD Cert.KernelMlstmInIdeal.τ).loc Cert.KernelMlstmInIdeal.main_arg0)
          ∧ r.2.mem ((c.tc : Thread Cert.KernelMlstmInIdeal.nD Cert.KernelMlstmInIdeal.τ).loc Cert.KernelMlstmInIdeal.main_arg1) = m ((c.tc : Thread Cert.KernelMlstmInIdeal.nD Cert.KernelMlstmInIdeal.τ).loc Cert.KernelMlstmInIdeal.main_arg1)
          ∧ r.2.mem ((c.tc : Thread Cert.KernelMlstmInIdeal.nD Cert.KernelMlstmInIdeal.τ).loc Cert.KernelMlstmInIdeal.main_arg2) = m ((c.tc : Thread Cert.KernelMlstmInIdeal.nD Cert.KernelMlstmInIdeal.τ).loc Cert.KernelMlstmInIdeal.main_arg2))
      ∧ θ_run (Cert.ReferenceMlstmInIdeal.defs (F := Ideal)) (onTc (τ := Cert.ReferenceMlstmInIdeal.τ) (Cert.ReferenceMlstmInIdeal.main (F := Ideal))) ⟨m', fun _ => 0, g'⟩ (fun r => ∀ c : Dev Cert.ReferenceMlstmInIdeal.nD,
          r.2.mem ((c.tc : Thread Cert.ReferenceMlstmInIdeal.nD Cert.ReferenceMlstmInIdeal.τ).loc Cert.ReferenceMlstmInIdeal.main_v15) = v0 c
          ∧ r.2.mem ((c.tc : Thread Cert.ReferenceMlstmInIdeal.nD Cert.ReferenceMlstmInIdeal.τ).loc Cert.ReferenceMlstmInIdeal.main_arg0) = m' ((c.tc : Thread Cert.ReferenceMlstmInIdeal.nD Cert.ReferenceMlstmInIdeal.τ).loc Cert.ReferenceMlstmInIdeal.main_arg0)
          ∧ r.2.mem ((c.tc : Thread Cert.ReferenceMlstmInIdeal.nD Cert.ReferenceMlstmInIdeal.τ).loc Cert.ReferenceMlstmInIdeal.main_arg1) = m' ((c.tc : Thread Cert.ReferenceMlstmInIdeal.nD Cert.ReferenceMlstmInIdeal.τ).loc Cert.ReferenceMlstmInIdeal.main_arg1)
          ∧ r.2.mem ((c.tc : Thread Cert.ReferenceMlstmInIdeal.nD Cert.ReferenceMlstmInIdeal.τ).loc Cert.ReferenceMlstmInIdeal.main_arg2) = m' ((c.tc : Thread Cert.ReferenceMlstmInIdeal.nD Cert.ReferenceMlstmInIdeal.τ).loc Cert.ReferenceMlstmInIdeal.main_arg2))

def preserves_KernelRglruIn_KernelRglruInIdeal : Prop :=
  True

def algebraic_KernelRglruInIdeal_ReferenceRglruInIdeal [hKernelRglruInIdeal : Cert.KernelRglruInIdeal.Facts] [hReferenceRglruInIdeal : Cert.ReferenceRglruInIdeal.Facts] : Prop :=
  ∀ (m : (ℓ : Loc Cert.KernelRglruInIdeal.nD Cert.KernelRglruInIdeal.τ Cert.KernelRglruInIdeal.sig) → Buf (Elt Ideal) ℓ) (g : Dev Cert.KernelRglruInIdeal.nD → PrngReg)
    (m' : (ℓ : Loc Cert.ReferenceRglruInIdeal.nD Cert.ReferenceRglruInIdeal.τ Cert.ReferenceRglruInIdeal.sig) → Buf (Elt Ideal) ℓ) (g' : Dev Cert.ReferenceRglruInIdeal.nD → PrngReg), Pre_KernelRglruInIdeal m →
    (∀ c : Dev Cert.KernelRglruInIdeal.nD,
      m' ((c.tc : Thread Cert.ReferenceRglruInIdeal.nD Cert.ReferenceRglruInIdeal.τ).loc Cert.ReferenceRglruInIdeal.main_arg0) = m ((c.tc : Thread Cert.KernelRglruInIdeal.nD Cert.KernelRglruInIdeal.τ).loc Cert.KernelRglruInIdeal.main_arg0)
      ∧ m' ((c.tc : Thread Cert.ReferenceRglruInIdeal.nD Cert.ReferenceRglruInIdeal.τ).loc Cert.ReferenceRglruInIdeal.main_arg1) = m ((c.tc : Thread Cert.KernelRglruInIdeal.nD Cert.KernelRglruInIdeal.τ).loc Cert.KernelRglruInIdeal.main_arg1)
      ∧ m' ((c.tc : Thread Cert.ReferenceRglruInIdeal.nD Cert.ReferenceRglruInIdeal.τ).loc Cert.ReferenceRglruInIdeal.main_arg2) = m ((c.tc : Thread Cert.KernelRglruInIdeal.nD Cert.KernelRglruInIdeal.τ).loc Cert.KernelRglruInIdeal.main_arg2)) →
    ∃ (v0 : (c : Dev Cert.KernelRglruInIdeal.nD) → Buf (Elt Ideal) ((c.tc : Thread Cert.KernelRglruInIdeal.nD Cert.KernelRglruInIdeal.τ).loc Cert.KernelRglruInIdeal.main_v1)),
      θ_run (Cert.KernelRglruInIdeal.defs (F := Ideal)) (onTc (τ := Cert.KernelRglruInIdeal.τ) (Cert.KernelRglruInIdeal.main (F := Ideal))) ⟨m, fun _ => 0, g⟩ (fun r => ∀ c : Dev Cert.KernelRglruInIdeal.nD,
          r.2.mem ((c.tc : Thread Cert.KernelRglruInIdeal.nD Cert.KernelRglruInIdeal.τ).loc Cert.KernelRglruInIdeal.main_v1) = v0 c
          ∧ r.2.mem ((c.tc : Thread Cert.KernelRglruInIdeal.nD Cert.KernelRglruInIdeal.τ).loc Cert.KernelRglruInIdeal.main_arg0) = m ((c.tc : Thread Cert.KernelRglruInIdeal.nD Cert.KernelRglruInIdeal.τ).loc Cert.KernelRglruInIdeal.main_arg0)
          ∧ r.2.mem ((c.tc : Thread Cert.KernelRglruInIdeal.nD Cert.KernelRglruInIdeal.τ).loc Cert.KernelRglruInIdeal.main_arg1) = m ((c.tc : Thread Cert.KernelRglruInIdeal.nD Cert.KernelRglruInIdeal.τ).loc Cert.KernelRglruInIdeal.main_arg1)
          ∧ r.2.mem ((c.tc : Thread Cert.KernelRglruInIdeal.nD Cert.KernelRglruInIdeal.τ).loc Cert.KernelRglruInIdeal.main_arg2) = m ((c.tc : Thread Cert.KernelRglruInIdeal.nD Cert.KernelRglruInIdeal.τ).loc Cert.KernelRglruInIdeal.main_arg2))
      ∧ θ_run (Cert.ReferenceRglruInIdeal.defs (F := Ideal)) (onTc (τ := Cert.ReferenceRglruInIdeal.τ) (Cert.ReferenceRglruInIdeal.main (F := Ideal))) ⟨m', fun _ => 0, g'⟩ (fun r => ∀ c : Dev Cert.ReferenceRglruInIdeal.nD,
          r.2.mem ((c.tc : Thread Cert.ReferenceRglruInIdeal.nD Cert.ReferenceRglruInIdeal.τ).loc Cert.ReferenceRglruInIdeal.main_v15) = v0 c
          ∧ r.2.mem ((c.tc : Thread Cert.ReferenceRglruInIdeal.nD Cert.ReferenceRglruInIdeal.τ).loc Cert.ReferenceRglruInIdeal.main_arg0) = m' ((c.tc : Thread Cert.ReferenceRglruInIdeal.nD Cert.ReferenceRglruInIdeal.τ).loc Cert.ReferenceRglruInIdeal.main_arg0)
          ∧ r.2.mem ((c.tc : Thread Cert.ReferenceRglruInIdeal.nD Cert.ReferenceRglruInIdeal.τ).loc Cert.ReferenceRglruInIdeal.main_arg1) = m' ((c.tc : Thread Cert.ReferenceRglruInIdeal.nD Cert.ReferenceRglruInIdeal.τ).loc Cert.ReferenceRglruInIdeal.main_arg1)
          ∧ r.2.mem ((c.tc : Thread Cert.ReferenceRglruInIdeal.nD Cert.ReferenceRglruInIdeal.τ).loc Cert.ReferenceRglruInIdeal.main_arg2) = m' ((c.tc : Thread Cert.ReferenceRglruInIdeal.nD Cert.ReferenceRglruInIdeal.τ).loc Cert.ReferenceRglruInIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelSsdOut_KernelSsdOutIdeal : Prop :=
  True

def algebraic_KernelSsdOutIdeal_ReferenceSsdOutIdeal [hKernelSsdOutIdeal : Cert.KernelSsdOutIdeal.Facts] [hReferenceSsdOutIdeal : Cert.ReferenceSsdOutIdeal.Facts] : Prop :=
  ∀ (m : (ℓ : Loc Cert.KernelSsdOutIdeal.nD Cert.KernelSsdOutIdeal.τ Cert.KernelSsdOutIdeal.sig) → Buf (Elt Ideal) ℓ) (g : Dev Cert.KernelSsdOutIdeal.nD → PrngReg)
    (m' : (ℓ : Loc Cert.ReferenceSsdOutIdeal.nD Cert.ReferenceSsdOutIdeal.τ Cert.ReferenceSsdOutIdeal.sig) → Buf (Elt Ideal) ℓ) (g' : Dev Cert.ReferenceSsdOutIdeal.nD → PrngReg), Pre_KernelSsdOutIdeal m →
    (∀ c : Dev Cert.KernelSsdOutIdeal.nD,
      m' ((c.tc : Thread Cert.ReferenceSsdOutIdeal.nD Cert.ReferenceSsdOutIdeal.τ).loc Cert.ReferenceSsdOutIdeal.main_arg0) = m ((c.tc : Thread Cert.KernelSsdOutIdeal.nD Cert.KernelSsdOutIdeal.τ).loc Cert.KernelSsdOutIdeal.main_arg0)
      ∧ m' ((c.tc : Thread Cert.ReferenceSsdOutIdeal.nD Cert.ReferenceSsdOutIdeal.τ).loc Cert.ReferenceSsdOutIdeal.main_arg1) = m ((c.tc : Thread Cert.KernelSsdOutIdeal.nD Cert.KernelSsdOutIdeal.τ).loc Cert.KernelSsdOutIdeal.main_arg1)
      ∧ m' ((c.tc : Thread Cert.ReferenceSsdOutIdeal.nD Cert.ReferenceSsdOutIdeal.τ).loc Cert.ReferenceSsdOutIdeal.main_arg2) = m ((c.tc : Thread Cert.KernelSsdOutIdeal.nD Cert.KernelSsdOutIdeal.τ).loc Cert.KernelSsdOutIdeal.main_arg2)
      ∧ m' ((c.tc : Thread Cert.ReferenceSsdOutIdeal.nD Cert.ReferenceSsdOutIdeal.τ).loc Cert.ReferenceSsdOutIdeal.main_arg3) = m ((c.tc : Thread Cert.KernelSsdOutIdeal.nD Cert.KernelSsdOutIdeal.τ).loc Cert.KernelSsdOutIdeal.main_arg3)) →
    ∃ (v0 : (c : Dev Cert.KernelSsdOutIdeal.nD) → Buf (Elt Ideal) ((c.tc : Thread Cert.KernelSsdOutIdeal.nD Cert.KernelSsdOutIdeal.τ).loc Cert.KernelSsdOutIdeal.main_v1)),
      θ_run (Cert.KernelSsdOutIdeal.defs (F := Ideal)) (onTc (τ := Cert.KernelSsdOutIdeal.τ) (Cert.KernelSsdOutIdeal.main (F := Ideal))) ⟨m, fun _ => 0, g⟩ (fun r => ∀ c : Dev Cert.KernelSsdOutIdeal.nD,
          r.2.mem ((c.tc : Thread Cert.KernelSsdOutIdeal.nD Cert.KernelSsdOutIdeal.τ).loc Cert.KernelSsdOutIdeal.main_v1) = v0 c
          ∧ r.2.mem ((c.tc : Thread Cert.KernelSsdOutIdeal.nD Cert.KernelSsdOutIdeal.τ).loc Cert.KernelSsdOutIdeal.main_arg0) = m ((c.tc : Thread Cert.KernelSsdOutIdeal.nD Cert.KernelSsdOutIdeal.τ).loc Cert.KernelSsdOutIdeal.main_arg0)
          ∧ r.2.mem ((c.tc : Thread Cert.KernelSsdOutIdeal.nD Cert.KernelSsdOutIdeal.τ).loc Cert.KernelSsdOutIdeal.main_arg1) = m ((c.tc : Thread Cert.KernelSsdOutIdeal.nD Cert.KernelSsdOutIdeal.τ).loc Cert.KernelSsdOutIdeal.main_arg1)
          ∧ r.2.mem ((c.tc : Thread Cert.KernelSsdOutIdeal.nD Cert.KernelSsdOutIdeal.τ).loc Cert.KernelSsdOutIdeal.main_arg2) = m ((c.tc : Thread Cert.KernelSsdOutIdeal.nD Cert.KernelSsdOutIdeal.τ).loc Cert.KernelSsdOutIdeal.main_arg2)
          ∧ r.2.mem ((c.tc : Thread Cert.KernelSsdOutIdeal.nD Cert.KernelSsdOutIdeal.τ).loc Cert.KernelSsdOutIdeal.main_arg3) = m ((c.tc : Thread Cert.KernelSsdOutIdeal.nD Cert.KernelSsdOutIdeal.τ).loc Cert.KernelSsdOutIdeal.main_arg3))
      ∧ θ_run (Cert.ReferenceSsdOutIdeal.defs (F := Ideal)) (onTc (τ := Cert.ReferenceSsdOutIdeal.τ) (Cert.ReferenceSsdOutIdeal.main (F := Ideal))) ⟨m', fun _ => 0, g'⟩ (fun r => ∀ c : Dev Cert.ReferenceSsdOutIdeal.nD,
          r.2.mem ((c.tc : Thread Cert.ReferenceSsdOutIdeal.nD Cert.ReferenceSsdOutIdeal.τ).loc Cert.ReferenceSsdOutIdeal.main_v16) = v0 c
          ∧ r.2.mem ((c.tc : Thread Cert.ReferenceSsdOutIdeal.nD Cert.ReferenceSsdOutIdeal.τ).loc Cert.ReferenceSsdOutIdeal.main_arg0) = m' ((c.tc : Thread Cert.ReferenceSsdOutIdeal.nD Cert.ReferenceSsdOutIdeal.τ).loc Cert.ReferenceSsdOutIdeal.main_arg0)
          ∧ r.2.mem ((c.tc : Thread Cert.ReferenceSsdOutIdeal.nD Cert.ReferenceSsdOutIdeal.τ).loc Cert.ReferenceSsdOutIdeal.main_arg1) = m' ((c.tc : Thread Cert.ReferenceSsdOutIdeal.nD Cert.ReferenceSsdOutIdeal.τ).loc Cert.ReferenceSsdOutIdeal.main_arg1)
          ∧ r.2.mem ((c.tc : Thread Cert.ReferenceSsdOutIdeal.nD Cert.ReferenceSsdOutIdeal.τ).loc Cert.ReferenceSsdOutIdeal.main_arg2) = m' ((c.tc : Thread Cert.ReferenceSsdOutIdeal.nD Cert.ReferenceSsdOutIdeal.τ).loc Cert.ReferenceSsdOutIdeal.main_arg2)
          ∧ r.2.mem ((c.tc : Thread Cert.ReferenceSsdOutIdeal.nD Cert.ReferenceSsdOutIdeal.τ).loc Cert.ReferenceSsdOutIdeal.main_arg3) = m' ((c.tc : Thread Cert.ReferenceSsdOutIdeal.nD Cert.ReferenceSsdOutIdeal.τ).loc Cert.ReferenceSsdOutIdeal.main_arg3))

def preserves_KernelMlstm_KernelMlstmIdeal : Prop :=
  IdealRules.named_const.Statement Cert.KernelMlstmIdeal.κ "mask" .f32 0xF149F2CA#32 ⊥
  ∧ IdealRules.named_const.Statement Cert.KernelMlstmIdeal.κ "log_scale" .f32 0xC01B43D5#32 ((Real.log (11863283 / 134217728) : ℝ) : EReal)

def algebraic_KernelMlstmIdeal_ReferenceMlstmIdeal_pre_finite [hKernelMlstmIdeal : Cert.KernelMlstmIdeal.Facts] [hReferenceMlstmIdeal : Cert.ReferenceMlstmIdeal.Facts] [hPre_finite : Cert.Pre_finite.Facts] : Prop :=
  ∀ (m : (ℓ : Loc Cert.KernelMlstmIdeal.nD Cert.KernelMlstmIdeal.τ Cert.KernelMlstmIdeal.sig) → Buf (Elt Ideal) ℓ) (g : Dev Cert.KernelMlstmIdeal.nD → PrngReg)
    (m' : (ℓ : Loc Cert.ReferenceMlstmIdeal.nD Cert.ReferenceMlstmIdeal.τ Cert.ReferenceMlstmIdeal.sig) → Buf (Elt Ideal) ℓ) (g' : Dev Cert.ReferenceMlstmIdeal.nD → PrngReg), Pre_KernelMlstmIdeal_finite m →
    (∀ c : Dev Cert.KernelMlstmIdeal.nD,
      m' ((c.tc : Thread Cert.ReferenceMlstmIdeal.nD Cert.ReferenceMlstmIdeal.τ).loc Cert.ReferenceMlstmIdeal.main_arg0) = m ((c.tc : Thread Cert.KernelMlstmIdeal.nD Cert.KernelMlstmIdeal.τ).loc Cert.KernelMlstmIdeal.main_arg0)
      ∧ m' ((c.tc : Thread Cert.ReferenceMlstmIdeal.nD Cert.ReferenceMlstmIdeal.τ).loc Cert.ReferenceMlstmIdeal.main_arg1) = m ((c.tc : Thread Cert.KernelMlstmIdeal.nD Cert.KernelMlstmIdeal.τ).loc Cert.KernelMlstmIdeal.main_arg1)
      ∧ m' ((c.tc : Thread Cert.ReferenceMlstmIdeal.nD Cert.ReferenceMlstmIdeal.τ).loc Cert.ReferenceMlstmIdeal.main_arg2) = m ((c.tc : Thread Cert.KernelMlstmIdeal.nD Cert.KernelMlstmIdeal.τ).loc Cert.KernelMlstmIdeal.main_arg2)) →
    ∃ (v0 : (c : Dev Cert.KernelMlstmIdeal.nD) → Buf (Elt Ideal) ((c.tc : Thread Cert.KernelMlstmIdeal.nD Cert.KernelMlstmIdeal.τ).loc Cert.KernelMlstmIdeal.main_v0)),
      θ_run (Cert.KernelMlstmIdeal.defs (F := Ideal)) (onTc (τ := Cert.KernelMlstmIdeal.τ) (Cert.KernelMlstmIdeal.main (F := Ideal))) ⟨m, fun _ => 0, g⟩ (fun r => ∀ c : Dev Cert.KernelMlstmIdeal.nD,
          r.2.mem ((c.tc : Thread Cert.KernelMlstmIdeal.nD Cert.KernelMlstmIdeal.τ).loc Cert.KernelMlstmIdeal.main_v0) = v0 c
          ∧ r.2.mem ((c.tc : Thread Cert.KernelMlstmIdeal.nD Cert.KernelMlstmIdeal.τ).loc Cert.KernelMlstmIdeal.main_arg0) = m ((c.tc : Thread Cert.KernelMlstmIdeal.nD Cert.KernelMlstmIdeal.τ).loc Cert.KernelMlstmIdeal.main_arg0)
          ∧ r.2.mem ((c.tc : Thread Cert.KernelMlstmIdeal.nD Cert.KernelMlstmIdeal.τ).loc Cert.KernelMlstmIdeal.main_arg1) = m ((c.tc : Thread Cert.KernelMlstmIdeal.nD Cert.KernelMlstmIdeal.τ).loc Cert.KernelMlstmIdeal.main_arg1)
          ∧ r.2.mem ((c.tc : Thread Cert.KernelMlstmIdeal.nD Cert.KernelMlstmIdeal.τ).loc Cert.KernelMlstmIdeal.main_arg2) = m ((c.tc : Thread Cert.KernelMlstmIdeal.nD Cert.KernelMlstmIdeal.τ).loc Cert.KernelMlstmIdeal.main_arg2))
      ∧ θ_run (Cert.ReferenceMlstmIdeal.defs (F := Ideal)) (onTc (τ := Cert.ReferenceMlstmIdeal.τ) (Cert.ReferenceMlstmIdeal.main (F := Ideal))) ⟨m', fun _ => 0, g'⟩ (fun r => ∀ c : Dev Cert.ReferenceMlstmIdeal.nD,
          r.2.mem ((c.tc : Thread Cert.ReferenceMlstmIdeal.nD Cert.ReferenceMlstmIdeal.τ).loc Cert.ReferenceMlstmIdeal.main_v51) = v0 c
          ∧ r.2.mem ((c.tc : Thread Cert.ReferenceMlstmIdeal.nD Cert.ReferenceMlstmIdeal.τ).loc Cert.ReferenceMlstmIdeal.main_arg0) = m' ((c.tc : Thread Cert.ReferenceMlstmIdeal.nD Cert.ReferenceMlstmIdeal.τ).loc Cert.ReferenceMlstmIdeal.main_arg0)
          ∧ r.2.mem ((c.tc : Thread Cert.ReferenceMlstmIdeal.nD Cert.ReferenceMlstmIdeal.τ).loc Cert.ReferenceMlstmIdeal.main_arg1) = m' ((c.tc : Thread Cert.ReferenceMlstmIdeal.nD Cert.ReferenceMlstmIdeal.τ).loc Cert.ReferenceMlstmIdeal.main_arg1)
          ∧ r.2.mem ((c.tc : Thread Cert.ReferenceMlstmIdeal.nD Cert.ReferenceMlstmIdeal.τ).loc Cert.ReferenceMlstmIdeal.main_arg2) = m' ((c.tc : Thread Cert.ReferenceMlstmIdeal.nD Cert.ReferenceMlstmIdeal.τ).loc Cert.ReferenceMlstmIdeal.main_arg2))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)) →
    ∃ (v0 : (c : Dev Cert.KernelKvIdeal.nD) → Buf (Elt Ideal) ((c.tc : Thread Cert.KernelKvIdeal.nD Cert.KernelKvIdeal.τ).loc Cert.KernelKvIdeal.main_v1)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v1) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v15) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v1) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v14) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2))

def preserves_KernelSsd_KernelSsdIdeal : Prop :=
  IdealRules.named_const.Statement Cert.KernelSsdIdeal.κ "mask" .f32 0xF149F2CA#32 ⊥

def algebraic_KernelSsdIdeal_ReferenceSsdIdeal_pre_finite_ssd [hKernelSsdIdeal : Cert.KernelSsdIdeal.Facts] [hReferenceSsdIdeal : Cert.ReferenceSsdIdeal.Facts] [hPre_finite_ssd : Cert.Pre_finite_ssd.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg)
    (m' : (ℓ : Loc Cert.ReferenceSsdIdeal.nD Cert.ReferenceSsdIdeal.τ Cert.ReferenceSsdIdeal.sig) → Buf (Elt Ideal) ℓ) (g' : Dev Cert.ReferenceSsdIdeal.nD → PrngReg), Pre_KernelSsdIdeal_finite_ssd m →
    (∀ c : Dev Cert.KernelSsdIdeal.nD,
      m' ((c.tc : Thread Cert.ReferenceSsdIdeal.nD Cert.ReferenceSsdIdeal.τ).loc Cert.ReferenceSsdIdeal.main_arg0) = m ((c.tc : Thread Cert.KernelSsdIdeal.nD Cert.KernelSsdIdeal.τ).loc Cert.KernelSsdIdeal.main_arg0)
      ∧ m' ((c.tc : Thread Cert.ReferenceSsdIdeal.nD Cert.ReferenceSsdIdeal.τ).loc Cert.ReferenceSsdIdeal.main_arg1) = m ((c.tc : Thread Cert.KernelSsdIdeal.nD Cert.KernelSsdIdeal.τ).loc Cert.KernelSsdIdeal.main_arg1)
      ∧ m' ((c.tc : Thread Cert.ReferenceSsdIdeal.nD Cert.ReferenceSsdIdeal.τ).loc Cert.ReferenceSsdIdeal.main_arg2) = m ((c.tc : Thread Cert.KernelSsdIdeal.nD Cert.KernelSsdIdeal.τ).loc Cert.KernelSsdIdeal.main_arg2)
      ∧ m' ((c.tc : Thread Cert.ReferenceSsdIdeal.nD Cert.ReferenceSsdIdeal.τ).loc Cert.ReferenceSsdIdeal.main_arg3) = m ((c.tc : Thread Cert.KernelSsdIdeal.nD Cert.KernelSsdIdeal.τ).loc Cert.KernelSsdIdeal.main_arg3)) →
    ∃ (v0 : (c : Dev Cert.KernelSsdIdeal.nD) → Buf (Elt Ideal) ((c.tc : Thread Cert.KernelSsdIdeal.nD Cert.KernelSsdIdeal.τ).loc Cert.KernelSsdIdeal.main_v0)),
      θ_run (Cert.KernelSsdIdeal.defs (F := Ideal)) (onTc (τ := Cert.KernelSsdIdeal.τ) (Cert.KernelSsdIdeal.main (F := Ideal))) ⟨m, fun _ => 0, g⟩ (fun r => ∀ c : Dev Cert.KernelSsdIdeal.nD,
          r.2.mem ((c.tc : Thread Cert.KernelSsdIdeal.nD Cert.KernelSsdIdeal.τ).loc Cert.KernelSsdIdeal.main_v0) = v0 c
          ∧ r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
          ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
          ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
          ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3))
      ∧ θ_run (Cert.ReferenceSsdIdeal.defs (F := Ideal)) (onTc (τ := Cert.ReferenceSsdIdeal.τ) (Cert.ReferenceSsdIdeal.main (F := Ideal))) ⟨m', fun _ => 0, g'⟩ (fun r => ∀ c : Dev Cert.ReferenceSsdIdeal.nD,
          r.2.mem ((c.tc : Thread Cert.ReferenceSsdIdeal.nD Cert.ReferenceSsdIdeal.τ).loc Cert.ReferenceSsdIdeal.main_v83) = v0 c
          ∧ r.2.mem ((c.tc : Thread Cert.ReferenceSsdIdeal.nD Cert.ReferenceSsdIdeal.τ).loc Cert.ReferenceSsdIdeal.main_arg0) = m' ((c.tc : Thread Cert.ReferenceSsdIdeal.nD Cert.ReferenceSsdIdeal.τ).loc Cert.ReferenceSsdIdeal.main_arg0)
          ∧ r.2.mem ((c.tc : Thread Cert.ReferenceSsdIdeal.nD Cert.ReferenceSsdIdeal.τ).loc Cert.ReferenceSsdIdeal.main_arg1) = m' ((c.tc : Thread Cert.ReferenceSsdIdeal.nD Cert.ReferenceSsdIdeal.τ).loc Cert.ReferenceSsdIdeal.main_arg1)
          ∧ r.2.mem ((c.tc : Thread Cert.ReferenceSsdIdeal.nD Cert.ReferenceSsdIdeal.τ).loc Cert.ReferenceSsdIdeal.main_arg2) = m' ((c.tc : Thread Cert.ReferenceSsdIdeal.nD Cert.ReferenceSsdIdeal.τ).loc Cert.ReferenceSsdIdeal.main_arg2)
          ∧ r.2.mem ((c.tc : Thread Cert.ReferenceSsdIdeal.nD Cert.ReferenceSsdIdeal.τ).loc Cert.ReferenceSsdIdeal.main_arg3) = m' ((c.tc : Thread Cert.ReferenceSsdIdeal.nD Cert.ReferenceSsdIdeal.τ).loc Cert.ReferenceSsdIdeal.main_arg3))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelGlu : Cert.KernelGlu.Facts) (hKernelGluIdeal : Cert.KernelGluIdeal.Facts) (hReferenceGluIdeal : Cert.ReferenceGluIdeal.Facts) (hKernelQuery : Cert.KernelQuery.Facts) (hKernelQueryIdeal : Cert.KernelQueryIdeal.Facts) (hReferenceQueryIdeal : Cert.ReferenceQueryIdeal.Facts) (hKernelSsdIn : Cert.KernelSsdIn.Facts) (hKernelSsdInIdeal : Cert.KernelSsdInIdeal.Facts) (hReferenceSsdInIdeal : Cert.ReferenceSsdInIdeal.Facts) (hKernelMlstmIn : Cert.KernelMlstmIn.Facts) (hKernelMlstmInIdeal : Cert.KernelMlstmInIdeal.Facts) (hReferenceMlstmInIdeal : Cert.ReferenceMlstmInIdeal.Facts) (hKernelRglruIn : Cert.KernelRglruIn.Facts) (hKernelRglruInIdeal : Cert.KernelRglruInIdeal.Facts) (hReferenceRglruInIdeal : Cert.ReferenceRglruInIdeal.Facts) (hKernelOut : Cert.KernelOut.Facts) (hKernelOutIdeal : Cert.KernelOutIdeal.Facts) (hReferenceOutIdeal : Cert.ReferenceOutIdeal.Facts) (hKernelSsdOut : Cert.KernelSsdOut.Facts) (hKernelSsdOutIdeal : Cert.KernelSsdOutIdeal.Facts) (hReferenceSsdOutIdeal : Cert.ReferenceSsdOutIdeal.Facts) (hKernelMlstm : Cert.KernelMlstm.Facts) (hKernelMlstmIdeal : Cert.KernelMlstmIdeal.Facts) (hReferenceMlstmIdeal : Cert.ReferenceMlstmIdeal.Facts) (hKernelKv : Cert.KernelKv.Facts) (hKernelKvIdeal : Cert.KernelKvIdeal.Facts) (hReferenceKvIdeal : Cert.ReferenceKvIdeal.Facts) (hKernelGate : Cert.KernelGate.Facts) (hKernelGateIdeal : Cert.KernelGateIdeal.Facts) (hReferenceGateIdeal : Cert.ReferenceGateIdeal.Facts) (hKernelSsd : Cert.KernelSsd.Facts) (hKernelSsdIdeal : Cert.KernelSsdIdeal.Facts) (hReferenceSsdIdeal : Cert.ReferenceSsdIdeal.Facts) (hPre_finite : Cert.Pre_finite.Facts) (hPre_finite_ssd : Cert.Pre_finite_ssd.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelQuery (hKernelQuery := hKernelQuery)
    ∧ quiescent_KernelQueryIdeal (hKernelQueryIdeal := hKernelQueryIdeal)
    ∧ quiescent_ReferenceQueryIdeal (hReferenceQueryIdeal := hReferenceQueryIdeal)
    ∧ quiescent_KernelSsdIn (hKernelSsdIn := hKernelSsdIn)
    ∧ quiescent_KernelSsdInIdeal (hKernelSsdInIdeal := hKernelSsdInIdeal)
    ∧ quiescent_ReferenceSsdInIdeal (hReferenceSsdInIdeal := hReferenceSsdInIdeal)
    ∧ quiescent_KernelMlstmIn (hKernelMlstmIn := hKernelMlstmIn)
    ∧ quiescent_KernelMlstmInIdeal (hKernelMlstmInIdeal := hKernelMlstmInIdeal)
    ∧ quiescent_ReferenceMlstmInIdeal (hReferenceMlstmInIdeal := hReferenceMlstmInIdeal)
    ∧ quiescent_KernelRglruIn (hKernelRglruIn := hKernelRglruIn)
    ∧ quiescent_KernelRglruInIdeal (hKernelRglruInIdeal := hKernelRglruInIdeal)
    ∧ quiescent_ReferenceRglruInIdeal (hReferenceRglruInIdeal := hReferenceRglruInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelSsdOut (hKernelSsdOut := hKernelSsdOut)
    ∧ quiescent_KernelSsdOutIdeal (hKernelSsdOutIdeal := hKernelSsdOutIdeal)
    ∧ quiescent_ReferenceSsdOutIdeal (hReferenceSsdOutIdeal := hReferenceSsdOutIdeal)
    ∧ quiescent_KernelMlstm (hKernelMlstm := hKernelMlstm)
    ∧ quiescent_KernelMlstmIdeal (hKernelMlstmIdeal := hKernelMlstmIdeal)
    ∧ quiescent_KernelMlstmIdeal_pre_finite (hKernelMlstmIdeal := hKernelMlstmIdeal) (hPre_finite := hPre_finite)
    ∧ quiescent_ReferenceMlstmIdeal (hReferenceMlstmIdeal := hReferenceMlstmIdeal)
    ∧ quiescent_ReferenceMlstmIdeal_pre_finite (hReferenceMlstmIdeal := hReferenceMlstmIdeal) (hPre_finite := hPre_finite)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelSsd (hKernelSsd := hKernelSsd)
    ∧ quiescent_KernelSsdIdeal (hKernelSsdIdeal := hKernelSsdIdeal)
    ∧ quiescent_KernelSsdIdeal_pre_finite_ssd (hKernelSsdIdeal := hKernelSsdIdeal) (hPre_finite_ssd := hPre_finite_ssd)
    ∧ quiescent_ReferenceSsdIdeal (hReferenceSsdIdeal := hReferenceSsdIdeal)
    ∧ quiescent_ReferenceSsdIdeal_pre_finite_ssd (hReferenceSsdIdeal := hReferenceSsdIdeal) (hPre_finite_ssd := hPre_finite_ssd)
    ∧ preserves_Kernel_KernelIdeal
    ∧ algebraic_KernelIdeal_ReferenceIdeal (hKernelIdeal := hKernelIdeal) (hReferenceIdeal := hReferenceIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelGlu_KernelGluIdeal
    ∧ algebraic_KernelGluIdeal_ReferenceGluIdeal (hKernelGluIdeal := hKernelGluIdeal) (hReferenceGluIdeal := hReferenceGluIdeal)
    ∧ preserves_KernelQuery_KernelQueryIdeal
    ∧ algebraic_KernelQueryIdeal_ReferenceQueryIdeal (hKernelQueryIdeal := hKernelQueryIdeal) (hReferenceQueryIdeal := hReferenceQueryIdeal)
    ∧ preserves_KernelSsdIn_KernelSsdInIdeal
    ∧ algebraic_KernelSsdInIdeal_ReferenceSsdInIdeal (hKernelSsdInIdeal := hKernelSsdInIdeal) (hReferenceSsdInIdeal := hReferenceSsdInIdeal)
    ∧ preserves_KernelMlstmIn_KernelMlstmInIdeal
    ∧ algebraic_KernelMlstmInIdeal_ReferenceMlstmInIdeal (hKernelMlstmInIdeal := hKernelMlstmInIdeal) (hReferenceMlstmInIdeal := hReferenceMlstmInIdeal)
    ∧ preserves_KernelRglruIn_KernelRglruInIdeal
    ∧ algebraic_KernelRglruInIdeal_ReferenceRglruInIdeal (hKernelRglruInIdeal := hKernelRglruInIdeal) (hReferenceRglruInIdeal := hReferenceRglruInIdeal)
    ∧ preserves_KernelOut_KernelOutIdeal
    ∧ algebraic_KernelOutIdeal_ReferenceOutIdeal (hKernelOutIdeal := hKernelOutIdeal) (hReferenceOutIdeal := hReferenceOutIdeal)
    ∧ preserves_KernelSsdOut_KernelSsdOutIdeal
    ∧ algebraic_KernelSsdOutIdeal_ReferenceSsdOutIdeal (hKernelSsdOutIdeal := hKernelSsdOutIdeal) (hReferenceSsdOutIdeal := hReferenceSsdOutIdeal)
    ∧ preserves_KernelMlstm_KernelMlstmIdeal
    ∧ algebraic_KernelMlstmIdeal_ReferenceMlstmIdeal_pre_finite (hKernelMlstmIdeal := hKernelMlstmIdeal) (hReferenceMlstmIdeal := hReferenceMlstmIdeal) (hPre_finite := hPre_finite)
    ∧ preserves_KernelKv_KernelKvIdeal
    ∧ algebraic_KernelKvIdeal_ReferenceKvIdeal (hKernelKvIdeal := hKernelKvIdeal) (hReferenceKvIdeal := hReferenceKvIdeal)
    ∧ preserves_KernelGate_KernelGateIdeal
    ∧ algebraic_KernelGateIdeal_ReferenceGateIdeal (hKernelGateIdeal := hKernelGateIdeal) (hReferenceGateIdeal := hReferenceGateIdeal)
    ∧ preserves_KernelSsd_KernelSsdIdeal
    ∧ algebraic_KernelSsdIdeal_ReferenceSsdIdeal_pre_finite_ssd (hKernelSsdIdeal := hKernelSsdIdeal) (hReferenceSsdIdeal := hReferenceSsdIdeal) (hPre_finite_ssd := hPre_finite_ssd)
-- ==== Pre_finite.lean ====
abbrev S32768x6144 : Shape := ⟨2, ![32768, 6144]⟩
abbrev S32768x128 : Shape := ⟨2, ![32768, 128]⟩
abbrev S1x128 : Shape := ⟨2, ![1, 128]⟩
abbrev S_ : Shape := ⟨0, ![]⟩

class Facts : Prop where
  bcast_S_S32768x6144 : S_.BroadcastsInDim S32768x6144 (![] : Fin 0 → Fin S32768x6144.rank)
  reducesTo_S32768x6144_S_d0_1 : S32768x6144.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S32768x6144 .bf16) (main_arg1 : FVec F S32768x128 .f32) (main_arg2 : FVec F S1x128 .f32) : IVec S_ 1 :=
  let main_v0 : FVec F S32768x6144 .bf16 := Host.absf main_arg0
  let main_cst : FVec F S_ .bf16 := constant S_ .bf16 0x7F80#16
  let main_v1 : FVec F S32768x6144 .bf16 := broadcastInDim S32768x6144 ![] bcast_S_S32768x6144 main_cst
  let main_v2 : IVec S32768x6144 1 := cmpf .olt main_v0 main_v1
  let main_c : IVec S_ 1 := constantI S_ 1 1#1
  let main_v3 : IVec S_ 1 := (fun x v => Host.reduce IntOp.andi x v reducesTo_S32768x6144_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Pre_finite_ssd.lean ====
abbrev S32768x6144 : Shape := ⟨2, ![32768, 6144]⟩
abbrev S32768x128 : Shape := ⟨2, ![32768, 128]⟩
abbrev S_ : Shape := ⟨0, ![]⟩

class Facts : Prop where
  bcast_S_S32768x6144 : S_.BroadcastsInDim S32768x6144 (![] : Fin 0 → Fin S32768x6144.rank)
  reducesTo_S32768x6144_S_d0_1 : S32768x6144.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn_part1 {F : FTy → Type} [FloatOps F] (main_v13 : IVec S_ 1) (main_v16 : IVec S32768x128 1) : IVec S_ 1 :=
  let main_c_5 : IVec S_ 1 := constantI S_ 1 1#1
  let main_v17 : IVec S_ 1 := (fun x v => Host.reduce IntOp.andi x v reducesTo_S32768x128_S_d0_1 h_S_) main_v16 main_c_5
  let main_v18 : IVec S_ 1 := andi main_v13 main_v17
  main_v18

def fn {F : FTy → Type} [FloatOps F] (main_arg0 : FVec F S32768x6144 .bf16) (main_arg1 : FVec F S32768x128 .f32) (main_arg2 : FVec F S32768x128 .f32) (main_arg3 : FVec F S32768x128 .f32) : IVec S_ 1 :=
  let main_v0 : FVec F S32768x6144 .bf16 := Host.absf main_arg0
  let main_cst : FVec F S_ .bf16 := constant S_ .bf16 0x7F80#16
  let main_v1 : FVec F S32768x6144 .bf16 := broadcastInDim S32768x6144 ![] bcast_S_S32768x6144 main_cst
  let main_v2 : IVec S32768x6144 1 := cmpf .olt main_v0 main_v1
  let main_c : IVec S_ 1 := constantI S_ 1 1#1
  let main_v3 : IVec S_ 1 := (fun x v => Host.reduce IntOp.andi x v reducesTo_S32768x6144_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S32768x128 .f32 := Host.absf main_arg2
  let main_cst_2 : FVec F S_ .f32 := constant S_ .f32 0x7F800000#32
  let main_v10 : FVec F S32768x128 .f32 := broadcastInDim S32768x128 ![] bcast_S_S32768x128 main_cst_2
  let main_v11 : IVec S32768x128 1 := cmpf .olt main_v9 main_v10
  let main_c_3 : IVec S_ 1 := constantI S_ 1 1#1
  let main_v12 : IVec S_ 1 := (fun x v => Host.reduce IntOp.andi x v reducesTo_S32768x128_S_d0_1 h_S_) main_v11 main_c_3
  let main_v13 : IVec S_ 1 := andi main_v8 main_v12
  let main_v14 : FVec F S32768x128 .f32 := Host.absf main_arg3
  let main_cst_4 : FVec F S_ .f32 := constant S_ .f32 0x7F800000#32
  let main_v15 : FVec F S32768x128 .f32 := broadcastInDim S32768x128 ![] bcast_S_S32768x128 main_cst_4
  let main_v16 : IVec S32768x128 1 := cmpf .olt main_v14 main_v15
  fn_part1 (F := F) main_v13 main_v16
-- ==== Kernel.lean ====
abbrev S32768x2048 : Shape := ⟨2, ![32768, 2048]⟩
abbrev S512x4096 : Shape := ⟨2, ![512, 4096]⟩
abbrev S2x256x4096 : Shape := ⟨3, ![2, 256, 4096]⟩
abbrev S512x2048 : Shape := ⟨2, ![512, 2048]⟩
abbrev S1x256x4096 : Shape := ⟨3, ![1, 256, 4096]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S512x4096, .bf16⟩
  | .hbm, ⟨2, _⟩ => ⟨S2x256x4096, .bf16⟩
  | .hbm, ⟨3, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S1x256x4096, .bf16⟩
  | .local _ .vmem, ⟨3, _⟩ => ⟨S1x256x4096, .bf16⟩
  | .local _ .vmem, ⟨4, _⟩ => ⟨S512x2048, .bf16⟩
  | .local _ .vmem, ⟨5, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32768x2048 : Shape := ⟨2, ![32768, 2048]⟩
abbrev S512x4096 : Shape := ⟨2, ![512, 4096]⟩
abbrev S2x16384x4x512 : Shape := ⟨4, ![2, 16384, 4, 512]⟩
abbrev S2x256x4096 : Shape := ⟨3, ![2, 256, 4096]⟩
abbrev S2x256x2048 : Shape := ⟨3, ![2, 256, 2048]⟩
abbrev S2x256x4x512 : Shape := ⟨4, ![2, 256, 4, 512]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x512x16384 : Shape := ⟨4, ![2, 4, 512, 16384]⟩
abbrev S2x16384x2048 : Shape := ⟨3, ![2, 16384, 2048]⟩

abbrev nBuf : Space → Nat
  | .hbm => 32
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S512x4096, .bf16⟩
  | .hbm, ⟨2, _⟩ => ⟨S2x16384x4x512, .bf16⟩
  | .hbm, ⟨3, _⟩ => ⟨S2x256x4096, .bf16⟩
  | .hbm, ⟨4, _⟩ => ⟨S2x256x2048, .bf16⟩
  | .hbm, ⟨5, _⟩ => ⟨S2x256x2048, .bf16⟩
  | .hbm, ⟨6, _⟩ => ⟨S2x256x4x512, .bf16⟩
  | .hbm, ⟨7, _⟩ => ⟨S2x256x4x512, .bf16⟩
  | .hbm, ⟨8, _⟩ => ⟨S2x4x16384x256, .f32⟩
  | .hbm, ⟨9, _⟩ => ⟨S_, .f32⟩
  | .hbm, ⟨10, _⟩ => ⟨S2x4x16384x256, .f32⟩
  | .hbm, ⟨11, _⟩ => ⟨S2x4x16384x256, .f32⟩
  | .hbm, ⟨12, _⟩ => ⟨S_, .f32⟩
  | .hbm, ⟨13, _⟩ => ⟨S2x4x16384, .f32⟩
  | .hbm, ⟨14, _⟩ => ⟨S_, .f32⟩
  | .hbm, ⟨15, _⟩ => ⟨S2x4x16384, .f32⟩
  | .hbm, ⟨16, _⟩ => ⟨S2x4x16384, .f32⟩
  | .hbm, ⟨17, _⟩ => ⟨S2x4x16384x1, .f32⟩
  | .hbm, ⟨18, _⟩ => ⟨S2x4x16384x256, .f32⟩
  | .hbm, ⟨19, _⟩ => ⟨S2x4x16384x256, .f32⟩
  | .hbm, ⟨20, _⟩ => ⟨S2x4x16384x256, .f32⟩
  | .hbm, ⟨21, _⟩ => ⟨S_, .f32⟩
  | .hbm, ⟨22, _⟩ => ⟨S2x4x16384, .f32⟩
  | .hbm, ⟨23, _⟩ => ⟨S2x4x16384x1, .f32⟩
  | .hbm, ⟨24, _⟩ => ⟨S2x4x16384x256, .f32⟩
  | .hbm, ⟨25, _⟩ => ⟨S2x4x16384x256, .f32⟩
  | .hbm, ⟨26, _⟩ => ⟨S2x4x16384x256, .bf16⟩
  | .hbm, ⟨27, _⟩ => ⟨S2x4x512x16384, .f32⟩
  | .hbm, ⟨28, _⟩ => ⟨S2x16384x4x512, .f32⟩
  | .hbm, ⟨29, _⟩ => ⟨S2x16384x2048, .f32⟩
  | .hbm, ⟨30, _⟩ => ⟨S32768x2048, .f32⟩
  | .hbm, ⟨31, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== KernelUp.lean ====
abbrev S32768x2048 : Shape := ⟨2, ![32768, 2048]⟩
abbrev S2048x11264 : Shape := ⟨2, ![2048, 11264]⟩
abbrev S2048 : Shape := ⟨1, ![2048]⟩
abbrev S1x2048 : Shape := ⟨2, ![1, 2048]⟩
abbrev S32768x11264 : Shape := ⟨2, ![32768, 11264]⟩
abbrev S1024x2048 : Shape := ⟨2, ![1024, 2048]⟩
abbrev S2048x1408 : Shape := ⟨2, ![2048, 1408]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048x11264, .bf16⟩
  | .hbm, ⟨2, _⟩ => ⟨S2048, .f32⟩
  | .hbm, ⟨3, _⟩ => ⟨S1x2048, .f32⟩
  | .hbm, ⟨4, _⟩ => ⟨S32768x11264, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1408, .bf16⟩
  | .local _ .vmem, ⟨4, _⟩ => ⟨S2048x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S32768x2048 : Shape := ⟨2, ![32768, 2048]⟩
abbrev S2048x11264 : Shape := ⟨2, ![2048, 11264]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x11264 : Shape := ⟨2, ![32768, 11264]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x11264, .bf16⟩
  | .hbm, ⟨2, _⟩ => ⟨S2048, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x11264, .f32⟩
  | .hbm, ⟨20, _⟩ => ⟨S32768x11264, .f32⟩
  | .hbm, ⟨21, _⟩ => ⟨S32768x11264, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelDown.lean ====
abbrev S32768x11264 : Shape := ⟨2, ![32768, 11264]⟩
abbrev S3x5632 : Shape := ⟨2, ![3, 5632]⟩
abbrev S5632 : Shape := ⟨1, ![5632]⟩
abbrev S5632x2048 : Shape := ⟨2, ![5632, 2048]⟩
abbrev S32768x2048 : Shape := ⟨2, ![32768, 2048]⟩
abbrev S2048 : Shape := ⟨1, ![2048]⟩
abbrev S1x5632 : Shape := ⟨2, ![1, 5632]⟩
abbrev S1x2048 : Shape := ⟨2, ![1, 2048]⟩
abbrev S512x1408 : Shape := ⟨2, ![512, 1408]⟩
abbrev S16x1408 : Shape := ⟨2, ![16, 1408]⟩
abbrev S3x1408 : Shape := ⟨2, ![3, 1408]⟩
abbrev S1x1408 : Shape := ⟨2, ![1, 1408]⟩
abbrev S1408x2048 : Shape := ⟨2, ![1408, 2048]⟩
abbrev S512x2048 : Shape := ⟨2, ![512, 2048]⟩
abbrev S8x1408 : Shape := ⟨2, ![8, 1408]⟩
abbrev S64x8x1408 : Shape := ⟨3, ![64, 8, 1408]⟩
abbrev S1x8x1408 : Shape := ⟨3, ![1, 8, 1408]⟩
abbrev S63x8x1408 : Shape := ⟨3, ![63, 8, 1408]⟩
abbrev S1x1x1408 : Shape := ⟨3, ![1, 1, 1408]⟩
abbrev S512 : Shape := ⟨1, ![512]⟩
abbrev S512x1 : Shape := ⟨2, ![512, 1]⟩

abbrev nBuf : Space → Nat
  | .hbm => 9
  | .vmem => 19
  | .smem => 0
  | _ => 0

abbrev bufTy : (tb : Table) → Fin (tcTables nBuf tb) → BufTy
  | .hbm, ⟨0, _⟩ => ⟨S32768x11264, .bf16⟩
  | .hbm, ⟨1, _⟩ => ⟨S3x5632, .f32⟩
  | .hbm, ⟨2, _⟩ => ⟨S5632, .f32⟩
  | .hbm, ⟨3, _⟩ => ⟨S5632x2048, .bf16⟩
  | .hbm, ⟨4, _⟩ => ⟨S32768x2048, .f32⟩
  | .hbm, ⟨5, _⟩ => ⟨S2048, .f32⟩
  | .hbm, ⟨6, _⟩ => ⟨S1x5632, .f32⟩
  | .hbm, ⟨7, _⟩ => ⟨S1x2048, .f32⟩
  | .hbm, ⟨8, _⟩ => ⟨S32768x2048, .f32⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S16x1408, .bf16⟩
  | .local _ .vmem, ⟨5, _⟩ => ⟨S16x1408, .bf16⟩
  | .local _ .vmem, ⟨6, _⟩ => ⟨S512x1408, .bf16⟩
  | .local _ .vmem, ⟨7, _⟩ => ⟨S512x1408, .bf16⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S1408x2048, .bf16⟩
  | .local _ .vmem, ⟨13, _⟩ => ⟨S1408x2048, .bf16⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | _, _ => ⟨S32768x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![64, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let c3_i32 : BitVec 32 := 3#32
  let v4 : BitVec 1 := Scalar.cmpi .ne arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelDownIdeal.lean ====
variable {F : FTy → Type} [FloatOps F] [Named F]
def κ : String → Option EReal := fun
  | "neg_log2_e" => some ((-((Real.log 2)⁻¹) : ℝ) : EReal)
  | _ => none
-- ==== ReferenceDownIdeal.lean ====
abbrev S32768x11264 : Shape := ⟨2, ![32768, 11264]⟩
abbrev S3x5632 : Shape := ⟨2, ![3, 5632]⟩
abbrev S5632 : Shape := ⟨1, ![5632]⟩
abbrev S5632x2048 : Shape := ⟨2, ![5632, 2048]⟩
abbrev S32768x2048 : Shape := ⟨2, ![32768, 2048]⟩
abbrev S2048 : Shape := ⟨1, ![2048]⟩
abbrev S2x16384x11264 : Shape := ⟨3, ![2, 16384, 11264]⟩
abbrev S2x16384x5632 : Shape := ⟨3, ![2, 16384, 5632]⟩
abbrev S_ : Shape := ⟨0, ![]⟩
abbrev S2x16386x5632 : Shape := ⟨3, ![2, 16386, 5632]⟩
abbrev S1x5632 : Shape := ⟨2, ![1, 5632]⟩
abbrev S1x1x5632 : Shape := ⟨3, ![1, 1, 5632]⟩
abbrev S32768x5632 : Shape := ⟨2, ![32768, 5632]⟩
abbrev S32768 : Shape := ⟨1, ![32768]⟩
abbrev S32768x1 : Shape := ⟨2, ![32768, 1]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S32768x11264, .bf16⟩
  | .hbm, ⟨1, _⟩ => ⟨S3x5632, .f32⟩
  | .hbm, ⟨2, _⟩ => ⟨S5632, .f32⟩
  | .hbm, ⟨3, _⟩ => ⟨S5632x2048, .bf16⟩
  | .hbm, ⟨4, _⟩ => ⟨S32768x2048, .f32⟩
  | .hbm, ⟨5, _⟩ => ⟨S2048, .f32⟩
  | .hbm, ⟨6, _⟩ => ⟨S32768x11264, .f32⟩
  | .hbm, ⟨7, _⟩ => ⟨S2x16384x11264, .f32⟩
  | .hbm, ⟨8, _⟩ => ⟨S2x16384x5632, .f32⟩
  | .hbm, ⟨9, _⟩ => ⟨S2x16384x5632, .f32⟩
  | .hbm, ⟨10, _⟩ => ⟨S_, .i32⟩
  | .hbm, ⟨11, _⟩ => ⟨S_, .f32⟩
  | .hbm, ⟨12, _⟩ => ⟨S2x16386x5632, .f32⟩
  | .hbm, ⟨13, _⟩ => ⟨S2x16384x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S2x16384x5632, .f32⟩
  | .hbm, ⟨18, _⟩ => ⟨S2x16384x5632, .f32⟩
  | .hbm, ⟨19, _⟩ => ⟨S2x16384x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S2x16384x5632, .f32⟩
  | .hbm, ⟨24, _⟩ => ⟨S2x16384x5632, .f32⟩
  | .hbm, ⟨25, _⟩ => ⟨S2x16384x5632, .f32⟩
  | .hbm, ⟨26, _⟩ => ⟨S2x16384x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x16384x5632, .f32⟩
  | .hbm, ⟨31, _⟩ => ⟨S2x16384x5632, .f32⟩
  | .hbm, ⟨32, _⟩ => ⟨S2x16384x5632, .f32⟩
  | .hbm, ⟨33, _⟩ => ⟨S1x1x5632, .f32⟩
  | .hbm, ⟨34, _⟩ => ⟨S2x16384x5632, .f32⟩
  | .hbm, ⟨35, _⟩ => ⟨S2x16384x5632, .f32⟩
  | .hbm, ⟨36, _⟩ => ⟨S2x16384x5632, .f32⟩
  | .hbm, ⟨37, _⟩ => ⟨S2x16384x5632, .f32⟩
  | .hbm, ⟨38, _⟩ => ⟨S_, .f32⟩
  | .hbm, ⟨39, _⟩ => ⟨S2x16384x5632, .f32⟩
  | .hbm, ⟨40, _⟩ => ⟨S2x16384x5632, .f32⟩
  | .hbm, ⟨41, _⟩ => ⟨S_, .f32⟩
  | .hbm, ⟨42, _⟩ => ⟨S2x16384x5632, .f32⟩
  | .hbm, ⟨43, _⟩ => ⟨S2x16384x5632, .f32⟩
  | .hbm, ⟨44, _⟩ => ⟨S2x16384x5632, .f32⟩
  | .hbm, ⟨45, _⟩ => ⟨S2x16384x5632, .f32⟩
  | .hbm, ⟨46, _⟩ => ⟨S32768x5632, .f32⟩
  | .hbm, ⟨47, _⟩ => ⟨S5632x2048, .f32⟩
  | .hbm, ⟨48, _⟩ => ⟨S32768x2048, .f32⟩
  | .hbm, ⟨49, _⟩ => ⟨S32768x2048, .f32⟩
  | .hbm, ⟨50, _⟩ => ⟨S32768x2048, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x2048, .f32⟩
  | .hbm, ⟨62, _⟩ => ⟨S32768x2048, .f32⟩
  | .hbm, ⟨63, _⟩ => ⟨S1x2048, .f32⟩
  | .hbm, ⟨64, _⟩ => ⟨S32768x2048, .f32⟩
  | .hbm, ⟨65, _⟩ => ⟨S32768x2048, .f32⟩
  | _, _ => ⟨S32768x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_cst_0 : Ref sig .tc := ⟨.hbm, 54, rfl⟩
abbrev main_v37 : Ref sig .tc := ⟨.hbm, 55, rfl⟩
abbrev main_v38 : Ref sig .tc := ⟨.hbm, 56, rfl⟩
abbrev main_cst_1 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== KernelGlu.lean ====
abbrev S32768x11264 : Shape := ⟨2, ![32768, 11264]⟩
abbrev S3x5632 : Shape := ⟨2, ![3, 5632]⟩
abbrev S5632 : Shape := ⟨1, ![5632]⟩
abbrev S5632x2048 : Shape := ⟨2, ![5632, 2048]⟩
abbrev S32768x2048 : Shape := ⟨2, ![32768, 2048]⟩
abbrev S1x5632 : Shape := ⟨2, ![1, 5632]⟩
abbrev S512x1408 : Shape := ⟨2, ![512, 1408]⟩
abbrev S16x1408 : Shape := ⟨2, ![16, 1408]⟩
abbrev S3x1408 : Shape := ⟨2, ![3, 1408]⟩
abbrev S1x1408 : Shape := ⟨2, ![1, 1408]⟩
abbrev S1408x2048 : Shape := ⟨2, ![1408, 2048]⟩
abbrev S512x2048 : Shape := ⟨2, ![512, 2048]⟩
abbrev S8x1408 : Shape := ⟨2, ![8, 1408]⟩
abbrev S64x8x1408 : Shape := ⟨3, ![64, 8, 1408]⟩
abbrev S1x8x1408 : Shape := ⟨3, ![1, 8, 1408]⟩
abbrev S63x8x1408 : Shape := ⟨3, ![63, 8, 1408]⟩
abbrev S1x1x1408 : Shape := ⟨3, ![1, 1, 1408]⟩

abbrev nBuf : Space → Nat
  | .hbm => 7
  | .vmem => 18
  | .smem => 0
  | _ => 0

abbrev bufTy : (tb : Table) → Fin (tcTables nBuf tb) → BufTy
  | .hbm, ⟨0, _⟩ => ⟨S32768x11264, .bf16⟩
  | .hbm, ⟨1, _⟩ => ⟨S3x5632, .f32⟩
  | .hbm, ⟨2, _⟩ => ⟨S5632, .f32⟩
  | .hbm, ⟨3, _⟩ => ⟨S5632x2048, .bf16⟩
  | .hbm, ⟨4, _⟩ => ⟨S32768x2048, .f32⟩
  | .hbm, ⟨5, _⟩ => ⟨S1x5632, .f32⟩
  | .hbm, ⟨6, _⟩ => ⟨S32768x2048, .f32⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S16x1408, .bf16⟩
  | .local _ .vmem, ⟨5, _⟩ => ⟨S16x1408, .bf16⟩
  | .local _ .vmem, ⟨6, _⟩ => ⟨S512x1408, .bf16⟩
  | .local _ .vmem, ⟨7, _⟩ => ⟨S512x1408, .bf16⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S1408x2048, .bf16⟩
  | .local _ .vmem, ⟨13, _⟩ => ⟨S1408x2048, .bf16⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | _, _ => ⟨S32768x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![64, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelGluIdeal.lean ====
variable {F : FTy → Type} [FloatOps F] [Named F]
def κ : String → Option EReal := fun
  | "neg_log2_e" => some ((-((Real.log 2)⁻¹) : ℝ) : EReal)
  | _ => none
-- ==== ReferenceGluIdeal.lean ====
abbrev S32768x11264 : Shape := ⟨2, ![32768, 11264]⟩
abbrev S3x5632 : Shape := ⟨2, ![3, 5632]⟩
abbrev S5632 : Shape := ⟨1, ![5632]⟩
abbrev S5632x2048 : Shape := ⟨2, ![5632, 2048]⟩
abbrev S32768x2048 : Shape := ⟨2, ![32768, 2048]⟩
abbrev S2x16384x11264 : Shape := ⟨3, ![2, 16384, 11264]⟩
abbrev S2x16384x5632 : Shape := ⟨3, ![2, 16384, 5632]⟩
abbrev S_ : Shape := ⟨0, ![]⟩
abbrev S2x16386x5632 : Shape := ⟨3, ![2, 16386, 5632]⟩
abbrev S1x5632 : Shape := ⟨2, ![1, 5632]⟩
abbrev S1x1x5632 : Shape := ⟨3, ![1, 1, 5632]⟩
abbrev S32768x5632 : Shape := ⟨2, ![32768, 5632]⟩

abbrev nBuf : Space → Nat
  | .hbm => 49
  | .vmem => 0
  | .smem => 0
  | _ => 0

abbrev bufTy : (tb : Table) → Fin (tcTables nBuf tb) → BufTy
  | .hbm, ⟨0, _⟩ => ⟨S32768x11264, .bf16⟩
  | .hbm, ⟨1, _⟩ => ⟨S3x5632, .f32⟩
  | .hbm, ⟨2, _⟩ => ⟨S5632, .f32⟩
  | .hbm, ⟨3, _⟩ => ⟨S5632x2048, .bf16⟩
  | .hbm, ⟨4, _⟩ => ⟨S32768x2048, .f32⟩
  | .hbm, ⟨5, _⟩ => ⟨S32768x11264, .f32⟩
  | .hbm, ⟨6, _⟩ => ⟨S2x16384x11264, .f32⟩
  | .hbm, ⟨7, _⟩ => ⟨S2x16384x5632, .f32⟩
  | .hbm, ⟨8, _⟩ => ⟨S2x16384x5632, .f32⟩
  | .hbm, ⟨9, _⟩ => ⟨S_, .i32⟩
  | .hbm, ⟨10, _⟩ => ⟨S_, .f32⟩
  | .hbm, ⟨11, _⟩ => ⟨S2x16386x5632, .f32⟩
  | .hbm, ⟨12, _⟩ => ⟨S2x16384x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S2x16384x5632, .f32⟩
  | .hbm, ⟨17, _⟩ => ⟨S2x16384x5632, .f32⟩
  | .hbm, ⟨18, _⟩ => ⟨S2x16384x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S2x16384x5632, .f32⟩
  | .hbm, ⟨23, _⟩ => ⟨S2x16384x5632, .f32⟩
  | .hbm, ⟨24, _⟩ => ⟨S2x16384x5632, .f32⟩
  | .hbm, ⟨25, _⟩ => ⟨S2x16384x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S2x16384x5632, .f32⟩
  | .hbm, ⟨30, _⟩ => ⟨S2x16384x5632, .f32⟩
  | .hbm, ⟨31, _⟩ => ⟨S2x16384x5632, .f32⟩
  | .hbm, ⟨32, _⟩ => ⟨S1x1x5632, .f32⟩
  | .hbm, ⟨33, _⟩ => ⟨S2x16384x5632, .f32⟩
  | .hbm, ⟨34, _⟩ => ⟨S2x16384x5632, .f32⟩
  | .hbm, ⟨35, _⟩ => ⟨S2x16384x5632, .f32⟩
  | .hbm, ⟨36, _⟩ => ⟨S2x16384x5632, .f32⟩
  | .hbm, ⟨37, _⟩ => ⟨S_, .f32⟩
  | .hbm, ⟨38, _⟩ => ⟨S2x16384x5632, .f32⟩
  | .hbm, ⟨39, _⟩ => ⟨S2x16384x5632, .f32⟩
  | .hbm, ⟨40, _⟩ => ⟨S_, .f32⟩
  | .hbm, ⟨41, _⟩ => ⟨S2x16384x5632, .f32⟩
  | .hbm, ⟨42, _⟩ => ⟨S2x16384x5632, .f32⟩
  | .hbm, ⟨43, _⟩ => ⟨S2x16384x5632, .f32⟩
  | .hbm, ⟨44, _⟩ => ⟨S2x16384x5632, .f32⟩
  | .hbm, ⟨45, _⟩ => ⟨S32768x5632, .f32⟩
  | .hbm, ⟨46, _⟩ => ⟨S5632x2048, .f32⟩
  | .hbm, ⟨47, _⟩ => ⟨S32768x2048, .f32⟩
  | .hbm, ⟨48, _⟩ => ⟨S32768x2048, .f32⟩
  | _, _ => ⟨S32768x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== KernelQuery.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048x2048, .bf16⟩
  | .hbm, ⟨2, _⟩ => ⟨S2048, .f32⟩
  | .hbm, ⟨3, _⟩ => ⟨S1x2048, .f32⟩
  | .hbm, ⟨4, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelQueryIdeal.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048x2048, .bf16⟩
  | .hbm, ⟨2, _⟩ => ⟨S2048, .f32⟩
  | .hbm, ⟨3, _⟩ => ⟨S1x2048, .f32⟩
  | .hbm, ⟨4, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQueryIdeal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .bf16⟩
  | .hbm, ⟨2, _⟩ => ⟨S2048, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x2048, .f32⟩
  | .hbm, ⟨20, _⟩ => ⟨S32768x2048, .f32⟩
  | .hbm, ⟨21, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelSsdIn.lean ====
abbrev S32768x2048 : Shape := ⟨2, ![32768, 2048]⟩
abbrev S2048x10240 : Shape := ⟨2, ![2048, 10240]⟩
abbrev S2048 : Shape := ⟨1, ![2048]⟩
abbrev S1x2048 : Shape := ⟨2, ![1, 2048]⟩
abbrev S32768x10240 : Shape := ⟨2, ![32768, 10240]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048x10240, .bf16⟩
  | .hbm, ⟨2, _⟩ => ⟨S2048, .f32⟩
  | .hbm, ⟨3, _⟩ => ⟨S1x2048, .f32⟩
  | .hbm, ⟨4, _⟩ => ⟨S32768x10240, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelSsdInIdeal.lean ====
abbrev S32768x2048 : Shape := ⟨2, ![32768, 2048]⟩
abbrev S2048x10240 : Shape := ⟨2, ![2048, 10240]⟩
abbrev S2048 : Shape := ⟨1, ![2048]⟩
abbrev S1x2048 : Shape := ⟨2, ![1, 2048]⟩
abbrev S32768x10240 : Shape := ⟨2, ![32768, 10240]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048x10240, .bf16⟩
  | .hbm, ⟨2, _⟩ => ⟨S2048, .f32⟩
  | .hbm, ⟨3, _⟩ => ⟨S1x2048, .f32⟩
  | .hbm, ⟨4, _⟩ => ⟨S32768x10240, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceSsdInIdeal.lean ====
abbrev S32768x2048 : Shape := ⟨2, ![32768, 2048]⟩
abbrev S2048x10240 : Shape := ⟨2, ![2048, 10240]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x10240 : Shape := ⟨2, ![32768, 10240]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x10240, .bf16⟩
  | .hbm, ⟨2, _⟩ => ⟨S2048, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x10240, .f32⟩
  | .hbm, ⟨20, _⟩ => ⟨S32768x10240, .f32⟩
  | .hbm, ⟨21, _⟩ => ⟨S32768x10240, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelMlstmIn.lean ====
abbrev S32768x2048 : Shape := ⟨2, ![32768, 2048]⟩
abbrev S2048x6144 : Shape := ⟨2, ![2048, 6144]⟩
abbrev S2048 : Shape := ⟨1, ![2048]⟩
abbrev S1x2048 : Shape := ⟨2, ![1, 2048]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048x6144, .bf16⟩
  | .hbm, ⟨2, _⟩ => ⟨S2048, .f32⟩
  | .hbm, ⟨3, _⟩ => ⟨S1x2048, .f32⟩
  | .hbm, ⟨4, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelMlstmInIdeal.lean ====
abbrev S32768x2048 : Shape := ⟨2, ![32768, 2048]⟩
abbrev S2048x6144 : Shape := ⟨2, ![2048, 6144]⟩
abbrev S2048 : Shape := ⟨1, ![2048]⟩
abbrev S1x2048 : Shape := ⟨2, ![1, 2048]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048x6144, .bf16⟩
  | .hbm, ⟨2, _⟩ => ⟨S2048, .f32⟩
  | .hbm, ⟨3, _⟩ => ⟨S1x2048, .f32⟩
  | .hbm, ⟨4, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceMlstmInIdeal.lean ====
abbrev S32768x2048 : Shape := ⟨2, ![32768, 2048]⟩
abbrev S2048x6144 : Shape := ⟨2, ![2048, 6144]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x6144 : Shape := ⟨2, ![32768, 6144]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x6144, .bf16⟩
  | .hbm, ⟨2, _⟩ => ⟨S2048, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x6144, .f32⟩
  | .hbm, ⟨20, _⟩ => ⟨S32768x6144, .f32⟩
  | .hbm, ⟨21, _⟩ => ⟨S32768x6144, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelRglruIn.lean ====
abbrev S32768x2048 : Shape := ⟨2, ![32768, 2048]⟩
abbrev S2048x4096 : Shape := ⟨2, ![2048, 4096]⟩
abbrev S2048 : Shape := ⟨1, ![2048]⟩
abbrev S1x2048 : Shape := ⟨2, ![1, 2048]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048x4096, .bf16⟩
  | .hbm, ⟨2, _⟩ => ⟨S2048, .f32⟩
  | .hbm, ⟨3, _⟩ => ⟨S1x2048, .f32⟩
  | .hbm, ⟨4, _⟩ => ⟨S32768x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceRglruInIdeal.lean ====
abbrev S32768x2048 : Shape := ⟨2, ![32768, 2048]⟩
abbrev S2048x4096 : Shape := ⟨2, ![2048, 4096]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x4096 : Shape := ⟨2, ![32768, 4096]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x4096, .bf16⟩
  | .hbm, ⟨2, _⟩ => ⟨S2048, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x4096, .f32⟩
  | .hbm, ⟨20, _⟩ => ⟨S32768x4096, .f32⟩
  | .hbm, ⟨21, _⟩ => ⟨S32768x4096, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelOut.lean ====
abbrev S32768x2048 : Shape := ⟨2, ![32768, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S32768x2048 : Shape := ⟨2, ![32768, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S32768x2048, .f32⟩
  | .hbm, ⟨4, _⟩ => ⟨S2048x2048, .f32⟩
  | .hbm, ⟨5, _⟩ => ⟨S32768x2048, .f32⟩
  | .hbm, ⟨6, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelSsdOut.lean ====
abbrev S32768x4096 : Shape := ⟨2, ![32768, 4096]⟩
abbrev S4096x2048 : Shape := ⟨2, ![4096, 2048]⟩
abbrev S4096 : Shape := ⟨1, ![4096]⟩
abbrev S32768x2048 : Shape := ⟨2, ![32768, 2048]⟩
abbrev S1x4096 : Shape := ⟨2, ![1, 4096]⟩
abbrev S512x4096 : Shape := ⟨2, ![512, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .bf16⟩
  | .hbm, ⟨2, _⟩ => ⟨S4096, .f32⟩
  | .hbm, ⟨3, _⟩ => ⟨S32768x2048, .f32⟩
  | .hbm, ⟨4, _⟩ => ⟨S1x4096, .f32⟩
  | .hbm, ⟨5, _⟩ => ⟨S32768x2048, .f32⟩
  | .local _ .vmem, ⟨0, _⟩ => ⟨S512x4096, .bf16⟩
  | .local _ .vmem, ⟨1, _⟩ => ⟨S512x4096, .bf16⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x4096, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceSsdOutIdeal.lean ====
abbrev S32768x4096 : Shape := ⟨2, ![32768, 4096]⟩
abbrev S4096x2048 : Shape := ⟨2, ![4096, 2048]⟩
abbrev S4096 : Shape := ⟨1, ![4096]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .bf16⟩
  | .hbm, ⟨2, _⟩ => ⟨S4096, .f32⟩
  | .hbm, ⟨3, _⟩ => ⟨S32768x2048, .f32⟩
  | .hbm, ⟨4, _⟩ => ⟨S32768x4096, .f32⟩
  | .hbm, ⟨5, _⟩ => ⟨S32768x4096, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x4096, .f32⟩
  | .hbm, ⟨17, _⟩ => ⟨S32768x4096, .f32⟩
  | .hbm, ⟨18, _⟩ => ⟨S1x4096, .f32⟩
  | .hbm, ⟨19, _⟩ => ⟨S32768x4096, .f32⟩
  | .hbm, ⟨20, _⟩ => ⟨S32768x4096, .f32⟩
  | .hbm, ⟨21, _⟩ => ⟨S4096x2048, .f32⟩
  | .hbm, ⟨22, _⟩ => ⟨S32768x2048, .f32⟩
  | .hbm, ⟨23, _⟩ => ⟨S32768x2048, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelMlstm.lean ====
abbrev S32768x6144 : Shape := ⟨2, ![32768, 6144]⟩
abbrev S32768x128 : Shape := ⟨2, ![32768, 128]⟩
abbrev S1x128 : Shape := ⟨2, ![1, 128]⟩
abbrev S32768x2048 : Shape := ⟨2, ![32768, 2048]⟩
abbrev S128x1024 : Shape := ⟨2, ![128, 1024]⟩
abbrev S128x2048 : Shape := ⟨2, ![128, 2048]⟩
abbrev S128x128 : Shape := ⟨2, ![128, 128]⟩
abbrev S8x128x384 : Shape := ⟨3, ![8, 128, 384]⟩
abbrev S128 : Shape := ⟨1, ![128]⟩
abbrev S128x256 : Shape := ⟨2, ![128, 256]⟩
abbrev S128x384 : Shape := ⟨2, ![128, 384]⟩
abbrev S1x128x384 : Shape := ⟨3, ![1, 128, 384]⟩
abbrev S128x1 : Shape := ⟨2, ![128, 1]⟩
abbrev S1x1 : Shape := ⟨2, ![1, 1]⟩

abbrev nBuf : Space → Nat
  | .hbm => 4
  | .vmem => 13
  | .smem => 0
  | _ => 0

abbrev bufTy : (tb : Table) → Fin (tcTables nBuf tb) → BufTy
  | .hbm, ⟨0, _⟩ => ⟨S32768x6144, .bf16⟩
  | .hbm, ⟨1, _⟩ => ⟨S32768x128, .f32⟩
  | .hbm, ⟨2, _⟩ => ⟨S1x128, .f32⟩
  | .hbm, ⟨3, _⟩ => ⟨S32768x2048, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x2048, .f32⟩
  | .local _ .vmem, ⟨10, _⟩ => ⟨S128x2048, .f32⟩
  | .local _ .vmem, ⟨11, _⟩ => ⟨S8x128x384, .f32⟩
  | .local _ .vmem, ⟨12, _⟩ => ⟨S1x128, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c127_i32 : BitVec 32 := 127#32
  let v1 : BitVec 32 := Scalar.subi c127_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c127_i32 : BitVec 32 := 127#32
  let v1 : BitVec 32 := Scalar.subi c127_i32 arg1
  let v2 : BitVec 32 := Scalar.addi v0 v1
  let c1_i32 : BitVec 32 := 1#32
  let c0_i32 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c127_i32 : BitVec 32 := 127#32
  let v1 : BitVec 32 := Scalar.subi c127_i32 arg1
  let v2 : BitVec 32 := Scalar.addi v0 v1
  let c1_i32 : BitVec 32 := 1#32
  let c0_i32 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c127_i32 : BitVec 32 := 127#32
  let v1 : BitVec 32 := Scalar.subi c127_i32 arg1
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c127_i32 : BitVec 32 := 127#32
  let v1 : BitVec 32 := Scalar.subi c127_i32 arg1
  let v2 : BitVec 32 := Scalar.addi v0 v1
  let c0_i32 : BitVec 32 := 0#32
  let c0_i32_0 : BitVec 32 := 0#32
  ![v2.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelMlstmIdeal.lean ====
variable {F : FTy → Type} [FloatOps F] [Named F]
def κ : String → Option EReal := fun
  | "log_scale" => some ((Real.log (11863283 / 134217728) : ℝ) : EReal)
  | "mask" => some ⊥
  | _ => none
-- ==== ReferenceMlstmIdeal.lean ====
abbrev S32768x6144 : Shape := ⟨2, ![32768, 6144]⟩
abbrev S32768x128 : Shape := ⟨2, ![32768, 128]⟩
abbrev S1x128 : Shape := ⟨2, ![1, 128]⟩
abbrev S2x16384x6144 : Shape := ⟨3, ![2, 16384, 6144]⟩
abbrev S2x16384x1024 : Shape := ⟨3, ![2, 16384, 1024]⟩
abbrev S2x16384x2048 : Shape := ⟨3, ![2, 16384, 2048]⟩
abbrev S2x16384x8x128 : Shape := ⟨4, ![2, 16384, 8, 128]⟩
abbrev S_ : Shape := ⟨0, ![]⟩
abbrev S2x16384x8x256 : Shape := ⟨4, ![2, 16384, 8, 256]⟩
abbrev S32768x32 : Shape := ⟨2, ![32768, 32]⟩
abbrev S2x16384x4x8 : Shape := ⟨4, ![2, 16384, 4, 8]⟩
abbrev S2x16384x1x8 : Shape := ⟨4, ![2, 16384, 1, 8]⟩
abbrev S2x16384x8 : Shape := ⟨3, ![2, 16384, 8]⟩
abbrev S16384x16384 : Shape := ⟨2, ![16384, 16384]⟩
abbrev S2x8x16384 : Shape := ⟨3, ![2, 8, 16384]⟩
abbrev S2x8x16384x1 : Shape := ⟨4, ![2, 8, 16384, 1]⟩
abbrev S2x8x1x16384 : Shape := ⟨4, ![2, 8, 1, 16384]⟩
abbrev S2x8x16384x16384 : Shape := ⟨4, ![2, 8, 16384, 16384]⟩
abbrev S2x8x16384x256 : Shape := ⟨4, ![2, 8, 16384, 256]⟩
abbrev S32768x2048 : Shape := ⟨2, ![32768, 2048]⟩

abbrev nBuf : Space → Nat
  | .hbm => 86
  | .vmem => 0
  | .smem => 0
  | _ => 0

abbrev bufTy : (tb : Table) → Fin (tcTables nBuf tb) → BufTy
  | .hbm, ⟨0, _⟩ => ⟨S32768x6144, .bf16⟩
  | .hbm, ⟨1, _⟩ => ⟨S32768x128, .f32⟩
  | .hbm, ⟨2, _⟩ => ⟨S1x128, .f32⟩
  | .hbm, ⟨3, _⟩ => ⟨S32768x6144, .f32⟩
  | .hbm, ⟨4, _⟩ => ⟨S2x16384x6144, .f32⟩
  | .hbm, ⟨5, _⟩ => ⟨S2x16384x1024, .f32⟩
  | .hbm, ⟨6, _⟩ => ⟨S2x16384x1024, .f32⟩
  | .hbm, ⟨7, _⟩ => ⟨S2x16384x2048, .f32⟩
  | .hbm, ⟨8, _⟩ => ⟨S2x16384x2048, .f32⟩
  | .hbm, ⟨9, _⟩ => ⟨S2x16384x8x128, .f32⟩
  | .hbm, ⟨10, _⟩ => ⟨S2x16384x8x128, .f32⟩
  | .hbm, ⟨11, _⟩ => ⟨S_, .f32⟩
  | .hbm, ⟨12, _⟩ => ⟨S2x16384x8x128, .f32⟩
  | .hbm, ⟨13, _⟩ => ⟨S2x16384x8x128, .f32⟩
  | .hbm, ⟨14, _⟩ => ⟨S2x16384x8x256, .f32⟩
  | .hbm, ⟨15, _⟩ => ⟨S32768x128, .f32⟩
  | .hbm, ⟨16, _⟩ => ⟨S32768x128, .f32⟩
  | .hbm, ⟨17, _⟩ => ⟨S32768x32, .f32⟩
  | .hbm, ⟨18, _⟩ => ⟨S2x16384x4x8, .f32⟩
  | .hbm, ⟨19, _⟩ => ⟨S2x16384x1x8, .f32⟩
  | .hbm, ⟨20, _⟩ => ⟨S2x16384x8, .f32⟩
  | .hbm, ⟨21, _⟩ => ⟨S2x16384x1x8, .f32⟩
  | .hbm, ⟨22, _⟩ => ⟨S2x16384x8, .f32⟩
  | .hbm, ⟨23, _⟩ => ⟨S2x16384x8, .f32⟩
  | .hbm, ⟨24, _⟩ => ⟨S_, .f32⟩
  | .hbm, ⟨25, _⟩ => ⟨S2x16384x8, .f32⟩
  | .hbm, ⟨26, _⟩ => ⟨S2x16384x8, .f32⟩
  | .hbm, ⟨27, _⟩ => ⟨S2x16384x8, .f32⟩
  | .hbm, ⟨28, _⟩ => ⟨S2x16384x8, .f32⟩
  | .hbm, ⟨29, _⟩ => ⟨S2x16384x8, .i1⟩
  | .hbm, ⟨30, _⟩ => ⟨S2x16384x8, .f32⟩
  | .hbm, ⟨31, _⟩ => ⟨S2x16384x8, .f32⟩
  | .hbm, ⟨32, _⟩ => ⟨S2x16384x8, .f32⟩
  | .hbm, ⟨33, _⟩ => ⟨S2x16384x8, .f32⟩
  | .hbm, ⟨34, _⟩ => ⟨S2x16384x8, .f32⟩
  | .hbm, ⟨35, _⟩ => ⟨S2x16384x8, .f32⟩
  | .hbm, ⟨36, _⟩ => ⟨S2x16384x8, .f32⟩
  | .hbm, ⟨37, _⟩ => ⟨S2x16384x8, .f32⟩
  | .hbm, ⟨38, _⟩ => ⟨S2x16384x8, .f32⟩
  | .hbm, ⟨39, _⟩ => ⟨S_, .i1⟩
  | .hbm, ⟨40, _⟩ => ⟨S16384x16384, .i1⟩
  | .hbm, ⟨41, _⟩ => ⟨S16384x16384, .i32⟩
  | .hbm, ⟨42, _⟩ => ⟨S_, .i32⟩
  | .hbm, ⟨43, _⟩ => ⟨S16384x16384, .i32⟩
  | .hbm, ⟨44, _⟩ => ⟨S16384x16384, .i32⟩
  | .hbm, ⟨45, _⟩ => ⟨S16384x16384, .i32⟩
  | .hbm, ⟨46, _⟩ => ⟨S16384x16384, .i1⟩
  | .hbm, ⟨47, _⟩ => ⟨S_, .i1⟩
  | .hbm, ⟨48, _⟩ => ⟨S16384x16384, .i1⟩
  | .hbm, ⟨49, _⟩ => ⟨S16384x16384, .i1⟩
  | .hbm, ⟨50, _⟩ => ⟨S16384x16384, .f32⟩
  | .hbm, ⟨51, _⟩ => ⟨S2x8x16384, .f32⟩
  | .hbm, ⟨52, _⟩ => ⟨S2x8x16384x1, .f32⟩
  | .hbm, ⟨53, _⟩ => ⟨S2x8x1x16384, .f32⟩
  | .hbm, ⟨54, _⟩ => ⟨S2x8x16384x16384, .f32⟩
  | .hbm, ⟨55, _⟩ => ⟨S2x8x16384x16384, .f32⟩
  | .hbm, ⟨56, _⟩ => ⟨S2x8x16384x16384, .f32⟩
  | .hbm, ⟨57, _⟩ => ⟨S2x8x16384, .f32⟩
  | .hbm, ⟨58, _⟩ => ⟨S2x8x1x16384, .f32⟩
  | .hbm, ⟨59, _⟩ => ⟨S2x8x16384x16384, .f32⟩
  | .hbm, ⟨60, _⟩ => ⟨S2x8x16384x16384, .f32⟩
  | .hbm, ⟨61, _⟩ => ⟨S_, .f32⟩
  | .hbm, ⟨62, _⟩ => ⟨S_, .f32⟩
  | .hbm, ⟨63, _⟩ => ⟨S2x8x16384x16384, .i1⟩
  | .hbm, ⟨64, _⟩ => ⟨S2x8x16384x16384, .f32⟩
  | .hbm, ⟨65, _⟩ => ⟨S2x8x16384x16384, .f32⟩
  | .hbm, ⟨66, _⟩ => ⟨S_, .f32⟩
  | .hbm, ⟨67, _⟩ => ⟨S2x8x16384, .f32⟩
  | .hbm, ⟨68, _⟩ => ⟨S2x8x16384x1, .f32⟩
  | .hbm, ⟨69, _⟩ => ⟨S2x8x16384x16384, .f32⟩
  | .hbm, ⟨70, _⟩ => ⟨S2x8x16384x16384, .f32⟩
  | .hbm, ⟨71, _⟩ => ⟨S2x8x16384x16384, .f32⟩
  | .hbm, ⟨72, _⟩ => ⟨S2x8x16384x16384, .f32⟩
  | .hbm, ⟨73, _⟩ => ⟨S2x8x16384x16384, .f32⟩
  | .hbm, ⟨74, _⟩ => ⟨S2x8x16384x256, .f32⟩
  | .hbm, ⟨75, _⟩ => ⟨S_, .f32⟩
  | .hbm, ⟨76, _⟩ => ⟨S2x8x16384, .f32⟩
  | .hbm, ⟨77, _⟩ => ⟨S2x8x16384, .f32⟩
  | .hbm, ⟨78, _⟩ => ⟨S2x8x16384, .f32⟩
  | .hbm, ⟨79, _⟩ => ⟨S2x8x16384, .f32⟩
  | .hbm, ⟨80, _⟩ => ⟨S2x8x16384, .f32⟩
  | .hbm, ⟨81, _⟩ => ⟨S2x8x16384x1, .f32⟩
  | .hbm, ⟨82, _⟩ => ⟨S2x8x16384x256, .f32⟩
  | .hbm, ⟨83, _⟩ => ⟨S2x8x16384x256, .f32⟩
  | .hbm, ⟨84, _⟩ => ⟨S2x16384x8x256, .f32⟩
  | .hbm, ⟨85, _⟩ => ⟨S32768x2048, .f32⟩
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_0 : Ref sig .tc := ⟨.hbm, 47, rfl⟩
abbrev main_call1_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_0 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v33 : Ref sig .tc := ⟨.hbm, 65, rfl⟩
abbrev main_cst_1 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_2 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩

abbrev nD : Nat := 1
abbrev τ : Topo := Topo.v7x

variable {F : FTy → Type} [FloatOps F]
-- ==== KernelKv.lean ====
abbrev S512x2048 : Shape := ⟨2, ![512, 2048]⟩
abbrev S2048x4096 : Shape := ⟨2, ![2048, 4096]⟩
abbrev S2048 : Shape := ⟨1, ![2048]⟩
abbrev S1x2048 : Shape := ⟨2, ![1, 2048]⟩
abbrev S512x4096 : Shape := ⟨2, ![512, 4096]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048x4096, .bf16⟩
  | .hbm, ⟨2, _⟩ => ⟨S2048, .f32⟩
  | .hbm, ⟨3, _⟩ => ⟨S1x2048, .f32⟩
  | .hbm, ⟨4, _⟩ => ⟨S512x4096, .bf16⟩
  | .local _ .vmem, ⟨0, _⟩ => ⟨S512x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceKvIdeal.lean ====
abbrev S512x2048 : Shape := ⟨2, ![512, 2048]⟩
abbrev S2048x4096 : Shape := ⟨2, ![2048, 4096]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x4096 : Shape := ⟨2, ![512, 4096]⟩

abbrev nBuf : Space → Nat
  | .hbm => 22
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x4096, .bf16⟩
  | .hbm, ⟨2, _⟩ => ⟨S2048, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S2048x4096, .f32⟩
  | .hbm, ⟨20, _⟩ => ⟨S512x4096, .f32⟩
  | .hbm, ⟨21, _⟩ => ⟨S512x4096, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelGate.lean ====
abbrev S32768x2048 : Shape := ⟨2, ![32768, 2048]⟩
abbrev S2048x128 : Shape := ⟨2, ![2048, 128]⟩
abbrev S2048 : Shape := ⟨1, ![2048]⟩
abbrev S1x2048 : Shape := ⟨2, ![1, 2048]⟩
abbrev S32768x128 : Shape := ⟨2, ![32768, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2048x128, .bf16⟩
  | .hbm, ⟨2, _⟩ => ⟨S2048, .f32⟩
  | .hbm, ⟨3, _⟩ => ⟨S1x2048, .f32⟩
  | .hbm, ⟨4, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x128, .bf16⟩
  | .local _ .vmem, ⟨4, _⟩ => ⟨S1024x128, .f32⟩
  | .local _ .vmem, ⟨5, _⟩ => ⟨S1024x128, .f32⟩
  | .local _ .vmem, ⟨6, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGateIdeal.lean ====
abbrev S32768x2048 : Shape := ⟨2, ![32768, 2048]⟩
abbrev S2048x128 : Shape := ⟨2, ![2048, 128]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x128 : Shape := ⟨2, ![32768, 128]⟩

abbrev nBuf : Space → Nat
  | .hbm => 21
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x128, .bf16⟩
  | .hbm, ⟨2, _⟩ => ⟨S2048, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x128, .f32⟩
  | .hbm, ⟨20, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelSsd.lean ====
abbrev S32768x6144 : Shape := ⟨2, ![32768, 6144]⟩
abbrev S32768x128 : Shape := ⟨2, ![32768, 128]⟩
abbrev S32768x4096 : Shape := ⟨2, ![32768, 4096]⟩
abbrev S128x4096 : Shape := ⟨2, ![128, 4096]⟩
abbrev S128x1024 : Shape := ⟨2, ![128, 1024]⟩
abbrev S128x128 : Shape := ⟨2, ![128, 128]⟩
abbrev S128x512 : Shape := ⟨2, ![128, 512]⟩
abbrev S128x1 : Shape := ⟨2, ![128, 1]⟩
abbrev S1x128 : Shape := ⟨2, ![1, 128]⟩
abbrev S128x256 : Shape := ⟨2, ![128, 256]⟩
abbrev S256x256 : Shape := ⟨2, ![256, 256]⟩
abbrev S256x128 : Shape := ⟨2, ![256, 128]⟩

abbrev nBuf : Space → Nat
  | .hbm => 5
  | .vmem => 15
  | .smem => 0
  | _ => 0

abbrev bufTy : (tb : Table) → Fin (tcTables nBuf tb) → BufTy
  | .hbm, ⟨0, _⟩ => ⟨S32768x6144, .bf16⟩
  | .hbm, ⟨1, _⟩ => ⟨S32768x128, .f32⟩
  | .hbm, ⟨2, _⟩ => ⟨S32768x128, .f32⟩
  | .hbm, ⟨3, _⟩ => ⟨S32768x128, .f32⟩
  | .hbm, ⟨4, _⟩ => ⟨S32768x4096, .f32⟩
  | .local _ .vmem, ⟨0, _⟩ => ⟨S128x4096, .bf16⟩
  | .local _ .vmem, ⟨1, _⟩ => ⟨S128x4096, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c127_i32 : BitVec 32 := 127#32
  let v1 : BitVec 32 := Scalar.subi c127_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c127_i32 : BitVec 32 := 127#32
  let v1 : BitVec 32 := Scalar.subi c127_i32 arg1
  let v2 : BitVec 32 := Scalar.addi v0 v1
  let c4_i32 : BitVec 32 := 4#32
  let c0_i32 : BitVec 32 := 0#32
  ![v2.toNat, c4_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c127_i32 : BitVec 32 := 127#32
  let v1 : BitVec 32 := Scalar.subi c127_i32 arg1
  let v2 : BitVec 32 := Scalar.addi v0 v1
  let c5_i32 : BitVec 32 := 5#32
  let c0_i32 : BitVec 32 := 0#32
  ![v2.toNat, c5_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c127_i32 : BitVec 32 := 127#32
  let v1 : BitVec 32 := Scalar.subi c127_i32 arg1
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c127_i32 : BitVec 32 := 127#32
  let v1 : BitVec 32 := Scalar.subi c127_i32 arg1
  let v2 : BitVec 32 := Scalar.addi v0 v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c127_i32 : BitVec 32 := 127#32
  let v1 : BitVec 32 := Scalar.subi c127_i32 arg1
  let v2 : BitVec 32 := Scalar.addi v0 v1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c127_i32 : BitVec 32 := 127#32
  let v1 : BitVec 32 := Scalar.subi c127_i32 arg1
  let v2 : BitVec 32 := Scalar.addi v0 v1
  let c0_i32 : BitVec 32 := 0#32
  let c0_i32_0 : BitVec 32 := 0#32
  ![v2.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelSsdIdeal.lean ====
variable {F : FTy → Type} [FloatOps F] [Named F]
def κ : String → Option EReal := fun
  | "mask" => some ⊥
  | _ => none
-- ==== ReferenceSsdIdeal.lean ====
abbrev S32768x6144 : Shape := ⟨2, ![32768, 6144]⟩
abbrev S32768x128 : Shape := ⟨2, ![32768, 128]⟩
abbrev S32768x4096 : Shape := ⟨2, ![32768, 4096]⟩
abbrev S2x16384x64x64 : Shape := ⟨4, ![2, 16384, 64, 64]⟩
abbrev S32768x1024 : Shape := ⟨2, ![32768, 1024]⟩
abbrev S2x16384x8x1x128 : Shape := ⟨5, ![2, 16384, 8, 1, 128]⟩
abbrev S2x16384x8x8x128 : Shape := ⟨5, ![2, 16384, 8, 8, 128]⟩
abbrev S2x16384x64x128 : Shape := ⟨4, ![2, 16384, 64, 128]⟩
abbrev S32768x64 : Shape := ⟨2, ![32768, 64]⟩
abbrev S2x16384x64 : Shape := ⟨3, ![2, 16384, 64]⟩
abbrev S256x128x128 : Shape := ⟨3, ![256, 128, 128]⟩
abbrev S256x64x128 : Shape := ⟨3, ![256, 64, 128]⟩
abbrev S256x128x64 : Shape := ⟨3, ![256, 128, 64]⟩
abbrev S2x128x128x64 : Shape := ⟨4, ![2, 128, 128, 64]⟩
abbrev S2x128x1x64 : Shape := ⟨4, ![2, 128, 1, 64]⟩
abbrev S2x128x64 : Shape := ⟨3, ![2, 128, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x64x128 : Shape := ⟨3, ![2, 64, 128]⟩
abbrev S2x64x16384 : Shape := ⟨3, ![2, 64, 16384]⟩
abbrev S_ : Shape := ⟨0, ![]⟩
abbrev S2x64x16384x16384 : Shape := ⟨4, ![2, 64, 16384, 16384]⟩
abbrev S2x64x16384x1 : Shape := ⟨4, ![2, 64, 16384, 1]⟩
abbrev S2x64x1x16384 : Shape := ⟨4, ![2, 64, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x64x64x16384 : Shape := ⟨4, ![2, 64, 64, 16384]⟩

abbrev nBuf : Space → Nat
  | .hbm => 94
  | .vmem => 0
  | .smem => 0
  | _ => 0

abbrev bufTy : (tb : Table) → Fin (tcTables nBuf tb) → BufTy
  | .hbm, ⟨0, _⟩ => ⟨S32768x6144, .bf16⟩
  | .hbm, ⟨1, _⟩ => ⟨S32768x128, .f32⟩
  | .hbm, ⟨2, _⟩ => ⟨S32768x128, .f32⟩
  | .hbm, ⟨3, _⟩ => ⟨S32768x128, .f32⟩
  | .hbm, ⟨4, _⟩ => ⟨S32768x4096, .bf16⟩
  | .hbm, ⟨5, _⟩ => ⟨S32768x4096, .f32⟩
  | .hbm, ⟨6, _⟩ => ⟨S2x16384x64x64, .f32⟩
  | .hbm, ⟨7, _⟩ => ⟨S32768x1024, .bf16⟩
  | .hbm, ⟨8, _⟩ => ⟨S32768x1024, .f32⟩
  | .hbm, ⟨9, _⟩ => ⟨S2x16384x8x1x128, .f32⟩
  | .hbm, ⟨10, _⟩ => ⟨S2x16384x8x8x128, .f32⟩
  | .hbm, ⟨11, _⟩ => ⟨S2x16384x64x128, .f32⟩
  | .hbm, ⟨12, _⟩ => ⟨S32768x1024, .bf16⟩
  | .hbm, ⟨13, _⟩ => ⟨S32768x1024, .f32⟩
  | .hbm, ⟨14, _⟩ => ⟨S2x16384x8x1x128, .f32⟩
  | .hbm, ⟨15, _⟩ => ⟨S2x16384x8x8x128, .f32⟩
  | .hbm, ⟨16, _⟩ => ⟨S2x16384x64x128, .f32⟩
  | .hbm, ⟨17, _⟩ => ⟨S32768x64, .f32⟩
  | .hbm, ⟨18, _⟩ => ⟨S2x16384x64, .f32⟩
  | .hbm, ⟨19, _⟩ => ⟨S256x128x128, .f32⟩
  | .hbm, ⟨20, _⟩ => ⟨S256x64x128, .f32⟩
  | .hbm, ⟨21, _⟩ => ⟨S256x128x64, .f32⟩
  | .hbm, ⟨22, _⟩ => ⟨S2x16384x64, .f32⟩
  | .hbm, ⟨23, _⟩ => ⟨S256x128x128, .f32⟩
  | .hbm, ⟨24, _⟩ => ⟨S256x64x128, .f32⟩
  | .hbm, ⟨25, _⟩ => ⟨S256x128x64, .f32⟩
  | .hbm, ⟨26, _⟩ => ⟨S2x16384x64, .f32⟩
  | .hbm, ⟨27, _⟩ => ⟨S2x128x128x64, .f32⟩
  | .hbm, ⟨28, _⟩ => ⟨S2x128x1x64, .f32⟩
  | .hbm, ⟨29, _⟩ => ⟨S2x128x64, .f32⟩
  | .hbm, ⟨30, _⟩ => ⟨S128, .i32⟩
  | .hbm, ⟨31, _⟩ => ⟨S128x1, .i32⟩
  | .hbm, ⟨32, _⟩ => ⟨S1x128, .i32⟩
  | .hbm, ⟨33, _⟩ => ⟨S128x128, .i32⟩
  | .hbm, ⟨34, _⟩ => ⟨S128x128, .i32⟩
  | .hbm, ⟨35, _⟩ => ⟨S128x128, .i1⟩
  | .hbm, ⟨36, _⟩ => ⟨S128x128, .f32⟩
  | .hbm, ⟨37, _⟩ => ⟨S2x64x128, .f32⟩
  | .hbm, ⟨38, _⟩ => ⟨S2x128x64, .f32⟩
  | .hbm, ⟨39, _⟩ => ⟨S2x128x64, .f32⟩
  | .hbm, ⟨40, _⟩ => ⟨S2x128x1x64, .f32⟩
  | .hbm, ⟨41, _⟩ => ⟨S2x128x128x64, .f32⟩
  | .hbm, ⟨42, _⟩ => ⟨S2x16384x64, .f32⟩
  | .hbm, ⟨43, _⟩ => ⟨S2x128x1x64, .f32⟩
  | .hbm, ⟨44, _⟩ => ⟨S2x128x128x64, .f32⟩
  | .hbm, ⟨45, _⟩ => ⟨S2x16384x64, .f32⟩
  | .hbm, ⟨46, _⟩ => ⟨S2x64x16384, .f32⟩
  | .hbm, ⟨47, _⟩ => ⟨S2x64x16384, .f32⟩
  | .hbm, ⟨48, _⟩ => ⟨S2x64x16384, .f32⟩
  | .hbm, ⟨49, _⟩ => ⟨S2x64x16384, .f32⟩
  | .hbm, ⟨50, _⟩ => ⟨S2x64x16384, .f32⟩
  | .hbm, ⟨51, _⟩ => ⟨S_, .f32⟩
  | .hbm, ⟨52, _⟩ => ⟨S2x64x16384x16384, .f32⟩
  | .hbm, ⟨53, _⟩ => ⟨S2x64x16384x1, .f32⟩
  | .hbm, ⟨54, _⟩ => ⟨S2x64x1x16384, .f32⟩
  | .hbm, ⟨55, _⟩ => ⟨S2x64x16384x16384, .f32⟩
  | .hbm, ⟨56, _⟩ => ⟨S2x64x16384x16384, .f32⟩
  | .hbm, ⟨57, _⟩ => ⟨S2x64x16384x16384, .f32⟩
  | .hbm, ⟨58, _⟩ => ⟨S2x64x16384x16384, .f32⟩
  | .hbm, ⟨59, _⟩ => ⟨S2x64x16384, .f32⟩
  | .hbm, ⟨60, _⟩ => ⟨S2x64x16384x1, .f32⟩
  | .hbm, ⟨61, _⟩ => ⟨S2x64x1x16384, .f32⟩
  | .hbm, ⟨62, _⟩ => ⟨S2x64x16384x16384, .f32⟩
  | .hbm, ⟨63, _⟩ => ⟨S2x64x16384x16384, .f32⟩
  | .hbm, ⟨64, _⟩ => ⟨S2x64x16384x16384, .f32⟩
  | .hbm, ⟨65, _⟩ => ⟨S2x64x16384x16384, .f32⟩
  | .hbm, ⟨66, _⟩ => ⟨S2x64x1x16384, .f32⟩
  | .hbm, ⟨67, _⟩ => ⟨S2x64x16384x16384, .f32⟩
  | .hbm, ⟨68, _⟩ => ⟨S2x64x16384x16384, .f32⟩
  | .hbm, ⟨69, _⟩ => ⟨S16384, .i32⟩
  | .hbm, ⟨70, _⟩ => ⟨S128x128, .i32⟩
  | .hbm, ⟨71, _⟩ => ⟨S16384, .i32⟩
  | .hbm, ⟨72, _⟩ => ⟨S16384x1, .i32⟩
  | .hbm, ⟨73, _⟩ => ⟨S1x16384, .i32⟩
  | .hbm, ⟨74, _⟩ => ⟨S16384x16384, .i32⟩
  | .hbm, ⟨75, _⟩ => ⟨S16384x16384, .i32⟩
  | .hbm, ⟨76, _⟩ => ⟨S16384x16384, .i1⟩
  | .hbm, ⟨77, _⟩ => ⟨S2x64x16384x16384, .i1⟩
  | .hbm, ⟨78, _⟩ => ⟨S2x64x16384x16384, .f32⟩
  | .hbm, ⟨79, _⟩ => ⟨S16384x1, .i32⟩
  | .hbm, ⟨80, _⟩ => ⟨S1x16384, .i32⟩
  | .hbm, ⟨81, _⟩ => ⟨S16384x16384, .i32⟩
  | .hbm, ⟨82, _⟩ => ⟨S16384x16384, .i32⟩
  | .hbm, ⟨83, _⟩ => ⟨S16384x16384, .i1⟩
  | .hbm, ⟨84, _⟩ => ⟨S_, .f32⟩
  | .hbm, ⟨85, _⟩ => ⟨S_, .f32⟩
  | .hbm, ⟨86, _⟩ => ⟨S2x64x16384x16384, .i1⟩
  | .hbm, ⟨87, _⟩ => ⟨S2x64x16384x16384, .f32⟩
  | .hbm, ⟨88, _⟩ => ⟨S2x64x16384x16384, .f32⟩
  | .hbm, ⟨89, _⟩ => ⟨S2x64x16384x16384, .f32⟩
  | .hbm, ⟨90, _⟩ => ⟨S2x64x16384x16384, .f32⟩
  | .hbm, ⟨91, _⟩ => ⟨S2x64x64x16384, .f32⟩
  | .hbm, ⟨92, _⟩ => ⟨S2x16384x64x64, .f32⟩
  | .hbm, ⟨93, _⟩ => ⟨S32768x4096, .f32⟩
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_cst : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_call0_v0 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_cst_0 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩

abbrev nD : Nat := 1
abbrev τ : Topo := Topo.v7x

variable {F : FTy → Type} [FloatOps F]
-- ==== Proof.Attention.lean ====
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Attention

open Cert.KernelIdeal Cert.KernelIdeal.Gen
open Cert.ReferenceIdeal.Read

/-! # Cross attention over a memory of 256 tokens

Token `s` of sequence `b` asks with the 512 numbers of head `h` in its row of `X`; the rows of `KV` hold,
per memory token, the keys of the four heads and after them the values of the four heads. -/

section Spec

variable (X : FVec Ideal S32768x2048 .bf16) (KV : FVec Ideal S512x4096 .bf16)
variable (b : Fin 2) (s : Fin 16384) (h : Fin 4)

/-- Entry `d` of the query of token `s`. -/
def query (d : Fin 512) : EReal := X (ix2 ⟨b * 16384 + s, by omega⟩ ⟨h * 512 + d, by omega⟩)
/-- Entry `d` of the key of memory token `k`. -/
def key (k : Fin 256) (d : Fin 512) : EReal := KV (ix2 ⟨b * 256 + k, by omega⟩ ⟨h * 512 + d, by omega⟩)
/-- Entry `d` of the value of memory token `k`. -/
def value (k : Fin 256) (d : Fin 512) : EReal := KV (ix2 ⟨b * 256 + k, by omega⟩ ⟨2048 + (h * 512 + d), by omega⟩)

end Spec

/-- The scaled product of a query and a key. -/
def score (q : Fin 512 → EReal) (K : Fin 256 → Fin 512 → EReal) (k : Fin 256) : EReal :=
  (∑ d, q d * K k d) * Ideal.ofBits FTy.f32 0x3D3504F3#32
/-- The largest score of a query. -/
def top (q : Fin 512 → EReal) (K : Fin 256 → Fin 512 → EReal) : EReal :=
  Finset.fold max (Ideal.ofBits FTy.f32 0xFF800000#32) (score q K) Finset.univ
/-- The exponential of a score, the largest taken off first. -/
def lift (q : Fin 512 → EReal) (K : Fin 256 → Fin 512 → EReal) (k : Fin 256) : EReal :=
  Ideal.exp (score q K k - top q K)
/-- The share of memory token `k` in the answer. -/
def share (q : Fin 512 → EReal) (K : Fin 256 → Fin 512 → EReal) (k : Fin 256) : EReal :=
  Ideal.div (lift q K k) (∑ l, lift q K l)
/-- The answer: the values, each with its share. -/
def answer (q : Fin 512 → EReal) (K W : Fin 256 → Fin 512 → EReal) (d : Fin 512) : EReal :=
  ∑ k, share q K k * W k d

theorem answer_congr {q q' : Fin 512 → EReal} {K K' W W' : Fin 256 → Fin 512 → EReal} {d d' : Fin 512}
    (hq : ∀ d, q d = q' d) (hK : ∀ k d, K k d = K' k d) (hW : ∀ k d, W k d = W' k d) (hd : d = d') :
    answer q K W d = answer q' K' W' d' := by
  obtain rfl : q = q' := funext hq
  obtain rfl : K = K' := funext fun k => funext (hK k)
  obtain rfl : W = W' := funext fun k => funext (hW k)
  rw [hd]

/-! ## The kernel: one head of one block of 512 rows -/

theorem head (Q : Vec Ideal S512x512 .bf16) (K W : Vec Ideal S1x256x512 .bf16) (y : S512x512.Idx) :
    k0_pay2 (F := Ideal) Q K W y
      = answer (fun d => Q (ix2 (y 0) d)) (fun k d => K (ix3 0 k d)) (fun k d => W (ix3 0 k d)) (y 1) := by
  unfold answer share lift top score
  pointwise [k0_pay2]

/-! ## The reference, stage by stage -/

section Reference

variable (X : FVec Ideal S32768x2048 .bf16) (KV : FVec Ideal S512x4096 .bf16)
variable (b : Fin 2) (s : Fin 16384) (h : Fin 4)

theorem ref_query (d : Fin 512) : val_main_v0 (F := Ideal) X (ix4 b s h d) = query X b s h d := by
  unfold query
  pointwise [val_main_v0]
  all_goals blk_ext

theorem ref_key (k : Fin 256) (d : Fin 512) : val_main_v4 (F := Ideal) KV (ix4 b k h d) = key KV b h k d := by
  unfold key
  pointwise [val_main_v4, val_main_v2, val_main_v1]
  all_goals blk_ext

theorem ref_value (k : Fin 256) (d : Fin 512) : val_main_v5 (F := Ideal) KV (ix4 b k h d) = value KV b h k d := by
  unfold value
  pointwise [val_main_v5, val_main_v3, val_main_v1]
  all_goals blk_ext

theorem ref_score (k : Fin 256) :
    val_main_v8 (F := Ideal) X KV (ix4 b h s k) = score (query X b s h) (key KV b h) k := by
  unfold score
  rw [val_main_v8_apply, val_main_v7_apply, val_main_v6_apply, val_main_cst_apply]
  refine congrArg (· * _) (Finset.sum_congr rfl fun d _ => ?_)
  rw [← ref_query, ← ref_key]
  refine congrArg₂ (· * ·) (congrArg _ ?_) (congrArg _ ?_) <;> funext a <;> fin_cases a <;> rfl

theorem ref_top : val_main_v11 (F := Ideal) X KV (ix3 b h s) = top (query X b s h) (key KV b h) := by
  unfold top
  have e : score (query X b s h) (key KV b h) = fun k => val_main_v8 (F := Ideal) X KV (ix4 b h s k) :=
    funext fun k => (ref_score X KV b s h k).symm
  rw [e]
  rw [val_main_v11_apply, val_main_v10_apply, val_main_cst_1_apply]
  pointwise [val_main_v9, val_main_cst_0]
  exact max_eq_right ((Finset.le_fold_max _).mpr (Or.inl le_rfl))

theorem ref_lift (k : Fin 256) :
    val_main_v15 (F := Ideal) X KV (ix4 b h s k) = lift (query X b s h) (key KV b h) k := by
  unfold lift
  rw [val_main_v15_apply, val_main_v14_apply, val_main_v13_apply, val_main_v12_apply, ← ref_score, ← ref_top]
  show Ideal.exp (_ - val_main_v11 (F := Ideal) X KV _) = _
  refine congrArg (fun z => Ideal.exp (_ - val_main_v11 (F := Ideal) X KV z)) ?_
  funext a; fin_cases a <;> rfl

theorem ref_share (k : Fin 256) :
    val_main_v20 (F := Ideal) X KV (ix4 b h s k) = share (query X b s h) (key KV b h) k := by
  unfold share
  rw [val_main_v20_apply, val_main_v19_apply, val_main_v18_apply, val_main_v17_apply, val_main_v16_apply]
  simp only [← ref_lift X KV b s h]
  rw [val_main_cst_2_apply]
  show Ideal.div _ (Ideal.ofBits FTy.f32 0x00000000#32 + _) = _
  rw [Ideal.ofBits_zero_f32, zero_add]
  refine congrArg (Ideal.div _) (Finset.sum_congr rfl fun l _ => congrArg _ ?_)
  funext a; fin_cases a <;> rfl

theorem ref_answer (d : Fin 512) :
    val_main_v22 (F := Ideal) X KV (ix4 b s h d) = answer (query X b s h) (key KV b h) (value KV b h) d := by
  unfold answer
  simp only [← ref_share X KV b s h, ← ref_value KV b h]
  rw [val_main_v22_apply, val_main_v21_apply]
  refine Finset.sum_congr rfl fun k _ => ?_
  rw [mul_comm]
  refine congrArg₂ (· * ·) (congrArg _ ?_) (congrArg _ ?_) <;> funext a <;> fin_cases a <;> rfl

/-- The array the reference returns, read at row `b * 16384 + s` and lane `h * 512 + d`. -/
theorem ref_result (d : Fin 512) (j : S32768x2048.Idx) (hj0 : (j 0 : ℕ) = b * 16384 + s) (hj1 : (j 1 : ℕ) = h * 512 + d) :
    val_main_v25 (F := Ideal) X KV j = answer (query X b s h) (key KV b h) (value KV b h) d := by
  rw [← ref_answer]
  pointwise [val_main_v25, val_main_v24, val_main_v23]
  refine congrArg _ ?_
  blk_ext

end Reference

/-! ## The kernel's blocks -/

section Blocks

variable (m : (ℓ : Loc nD τ sig) → Buf (Elt Ideal) ℓ)

/-- Point `t` takes row block `t` of the queries and of the result, and the memory of sequence `t / 32`. -/
theorem idx : ∀ t : Fin cfg0.N, win0_0.index t = ![t.val, 0] ∧ win0_1.index t = ![t.val / 32, 0, 0] ∧ win0_2.index t = ![t.val, 0] :=
  (by decide +kernel : ∀ t : Fin grid0.N, _)

/-- The kernel's query block at point `t`: rows `512 t` to `512 t + 511`. -/
theorem queries (c : Dev nD) (t : Fin cfg0.N) (z : S512x2048.Idx) (w : S32768x2048.Idx)
    (hw0 : (w 0 : ℕ) = t.val * 512 + z 0) (hw1 : (w 1 : ℕ) = z 1) :
    iblk m c 0 t z = m ((c : Thread nD τ).loc main_arg0) w := by
  have e0 : (((cfg0.win 0).blk t).view.emb z 0 : ℕ) = t.val * 512 + z 0 := by blk_simp [idx t]
  have e1 : (((cfg0.win 0).blk t).view.emb z 1 : ℕ) = z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

/-- The kernel's memory block at point `t`: the 256 rows of sequence `t / 32`. -/
theorem memory (c : Dev nD) (t : Fin cfg0.N) (z : S1x256x4096.Idx) (w : S512x4096.Idx)
    (hw0 : (w 0 : ℕ) = t.val / 32 * 256 + z 1) (hw1 : (w 1 : ℕ) = z 2) :
    iblk m c 1 t z = m ((c : Thread nD τ).loc main_arg1) w := by
  show shapeCast S2x256x4096 (m ((c : Thread nD τ).loc main_arg1)) shapeCasts_S512x4096_S2x256x4096 (((cfg0.win 1).blk t).view.emb z) = _
  refine shapeCast_apply _ _ _ _ ?_
  rewrite [Shape.rowMajor_val_three]
  have z0 : (z 0 : ℕ) < 1 := (z 0).isLt
  have e0 : (((cfg0.win 1).blk t).view.emb z 0 : ℕ) = t.val / 32 := by blk_simp [idx t]
  have e1 : (((cfg0.win 1).blk t).view.emb z 1 : ℕ) = z 1 := by blk_simp [idx t]
  have e2 : (((cfg0.win 1).blk t).view.emb z 2 : ℕ) = z 2 := by blk_simp [idx t]
  rw [e0, e1, e2]
  refine (Shape.rowMajor_val_two (d := ![512, 4096]) w).trans ?_
  rw [hw0, hw1]
  rfl

/-- One head of what point `t` stores is the reference's answer for that head. -/
theorem piece (c : Dev nD) (t : Fin cfg0.N) (x : S512x512.Idx) (h : Fin 4) (j : S32768x2048.Idx)
    (hq : ∀ a, (![0, h * 512] : Fin 2 → ℕ) a + S512x512.size a ≤ S512x2048.size a)
    (hk : ∀ a, (![0, 0, h * 512] : Fin 3 → ℕ) a + S1x256x512.size a ≤ S1x256x4096.size a)
    (hw : ∀ a, (![0, 0, 2048 + h * 512] : Fin 3 → ℕ) a + S1x256x512.size a ≤ S1x256x4096.size a)
    (hj0 : (j 0 : ℕ) = t.val * 512 + x 0) (hj1 : (j 1 : ℕ) = h * 512 + x 1) :
    k0_pay2 (F := Ideal) (View.ld (iblk m c 0 t) (Rect.unit (s := S512x2048) ![0, h * 512] S512x512.size hq))
        (View.ld (iblk m c 1 t) (Rect.unit (s := S1x256x4096) ![0, 0, h * 512] S1x256x512.size hk))
        (View.ld (iblk m c 1 t) (Rect.unit (s := S1x256x4096) ![0, 0, 2048 + h * 512] S1x256x512.size hw)) x
      = val_main_v25 (F := Ideal) (m ((c : Thread nD τ).loc main_arg0)) (m ((c : Thread nD τ).loc main_arg1)) j := by
  have ht : t.val < 64 := lt_of_lt_of_eq t.isLt N_0
  have x0 : (x 0 : ℕ) < 512 := (x 0).isLt
  rw [ref_result _ _ ⟨t.val / 32, by omega⟩ ⟨t.val % 32 * 512 + x 0, by omega⟩ h (x 1) j (by rw [hj0]; simp only []; omega) hj1, head]
  refine answer_congr (fun d => ?_) (fun k d => ?_) (fun k d => ?_) rfl
  · refine queries m c t _ _ ?_ ?_
    · show t.val / 32 * 16384 + (t.val % 32 * 512 + (x 0 : ℕ)) = t.val * 512 + (0 + 1 * (x 0 : ℕ))
      omega
    · show (h : ℕ) * 512 + (d : ℕ) = h * 512 + 1 * (d : ℕ)
      omega
  · refine memory m c t _ _ ?_ ?_
    · show t.val / 32 * 256 + (k : ℕ) = t.val / 32 * 256 + (0 + 1 * (k : ℕ))
      omega
    · show (h : ℕ) * 512 + (d : ℕ) = h * 512 + 1 * (d : ℕ)
      omega
  · refine memory m c t _ _ ?_ ?_
    · show t.val / 32 * 256 + (k : ℕ) = t.val / 32 * 256 + (0 + 1 * (k : ℕ))
      omega
    · show 2048 + ((h : ℕ) * 512 + (d : ℕ)) = 2048 + (h : ℕ) * 512 + 1 * (d : ℕ)
      omega

/-- What point `t` stores is the reference's block. -/
theorem point (c : Dev nD) (t : Fin cfg0.N) (y : S512x2048.Idx) :
    out0_2 (F := Ideal) (iblk m c 0 t) (iblk m c 1 t) y
      = val_main_v25 (F := Ideal) (m ((c : Thread nD τ).loc main_arg0)) (m ((c : Thread nD τ).loc main_arg1)) (((cfg0.win 2).blk t).view.emb y) := by
  have e0 : (((cfg0.win 2).blk t).view.emb y 0 : ℕ) = t.val * 512 + y 0 := by blk_simp [idx t]
  have e1 : (((cfg0.win 2).blk t).view.emb y 1 : ℕ) = y 1 := by blk_simp [idx t]
  canon_tiles x h
  case piece0 =>
    exact piece m c t x 3 _ _ _ _ (by omega) (by rw [e1, h1]; rfl)
  case piece1 =>
    exact piece m c t x 2 _ _ _ _ (by omega) (by rw [e1, h1]; rfl)
  case piece2 =>
    exact piece m c t x 1 _ _ _ _ (by omega) (by rw [e1, h1]; rfl)
  case piece3 =>
    exact piece m c t x 0 _ _ _ _ (by omega) (by rw [e1, h1]; exact (zero_add _).symm)

theorem final (c : Dev nD) :
    (dats m 0 c).arrAt 2 cfg0.N = val_main_v25 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Blocks

end Cert.Attention

end
-- ==== Proof.Norm.lean ====
module

public import Idealize.ShloMosaic.Lib.Pointwise

@[expose] public section

set_option maxRecDepth 16384

noncomputable section

open Idealize.ShloMosaic

namespace Cert.Norm

/-! # The normalisation of one row of the residual stream

Every product and every result of the layer goes through the same root mean square normalisation. -/

/-- What a row is scaled by: one over the root of its mean square (with the small constant added). -/
def scale (x : Fin 2048 → EReal) : EReal :=
  Ideal.rsqrt (Ideal.div (∑ d, x d * x d) (Ideal.ofBits FTy.f32 0x45000000#32) + Ideal.ofBits FTy.f32 0x358637BD#32)

/-- Entry `d` of the normalised row, times the gain. -/
def normed (x g : Fin 2048 → EReal) (d : Fin 2048) : EReal := x d * scale x * g d

theorem normed_congr {x x' g g' : Fin 2048 → EReal} {d d' : Fin 2048} (hx : ∀ d, x d = x' d) (hg : ∀ d, g d = g' d)
    (hd : d = d') : normed x g d = normed x' g' d' := by
  obtain rfl : x = x' := funext hx
  obtain rfl : g = g' := funext hg
  rw [hd]

end Cert.Norm

end
-- ==== Proof.UpProduct.lean ====
module

public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Norm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpProduct

open Cert.KernelUpIdeal Cert.KernelUpIdeal.Gen
open Cert.ReferenceUpIdeal.Read
open Cert.Norm

/-! # The up projection of the feed-forward network, from the residual stream

The kernel walks 32 blocks of 1024 rows and, within each, 8 blocks of 1408 columns. At the first column
block it normalises its rows and keeps them; every column block is then one product with the kept rows. -/

/-! ## The kernel's two payloads -/

theorem kept (X : Vec Ideal S1024x2048 .f32) (G : Vec Ideal S1x2048 .f32) (y : S1024x2048.Idx) :
    k0_pay1 (F := Ideal) X G y = normed (fun d => X (ix2 (y 0) d)) (fun d => G (ix2 0 d)) (y 1) := by
  unfold normed scale
  pointwise [k0_pay1]

theorem product (K : Vec Ideal S1024x2048 .bf16) (W : Vec Ideal S2048x1408 .bf16) (y : S1024x1408.Idx) :
    k0_pay2 (F := Ideal) K W y = ∑ d : Fin 2048, K (ix2 (y 0) d) * W (ix2 d (y 1)) := by
  pointwise [k0_pay2]

/-! ## The reference -/

section Reference

variable (X : FVec Ideal S32768x2048 .f32) (W : FVec Ideal S2048x11264 .bf16) (G : FVec Ideal S2048 .f32)

theorem ref_square (r : Fin 32768) :
    val_main_v1 (F := Ideal) X (ix1 r) = ∑ d : Fin 2048, X (ix2 r d) * X (ix2 r d) := by
  rw [val_main_v1_apply, val_main_cst_apply]
  show Ideal.ofBits FTy.f32 0x00000000#32 + _ = _
  rw [Ideal.ofBits_zero_f32, zero_add]
  refine Finset.sum_congr rfl fun d _ => ?_
  rw [val_main_v0_apply]
  refine congrArg₂ (· * ·) (congrArg _ ?_) (congrArg _ ?_) <;> funext a <;> fin_cases a <;> rfl

theorem ref_scale (r : Fin 32768) :
    val_main_v7 (F := Ideal) X (ix2 r 0) = scale fun d => X (ix2 r d) := by
  unfold scale
  rw [← ref_square, val_main_v7_apply, val_main_v6_apply, val_main_v5_apply, val_main_v4_apply, val_main_v3_apply,
    val_main_v2_apply, val_main_cst_0_apply, val_main_cst_1_apply]
  show Ideal.rsqrt (Ideal.div (val_main_v1 (F := Ideal) X _) _ + _) = _
  refine congrArg (fun z => Ideal.rsqrt (Ideal.div (val_main_v1 (F := Ideal) X z) _ + _)) ?_
  funext a; fin_cases a; rfl

theorem ref_norm (r : Fin 32768) (d : Fin 2048) :
    val_main_v12 (F := Ideal) X G (ix2 r d) = normed (fun d => X (ix2 r d)) (fun d => G (ix1 d)) d := by
  unfold normed
  rw [← ref_scale, val_main_v12_apply, val_main_v11_apply, val_main_v10_apply, val_main_v9_apply, val_main_v8_apply]
  show X _ * val_main_v7 (F := Ideal) X _ * G _ = _
  refine congrArg₂ (· * ·) (congrArg (_ * val_main_v7 (F := Ideal) X ·) ?_) (congrArg _ ?_) <;> funext a <;> fin_cases a <;> rfl

/-- The array the reference returns. -/
theorem ref_result (j : S32768x11264.Idx) :
    val_main_v15 (F := Ideal) X W G j
      = ∑ d : Fin 2048, normed (fun d => X (ix2 (j 0) d)) (fun d => G (ix1 d)) d * W (ix2 d (j 1)) := by
  rw [val_main_v15_apply]
  refine (val_main_v14_apply X W G j).trans (Finset.sum_congr rfl fun d _ => ?_)
  rw [val_main_v13_apply]
  refine congrArg₂ (· * ·) (Eq.trans (congrArg _ ?_) (ref_norm X G (j 0) d)) (congrArg W ?_) <;> funext a <;> fin_cases a <;> rfl

end Reference

/-! ## The kernel's blocks -/

section Blocks

variable (m : (ℓ : Loc nD τ sig) → Buf (Elt Ideal) ℓ)

/-- Point `t` takes row block `t / 8` and column block `t % 8`. -/
theorem idx : ∀ t : Fin cfg0.N, win0_0.index t = ![t.val / 8, 0] ∧ win0_1.index t = ![0, 0] ∧ win0_2.index t = ![0, t.val % 8]
    ∧ win0_3.index t = ![t.val / 8, t.val % 8] :=
  (by decide +kernel : ∀ t : Fin grid0.N, _)

theorem rows (c : Dev nD) (t : Fin cfg0.N) (z : S1024x2048.Idx) (w : S32768x2048.Idx)
    (hw0 : (w 0 : ℕ) = t.val / 8 * 1024 + z 0) (hw1 : (w 1 : ℕ) = z 1) :
    iblk m c 0 t z = m ((c : Thread nD τ).loc main_arg0) w := by
  have e0 : (((cfg0.win 0).blk t).view.emb z 0 : ℕ) = t.val / 8 * 1024 + z 0 := by blk_simp [idx t]
  have e1 : (((cfg0.win 0).blk t).view.emb z 1 : ℕ) = z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem gains (c : Dev nD) (t : Fin cfg0.N) (d : Fin 2048) :
    iblk m c 1 t (ix2 0 d) = m ((c : Thread nD τ).loc main_arg2) (ix1 d) := by
  show shapeCast S1x2048 (m ((c : Thread nD τ).loc main_arg2)) shapeCasts_S2048_S1x2048 (((cfg0.win 1).blk t).view.emb (ix2 0 d)) = _
  refine shapeCast_apply _ _ _ _ ?_
  rewrite [Shape.rowMajor_val_two]
  have e0 : (((cfg0.win 1).blk t).view.emb (ix2 0 d) 0 : ℕ) = 0 := by blk_simp [idx t]; rfl
  have e1 : (((cfg0.win 1).blk t).view.emb (ix2 0 d) 1 : ℕ) = d := by blk_simp [idx t]
  rw [e0, e1]
  refine (Shape.rowMajor_val_one (d := ![2048]) (ix1 d)).trans ?_
  show (d : ℕ) = _
  omega

theorem weights (c : Dev nD) (t : Fin cfg0.N) (z : S2048x1408.Idx) (w : S2048x11264.Idx)
    (hw0 : (w 0 : ℕ) = z 0) (hw1 : (w 1 : ℕ) = t.val % 8 * 1408 + z 1) :
    iblk m c 2 t z = m ((c : Thread nD τ).loc main_arg1) w := by
  have e0 : (((cfg0.win 2).blk t).view.emb z 0 : ℕ) = z 0 := by blk_simp [idx t]
  have e1 : (((cfg0.win 2).blk t).view.emb z 1 : ℕ) = t.val % 8 * 1408 + z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

/-- The kept rows after a point are the normalised rows of that point's row block. -/
theorem kept_after (c : Dev nD) (n : ℕ) : ∀ (hn : n < cfg0.N),
    (outsAt0 m c n hn).2 = k0_pay1 (F := Ideal) (iblk m c 0 ⟨n, hn⟩) (iblk m c 1 ⟨n, hn⟩) := by
  induction n with
  | zero =>
    intro hn
    rw [outsAt0_A m c ⟨0, hn⟩ (Nat.zero_mod _)]
    frame_out
  | succ n ih =>
    intro hn
    by_cases h0 : (n + 1) % 8 = 0
    · rw [outsAt0_A m c ⟨n + 1, hn⟩ h0]
      frame_out
    · rw [outsAt0_B m c ⟨n + 1, hn⟩ h0]
      refine (ih (Nat.lt_of_succ_lt hn)).trans ?_
      funext y
      rw [kept, kept]
      refine normed_congr (fun d => ?_) (fun d => ?_) rfl
      · have hN : n + 1 < 256 := lt_of_lt_of_eq hn N_0
        have y0 : (y 0 : ℕ) < 1024 := (y 0).isLt
        have e : n / 8 = (n + 1) / 8 := by omega
        refine (rows m c ⟨n, Nat.lt_of_succ_lt hn⟩ (ix2 (y 0) d) (ix2 ⟨n / 8 * 1024 + y 0, by omega⟩ d) rfl rfl).trans
          (rows m c ⟨n + 1, hn⟩ (ix2 (y 0) d) (ix2 ⟨n / 8 * 1024 + y 0, by omega⟩ d) ?_ rfl).symm
        show n / 8 * 1024 + (y 0 : ℕ) = (n + 1) / 8 * 1024 + (y 0 : ℕ)
        rw [e]
      · rw [gains, gains]

/-- The output block after a point is the product of the kept rows with that point's columns. -/
theorem out_after (c : Dev nD) (t : Fin cfg0.N) :
    (outsAt0 m c t.val t.isLt).1 = k0_pay2 (F := Ideal) (outsAt0 m c t.val t.isLt).2 (iblk m c 2 t) := by
  by_cases h0 : t.val % 8 = 0
  · rw [outsAt0_A m c t h0]
    frame_out
  · rw [outsAt0_B m c t h0]
    unfold sout0_B_0
    frame_out
    exact congrArg (k0_pay2 (F := Ideal) · (iblk m c 2 t)) ((Memref.isWhole_whole cc0_scratch0).read_unread _)

/-- What point `t` stores is the reference's block. -/
theorem point (c : Dev nD) (t : Fin cfg0.N) (y : S1024x1408.Idx) :
    (outsAt0 m c t.val t.isLt).1 y
      = val_main_v15 (F := Ideal) (m ((c : Thread nD τ).loc main_arg0)) (m ((c : Thread nD τ).loc main_arg1))
          (m ((c : Thread nD τ).loc main_arg2)) (((cfg0.win 3).blk t).view.emb y) := by
  have e0 : (((cfg0.win 3).blk t).view.emb y 0 : ℕ) = t.val / 8 * 1024 + y 0 := by blk_simp [idx t]
  have e1 : (((cfg0.win 3).blk t).view.emb y 1 : ℕ) = t.val % 8 * 1408 + y 1 := by blk_simp [idx t]
  rw [out_after, kept_after, product, ref_result]
  refine Finset.sum_congr rfl fun d _ => ?_
  rw [kept]
  refine congrArg₂ (· * ·) (normed_congr (fun d => ?_) (fun d => gains m c t d) rfl) ?_
  · exact rows m c t _ _ e0 rfl
  · exact weights m c t _ _ rfl e1

theorem final (c : Dev nD) :
    (dats m 0 c).arrAt 3 cfg0.N
      = val_main_v15 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  exact point m c t y

end Blocks

end Cert.UpProduct

end
-- ==== Proof.Gate.lean ====
module

public import Idealize.ShloMosaic.Lib.Pointwise

@[expose] public section

set_option maxRecDepth 16384

noncomputable section

open Idealize.ShloMosaic

namespace Cert.Gate

/-! # The gate of the feed-forward network

A gate entry is mixed with the entries of the token before and the token after, goes through the
sigmoid-weighted unit, and multiplies its value entry. -/

/-- The three-token mix of a gate entry: the token before, the token itself, the token after, and a bias. -/
def mix (p z n w0 w1 w2 b : EReal) : EReal := p * w0 + z * w1 + n * w2 + b

/-- The sigmoid-weighted unit. -/
def unit (z : EReal) : EReal := z * Ideal.div 1 (1 + Ideal.exp (-z))

/-- A power of two with the exponent scaled by minus the binary logarithm of `e` is the exponential of the negative. -/
theorem exp2_scaled (z : EReal) : Ideal.exp2 (z * ((-(Real.log 2)⁻¹ : ℝ) : EReal)) = Ideal.exp (-z) := by
  have hl : (0 : ℝ) < Real.log 2 := Real.log_pos one_lt_two
  have hn : -(Real.log 2)⁻¹ < 0 := neg_lt_zero.mpr (inv_pos.mpr hl)
  induction z with
  | bot => rw [EReal.bot_mul_coe_of_neg hn, EReal.neg_bot]; rfl
  | top => rw [EReal.top_mul_coe_of_neg hn, EReal.neg_top]; rfl
  | coe r =>
    rw [← EReal.coe_mul, ← EReal.coe_neg]
    show ((Real.rpow 2 (r * -(Real.log 2)⁻¹) : ℝ) : EReal) = ((Real.exp (-r) : ℝ) : EReal)
    refine congrArg _ ?_
    refine (Real.rpow_def_of_pos two_pos _).trans (congrArg Real.exp ?_)
    field_simp

/-! ## The layer, on arrays of two sequences of 16384 tokens -/

/-- The entry of the token before, nothing at the first token of a sequence. -/
def before (u : Fin 32768 → EReal) (r : Fin 32768) : EReal :=
  if r.val % 16384 = 0 then 0 else u ⟨r.val - 1, by omega⟩

/-- The entry of the token after, nothing at the last token of a sequence. -/
def after (u : Fin 32768 → EReal) (r : Fin 32768) : EReal :=
  if h : (r.val + 1) % 16384 = 0 then 0 else u ⟨r.val + 1, by omega⟩

section Layer

variable (U : Fin 32768 → Fin 11264 → EReal) (w : Fin 3 → Fin 5632 → EReal) (b : Fin 5632 → EReal)

/-- Entry `k` of the mixed gate of token `r`. -/
def mixed (r : Fin 32768) (k : Fin 5632) : EReal :=
  mix (before (fun r => U r ⟨k, by omega⟩) r) (U r ⟨k, by omega⟩) (after (fun r => U r ⟨k, by omega⟩) r) (w 0 k) (w 1 k) (w 2 k) (b k)

/-- Entry `k` of the gated values of token `r`. -/
def gated (r : Fin 32768) (k : Fin 5632) : EReal := unit (mixed U w b r k) * U r ⟨5632 + k, by omega⟩

/-- Entry `d` of the down projection of token `r`, added to the residual stream. -/
def down (W : Fin 5632 → Fin 2048 → EReal) (h : Fin 32768 → Fin 2048 → EReal) (r : Fin 32768) (d : Fin 2048) : EReal :=
  h r d + ∑ k, gated U w b r k * W k d

end Layer

end Cert.Gate

end
-- ==== Proof.DownBlock.lean ====
module

public import proofs.«01_k».proof.Proof.Gen.KernelDownIdeal.Value
public import proofs.«01_k».proof.Proof.Norm
public import proofs.«01_k».proof.Proof.Gate
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.DownBlock

open Cert.KernelDownIdeal Cert.KernelDownIdeal.Gen
open Cert.Norm Cert.Gate

/-! # What the kernel of the down projection computes at one point

A point holds 512 tokens and 1408 of the 5632 gate entries. The tokens before the first and after the last of
the block come from the neighbouring rows, multiplied by zero where a sequence begins or ends. -/

/-! ## The neighbouring rows -/

/-- The length of a sequence, as the kernel computes it. -/
def period : BitVec 32 := Scalar.select (Scalar.cmpi .eq 16384#32 0#32) 1#32 16384#32

/-- One unless row `n` begins a sequence, as the kernel computes it. -/
def inside (n : BitVec 32) : BitVec 32 :=
  Scalar.extui (Scalar.cmpi .ne (Scalar.select
    (Scalar.andi (Scalar.xori (Scalar.cmpi .slt (Scalar.remsi n period) 0#32) (Scalar.cmpi .slt period 0#32))
      (Scalar.cmpi .ne (Scalar.remsi n period) 0#32))
    (Scalar.addi (Scalar.remsi n period) period) (Scalar.remsi n period)) 0#32)

theorem inside_first : ∀ R : Fin 64, inside (Scalar.muli (BitVec.ofNat 32 R.val) 512#32) = if R.val % 32 = 0 then 0#32 else 1#32 := by
  decide +kernel

theorem inside_next : ∀ R : Fin 64,
    inside (Scalar.addi (Scalar.muli (BitVec.ofNat 32 R.val) 512#32) 512#32) = if R.val % 32 = 31 then 0#32 else 1#32 := by
  decide +kernel

/-- A number multiplied by a flag. -/
theorem times_flag (x : EReal) (p : Prop) [Decidable p] (e : BitVec 32) (he : e = if p then 0#32 else 1#32) :
    x * ((e.toInt : ℝ) : EReal) = if p then 0 else x := by
  subst he
  split
  · norm_num
  · norm_num

theorem before_rows (R : Fin 64) (P : Vec Ideal S8x1408 .bf16) (x : S8x1408.Idx) :
    k0_pay4 (F := Ideal) (BitVec.ofNat 32 R.val) P x = if R.val % 32 = 0 then 0 else P x :=
  times_flag (P x) _ _ (inside_first R)

theorem after_rows (R : Fin 64) (N : Vec Ideal S8x1408 .bf16) (x : S8x1408.Idx) :
    k0_pay5 (F := Ideal) (BitVec.ofNat 32 R.val) N x = if R.val % 32 = 31 then 0 else N x :=
  times_flag (N x) _ _ (inside_next R)

/-! ## The mixed gate -/

theorem first_lane {α : Type} (k : Fin 8) (a b : α) :
    Scalar.select (IntOp.cmpi .slt (BitVec.ofNat 32 k.val) 1#32) a b = if k.val = 0 then a else b := by
  fin_cases k <;> rfl

theorem last_lane {α : Type} (k : Fin 8) (a b : α) :
    Scalar.select (IntOp.cmpi .sge (BitVec.ofNat 32 k.val) 7#32) a b = if k.val = 7 then a else b := by
  fin_cases k <;> rfl

theorem mixed_block (P N : FVec Ideal S8x1408 .f32) (U : Vec Ideal S512x1408 .bf16) (C : Vec Ideal S3x1408 .f32)
    (B : Vec Ideal S1x1408 .f32) (r : Fin 512) (l : Fin 1408) (p n : EReal)
    (hp : r.val = 0 → P (ix2 7 l) = p) (hp' : ∀ q : Fin 512, q.val + 1 = r.val → U (ix2 q l) = p)
    (hn : r.val = 511 → N (ix2 0 l) = n) (hn' : ∀ q : Fin 512, q.val = r.val + 1 → U (ix2 q l) = n) :
    k0_pay6 (F := Ideal) P N U C B (ix2 r l)
      = mix p (U (ix2 r l)) n (C (ix2 0 l)) (C (ix2 1 l)) (C (ix2 2 l)) (B (ix2 0 l)) := by
  have hr := r.isLt
  unfold mix
  pointwise [k0_pay6]
  refine congrArg₂ (· + ·) (congrArg₂ (· + ·) (congrArg₂ (· + ·) (congrArg (· * _) ?_) rfl) (congrArg (· * _) ?_)) rfl
  · rw [first_lane ⟨r.val % 8, by omega⟩]
    by_cases h0 : r.val % 8 = 0
    · rw [if_pos h0]
      by_cases h1 : r.val / 8 < 1
      · rw [dif_pos h1]
        refine Eq.trans (congrArg (fun q => P (ix2 q l)) (Fin.ext ?_)) (hp (by omega))
        show (r.val % 8 + 8 - 1) % 8 = 7
        omega
      · rw [dif_neg h1]
        refine hp' _ ?_
        show (r.val / 8 - 1) * 8 + (r.val % 8 + 8 - 1) % 8 + 1 = r.val
        omega
    · rw [if_neg h0]
      refine hp' _ ?_
      show r.val / 8 * 8 + (r.val % 8 + 8 - 1) % 8 + 1 = r.val
      omega
  · rw [last_lane ⟨r.val % 8, by omega⟩]
    by_cases h0 : r.val % 8 = 7
    · rw [if_pos h0]
      by_cases h1 : r.val / 8 < 63
      · rw [dif_pos h1]
        refine hn' _ ?_
        show (1 + r.val / 8) * 8 + (r.val % 8 + 8 - 7) % 8 = r.val + 1
        omega
      · rw [dif_neg h1]
        refine Eq.trans (congrArg (fun q => N (ix2 q l)) (Fin.ext ?_)) (hn (by omega))
        show (r.val % 8 + 8 - 7) % 8 = 0
        omega
    · rw [if_neg h0]
      refine hn' _ ?_
      show r.val / 8 * 8 + (r.val % 8 + 8 - 7) % 8 = r.val + 1
      omega

/-! ## The gated values and their product with the weights -/

theorem denominator (P N : FVec Ideal S8x1408 .f32) (U : Vec Ideal S512x1408 .bf16) (C : Vec Ideal S3x1408 .f32)
    (B : Vec Ideal S1x1408 .f32) (x : S512x1408.Idx) :
    k0_pay7 (F := Ideal) P N U C B x = 1 + Ideal.exp (-(k0_pay6 (F := Ideal) P N U C B x)) := by
  have e : (Named.named (F := Ideal) (φ := .bf16) κ "neg_log2_e" 0xBFB9#16 : EReal) = ((-(Real.log 2)⁻¹ : ℝ) : EReal) :=
    IdealRules.named_const.ideal_named_scalar _ _ _ _ rfl
  rw [← exp2_scaled, ← e, ← Ideal.ofBits_one_bf16]
  rfl

/-- What a point adds to its block: the gated values times the weights of its 1408 entries. -/
def part (Z V : Fin 512 → Fin 1408 → EReal) (W : Fin 1408 → Fin 2048 → EReal) (r : Fin 512) (d : Fin 2048) : EReal :=
  ∑ l, Gate.unit (Z r l) * V r l * W l d

theorem first_block (R : Vec Ideal S512x2048 .f32) (Z D : FVec Ideal S512x1408 .bf16) (V : Vec Ideal S512x1408 .bf16)
    (W : Vec Ideal S1408x2048 .bf16) (hD : ∀ x, D x = 1 + Ideal.exp (-(Z x))) (r : Fin 512) (d : Fin 2048) :
    k0_pay1 (F := Ideal) R Z D (FloatOps.ofBits .bf16 0x3F80#16) V W (ix2 r d)
      = R (ix2 r d) + part (fun r l => Z (ix2 r l)) (fun r l => V (ix2 r l)) (fun l d => W (ix2 l d)) r d := by
  unfold part Gate.unit
  simp only [← hD]
  pointwise [k0_pay1]

theorem middle_block (A : Vec Ideal S512x2048 .f32) (Z D : FVec Ideal S512x1408 .bf16) (V : Vec Ideal S512x1408 .bf16)
    (W : Vec Ideal S1408x2048 .bf16) (hD : ∀ x, D x = 1 + Ideal.exp (-(Z x))) (r : Fin 512) (d : Fin 2048) :
    k0_pay2 (F := Ideal) (k0_pay8 A) Z D V W (ix2 r d)
      = A (ix2 r d) + part (fun r l => Z (ix2 r l)) (fun r l => V (ix2 r l)) (fun l d => W (ix2 l d)) r d := by
  unfold part Gate.unit
  simp only [← hD]
  pointwise [k0_pay2, k0_pay8]

theorem last_block (A : Vec Ideal S512x2048 .f32) (Z D : FVec Ideal S512x1408 .bf16) (V : Vec Ideal S512x1408 .bf16)
    (W : Vec Ideal S1408x2048 .bf16) (G : Vec Ideal S1x2048 .f32) (hD : ∀ x, D x = 1 + Ideal.exp (-(Z x))) (r : Fin 512) (d : Fin 2048) :
    k0_pay3 (F := Ideal) (k0_pay13 A) Z D V W G (ix2 r d)
      = normed (fun d => A (ix2 r d) + part (fun r l => Z (ix2 r l)) (fun r l => V (ix2 r l)) (fun l d => W (ix2 l d)) r d)
          (fun d => G (ix2 0 d)) d := by
  unfold normed scale part Gate.unit
  simp only [← hD]
  pointwise [k0_pay3, k0_pay13]

end Cert.DownBlock

end
-- ==== Proof.DownReference.lean ====
module

public import proofs.«01_k».proof.Proof.Gen.ReferenceDownIdeal.Run
public import proofs.«01_k».proof.Proof.Gen.ReferenceDownIdeal.Read
public import proofs.«01_k».proof.Proof.Norm
public import proofs.«01_k».proof.Proof.Gate
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.DownReference

open Cert.ReferenceDownIdeal Cert.ReferenceDownIdeal.Gen Cert.ReferenceDownIdeal.Read
open Cert.Norm Cert.Gate

/-! # The reference of the down projection, stage by stage -/

variable (X : FVec Ideal S32768x11264 .bf16) (C : FVec Ideal S3x5632 .f32) (B : FVec Ideal S5632 .f32)
variable (W : FVec Ideal S5632x2048 .bf16) (H : FVec Ideal S32768x2048 .f32) (G : FVec Ideal S2048 .f32)

/-! ## The gate -/

section Tokens

variable (b : Fin 2) (s : Fin 16384) (k : Fin 5632)

theorem ref_gate : val_main_v2 (F := Ideal) X (ix3 b s k) = X (ix2 ⟨b * 16384 + s, by omega⟩ ⟨k, by omega⟩) := by
  pointwise [val_main_v2, val_main_v1, val_main_v0]
  all_goals blk_ext

theorem ref_value : val_main_v3 (F := Ideal) X (ix3 b s k) = X (ix2 ⟨b * 16384 + s, by omega⟩ ⟨5632 + k, by omega⟩) := by
  pointwise [val_main_v3, val_main_v1, val_main_v0]
  all_goals blk_ext

theorem ref_here : val_main_v11 (F := Ideal) X (ix3 b s k) = X (ix2 ⟨b * 16384 + s, by omega⟩ ⟨k, by omega⟩) := by
  rw [← ref_gate X b s k]
  pointwise [val_main_v11, val_main_v4, val_main_call0_v0, val_main_c]

theorem padding : (FloatOps.sitofp .f32 0#32 : Ideal .f32) = (0 : EReal) := by
  show (((0#32 : BitVec 32).toInt : ℝ) : EReal) = 0
  norm_num

theorem ref_before : val_main_v5 (F := Ideal) X (ix3 b s k)
    = before (fun r => X (ix2 r ⟨k, by omega⟩)) ⟨b * 16384 + s, by omega⟩ := by
  unfold before
  pointwise [val_main_v5, val_main_v4, val_main_call0_v0, val_main_c]
  have hs := s.isLt
  by_cases h : s.val = 0
  · rw [dif_neg (by omega), if_pos (by show (b.val * 16384 + s.val) % 16384 = 0; omega)]
    exact padding
  · rw [dif_pos (by omega), if_neg (by show ¬(b.val * 16384 + s.val) % 16384 = 0; omega), ref_gate]
    refine congrArg (fun r => X (ix2 r _)) (Fin.ext ?_)
    show b.val * 16384 + (s.val - 1) = b.val * 16384 + s.val - 1
    omega

theorem ref_after : val_main_v18 (F := Ideal) X (ix3 b s k)
    = after (fun r => X (ix2 r ⟨k, by omega⟩)) ⟨b * 16384 + s, by omega⟩ := by
  unfold after
  pointwise [val_main_v18, val_main_v4, val_main_call0_v0, val_main_c]
  have hs := s.isLt
  by_cases h : s.val = 16383
  · rw [dif_neg (by omega), dif_pos (by show (b.val * 16384 + s.val + 1) % 16384 = 0; omega)]
    exact padding
  · rw [dif_pos (by omega), dif_neg (by show ¬(b.val * 16384 + s.val + 1) % 16384 = 0; omega), ref_gate]
    refine congrArg (fun r => X (ix2 r _)) (Fin.ext ?_)
    show b.val * 16384 + (2 + s.val - 1) = b.val * 16384 + s.val + 1
    omega

theorem ref_w0 : val_main_v9 (F := Ideal) C (ix3 b s k) = C (ix2 0 k) := by
  pointwise [val_main_v9, val_main_v8, val_main_v7, val_main_v6]
theorem ref_w1 : val_main_v15 (F := Ideal) C (ix3 b s k) = C (ix2 1 k) := by
  pointwise [val_main_v15, val_main_v14, val_main_v13, val_main_v12]
theorem ref_w2 : val_main_v22 (F := Ideal) C (ix3 b s k) = C (ix2 2 k) := by
  pointwise [val_main_v22, val_main_v21, val_main_v20, val_main_v19]
theorem ref_bias : val_main_v26 (F := Ideal) B (ix3 b s k) = B (ix1 k) := by
  pointwise [val_main_v26, val_main_v25]

theorem ref_mixed : val_main_v27 (F := Ideal) X C B (ix3 b s k)
    = mixed (fun r k => X (ix2 r k)) (fun i k => C (ix2 i k)) (fun k => B (ix1 k)) ⟨b * 16384 + s, by omega⟩ k := by
  unfold mixed mix
  rw [val_main_v27_apply, val_main_v24_apply, val_main_v23_apply, val_main_v17_apply, val_main_v16_apply, val_main_v10_apply,
    ref_bias, ref_w0, ref_w1, ref_w2, ref_here, ref_before, ref_after]
  rfl

theorem ref_gated : val_main_v29 (F := Ideal) X C B (ix3 b s k)
    = gated (fun r k => X (ix2 r k)) (fun i k => C (ix2 i k)) (fun k => B (ix1 k)) ⟨b * 16384 + s, by omega⟩ k := by
  unfold gated Gate.unit
  rw [← ref_mixed]
  beta_reduce
  rw [← ref_value X b s k, val_main_v29_apply, val_main_v28_apply, val_main_call1_v5_apply, val_main_call1_v4_apply,
    val_main_call1_v3_apply, val_main_call1_v2_apply, val_main_call1_v1_apply, val_main_call1_v0_apply,
    val_main_call1_cst_apply, val_main_call1_cst_0_apply]
  show _ * Ideal.div (Ideal.ofBits FTy.f32 0x3F800000#32) (Ideal.ofBits FTy.f32 0x3F800000#32 + Ideal.exp (-_)) * _ = _
  rw [Ideal.ofBits_one_f32]

end Tokens

theorem ref_gated_row (r : Fin 32768) (k : Fin 5632) : val_main_v30 (F := Ideal) X C B (ix2 r k)
    = gated (fun r k => X (ix2 r k)) (fun i k => C (ix2 i k)) (fun k => B (ix1 k)) r k := by
  have e := ref_gated X C B ⟨r.val / 16384, by omega⟩ ⟨r.val % 16384, by omega⟩ k
  rw [val_main_v30_apply]
  refine (Eq.trans (congrArg _ ?_) e).trans (congrArg (gated _ _ _ · k) (Fin.ext ?_))
  · have hr := r.isLt
    have hk := k.isLt
    funext a
    fin_cases a <;> apply Fin.ext
    · show (r.val * 5632 + k.val) / 92274688 = r.val / 16384
      omega
    · show (r.val * 5632 + k.val) / 5632 % 16384 = r.val % 16384
      omega
    · show (r.val * 5632 + k.val) % 5632 = k.val
      omega
  · show r.val / 16384 * 16384 + r.val % 16384 = r.val
    omega

/-! ## The down projection and the normalisation -/

theorem ref_down (r : Fin 32768) (d : Fin 2048) : val_main_v33 (F := Ideal) X C B W H (ix2 r d)
    = down (fun r k => X (ix2 r k)) (fun i k => C (ix2 i k)) (fun k => B (ix1 k)) (fun k d => W (ix2 k d)) (fun r d => H (ix2 r d)) r d := by
  unfold down
  rw [val_main_v33_apply]
  refine congrArg (H (ix2 r d) + ·) ((val_main_v32_apply X C B W (ix2 r d)).trans (Finset.sum_congr rfl fun k _ => ?_))
  rw [val_main_v31_apply, ← ref_gated_row]
  refine congrArg₂ (· * ·) (congrArg _ ?_) (congrArg W ?_) <;> funext a <;> fin_cases a <;> rfl

theorem ref_square (r : Fin 32768) :
    val_main_v35 (F := Ideal) X C B W H (ix1 r)
      = ∑ d : Fin 2048, val_main_v33 (F := Ideal) X C B W H (ix2 r d) * val_main_v33 (F := Ideal) X C B W H (ix2 r d) := by
  rw [val_main_v35_apply, val_main_cst_apply]
  show Ideal.ofBits FTy.f32 0x00000000#32 + _ = _
  rw [Ideal.ofBits_zero_f32, zero_add]
  refine Finset.sum_congr rfl fun d _ => ?_
  rw [val_main_v34_apply]
  refine congrArg₂ (· * ·) (congrArg _ ?_) (congrArg _ ?_) <;> funext a <;> fin_cases a <;> rfl

theorem ref_scale (r : Fin 32768) :
    val_main_v41 (F := Ideal) X C B W H (ix2 r 0) = scale fun d => val_main_v33 (F := Ideal) X C B W H (ix2 r d) := by
  unfold scale
  rw [← ref_square, val_main_v41_apply, val_main_v40_apply, val_main_v39_apply, val_main_v38_apply, val_main_v37_apply,
    val_main_v36_apply, val_main_cst_0_apply, val_main_cst_1_apply]
  show Ideal.rsqrt (Ideal.div (val_main_v35 (F := Ideal) X C B W H _) _ + _) = _
  refine congrArg (fun z => Ideal.rsqrt (Ideal.div (val_main_v35 (F := Ideal) X C B W H z) _ + _)) ?_
  funext a; fin_cases a; rfl

/-- The array the reference returns. -/
theorem ref_result (r : Fin 32768) (d : Fin 2048) :
    val_main_v46 (F := Ideal) X C B W H G (ix2 r d)
      = normed (down (fun r k => X (ix2 r k)) (fun i k => C (ix2 i k)) (fun k => B (ix1 k)) (fun k d => W (ix2 k d))
          (fun r d => H (ix2 r d)) r) (fun d => G (ix1 d)) d := by
  have e : (down (fun r k => X (ix2 r k)) (fun i k => C (ix2 i k)) (fun k => B (ix1 k)) (fun k d => W (ix2 k d))
      (fun r d => H (ix2 r d)) r) = fun d => val_main_v33 (F := Ideal) X C B W H (ix2 r d) :=
    funext fun d => (ref_down X C B W H r d).symm
  unfold normed
  rw [e, ← ref_scale, val_main_v46_apply, val_main_v45_apply, val_main_v44_apply, val_main_v43_apply, val_main_v42_apply]
  show val_main_v33 (F := Ideal) X C B W H (ix2 r d) * val_main_v41 (F := Ideal) X C B W H _ * G _ = _
  refine congrArg₂ (· * ·) (congrArg (_ * val_main_v41 (F := Ideal) X C B W H ·) ?_) (congrArg _ ?_) <;> funext a <;> fin_cases a <;> rfl

end Cert.DownReference

end
-- ==== Proof.DownProduct.lean ====
module

public import proofs.«01_k».proof.Proof.DownBlock
public import proofs.«01_k».proof.Proof.DownReference
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownProduct

open Cert.KernelDownIdeal Cert.KernelDownIdeal.Gen
open Cert.ReferenceDownIdeal.Read
open Cert.Norm Cert.Gate Cert.DownBlock

/-! # The down projection of the feed-forward network, into the residual stream

The kernel walks 64 blocks of 512 tokens and, within each, the 5632 gate entries in 4 tiles of 1408. Each tile
adds its share of the product to the block; after the last tile the block is normalised. -/

variable (m : (ℓ : Loc nD τ sig) → Buf (Elt Ideal) ℓ)

/-! ## What a point reads -/

/-- Point `t` takes token block `t / 4` and tile `t % 4`; the neighbouring rows are in blocks of 16. -/
theorem idx : ∀ t : Fin cfg0.N, (grid0.coords t 0 : ℕ) = t.val / 4
    ∧ win0_0.index t = ![t.val / 4, t.val % 4] ∧ win0_1.index t = ![t.val / 4 * 32 - 1, t.val % 4]
    ∧ win0_2.index t = ![min (t.val / 4 * 32 + 32) 2047, t.val % 4] ∧ win0_3.index t = ![t.val / 4, 4 + t.val % 4]
    ∧ win0_4.index t = ![0, t.val % 4] ∧ win0_5.index t = ![0, t.val % 4] ∧ win0_6.index t = ![t.val % 4, 0]
    ∧ win0_7.index t = ![t.val / 4, 0] ∧ win0_8.index t = ![0, 0] ∧ win0_9.index t = ![t.val / 4, 0] :=
  (by decide +kernel : ∀ t : Fin grid0.N, _)

theorem gate_rows (c : Dev nD) (t : Fin cfg0.N) (z : S512x1408.Idx) (w : S32768x11264.Idx)
    (hw0 : (w 0 : ℕ) = t.val / 4 * 512 + z 0) (hw1 : (w 1 : ℕ) = t.val % 4 * 1408 + z 1) :
    iblk m c 0 t z = m ((c : Thread nD τ).loc main_arg0) w := by
  have e0 : (((cfg0.win 0).blk t).view.emb z 0 : ℕ) = t.val / 4 * 512 + z 0 := by blk_simp [idx t]
  have e1 : (((cfg0.win 0).blk t).view.emb z 1 : ℕ) = t.val % 4 * 1408 + z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem before_block (c : Dev nD) (t : Fin cfg0.N) (z : S16x1408.Idx) (w : S32768x11264.Idx)
    (hw0 : (w 0 : ℕ) = (t.val / 4 * 32 - 1) * 16 + z 0) (hw1 : (w 1 : ℕ) = t.val % 4 * 1408 + z 1) :
    iblk m c 1 t z = m ((c : Thread nD τ).loc main_arg0) w := by
  have e0 : (((cfg0.win 1).blk t).view.emb z 0 : ℕ) = (t.val / 4 * 32 - 1) * 16 + z 0 := by blk_simp [idx t]
  have e1 : (((cfg0.win 1).blk t).view.emb z 1 : ℕ) = t.val % 4 * 1408 + z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem after_block (c : Dev nD) (t : Fin cfg0.N) (z : S16x1408.Idx) (w : S32768x11264.Idx)
    (hw0 : (w 0 : ℕ) = min (t.val / 4 * 32 + 32) 2047 * 16 + z 0) (hw1 : (w 1 : ℕ) = t.val % 4 * 1408 + z 1) :
    iblk m c 2 t z = m ((c : Thread nD τ).loc main_arg0) w := by
  have e0 : (((cfg0.win 2).blk t).view.emb z 0 : ℕ) = min (t.val / 4 * 32 + 32) 2047 * 16 + z 0 := by blk_simp [idx t]
  have e1 : (((cfg0.win 2).blk t).view.emb z 1 : ℕ) = t.val % 4 * 1408 + z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem value_rows (c : Dev nD) (t : Fin cfg0.N) (z : S512x1408.Idx) (w : S32768x11264.Idx)
    (hw0 : (w 0 : ℕ) = t.val / 4 * 512 + z 0) (hw1 : (w 1 : ℕ) = (4 + t.val % 4) * 1408 + z 1) :
    iblk m c 3 t z = m ((c : Thread nD τ).loc main_arg0) w := by
  have e0 : (((cfg0.win 3).blk t).view.emb z 0 : ℕ) = t.val / 4 * 512 + z 0 := by blk_simp [idx t]
  have e1 : (((cfg0.win 3).blk t).view.emb z 1 : ℕ) = (4 + t.val % 4) * 1408 + z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem taps (c : Dev nD) (t : Fin cfg0.N) (z : S3x1408.Idx) (w : S3x5632.Idx)
    (hw0 : (w 0 : ℕ) = z 0) (hw1 : (w 1 : ℕ) = t.val % 4 * 1408 + z 1) :
    iblk m c 4 t z = m ((c : Thread nD τ).loc main_arg1) w := by
  have e0 : (((cfg0.win 4).blk t).view.emb z 0 : ℕ) = z 0 := by blk_simp [idx t]
  have e1 : (((cfg0.win 4).blk t).view.emb z 1 : ℕ) = t.val % 4 * 1408 + z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

theorem weights (c : Dev nD) (t : Fin cfg0.N) (z : S1408x2048.Idx) (w : S5632x2048.Idx)
    (hw0 : (w 0 : ℕ) = t.val % 4 * 1408 + z 0) (hw1 : (w 1 : ℕ) = z 1) :
    iblk m c 6 t z = m ((c : Thread nD τ).loc main_arg3) w := by
  have e0 : (((cfg0.win 6).blk t).view.emb z 0 : ℕ) = t.val % 4 * 1408 + z 0 := by blk_simp [idx t]
  have e1 : (((cfg0.win 6).blk t).view.emb z 1 : ℕ) = z 1 := by blk_simp [idx t]
  refine congrArg (m ((c : Thread nD τ).loc main_arg3)) (funext (Fin.forall_fin_two.mpr ⟨Fin.ext ?_, Fin.ext ?_⟩))
  · exact e0.trans hw0.symm
  · exact e1.trans hw1.symm

theorem residual (c : Dev nD) (t : Fin cfg0.N) (z : S512x2048.Idx) (w : S32768x2048.Idx)
    (hw0 : (w 0 : ℕ) = t.val / 4 * 512 + z 0) (hw1 : (w 1 : ℕ) = z 1) :
    iblk m c 7 t z = m ((c : Thread nD τ).loc main_arg4) w := by
  have e0 : (((cfg0.win 7).blk t).view.emb z 0 : ℕ) = t.val / 4 * 512 + z 0 := by blk_simp [idx t]
  have e1 : (((cfg0.win 7).blk t).view.emb z 1 : ℕ) = z 1 := by blk_simp [idx t]
  refine congrArg (m ((c : Thread nD τ).loc main_arg4)) (funext (Fin.forall_fin_two.mpr ⟨Fin.ext ?_, Fin.ext ?_⟩))
  · exact e0.trans hw0.symm
  · exact e1.trans hw1.symm

theorem bias (c : Dev nD) (t : Fin cfg0.N) (l : Fin 1408) (w : Fin 5632) (hw : w.val = t.val % 4 * 1408 + l.val) :
    iblk m c 5 t (ix2 0 l) = m ((c : Thread nD τ).loc main_arg2) (ix1 w) := by
  show shapeCast S1x5632 (m ((c : Thread nD τ).loc main_arg2)) shapeCasts_S5632_S1x5632 (((cfg0.win 5).blk t).view.emb (ix2 0 l)) = _
  refine shapeCast_apply _ _ _ _ ?_
  rewrite [Shape.rowMajor_val_two]
  have e0 : (((cfg0.win 5).blk t).view.emb (ix2 0 l) 0 : ℕ) = 0 := by blk_simp [idx t]; rfl
  have e1 : (((cfg0.win 5).blk t).view.emb (ix2 0 l) 1 : ℕ) = t.val % 4 * 1408 + l := by blk_simp [idx t]
  rw [e0, e1]
  refine (Shape.rowMajor_val_one (d := ![5632]) (ix1 w)).trans ?_
  show w.val = _
  omega

theorem gains (c : Dev nD) (t : Fin cfg0.N) (d : Fin 2048) :
    iblk m c 8 t (ix2 0 d) = m ((c : Thread nD τ).loc main_arg5) (ix1 d) := by
  show shapeCast S1x2048 (m ((c : Thread nD τ).loc main_arg5)) shapeCasts_S2048_S1x2048 (((cfg0.win 8).blk t).view.emb (ix2 0 d)) = _
  refine shapeCast_apply _ _ _ _ ?_
  rewrite [Shape.rowMajor_val_two]
  have e0 : (((cfg0.win 8).blk t).view.emb (ix2 0 d) 0 : ℕ) = 0 := by blk_simp [idx t]; rfl
  have e1 : (((cfg0.win 8).blk t).view.emb (ix2 0 d) 1 : ℕ) = d := by blk_simp [idx t]
  rw [e0, e1]
  refine (Shape.rowMajor_val_one (d := ![2048]) (ix1 d)).trans ?_
  show (d : ℕ) = _
  omega

/-! ## The arrays, by rows and lanes -/

/-- The up-projected activations. -/
abbrev arrU (c : Dev nD) (r : Fin 32768) (k : Fin 11264) : EReal := m ((c : Thread nD τ).loc main_arg0) (ix2 r k)
/-- The three rows of mixing weights. -/
abbrev arrC (c : Dev nD) (i : Fin 3) (k : Fin 5632) : EReal := m ((c : Thread nD τ).loc main_arg1) (ix2 i k)
/-- The bias of the mix. -/
abbrev arrB (c : Dev nD) (k : Fin 5632) : EReal := m ((c : Thread nD τ).loc main_arg2) (ix1 k)
/-- The weights of the down projection. -/
abbrev arrW (c : Dev nD) (k : Fin 5632) (d : Fin 2048) : EReal := m ((c : Thread nD τ).loc main_arg3) (ix2 k d)
/-- The residual stream. -/
abbrev arrH (c : Dev nD) (r : Fin 32768) (d : Fin 2048) : EReal := m ((c : Thread nD τ).loc main_arg4) (ix2 r d)

/-- Token `r` of point `t`'s block. -/
abbrev token (t : Fin cfg0.N) (r : Fin 512) : Fin 32768 :=
  ⟨t.val / 4 * 512 + r.val, by have h : t.val < 256 := lt_of_lt_of_eq t.isLt N_0; omega⟩
/-- Gate entry `l` of point `t`'s tile. -/
abbrev entry (t : Fin cfg0.N) (l : Fin 1408) : Fin 5632 := ⟨t.val % 4 * 1408 + l.val, by omega⟩

/-! ## One point -/

/-- The mixed gate the kernel computes at point `t`. -/
def gate (c : Dev nD) (t : Fin cfg0.N) : FVec Ideal S512x1408 .bf16 :=
  k0_pay6 (F := Ideal)
    (k0_pay4 (BitVec.ofNat 32 (grid0.coords t 0)) (View.ld (iblk m c 1 t) (Rect.unit (s := S16x1408) ![8, 0] S8x1408.size inb_S16x1408_S8x1408_8_0)))
    (k0_pay5 (BitVec.ofNat 32 (grid0.coords t 0)) (View.ld (iblk m c 2 t) (Rect.unit (s := S16x1408) ![0, 0] S8x1408.size inb_S16x1408_S8x1408_0_0)))
    (iblk m c 0 t) (iblk m c 4 t) (iblk m c 5 t)

/-- The denominator of the sigmoid the kernel computes at point `t`. -/
def denom (c : Dev nD) (t : Fin cfg0.N) : FVec Ideal S512x1408 .bf16 :=
  k0_pay7 (F := Ideal)
    (k0_pay4 (BitVec.ofNat 32 (grid0.coords t 0)) (View.ld (iblk m c 1 t) (Rect.unit (s := S16x1408) ![8, 0] S8x1408.size inb_S16x1408_S8x1408_8_0)))
    (k0_pay5 (BitVec.ofNat 32 (grid0.coords t 0)) (View.ld (iblk m c 2 t) (Rect.unit (s := S16x1408) ![0, 0] S8x1408.size inb_S16x1408_S8x1408_0_0)))
    (iblk m c 0 t) (iblk m c 4 t) (iblk m c 5 t)

theorem denom_gate (c : Dev nD) (t : Fin cfg0.N) (x : S512x1408.Idx) :
    denom m c t x = 1 + Ideal.exp (-(gate m c t x)) := denominator _ _ _ _ _ x

theorem gate_mixed (c : Dev nD) (t : Fin cfg0.N) (r : Fin 512) (l : Fin 1408) :
    gate m c t (ix2 r l) = mixed (arrU m c) (arrC m c) (arrB m c) (token t r) (entry t l) := by
  have ht : t.val < 256 := lt_of_lt_of_eq t.isLt N_0
  have hr := r.isLt
  have hl := l.isLt
  have eg : iblk m c 0 t (ix2 r l) = arrU m c (token t r) ⟨(entry t l).val, by omega⟩ := gate_rows m c t _ _ rfl rfl
  have e0 : iblk m c 4 t (ix2 0 l) = arrC m c 0 (entry t l) := taps m c t _ _ rfl rfl
  have e1 : iblk m c 4 t (ix2 1 l) = arrC m c 1 (entry t l) := taps m c t _ _ rfl rfl
  have e2 : iblk m c 4 t (ix2 2 l) = arrC m c 2 (entry t l) := taps m c t _ _ rfl rfl
  have e3 : iblk m c 5 t (ix2 0 l) = arrB m c (entry t l) := bias m c t l _ rfl
  unfold mixed
  rw [← eg, ← e0, ← e1, ← e2, ← e3]
  refine mixed_block _ _ _ _ _ r l _ _ (fun h => ?_) (fun q h => ?_) (fun h => ?_) (fun q h => ?_)
  · rw [(idx t).1, before_rows ⟨t.val / 4, by omega⟩]
    unfold before
    by_cases h0 : t.val / 4 % 32 = 0
    · rw [if_pos h0, if_pos (by show (t.val / 4 * 512 + r.val) % 16384 = 0; omega)]
    · rw [if_neg h0, if_neg (by show ¬(t.val / 4 * 512 + r.val) % 16384 = 0; omega)]
      refine before_block m c t _ _ ?_ ?_
      · show t.val / 4 * 512 + r.val - 1 = (t.val / 4 * 32 - 1) * 16 + (8 + 7 * 1)
        omega
      · show t.val % 4 * 1408 + l.val = t.val % 4 * 1408 + (0 + 1 * l.val)
        omega
  · unfold before
    rw [if_neg (by show ¬(t.val / 4 * 512 + r.val) % 16384 = 0; omega)]
    refine gate_rows m c t _ _ ?_ rfl
    show t.val / 4 * 512 + r.val - 1 = t.val / 4 * 512 + q.val
    omega
  · rw [(idx t).1, after_rows ⟨t.val / 4, by omega⟩]
    unfold after
    by_cases h0 : t.val / 4 % 32 = 31
    · rw [if_pos h0, dif_pos (by show (t.val / 4 * 512 + r.val + 1) % 16384 = 0; omega)]
    · rw [if_neg h0, dif_neg (by show ¬(t.val / 4 * 512 + r.val + 1) % 16384 = 0; omega)]
      refine after_block m c t _ _ ?_ ?_
      · show t.val / 4 * 512 + r.val + 1 = min (t.val / 4 * 32 + 32) 2047 * 16 + (0 + 0 * 1)
        omega
      · show t.val % 4 * 1408 + l.val = t.val % 4 * 1408 + (0 + 1 * l.val)
        omega
  · unfold after
    rw [dif_neg (by show ¬(t.val / 4 * 512 + r.val + 1) % 16384 = 0; omega)]
    refine gate_rows m c t _ _ ?_ rfl
    show t.val / 4 * 512 + r.val + 1 = t.val / 4 * 512 + q.val
    omega

/-- What a point adds to its block. -/
theorem part_point (c : Dev nD) (t : Fin cfg0.N) (r : Fin 512) (d : Fin 2048) :
    part (fun r l => gate m c t (ix2 r l)) (fun r l => iblk m c 3 t (ix2 r l)) (fun l d => iblk m c 6 t (ix2 l d)) r d
      = ∑ l : Fin 1408, gated (arrU m c) (arrC m c) (arrB m c) (token t r) (entry t l) * arrW m c (entry t l) d := by
  unfold part gated
  refine Finset.sum_congr rfl fun l _ => ?_
  beta_reduce
  rw [gate_mixed]
  refine congrArg₂ (· * ·) (congrArg₂ (· * ·) rfl ?_) ?_
  · refine value_rows m c t _ _ rfl ?_
    show 5632 + (t.val % 4 * 1408 + l.val) = (4 + t.val % 4) * 1408 + l.val
    omega
  · exact weights m c t _ _ rfl rfl

/-! ## A block over its four points -/

theorem after_first (c : Dev nD) (t : Fin cfg0.N) (h : t.val % 4 = 0) (r : Fin 512) (d : Fin 2048) :
    outsAt0 m c t.val t.isLt (ix2 r d) = arrH m c (token t r) d
      + ∑ l : Fin 1408, gated (arrU m c) (arrC m c) (arrB m c) (token t r) (entry t l) * arrW m c (entry t l) d := by
  rw [← part_point, outsAt0_A m c t h (by omega) (by omega)]
  frame_out
  refine (first_block _ (gate m c t) (denom m c t) _ _ (denom_gate m c t) r d).trans ?_
  exact congrArg (· + _) (residual m c t _ _ rfl rfl)

theorem after_middle (c : Dev nD) (t : Fin cfg0.N) (h : 1 ≤ t.val % 4 ∧ t.val % 4 ≤ 2) (r : Fin 512) (d : Fin 2048) :
    outsAt0 m c t.val t.isLt (ix2 r d) = outsAt0 m c (t.val - 1) (Nat.lt_of_le_of_lt (Nat.sub_le _ _) t.isLt) (ix2 r d)
      + ∑ l : Fin 1408, gated (arrU m c) (arrC m c) (arrB m c) (token t r) (entry t l) * arrW m c (entry t l) d := by
  rw [← part_point, outsAt0_B m c t (by omega) h (by omega)]
  frame_out
  exact middle_block _ (gate m c t) (denom m c t) _ _ (denom_gate m c t) r d

theorem after_last (c : Dev nD) (t : Fin cfg0.N) (h : t.val % 4 = 3) (r : Fin 512) (d : Fin 2048) :
    outsAt0 m c t.val t.isLt (ix2 r d)
      = normed (fun d => outsAt0 m c (t.val - 1) (Nat.lt_of_le_of_lt (Nat.sub_le _ _) t.isLt) (ix2 r d)
          + ∑ l : Fin 1408, gated (arrU m c) (arrC m c) (arrB m c) (token t r) (entry t l) * arrW m c (entry t l) d)
        (fun d => m ((c : Thread nD τ).loc main_arg5) (ix1 d)) d := by
  simp only [← part_point]
  rw [outsAt0_C m c t (by omega) (by omega) h]
  frame_out
  refine (last_block _ (gate m c t) (denom m c t) _ _ _ (denom_gate m c t) r d).trans ?_
  exact normed_congr (fun d => rfl) (fun d => gains m c t d) rfl

/-- A sum over the 5632 gate entries, tile by tile. -/
theorem four_tiles (f : Fin 5632 → EReal) :
    (∑ k, f k) = (∑ l : Fin 1408, f ⟨0 * 1408 + l.val, by omega⟩) + (∑ l : Fin 1408, f ⟨1 * 1408 + l.val, by omega⟩)
      + (∑ l : Fin 1408, f ⟨2 * 1408 + l.val, by omega⟩) + (∑ l : Fin 1408, f ⟨3 * 1408 + l.val, by omega⟩) := by
  rw [← Fin.sum_mul_add_fin 4 1408 f, Fin.sum_univ_four]
  rfl

/-- The block after its last point. -/
theorem block (c : Dev nD) (t : Fin cfg0.N) (h : t.val % 4 = 3) (r : Fin 512) (d : Fin 2048) :
    outsAt0 m c t.val t.isLt (ix2 r d)
      = normed (down (arrU m c) (arrC m c) (arrB m c) (arrW m c) (arrH m c) (token t r))
        (fun d => m ((c : Thread nD τ).loc main_arg5) (ix1 d)) d := by
  have ht : t.val < 256 := lt_of_lt_of_eq t.isLt N_0
  have hN : cfg0.N = 256 := N_0
  rw [after_last m c t h]
  refine normed_congr (fun d => ?_) (fun _ => rfl) rfl
  unfold down
  have e2 := after_middle m c ⟨t.val - 1, by omega⟩ (by show 1 ≤ (t.val - 1) % 4 ∧ (t.val - 1) % 4 ≤ 2; omega) r d
  have e1 := after_middle m c ⟨t.val - 1 - 1, by omega⟩ (by show 1 ≤ (t.val - 1 - 1) % 4 ∧ (t.val - 1 - 1) % 4 ≤ 2; omega) r d
  have e0 := after_first m c ⟨t.val - 1 - 1 - 1, by omega⟩ (by show (t.val - 1 - 1 - 1) % 4 = 0; omega) r d
  have k2 : token ⟨t.val - 1, by omega⟩ r = token t r := Fin.ext (by show (t.val - 1) / 4 * 512 + r.val = t.val / 4 * 512 + r.val; omega)
  have k1 : token ⟨t.val - 1 - 1, by omega⟩ r = token t r := Fin.ext (by show (t.val - 1 - 1) / 4 * 512 + r.val = t.val / 4 * 512 + r.val; omega)
  have k0 : token ⟨t.val - 1 - 1 - 1, by omega⟩ r = token t r := Fin.ext (by show (t.val - 1 - 1 - 1) / 4 * 512 + r.val = t.val / 4 * 512 + r.val; omega)
  have l3 : ∀ l, entry t l = ⟨3 * 1408 + l.val, by omega⟩ := fun l => Fin.ext (by show t.val % 4 * 1408 + l.val = 3 * 1408 + l.val; omega)
  have l2 : ∀ l, entry ⟨t.val - 1, by omega⟩ l = ⟨2 * 1408 + l.val, by omega⟩ := fun l => Fin.ext (by show (t.val - 1) % 4 * 1408 + l.val = 2 * 1408 + l.val; omega)
  have l1 : ∀ l, entry ⟨t.val - 1 - 1, by omega⟩ l = ⟨1 * 1408 + l.val, by omega⟩ := fun l => Fin.ext (by show (t.val - 1 - 1) % 4 * 1408 + l.val = 1 * 1408 + l.val; omega)
  have l0 : ∀ l, entry ⟨t.val - 1 - 1 - 1, by omega⟩ l = ⟨0 * 1408 + l.val, by omega⟩ := fun l => Fin.ext (by show (t.val - 1 - 1 - 1) % 4 * 1408 + l.val = 0 * 1408 + l.val; omega)
  rw [k0] at e0
  rw [k1] at e1
  rw [k2] at e2
  simp only [l0] at e0
  simp only [l1] at e1
  simp only [l2] at e2
  simp only [l3]
  rw [four_tiles, ← add_assoc, ← add_assoc, ← add_assoc]
  refine congrArg (· + _) (e2.trans (congrArg (· + _) (e1.trans (congrArg (· + _) e0))))

/-- What the last point of a block stores is the reference's block. -/
theorem point (c : Dev nD) (t : Fin cfg0.N) (h : t.val % 4 = 3) (y : S512x2048.Idx) :
    outsAt0 m c t.val t.isLt y
      = val_main_v46 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (((cfg0.win 9).blk t).view.emb y) := by
  have e0 : (((cfg0.win 9).blk t).view.emb y 0 : ℕ) = t.val / 4 * 512 + y 0 := by blk_simp [idx t]
  have e1 : (((cfg0.win 9).blk t).view.emb y 1 : ℕ) = y 1 := by blk_simp [idx t]
  have ej : ((cfg0.win 9).blk t).view.emb y = ix2 (token t (y 0)) (y 1) :=
    funext (Fin.forall_fin_two.mpr ⟨Fin.ext e0, Fin.ext e1⟩)
  have ey : y = ix2 (y 0) (y 1) := funext (Fin.forall_fin_two.mpr ⟨rfl, rfl⟩)
  rw [ej]
  refine Eq.trans ?_ (Cert.DownReference.ref_result _ _ _ _ _ _ _ _).symm
  refine (congrArg _ ey).trans (block m c t h (y 0) (y 1))

theorem final (c : Dev nD) :
    (dats m 0 c).arrAt 9 cfg0.N
      = val_main_v46 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (dats m 0 c).arrAt_eq_of_covers 9 _ (by decide +kernel) fun t hf y => ?_
  blk_simp
  rw [after0_9]
  exact point m c t ((flush0_9 t).mp hf) y

end Cert.DownProduct

end
-- ==== Proof.GluProduct.lean ====
module

public import proofs.«01_k».proof.Proof.Gen.KernelGluIdeal.Value
public import proofs.«01_k».proof.Proof.Gen.ReferenceGluIdeal.Run
public import proofs.«01_k».proof.Proof.Gen.ReferenceGluIdeal.Read
public import proofs.«01_k».proof.Proof.DownBlock
public import proofs.«01_k».proof.Proof.DownProduct
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GluProduct

open Cert.KernelGluIdeal Cert.KernelGluIdeal.Gen
open Cert.ReferenceGluIdeal.Read
open Cert.Norm Cert.Gate Cert.DownBlock

/-! # The gated down projection of an inner layer's feed-forward part, into the residual stream

As the last layer's, without the normalisation: the kernel walks 64 blocks of 512 tokens and, within each, the
5632 gate entries in 4 tiles of 1408; each tile adds its share of the product to the block. The blocks' values and
the reference's are the last layer's. -/

variable (m : (ℓ : Loc nD τ sig) → Buf (Elt Ideal) ℓ)

/-! ## What a point reads -/

/-- Point `t` takes token block `t / 4` and tile `t % 4`; the neighbouring rows are in blocks of 16. -/
theorem idx : ∀ t : Fin cfg0.N, (grid0.coords t 0 : ℕ) = t.val / 4
    ∧ win0_0.index t = ![t.val / 4, t.val % 4] ∧ win0_1.index t = ![t.val / 4 * 32 - 1, t.val % 4]
    ∧ win0_2.index t = ![min (t.val / 4 * 32 + 32) 2047, t.val % 4] ∧ win0_3.index t = ![t.val / 4, 4 + t.val % 4]
    ∧ win0_4.index t = ![0, t.val % 4] ∧ win0_5.index t = ![0, t.val % 4] ∧ win0_6.index t = ![t.val % 4, 0]
    ∧ win0_7.index t = ![t.val / 4, 0] ∧ win0_8.index t = ![t.val / 4, 0] :=
  (by decide +kernel : ∀ t : Fin grid0.N, _)

theorem gate_rows (c : Dev nD) (t : Fin cfg0.N) (z : S512x1408.Idx) (w : S32768x11264.Idx)
    (hw0 : (w 0 : ℕ) = t.val / 4 * 512 + z 0) (hw1 : (w 1 : ℕ) = t.val % 4 * 1408 + z 1) :
    iblk m c 0 t z = m ((c : Thread nD τ).loc main_arg0) w := by
  have e0 : (((cfg0.win 0).blk t).view.emb z 0 : ℕ) = t.val / 4 * 512 + z 0 := by blk_simp [idx t]
  have e1 : (((cfg0.win 0).blk t).view.emb z 1 : ℕ) = t.val % 4 * 1408 + z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem before_block (c : Dev nD) (t : Fin cfg0.N) (z : S16x1408.Idx) (w : S32768x11264.Idx)
    (hw0 : (w 0 : ℕ) = (t.val / 4 * 32 - 1) * 16 + z 0) (hw1 : (w 1 : ℕ) = t.val % 4 * 1408 + z 1) :
    iblk m c 1 t z = m ((c : Thread nD τ).loc main_arg0) w := by
  have e0 : (((cfg0.win 1).blk t).view.emb z 0 : ℕ) = (t.val / 4 * 32 - 1) * 16 + z 0 := by blk_simp [idx t]
  have e1 : (((cfg0.win 1).blk t).view.emb z 1 : ℕ) = t.val % 4 * 1408 + z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem after_block (c : Dev nD) (t : Fin cfg0.N) (z : S16x1408.Idx) (w : S32768x11264.Idx)
    (hw0 : (w 0 : ℕ) = min (t.val / 4 * 32 + 32) 2047 * 16 + z 0) (hw1 : (w 1 : ℕ) = t.val % 4 * 1408 + z 1) :
    iblk m c 2 t z = m ((c : Thread nD τ).loc main_arg0) w := by
  have e0 : (((cfg0.win 2).blk t).view.emb z 0 : ℕ) = min (t.val / 4 * 32 + 32) 2047 * 16 + z 0 := by blk_simp [idx t]
  have e1 : (((cfg0.win 2).blk t).view.emb z 1 : ℕ) = t.val % 4 * 1408 + z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem value_rows (c : Dev nD) (t : Fin cfg0.N) (z : S512x1408.Idx) (w : S32768x11264.Idx)
    (hw0 : (w 0 : ℕ) = t.val / 4 * 512 + z 0) (hw1 : (w 1 : ℕ) = (4 + t.val % 4) * 1408 + z 1) :
    iblk m c 3 t z = m ((c : Thread nD τ).loc main_arg0) w := by
  have e0 : (((cfg0.win 3).blk t).view.emb z 0 : ℕ) = t.val / 4 * 512 + z 0 := by blk_simp [idx t]
  have e1 : (((cfg0.win 3).blk t).view.emb z 1 : ℕ) = (4 + t.val % 4) * 1408 + z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem taps (c : Dev nD) (t : Fin cfg0.N) (z : S3x1408.Idx) (w : S3x5632.Idx)
    (hw0 : (w 0 : ℕ) = z 0) (hw1 : (w 1 : ℕ) = t.val % 4 * 1408 + z 1) :
    iblk m c 4 t z = m ((c : Thread nD τ).loc main_arg1) w := by
  have e0 : (((cfg0.win 4).blk t).view.emb z 0 : ℕ) = z 0 := by blk_simp [idx t]
  have e1 : (((cfg0.win 4).blk t).view.emb z 1 : ℕ) = t.val % 4 * 1408 + z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

theorem weights (c : Dev nD) (t : Fin cfg0.N) (z : S1408x2048.Idx) (w : S5632x2048.Idx)
    (hw0 : (w 0 : ℕ) = t.val % 4 * 1408 + z 0) (hw1 : (w 1 : ℕ) = z 1) :
    iblk m c 6 t z = m ((c : Thread nD τ).loc main_arg3) w := by
  have e0 : (((cfg0.win 6).blk t).view.emb z 0 : ℕ) = t.val % 4 * 1408 + z 0 := by blk_simp [idx t]
  have e1 : (((cfg0.win 6).blk t).view.emb z 1 : ℕ) = z 1 := by blk_simp [idx t]
  refine congrArg (m ((c : Thread nD τ).loc main_arg3)) (funext (Fin.forall_fin_two.mpr ⟨Fin.ext ?_, Fin.ext ?_⟩))
  · exact e0.trans hw0.symm
  · exact e1.trans hw1.symm

theorem residual (c : Dev nD) (t : Fin cfg0.N) (z : S512x2048.Idx) (w : S32768x2048.Idx)
    (hw0 : (w 0 : ℕ) = t.val / 4 * 512 + z 0) (hw1 : (w 1 : ℕ) = z 1) :
    iblk m c 7 t z = m ((c : Thread nD τ).loc main_arg4) w := by
  have e0 : (((cfg0.win 7).blk t).view.emb z 0 : ℕ) = t.val / 4 * 512 + z 0 := by blk_simp [idx t]
  have e1 : (((cfg0.win 7).blk t).view.emb z 1 : ℕ) = z 1 := by blk_simp [idx t]
  refine congrArg (m ((c : Thread nD τ).loc main_arg4)) (funext (Fin.forall_fin_two.mpr ⟨Fin.ext ?_, Fin.ext ?_⟩))
  · exact e0.trans hw0.symm
  · exact e1.trans hw1.symm

theorem bias (c : Dev nD) (t : Fin cfg0.N) (l : Fin 1408) (w : Fin 5632) (hw : w.val = t.val % 4 * 1408 + l.val) :
    iblk m c 5 t (ix2 0 l) = m ((c : Thread nD τ).loc main_arg2) (ix1 w) := by
  show shapeCast S1x5632 (m ((c : Thread nD τ).loc main_arg2)) shapeCasts_S5632_S1x5632 (((cfg0.win 5).blk t).view.emb (ix2 0 l)) = _
  refine shapeCast_apply _ _ _ _ ?_
  rewrite [Shape.rowMajor_val_two]
  have e0 : (((cfg0.win 5).blk t).view.emb (ix2 0 l) 0 : ℕ) = 0 := by blk_simp [idx t]; rfl
  have e1 : (((cfg0.win 5).blk t).view.emb (ix2 0 l) 1 : ℕ) = t.val % 4 * 1408 + l := by blk_simp [idx t]
  rw [e0, e1]
  refine (Shape.rowMajor_val_one (d := ![5632]) (ix1 w)).trans ?_
  show w.val = _
  omega

/-! ## The arrays, by rows and lanes -/

/-- The up-projected activations. -/
abbrev arrU (c : Dev nD) (r : Fin 32768) (k : Fin 11264) : EReal := m ((c : Thread nD τ).loc main_arg0) (ix2 r k)
/-- The three rows of mixing weights. -/
abbrev arrC (c : Dev nD) (i : Fin 3) (k : Fin 5632) : EReal := m ((c : Thread nD τ).loc main_arg1) (ix2 i k)
/-- The bias of the mix. -/
abbrev arrB (c : Dev nD) (k : Fin 5632) : EReal := m ((c : Thread nD τ).loc main_arg2) (ix1 k)
/-- The weights of the down projection. -/
abbrev arrW (c : Dev nD) (k : Fin 5632) (d : Fin 2048) : EReal := m ((c : Thread nD τ).loc main_arg3) (ix2 k d)
/-- The residual stream. -/
abbrev arrH (c : Dev nD) (r : Fin 32768) (d : Fin 2048) : EReal := m ((c : Thread nD τ).loc main_arg4) (ix2 r d)

/-- Token `r` of point `t`'s block. -/
abbrev token (t : Fin cfg0.N) (r : Fin 512) : Fin 32768 :=
  ⟨t.val / 4 * 512 + r.val, by have h : t.val < 256 := lt_of_lt_of_eq t.isLt N_0; omega⟩
/-- Gate entry `l` of point `t`'s tile. -/
abbrev entry (t : Fin cfg0.N) (l : Fin 1408) : Fin 5632 := ⟨t.val % 4 * 1408 + l.val, by omega⟩

/-! ## One point -/

/-- The mixed gate the kernel computes at point `t`. -/
def gate (c : Dev nD) (t : Fin cfg0.N) : FVec Ideal S512x1408 .bf16 :=
  k0_pay5 (F := Ideal)
    (k0_pay3 (BitVec.ofNat 32 (grid0.coords t 0)) (View.ld (iblk m c 1 t) (Rect.unit (s := S16x1408) ![8, 0] S8x1408.size inb_S16x1408_S8x1408_8_0)))
    (k0_pay4 (BitVec.ofNat 32 (grid0.coords t 0)) (View.ld (iblk m c 2 t) (Rect.unit (s := S16x1408) ![0, 0] S8x1408.size inb_S16x1408_S8x1408_0_0)))
    (iblk m c 0 t) (iblk m c 4 t) (iblk m c 5 t)

/-- The denominator of the sigmoid the kernel computes at point `t`. -/
def denom (c : Dev nD) (t : Fin cfg0.N) : FVec Ideal S512x1408 .bf16 :=
  k0_pay6 (F := Ideal)
    (k0_pay3 (BitVec.ofNat 32 (grid0.coords t 0)) (View.ld (iblk m c 1 t) (Rect.unit (s := S16x1408) ![8, 0] S8x1408.size inb_S16x1408_S8x1408_8_0)))
    (k0_pay4 (BitVec.ofNat 32 (grid0.coords t 0)) (View.ld (iblk m c 2 t) (Rect.unit (s := S16x1408) ![0, 0] S8x1408.size inb_S16x1408_S8x1408_0_0)))
    (iblk m c 0 t) (iblk m c 4 t) (iblk m c 5 t)

theorem denom_gate (c : Dev nD) (t : Fin cfg0.N) (x : S512x1408.Idx) :
    denom m c t x = 1 + Ideal.exp (-(gate m c t x)) := denominator _ _ _ _ _ x

theorem gate_mixed (c : Dev nD) (t : Fin cfg0.N) (r : Fin 512) (l : Fin 1408) :
    gate m c t (ix2 r l) = mixed (arrU m c) (arrC m c) (arrB m c) (token t r) (entry t l) := by
  have ht : t.val < 256 := lt_of_lt_of_eq t.isLt N_0
  have hr := r.isLt
  have hl := l.isLt
  have eg : iblk m c 0 t (ix2 r l) = arrU m c (token t r) ⟨(entry t l).val, by omega⟩ := gate_rows m c t _ _ rfl rfl
  have e0 : iblk m c 4 t (ix2 0 l) = arrC m c 0 (entry t l) := taps m c t _ _ rfl rfl
  have e1 : iblk m c 4 t (ix2 1 l) = arrC m c 1 (entry t l) := taps m c t _ _ rfl rfl
  have e2 : iblk m c 4 t (ix2 2 l) = arrC m c 2 (entry t l) := taps m c t _ _ rfl rfl
  have e3 : iblk m c 5 t (ix2 0 l) = arrB m c (entry t l) := bias m c t l _ rfl
  unfold mixed
  rw [← eg, ← e0, ← e1, ← e2, ← e3]
  refine mixed_block _ _ _ _ _ r l _ _ (fun h => ?_) (fun q h => ?_) (fun h => ?_) (fun q h => ?_)
  · rw [(idx t).1]
    refine (before_rows ⟨t.val / 4, by omega⟩ _ _).trans ?_
    unfold before
    by_cases h0 : t.val / 4 % 32 = 0
    · rw [if_pos h0, if_pos (by show (t.val / 4 * 512 + r.val) % 16384 = 0; omega)]
    · rw [if_neg h0, if_neg (by show ¬(t.val / 4 * 512 + r.val) % 16384 = 0; omega)]
      refine before_block m c t _ _ ?_ ?_
      · show t.val / 4 * 512 + r.val - 1 = (t.val / 4 * 32 - 1) * 16 + (8 + 7 * 1)
        omega
      · show t.val % 4 * 1408 + l.val = t.val % 4 * 1408 + (0 + 1 * l.val)
        omega
  · unfold before
    rw [if_neg (by show ¬(t.val / 4 * 512 + r.val) % 16384 = 0; omega)]
    refine gate_rows m c t _ _ ?_ rfl
    show t.val / 4 * 512 + r.val - 1 = t.val / 4 * 512 + q.val
    omega
  · rw [(idx t).1]
    refine (after_rows ⟨t.val / 4, by omega⟩ _ _).trans ?_
    unfold after
    by_cases h0 : t.val / 4 % 32 = 31
    · rw [if_pos h0, dif_pos (by show (t.val / 4 * 512 + r.val + 1) % 16384 = 0; omega)]
    · rw [if_neg h0, dif_neg (by show ¬(t.val / 4 * 512 + r.val + 1) % 16384 = 0; omega)]
      refine after_block m c t _ _ ?_ ?_
      · show t.val / 4 * 512 + r.val + 1 = min (t.val / 4 * 32 + 32) 2047 * 16 + (0 + 0 * 1)
        omega
      · show t.val % 4 * 1408 + l.val = t.val % 4 * 1408 + (0 + 1 * l.val)
        omega
  · unfold after
    rw [dif_neg (by show ¬(t.val / 4 * 512 + r.val + 1) % 16384 = 0; omega)]
    refine gate_rows m c t _ _ ?_ rfl
    show t.val / 4 * 512 + r.val + 1 = t.val / 4 * 512 + q.val
    omega

/-- What a point adds to its block. -/
theorem part_point (c : Dev nD) (t : Fin cfg0.N) (r : Fin 512) (d : Fin 2048) :
    part (fun r l => gate m c t (ix2 r l)) (fun r l => iblk m c 3 t (ix2 r l)) (fun l d => iblk m c 6 t (ix2 l d)) r d
      = ∑ l : Fin 1408, gated (arrU m c) (arrC m c) (arrB m c) (token t r) (entry t l) * arrW m c (entry t l) d := by
  unfold part gated
  refine Finset.sum_congr rfl fun l _ => ?_
  beta_reduce
  rw [gate_mixed]
  refine congrArg₂ (· * ·) (congrArg₂ (· * ·) rfl ?_) ?_
  · refine value_rows m c t _ _ rfl ?_
    show 5632 + (t.val % 4 * 1408 + l.val) = (4 + t.val % 4) * 1408 + l.val
    omega
  · exact weights m c t _ _ rfl rfl

/-! ## A block over its four points -/

theorem after_first (c : Dev nD) (t : Fin cfg0.N) (h : t.val % 4 = 0) (r : Fin 512) (d : Fin 2048) :
    outsAt0 m c t.val t.isLt (ix2 r d) = arrH m c (token t r) d
      + ∑ l : Fin 1408, gated (arrU m c) (arrC m c) (arrB m c) (token t r) (entry t l) * arrW m c (entry t l) d := by
  rw [← part_point, outsAt0_A m c t h (by omega)]
  frame_out
  refine (first_block _ (gate m c t) (denom m c t) _ _ (denom_gate m c t) r d).trans ?_
  exact congrArg (· + _) (residual m c t _ _ rfl rfl)

theorem after_next (c : Dev nD) (t : Fin cfg0.N) (h : 1 ≤ t.val % 4) (r : Fin 512) (d : Fin 2048) :
    outsAt0 m c t.val t.isLt (ix2 r d) = outsAt0 m c (t.val - 1) (Nat.lt_of_le_of_lt (Nat.sub_le _ _) t.isLt) (ix2 r d)
      + ∑ l : Fin 1408, gated (arrU m c) (arrC m c) (arrB m c) (token t r) (entry t l) * arrW m c (entry t l) d := by
  rw [← part_point, outsAt0_B m c t (by omega) h]
  frame_out
  exact middle_block _ (gate m c t) (denom m c t) _ _ (denom_gate m c t) r d

/-- The block after its last point. -/
theorem block (c : Dev nD) (t : Fin cfg0.N) (h : t.val % 4 = 3) (r : Fin 512) (d : Fin 2048) :
    outsAt0 m c t.val t.isLt (ix2 r d)
      = down (arrU m c) (arrC m c) (arrB m c) (arrW m c) (arrH m c) (token t r) d := by
  have ht : t.val < 256 := lt_of_lt_of_eq t.isLt N_0
  have hN : cfg0.N = 256 := N_0
  unfold down
  have e3 := after_next m c t (by omega) r d
  have e2 := after_next m c ⟨t.val - 1, by omega⟩ (by show 1 ≤ (t.val - 1) % 4; omega) r d
  have e1 := after_next m c ⟨t.val - 1 - 1, by omega⟩ (by show 1 ≤ (t.val - 1 - 1) % 4; omega) r d
  have e0 := after_first m c ⟨t.val - 1 - 1 - 1, by omega⟩ (by show (t.val - 1 - 1 - 1) % 4 = 0; omega) r d
  have k2 : token ⟨t.val - 1, by omega⟩ r = token t r := Fin.ext (by show (t.val - 1) / 4 * 512 + r.val = t.val / 4 * 512 + r.val; omega)
  have k1 : token ⟨t.val - 1 - 1, by omega⟩ r = token t r := Fin.ext (by show (t.val - 1 - 1) / 4 * 512 + r.val = t.val / 4 * 512 + r.val; omega)
  have k0 : token ⟨t.val - 1 - 1 - 1, by omega⟩ r = token t r := Fin.ext (by show (t.val - 1 - 1 - 1) / 4 * 512 + r.val = t.val / 4 * 512 + r.val; omega)
  have l3 : ∀ l, entry t l = ⟨3 * 1408 + l.val, by omega⟩ := fun l => Fin.ext (by show t.val % 4 * 1408 + l.val = 3 * 1408 + l.val; omega)
  have l2 : ∀ l, entry ⟨t.val - 1, by omega⟩ l = ⟨2 * 1408 + l.val, by omega⟩ := fun l => Fin.ext (by show (t.val - 1) % 4 * 1408 + l.val = 2 * 1408 + l.val; omega)
  have l1 : ∀ l, entry ⟨t.val - 1 - 1, by omega⟩ l = ⟨1 * 1408 + l.val, by omega⟩ := fun l => Fin.ext (by show (t.val - 1 - 1) % 4 * 1408 + l.val = 1 * 1408 + l.val; omega)
  have l0 : ∀ l, entry ⟨t.val - 1 - 1 - 1, by omega⟩ l = ⟨0 * 1408 + l.val, by omega⟩ := fun l => Fin.ext (by show (t.val - 1 - 1 - 1) % 4 * 1408 + l.val = 0 * 1408 + l.val; omega)
  rw [k0] at e0
  rw [k1] at e1
  rw [k2] at e2
  simp only [l0] at e0
  simp only [l1] at e1
  simp only [l2] at e2
  simp only [l3] at e3
  rw [Cert.DownProduct.four_tiles, ← add_assoc, ← add_assoc, ← add_assoc]
  refine e3.trans (congrArg (· + _) (e2.trans (congrArg (· + _) (e1.trans (congrArg (· + _) e0)))))

/-- What the last point of a block stores is the reference's block. -/
theorem point (c : Dev nD) (t : Fin cfg0.N) (h : t.val % 4 = 3) (y : S512x2048.Idx) :
    outsAt0 m c t.val t.isLt y
      = val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (((cfg0.win 8).blk t).view.emb y) := by
  have e0 : (((cfg0.win 8).blk t).view.emb y 0 : ℕ) = t.val / 4 * 512 + y 0 := by blk_simp [idx t]
  have e1 : (((cfg0.win 8).blk t).view.emb y 1 : ℕ) = y 1 := by blk_simp [idx t]
  have ej : ((cfg0.win 8).blk t).view.emb y = ix2 (token t (y 0)) (y 1) :=
    funext (Fin.forall_fin_two.mpr ⟨Fin.ext e0, Fin.ext e1⟩)
  have ey : y = ix2 (y 0) (y 1) := funext (Fin.forall_fin_two.mpr ⟨rfl, rfl⟩)
  rw [ej]
  refine Eq.trans ?_ (Cert.DownReference.ref_down _ _ _ _ _ _ _).symm
  refine (congrArg _ ey).trans (block m c t h (y 0) (y 1))

theorem final (c : Dev nD) :
    (dats m 0 c).arrAt 8 cfg0.N
      = val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  exact point m c t ((flush0_8 t).mp hf) y

end Cert.GluProduct

end
-- ==== Proof.QueryProduct.lean ====
module

public import proofs.«01_k».proof.Proof.Gen.KernelQueryIdeal.Value
public import proofs.«01_k».proof.Proof.Gen.ReferenceQueryIdeal.Run
public import proofs.«01_k».proof.Proof.Gen.ReferenceQueryIdeal.Read
public import proofs.«01_k».proof.Proof.UpProduct
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QueryProduct

open Cert.KernelQueryIdeal Cert.KernelQueryIdeal.Gen
open Cert.ReferenceQueryIdeal.Read
open Cert.Norm

/-! # The queries of the cross attention, from the residual stream

The kernel walks 32 blocks of 1024 rows and, within each, 2 blocks of 1024 columns. At the first column
block it normalises its rows and keeps them; every column block is then one product with the kept rows. -/

/-! ## The kernel's two payloads -/

theorem kept (X : Vec Ideal S1024x2048 .f32) (G : Vec Ideal S1x2048 .f32) (y : S1024x2048.Idx) :
    k0_pay1 (F := Ideal) X G y = normed (fun d => X (ix2 (y 0) d)) (fun d => G (ix2 0 d)) (y 1) :=
  Cert.UpProduct.kept X G y

theorem product (K : Vec Ideal S1024x2048 .bf16) (W : Vec Ideal S2048x1024 .bf16) (y : S1024x1024.Idx) :
    k0_pay2 (F := Ideal) K W y = ∑ d : Fin 2048, K (ix2 (y 0) d) * W (ix2 d (y 1)) := by
  pointwise [k0_pay2]

/-! ## The reference -/

/-- The array the reference returns: its rows are normalised as the up projection's are. -/
theorem ref_result (X : FVec Ideal S32768x2048 .f32) (W : FVec Ideal S2048x2048 .bf16) (G : FVec Ideal S2048 .f32)
    (j : S32768x2048.Idx) :
    val_main_v15 (F := Ideal) X W G j
      = ∑ d : Fin 2048, normed (fun d => X (ix2 (j 0) d)) (fun d => G (ix1 d)) d * W (ix2 d (j 1)) := by
  rw [val_main_v15_apply]
  refine (val_main_v14_apply X W G j).trans (Finset.sum_congr rfl fun d _ => ?_)
  rw [val_main_v13_apply]
  refine congrArg₂ (· * ·) (Eq.trans (congrArg _ ?_) (Cert.UpProduct.ref_norm X G (j 0) d)) (congrArg W ?_) <;> funext a <;>
    fin_cases a <;> rfl

/-! ## The kernel's blocks -/

section Blocks

variable (m : (ℓ : Loc nD τ sig) → Buf (Elt Ideal) ℓ)

/-- Point `t` takes row block `t / 2` and column block `t % 2`. -/
theorem idx : ∀ t : Fin cfg0.N, win0_0.index t = ![t.val / 2, 0] ∧ win0_1.index t = ![0, 0] ∧ win0_2.index t = ![0, t.val % 2]
    ∧ win0_3.index t = ![t.val / 2, t.val % 2] :=
  (by decide +kernel : ∀ t : Fin grid0.N, _)

theorem rows (c : Dev nD) (t : Fin cfg0.N) (z : S1024x2048.Idx) (w : S32768x2048.Idx)
    (hw0 : (w 0 : ℕ) = t.val / 2 * 1024 + z 0) (hw1 : (w 1 : ℕ) = z 1) :
    iblk m c 0 t z = m ((c : Thread nD τ).loc main_arg0) w := by
  have e0 : (((cfg0.win 0).blk t).view.emb z 0 : ℕ) = t.val / 2 * 1024 + z 0 := by blk_simp [idx t]
  have e1 : (((cfg0.win 0).blk t).view.emb z 1 : ℕ) = z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem gains (c : Dev nD) (t : Fin cfg0.N) (d : Fin 2048) :
    iblk m c 1 t (ix2 0 d) = m ((c : Thread nD τ).loc main_arg2) (ix1 d) := by
  show shapeCast S1x2048 (m ((c : Thread nD τ).loc main_arg2)) shapeCasts_S2048_S1x2048 (((cfg0.win 1).blk t).view.emb (ix2 0 d)) = _
  refine shapeCast_apply _ _ _ _ ?_
  rewrite [Shape.rowMajor_val_two]
  have e0 : (((cfg0.win 1).blk t).view.emb (ix2 0 d) 0 : ℕ) = 0 := by blk_simp [idx t]; rfl
  have e1 : (((cfg0.win 1).blk t).view.emb (ix2 0 d) 1 : ℕ) = d := by blk_simp [idx t]
  rw [e0, e1]
  refine (Shape.rowMajor_val_one (d := ![2048]) (ix1 d)).trans ?_
  show (d : ℕ) = _
  omega

theorem weights (c : Dev nD) (t : Fin cfg0.N) (z : S2048x1024.Idx) (w : S2048x2048.Idx)
    (hw0 : (w 0 : ℕ) = z 0) (hw1 : (w 1 : ℕ) = t.val % 2 * 1024 + z 1) :
    iblk m c 2 t z = m ((c : Thread nD τ).loc main_arg1) w := by
  have e0 : (((cfg0.win 2).blk t).view.emb z 0 : ℕ) = z 0 := by blk_simp [idx t]
  have e1 : (((cfg0.win 2).blk t).view.emb z 1 : ℕ) = t.val % 2 * 1024 + z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

/-- The kept rows after a point are the normalised rows of that point's row block. -/
theorem kept_after (c : Dev nD) (n : ℕ) : ∀ (hn : n < cfg0.N),
    (outsAt0 m c n hn).2 = k0_pay1 (F := Ideal) (iblk m c 0 ⟨n, hn⟩) (iblk m c 1 ⟨n, hn⟩) := by
  induction n with
  | zero =>
    intro hn
    rw [outsAt0_A m c ⟨0, hn⟩ (Nat.zero_mod _)]
    frame_out
  | succ n ih =>
    intro hn
    by_cases h0 : (n + 1) % 2 = 0
    · rw [outsAt0_A m c ⟨n + 1, hn⟩ h0]
      frame_out
    · rw [outsAt0_B m c ⟨n + 1, hn⟩ h0]
      refine (ih (Nat.lt_of_succ_lt hn)).trans ?_
      funext y
      rw [kept, kept]
      refine normed_congr (fun d => ?_) (fun d => ?_) rfl
      · have hN : n + 1 < 64 := lt_of_lt_of_eq hn N_0
        have y0 : (y 0 : ℕ) < 1024 := (y 0).isLt
        have e : n / 2 = (n + 1) / 2 := by omega
        refine (rows m c ⟨n, Nat.lt_of_succ_lt hn⟩ (ix2 (y 0) d) (ix2 ⟨n / 2 * 1024 + y 0, by omega⟩ d) rfl rfl).trans
          (rows m c ⟨n + 1, hn⟩ (ix2 (y 0) d) (ix2 ⟨n / 2 * 1024 + y 0, by omega⟩ d) ?_ rfl).symm
        show n / 2 * 1024 + (y 0 : ℕ) = (n + 1) / 2 * 1024 + (y 0 : ℕ)
        rw [e]
      · rw [gains, gains]

/-- The output block after a point is the product of the kept rows with that point's columns. -/
theorem out_after (c : Dev nD) (t : Fin cfg0.N) :
    (outsAt0 m c t.val t.isLt).1 = k0_pay2 (F := Ideal) (outsAt0 m c t.val t.isLt).2 (iblk m c 2 t) := by
  by_cases h0 : t.val % 2 = 0
  · rw [outsAt0_A m c t h0]
    frame_out
  · rw [outsAt0_B m c t h0]
    unfold sout0_B_0
    frame_out
    exact congrArg (k0_pay2 (F := Ideal) · (iblk m c 2 t)) ((Memref.isWhole_whole cc0_scratch0).read_unread _)

/-- What point `t` stores is the reference's block. -/
theorem point (c : Dev nD) (t : Fin cfg0.N) (y : S1024x1024.Idx) :
    (outsAt0 m c t.val t.isLt).1 y
      = val_main_v15 (F := Ideal) (m ((c : Thread nD τ).loc main_arg0)) (m ((c : Thread nD τ).loc main_arg1))
          (m ((c : Thread nD τ).loc main_arg2)) (((cfg0.win 3).blk t).view.emb y) := by
  have e0 : (((cfg0.win 3).blk t).view.emb y 0 : ℕ) = t.val / 2 * 1024 + y 0 := by blk_simp [idx t]
  have e1 : (((cfg0.win 3).blk t).view.emb y 1 : ℕ) = t.val % 2 * 1024 + y 1 := by blk_simp [idx t]
  rw [out_after, kept_after, product, ref_result]
  refine Finset.sum_congr rfl fun d _ => ?_
  rw [kept]
  refine congrArg₂ (· * ·) (normed_congr (fun d => ?_) (fun d => gains m c t d) rfl) ?_
  · exact rows m c t _ _ e0 rfl
  · exact weights m c t _ _ rfl e1

theorem final (c : Dev nD) :
    (dats m 0 c).arrAt 3 cfg0.N
      = val_main_v15 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  exact point m c t y

end Blocks

end Cert.QueryProduct

end
-- ==== Proof.SsdInProduct.lean ====
module

public import proofs.«01_k».proof.Proof.Gen.KernelSsdInIdeal.Value
public import proofs.«01_k».proof.Proof.Gen.ReferenceSsdInIdeal.Run
public import proofs.«01_k».proof.Proof.Gen.ReferenceSsdInIdeal.Read
public import proofs.«01_k».proof.Proof.UpProduct
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SsdInProduct

open Cert.KernelSsdInIdeal Cert.KernelSsdInIdeal.Gen
open Cert.ReferenceSsdInIdeal.Read
open Cert.Norm

/-! # The gate and the channels of the SSD mixer, from the residual stream

The kernel walks 32 blocks of 1024 rows and, within each, 10 blocks of 1024 columns. At the first column
block it normalises its rows and keeps them; every column block is then one product with the kept rows. -/

/-! ## The kernel's two payloads -/

theorem kept (X : Vec Ideal S1024x2048 .f32) (G : Vec Ideal S1x2048 .f32) (y : S1024x2048.Idx) :
    k0_pay1 (F := Ideal) X G y = normed (fun d => X (ix2 (y 0) d)) (fun d => G (ix2 0 d)) (y 1) :=
  Cert.UpProduct.kept X G y

theorem product (K : Vec Ideal S1024x2048 .bf16) (W : Vec Ideal S2048x1024 .bf16) (y : S1024x1024.Idx) :
    k0_pay2 (F := Ideal) K W y = ∑ d : Fin 2048, K (ix2 (y 0) d) * W (ix2 d (y 1)) := by
  pointwise [k0_pay2]

/-! ## The reference -/

/-- The array the reference returns: its rows are normalised as the up projection's are. -/
theorem ref_result (X : FVec Ideal S32768x2048 .f32) (W : FVec Ideal S2048x10240 .bf16) (G : FVec Ideal S2048 .f32)
    (j : S32768x10240.Idx) :
    val_main_v15 (F := Ideal) X W G j
      = ∑ d : Fin 2048, normed (fun d => X (ix2 (j 0) d)) (fun d => G (ix1 d)) d * W (ix2 d (j 1)) := by
  rw [val_main_v15_apply]
  refine (val_main_v14_apply X W G j).trans (Finset.sum_congr rfl fun d _ => ?_)
  rw [val_main_v13_apply]
  refine congrArg₂ (· * ·) (Eq.trans (congrArg _ ?_) (Cert.UpProduct.ref_norm X G (j 0) d)) (congrArg W ?_) <;> funext a <;>
    fin_cases a <;> rfl

/-! ## The kernel's blocks -/

section Blocks

variable (m : (ℓ : Loc nD τ sig) → Buf (Elt Ideal) ℓ)

/-- Point `t` takes row block `t / 10` and column block `t % 10`. -/
theorem idx : ∀ t : Fin cfg0.N, win0_0.index t = ![t.val / 10, 0] ∧ win0_1.index t = ![0, 0] ∧ win0_2.index t = ![0, t.val % 10]
    ∧ win0_3.index t = ![t.val / 10, t.val % 10] :=
  (by decide +kernel : ∀ t : Fin grid0.N, _)

theorem rows (c : Dev nD) (t : Fin cfg0.N) (z : S1024x2048.Idx) (w : S32768x2048.Idx)
    (hw0 : (w 0 : ℕ) = t.val / 10 * 1024 + z 0) (hw1 : (w 1 : ℕ) = z 1) :
    iblk m c 0 t z = m ((c : Thread nD τ).loc main_arg0) w := by
  have e0 : (((cfg0.win 0).blk t).view.emb z 0 : ℕ) = t.val / 10 * 1024 + z 0 := by blk_simp [idx t]
  have e1 : (((cfg0.win 0).blk t).view.emb z 1 : ℕ) = z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem gains (c : Dev nD) (t : Fin cfg0.N) (d : Fin 2048) :
    iblk m c 1 t (ix2 0 d) = m ((c : Thread nD τ).loc main_arg2) (ix1 d) := by
  show shapeCast S1x2048 (m ((c : Thread nD τ).loc main_arg2)) shapeCasts_S2048_S1x2048 (((cfg0.win 1).blk t).view.emb (ix2 0 d)) = _
  refine shapeCast_apply _ _ _ _ ?_
  rewrite [Shape.rowMajor_val_two]
  have e0 : (((cfg0.win 1).blk t).view.emb (ix2 0 d) 0 : ℕ) = 0 := by blk_simp [idx t]; rfl
  have e1 : (((cfg0.win 1).blk t).view.emb (ix2 0 d) 1 : ℕ) = d := by blk_simp [idx t]
  rw [e0, e1]
  refine (Shape.rowMajor_val_one (d := ![2048]) (ix1 d)).trans ?_
  show (d : ℕ) = _
  omega

theorem weights (c : Dev nD) (t : Fin cfg0.N) (z : S2048x1024.Idx) (w : S2048x10240.Idx)
    (hw0 : (w 0 : ℕ) = z 0) (hw1 : (w 1 : ℕ) = t.val % 10 * 1024 + z 1) :
    iblk m c 2 t z = m ((c : Thread nD τ).loc main_arg1) w := by
  have e0 : (((cfg0.win 2).blk t).view.emb z 0 : ℕ) = z 0 := by blk_simp [idx t]
  have e1 : (((cfg0.win 2).blk t).view.emb z 1 : ℕ) = t.val % 10 * 1024 + z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

/-- The kept rows after a point are the normalised rows of that point's row block. -/
theorem kept_after (c : Dev nD) (n : ℕ) : ∀ (hn : n < cfg0.N),
    (outsAt0 m c n hn).2 = k0_pay1 (F := Ideal) (iblk m c 0 ⟨n, hn⟩) (iblk m c 1 ⟨n, hn⟩) := by
  induction n with
  | zero =>
    intro hn
    rw [outsAt0_A m c ⟨0, hn⟩ (Nat.zero_mod _)]
    frame_out
  | succ n ih =>
    intro hn
    by_cases h0 : (n + 1) % 10 = 0
    · rw [outsAt0_A m c ⟨n + 1, hn⟩ h0]
      frame_out
    · rw [outsAt0_B m c ⟨n + 1, hn⟩ h0]
      refine (ih (Nat.lt_of_succ_lt hn)).trans ?_
      funext y
      rw [kept, kept]
      refine normed_congr (fun d => ?_) (fun d => ?_) rfl
      · have hN : n + 1 < 320 := lt_of_lt_of_eq hn N_0
        have y0 : (y 0 : ℕ) < 1024 := (y 0).isLt
        have e : n / 10 = (n + 1) / 10 := by omega
        refine (rows m c ⟨n, Nat.lt_of_succ_lt hn⟩ (ix2 (y 0) d) (ix2 ⟨n / 10 * 1024 + y 0, by omega⟩ d) rfl rfl).trans
          (rows m c ⟨n + 1, hn⟩ (ix2 (y 0) d) (ix2 ⟨n / 10 * 1024 + y 0, by omega⟩ d) ?_ rfl).symm
        show n / 10 * 1024 + (y 0 : ℕ) = (n + 1) / 10 * 1024 + (y 0 : ℕ)
        rw [e]
      · rw [gains, gains]

/-- The output block after a point is the product of the kept rows with that point's columns. -/
theorem out_after (c : Dev nD) (t : Fin cfg0.N) :
    (outsAt0 m c t.val t.isLt).1 = k0_pay2 (F := Ideal) (outsAt0 m c t.val t.isLt).2 (iblk m c 2 t) := by
  by_cases h0 : t.val % 10 = 0
  · rw [outsAt0_A m c t h0]
    frame_out
  · rw [outsAt0_B m c t h0]
    unfold sout0_B_0
    frame_out
    exact congrArg (k0_pay2 (F := Ideal) · (iblk m c 2 t)) ((Memref.isWhole_whole cc0_scratch0).read_unread _)

/-- What point `t` stores is the reference's block. -/
theorem point (c : Dev nD) (t : Fin cfg0.N) (y : S1024x1024.Idx) :
    (outsAt0 m c t.val t.isLt).1 y
      = val_main_v15 (F := Ideal) (m ((c : Thread nD τ).loc main_arg0)) (m ((c : Thread nD τ).loc main_arg1))
          (m ((c : Thread nD τ).loc main_arg2)) (((cfg0.win 3).blk t).view.emb y) := by
  have e0 : (((cfg0.win 3).blk t).view.emb y 0 : ℕ) = t.val / 10 * 1024 + y 0 := by blk_simp [idx t]
  have e1 : (((cfg0.win 3).blk t).view.emb y 1 : ℕ) = t.val % 10 * 1024 + y 1 := by blk_simp [idx t]
  rw [out_after, kept_after, product, ref_result]
  refine Finset.sum_congr rfl fun d _ => ?_
  rw [kept]
  refine congrArg₂ (· * ·) (normed_congr (fun d => ?_) (fun d => gains m c t d) rfl) ?_
  · exact rows m c t _ _ e0 rfl
  · exact weights m c t _ _ rfl e1

theorem final (c : Dev nD) :
    (dats m 0 c).arrAt 3 cfg0.N
      = val_main_v15 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  exact point m c t y

end Blocks

end Cert.SsdInProduct

end
-- ==== Proof.MlstmInProduct.lean ====
module

public import proofs.«01_k».proof.Proof.Gen.KernelMlstmInIdeal.Value
public import proofs.«01_k».proof.Proof.Gen.ReferenceMlstmInIdeal.Run
public import proofs.«01_k».proof.Proof.Gen.ReferenceMlstmInIdeal.Read
public import proofs.«01_k».proof.Proof.UpProduct
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmInProduct

open Cert.KernelMlstmInIdeal Cert.KernelMlstmInIdeal.Gen
open Cert.ReferenceMlstmInIdeal.Read
open Cert.Norm

/-! # Queries, keys, values and output gate of the mLSTM mixer, from the residual stream

The kernel walks 32 blocks of 1024 rows and, within each, 6 blocks of 1024 columns. At the first column
block it normalises its rows and keeps them; every column block is then one product with the kept rows. -/

/-! ## The kernel's two payloads -/

theorem kept (X : Vec Ideal S1024x2048 .f32) (G : Vec Ideal S1x2048 .f32) (y : S1024x2048.Idx) :
    k0_pay1 (F := Ideal) X G y = normed (fun d => X (ix2 (y 0) d)) (fun d => G (ix2 0 d)) (y 1) :=
  Cert.UpProduct.kept X G y

theorem product (K : Vec Ideal S1024x2048 .bf16) (W : Vec Ideal S2048x1024 .bf16) (y : S1024x1024.Idx) :
    k0_pay2 (F := Ideal) K W y = ∑ d : Fin 2048, K (ix2 (y 0) d) * W (ix2 d (y 1)) := by
  pointwise [k0_pay2]

/-! ## The reference -/

/-- The array the reference returns: its rows are normalised as the up projection's are. -/
theorem ref_result (X : FVec Ideal S32768x2048 .f32) (W : FVec Ideal S2048x6144 .bf16) (G : FVec Ideal S2048 .f32)
    (j : S32768x6144.Idx) :
    val_main_v15 (F := Ideal) X W G j
      = ∑ d : Fin 2048, normed (fun d => X (ix2 (j 0) d)) (fun d => G (ix1 d)) d * W (ix2 d (j 1)) := by
  rw [val_main_v15_apply]
  refine (val_main_v14_apply X W G j).trans (Finset.sum_congr rfl fun d _ => ?_)
  rw [val_main_v13_apply]
  refine congrArg₂ (· * ·) (Eq.trans (congrArg _ ?_) (Cert.UpProduct.ref_norm X G (j 0) d)) (congrArg W ?_) <;> funext a <;>
    fin_cases a <;> rfl

/-! ## The kernel's blocks -/

section Blocks

variable (m : (ℓ : Loc nD τ sig) → Buf (Elt Ideal) ℓ)

/-- Point `t` takes row block `t / 6` and column block `t % 6`. -/
theorem idx : ∀ t : Fin cfg0.N, win0_0.index t = ![t.val / 6, 0] ∧ win0_1.index t = ![0, 0] ∧ win0_2.index t = ![0, t.val % 6]
    ∧ win0_3.index t = ![t.val / 6, t.val % 6] :=
  (by decide +kernel : ∀ t : Fin grid0.N, _)

theorem rows (c : Dev nD) (t : Fin cfg0.N) (z : S1024x2048.Idx) (w : S32768x2048.Idx)
    (hw0 : (w 0 : ℕ) = t.val / 6 * 1024 + z 0) (hw1 : (w 1 : ℕ) = z 1) :
    iblk m c 0 t z = m ((c : Thread nD τ).loc main_arg0) w := by
  have e0 : (((cfg0.win 0).blk t).view.emb z 0 : ℕ) = t.val / 6 * 1024 + z 0 := by blk_simp [idx t]
  have e1 : (((cfg0.win 0).blk t).view.emb z 1 : ℕ) = z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem gains (c : Dev nD) (t : Fin cfg0.N) (d : Fin 2048) :
    iblk m c 1 t (ix2 0 d) = m ((c : Thread nD τ).loc main_arg2) (ix1 d) := by
  show shapeCast S1x2048 (m ((c : Thread nD τ).loc main_arg2)) shapeCasts_S2048_S1x2048 (((cfg0.win 1).blk t).view.emb (ix2 0 d)) = _
  refine shapeCast_apply _ _ _ _ ?_
  rewrite [Shape.rowMajor_val_two]
  have e0 : (((cfg0.win 1).blk t).view.emb (ix2 0 d) 0 : ℕ) = 0 := by blk_simp [idx t]; rfl
  have e1 : (((cfg0.win 1).blk t).view.emb (ix2 0 d) 1 : ℕ) = d := by blk_simp [idx t]
  rw [e0, e1]
  refine (Shape.rowMajor_val_one (d := ![2048]) (ix1 d)).trans ?_
  show (d : ℕ) = _
  omega

theorem weights (c : Dev nD) (t : Fin cfg0.N) (z : S2048x1024.Idx) (w : S2048x6144.Idx)
    (hw0 : (w 0 : ℕ) = z 0) (hw1 : (w 1 : ℕ) = t.val % 6 * 1024 + z 1) :
    iblk m c 2 t z = m ((c : Thread nD τ).loc main_arg1) w := by
  have e0 : (((cfg0.win 2).blk t).view.emb z 0 : ℕ) = z 0 := by blk_simp [idx t]
  have e1 : (((cfg0.win 2).blk t).view.emb z 1 : ℕ) = t.val % 6 * 1024 + z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

/-- The kept rows after a point are the normalised rows of that point's row block. -/
theorem kept_after (c : Dev nD) (n : ℕ) : ∀ (hn : n < cfg0.N),
    (outsAt0 m c n hn).2 = k0_pay1 (F := Ideal) (iblk m c 0 ⟨n, hn⟩) (iblk m c 1 ⟨n, hn⟩) := by
  induction n with
  | zero =>
    intro hn
    rw [outsAt0_A m c ⟨0, hn⟩ (Nat.zero_mod _)]
    frame_out
  | succ n ih =>
    intro hn
    by_cases h0 : (n + 1) % 6 = 0
    · rw [outsAt0_A m c ⟨n + 1, hn⟩ h0]
      frame_out
    · rw [outsAt0_B m c ⟨n + 1, hn⟩ h0]
      refine (ih (Nat.lt_of_succ_lt hn)).trans ?_
      funext y
      rw [kept, kept]
      refine normed_congr (fun d => ?_) (fun d => ?_) rfl
      · have hN : n + 1 < 192 := lt_of_lt_of_eq hn N_0
        have y0 : (y 0 : ℕ) < 1024 := (y 0).isLt
        have e : n / 6 = (n + 1) / 6 := by omega
        refine (rows m c ⟨n, Nat.lt_of_succ_lt hn⟩ (ix2 (y 0) d) (ix2 ⟨n / 6 * 1024 + y 0, by omega⟩ d) rfl rfl).trans
          (rows m c ⟨n + 1, hn⟩ (ix2 (y 0) d) (ix2 ⟨n / 6 * 1024 + y 0, by omega⟩ d) ?_ rfl).symm
        show n / 6 * 1024 + (y 0 : ℕ) = (n + 1) / 6 * 1024 + (y 0 : ℕ)
        rw [e]
      · rw [gains, gains]

/-- The output block after a point is the product of the kept rows with that point's columns. -/
theorem out_after (c : Dev nD) (t : Fin cfg0.N) :
    (outsAt0 m c t.val t.isLt).1 = k0_pay2 (F := Ideal) (outsAt0 m c t.val t.isLt).2 (iblk m c 2 t) := by
  by_cases h0 : t.val % 6 = 0
  · rw [outsAt0_A m c t h0]
    frame_out
  · rw [outsAt0_B m c t h0]
    unfold sout0_B_0
    frame_out
    exact congrArg (k0_pay2 (F := Ideal) · (iblk m c 2 t)) ((Memref.isWhole_whole cc0_scratch0).read_unread _)

/-- What point `t` stores is the reference's block. -/
theorem point (c : Dev nD) (t : Fin cfg0.N) (y : S1024x1024.Idx) :
    (outsAt0 m c t.val t.isLt).1 y
      = val_main_v15 (F := Ideal) (m ((c : Thread nD τ).loc main_arg0)) (m ((c : Thread nD τ).loc main_arg1))
          (m ((c : Thread nD τ).loc main_arg2)) (((cfg0.win 3).blk t).view.emb y) := by
  have e0 : (((cfg0.win 3).blk t).view.emb y 0 : ℕ) = t.val / 6 * 1024 + y 0 := by blk_simp [idx t]
  have e1 : (((cfg0.win 3).blk t).view.emb y 1 : ℕ) = t.val % 6 * 1024 + y 1 := by blk_simp [idx t]
  rw [out_after, kept_after, product, ref_result]
  refine Finset.sum_congr rfl fun d _ => ?_
  rw [kept]
  refine congrArg₂ (· * ·) (normed_congr (fun d => ?_) (fun d => gains m c t d) rfl) ?_
  · exact rows m c t _ _ e0 rfl
  · exact weights m c t _ _ rfl e1

theorem final (c : Dev nD) :
    (dats m 0 c).arrAt 3 cfg0.N
      = val_main_v15 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  exact point m c t y

end Blocks

end Cert.MlstmInProduct

end
-- ==== Proof.RglruInProduct.lean ====
module

public import proofs.«01_k».proof.Proof.Gen.KernelRglruInIdeal.Value
public import proofs.«01_k».proof.Proof.Gen.ReferenceRglruInIdeal.Run
public import proofs.«01_k».proof.Proof.Gen.ReferenceRglruInIdeal.Read
public import proofs.«01_k».proof.Proof.UpProduct
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RglruInProduct

open Cert.KernelRglruInIdeal Cert.KernelRglruInIdeal.Gen
open Cert.ReferenceRglruInIdeal.Read
open Cert.Norm

/-! # The two branches of the RG-LRU mixer, from the residual stream

The kernel walks 32 blocks of 1024 rows and, within each, 4 blocks of 1024 columns. At the first column
block it normalises its rows and keeps them; every column block is then one product with the kept rows. -/

/-! ## The kernel's two payloads -/

theorem kept (X : Vec Ideal S1024x2048 .f32) (G : Vec Ideal S1x2048 .f32) (y : S1024x2048.Idx) :
    k0_pay1 (F := Ideal) X G y = normed (fun d => X (ix2 (y 0) d)) (fun d => G (ix2 0 d)) (y 1) :=
  Cert.UpProduct.kept X G y

theorem product (K : Vec Ideal S1024x2048 .bf16) (W : Vec Ideal S2048x1024 .bf16) (y : S1024x1024.Idx) :
    k0_pay2 (F := Ideal) K W y = ∑ d : Fin 2048, K (ix2 (y 0) d) * W (ix2 d (y 1)) := by
  pointwise [k0_pay2]

/-! ## The reference -/

/-- The array the reference returns: its rows are normalised as the up projection's are. -/
theorem ref_result (X : FVec Ideal S32768x2048 .f32) (W : FVec Ideal S2048x4096 .bf16) (G : FVec Ideal S2048 .f32)
    (j : S32768x4096.Idx) :
    val_main_v15 (F := Ideal) X W G j
      = ∑ d : Fin 2048, normed (fun d => X (ix2 (j 0) d)) (fun d => G (ix1 d)) d * W (ix2 d (j 1)) := by
  rw [val_main_v15_apply]
  refine (val_main_v14_apply X W G j).trans (Finset.sum_congr rfl fun d _ => ?_)
  rw [val_main_v13_apply]
  refine congrArg₂ (· * ·) (Eq.trans (congrArg _ ?_) (Cert.UpProduct.ref_norm X G (j 0) d)) (congrArg W ?_) <;> funext a <;>
    fin_cases a <;> rfl

/-! ## The kernel's blocks -/

section Blocks

variable (m : (ℓ : Loc nD τ sig) → Buf (Elt Ideal) ℓ)

/-- Point `t` takes row block `t / 4` and column block `t % 4`. -/
theorem idx : ∀ t : Fin cfg0.N, win0_0.index t = ![t.val / 4, 0] ∧ win0_1.index t = ![0, 0] ∧ win0_2.index t = ![0, t.val % 4]
    ∧ win0_3.index t = ![t.val / 4, t.val % 4] :=
  (by decide +kernel : ∀ t : Fin grid0.N, _)

theorem rows (c : Dev nD) (t : Fin cfg0.N) (z : S1024x2048.Idx) (w : S32768x2048.Idx)
    (hw0 : (w 0 : ℕ) = t.val / 4 * 1024 + z 0) (hw1 : (w 1 : ℕ) = z 1) :
    iblk m c 0 t z = m ((c : Thread nD τ).loc main_arg0) w := by
  have e0 : (((cfg0.win 0).blk t).view.emb z 0 : ℕ) = t.val / 4 * 1024 + z 0 := by blk_simp [idx t]
  have e1 : (((cfg0.win 0).blk t).view.emb z 1 : ℕ) = z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem gains (c : Dev nD) (t : Fin cfg0.N) (d : Fin 2048) :
    iblk m c 1 t (ix2 0 d) = m ((c : Thread nD τ).loc main_arg2) (ix1 d) := by
  show shapeCast S1x2048 (m ((c : Thread nD τ).loc main_arg2)) shapeCasts_S2048_S1x2048 (((cfg0.win 1).blk t).view.emb (ix2 0 d)) = _
  refine shapeCast_apply _ _ _ _ ?_
  rewrite [Shape.rowMajor_val_two]
  have e0 : (((cfg0.win 1).blk t).view.emb (ix2 0 d) 0 : ℕ) = 0 := by blk_simp [idx t]; rfl
  have e1 : (((cfg0.win 1).blk t).view.emb (ix2 0 d) 1 : ℕ) = d := by blk_simp [idx t]
  rw [e0, e1]
  refine (Shape.rowMajor_val_one (d := ![2048]) (ix1 d)).trans ?_
  show (d : ℕ) = _
  omega

theorem weights (c : Dev nD) (t : Fin cfg0.N) (z : S2048x1024.Idx) (w : S2048x4096.Idx)
    (hw0 : (w 0 : ℕ) = z 0) (hw1 : (w 1 : ℕ) = t.val % 4 * 1024 + z 1) :
    iblk m c 2 t z = m ((c : Thread nD τ).loc main_arg1) w := by
  have e0 : (((cfg0.win 2).blk t).view.emb z 0 : ℕ) = z 0 := by blk_simp [idx t]
  have e1 : (((cfg0.win 2).blk t).view.emb z 1 : ℕ) = t.val % 4 * 1024 + z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

/-- The kept rows after a point are the normalised rows of that point's row block. -/
theorem kept_after (c : Dev nD) (n : ℕ) : ∀ (hn : n < cfg0.N),
    (outsAt0 m c n hn).2 = k0_pay1 (F := Ideal) (iblk m c 0 ⟨n, hn⟩) (iblk m c 1 ⟨n, hn⟩) := by
  induction n with
  | zero =>
    intro hn
    rw [outsAt0_A m c ⟨0, hn⟩ (Nat.zero_mod _)]
    frame_out
  | succ n ih =>
    intro hn
    by_cases h0 : (n + 1) % 4 = 0
    · rw [outsAt0_A m c ⟨n + 1, hn⟩ h0]
      frame_out
    · rw [outsAt0_B m c ⟨n + 1, hn⟩ h0]
      refine (ih (Nat.lt_of_succ_lt hn)).trans ?_
      funext y
      rw [kept, kept]
      refine normed_congr (fun d => ?_) (fun d => ?_) rfl
      · have hN : n + 1 < 128 := lt_of_lt_of_eq hn N_0
        have y0 : (y 0 : ℕ) < 1024 := (y 0).isLt
        have e : n / 4 = (n + 1) / 4 := by omega
        refine (rows m c ⟨n, Nat.lt_of_succ_lt hn⟩ (ix2 (y 0) d) (ix2 ⟨n / 4 * 1024 + y 0, by omega⟩ d) rfl rfl).trans
          (rows m c ⟨n + 1, hn⟩ (ix2 (y 0) d) (ix2 ⟨n / 4 * 1024 + y 0, by omega⟩ d) ?_ rfl).symm
        show n / 4 * 1024 + (y 0 : ℕ) = (n + 1) / 4 * 1024 + (y 0 : ℕ)
        rw [e]
      · rw [gains, gains]

/-- The output block after a point is the product of the kept rows with that point's columns. -/
theorem out_after (c : Dev nD) (t : Fin cfg0.N) :
    (outsAt0 m c t.val t.isLt).1 = k0_pay2 (F := Ideal) (outsAt0 m c t.val t.isLt).2 (iblk m c 2 t) := by
  by_cases h0 : t.val % 4 = 0
  · rw [outsAt0_A m c t h0]
    frame_out
  · rw [outsAt0_B m c t h0]
    unfold sout0_B_0
    frame_out
    exact congrArg (k0_pay2 (F := Ideal) · (iblk m c 2 t)) ((Memref.isWhole_whole cc0_scratch0).read_unread _)

/-- What point `t` stores is the reference's block. -/
theorem point (c : Dev nD) (t : Fin cfg0.N) (y : S1024x1024.Idx) :
    (outsAt0 m c t.val t.isLt).1 y
      = val_main_v15 (F := Ideal) (m ((c : Thread nD τ).loc main_arg0)) (m ((c : Thread nD τ).loc main_arg1))
          (m ((c : Thread nD τ).loc main_arg2)) (((cfg0.win 3).blk t).view.emb y) := by
  have e0 : (((cfg0.win 3).blk t).view.emb y 0 : ℕ) = t.val / 4 * 1024 + y 0 := by blk_simp [idx t]
  have e1 : (((cfg0.win 3).blk t).view.emb y 1 : ℕ) = t.val % 4 * 1024 + y 1 := by blk_simp [idx t]
  rw [out_after, kept_after, product, ref_result]
  refine Finset.sum_congr rfl fun d _ => ?_
  rw [kept]
  refine congrArg₂ (· * ·) (normed_congr (fun d => ?_) (fun d => gains m c t d) rfl) ?_
  · exact rows m c t _ _ e0 rfl
  · exact weights m c t _ _ rfl e1

theorem final (c : Dev nD) :
    (dats m 0 c).arrAt 3 cfg0.N
      = val_main_v15 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  exact point m c t y

end Blocks

end Cert.RglruInProduct

end
-- ==== Proof.OutProduct.lean ====
module

public import proofs.«01_k».proof.Proof.Gen.KernelOutIdeal.Value
public import proofs.«01_k».proof.Proof.Gen.ReferenceOutIdeal.Run
public import proofs.«01_k».proof.Proof.Gen.ReferenceOutIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProduct

open Cert.KernelOutIdeal Cert.KernelOutIdeal.Gen
open Cert.ReferenceOutIdeal.Read

/-! # The product after a mixer or the attention, into the residual stream

The kernel walks 32 blocks of 1024 rows and, within each, 2 blocks of 1024 columns: each is one product, added to
the residual stream's block. -/

theorem product (Y : Vec Ideal S1024x2048 .bf16) (W : Vec Ideal S2048x1024 .bf16) (H : Vec Ideal S1024x1024 .f32)
    (y : S1024x1024.Idx) :
    k0_pay1 (F := Ideal) Y W H y = (∑ d : Fin 2048, Y (ix2 (y 0) d) * W (ix2 d (y 1))) + H (ix2 (y 0) (y 1)) := by
  pointwise [k0_pay1]

/-- The array the reference returns. -/
theorem ref_result (Y : FVec Ideal S32768x2048 .bf16) (W : FVec Ideal S2048x2048 .bf16) (H : FVec Ideal S32768x2048 .f32)
    (j : S32768x2048.Idx) :
    val_main_v3 (F := Ideal) Y W H j = H j + ∑ d : Fin 2048, Y (ix2 (j 0) d) * W (ix2 d (j 1)) := by
  rw [val_main_v3_apply]
  show H j + val_main_v2 (F := Ideal) Y W j = _
  refine congrArg (H j + ·) ((val_main_v2_apply Y W j).trans (Finset.sum_congr rfl fun d _ => ?_))
  refine congrArg₂ (· * ·) (congrArg Y ?_) (congrArg W ?_) <;> funext a <;> fin_cases a <;> rfl

section Blocks

variable (m : (ℓ : Loc nD τ sig) → Buf (Elt Ideal) ℓ)

/-- Point `t` takes row block `t / 2` and column block `t % 2`. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

theorem rows (c : Dev nD) (t : Fin cfg0.N) (z : S1024x2048.Idx) (w : S32768x2048.Idx)
    (hw0 : (w 0 : ℕ) = t.val / 2 * 1024 + z 0) (hw1 : (w 1 : ℕ) = z 1) :
    iblk m c 0 t z = m ((c : Thread nD τ).loc main_arg0) w := by
  have e0 : (((cfg0.win 0).blk t).view.emb z 0 : ℕ) = t.val / 2 * 1024 + z 0 := by blk_simp [idx t]
  have e1 : (((cfg0.win 0).blk t).view.emb z 1 : ℕ) = z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem weights (c : Dev nD) (t : Fin cfg0.N) (z : S2048x1024.Idx) (w : S2048x2048.Idx)
    (hw0 : (w 0 : ℕ) = z 0) (hw1 : (w 1 : ℕ) = t.val % 2 * 1024 + z 1) :
    iblk m c 1 t z = m ((c : Thread nD τ).loc main_arg1) w := by
  have e0 : (((cfg0.win 1).blk t).view.emb z 0 : ℕ) = z 0 := by blk_simp [idx t]
  have e1 : (((cfg0.win 1).blk t).view.emb z 1 : ℕ) = t.val % 2 * 1024 + z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

theorem residual (c : Dev nD) (t : Fin cfg0.N) (z : S1024x1024.Idx) (w : S32768x2048.Idx)
    (hw0 : (w 0 : ℕ) = t.val / 2 * 1024 + z 0) (hw1 : (w 1 : ℕ) = t.val % 2 * 1024 + z 1) :
    iblk m c 2 t z = m ((c : Thread nD τ).loc main_arg2) w := by
  have e0 : (((cfg0.win 2).blk t).view.emb z 0 : ℕ) = t.val / 2 * 1024 + z 0 := by blk_simp [idx t]
  have e1 : (((cfg0.win 2).blk t).view.emb z 1 : ℕ) = t.val % 2 * 1024 + z 1 := by blk_simp [idx t]
  refine congrArg (m ((c : Thread nD τ).loc main_arg2)) (funext (Fin.forall_fin_two.mpr ⟨Fin.ext ?_, Fin.ext ?_⟩))
  · exact e0.trans hw0.symm
  · exact e1.trans hw1.symm

/-- What point `t` stores is the reference's block. -/
theorem point (c : Dev nD) (t : Fin cfg0.N) (y : S1024x1024.Idx) :
    out0_3 (F := Ideal) (iblk m c 0 t) (iblk m c 1 t) (iblk m c 2 t) y
      = val_main_v3 (F := Ideal) (m ((c : Thread nD τ).loc main_arg0)) (m ((c : Thread nD τ).loc main_arg1))
          (m ((c : Thread nD τ).loc main_arg2)) (((cfg0.win 3).blk t).view.emb y) := by
  have e0 : (((cfg0.win 3).blk t).view.emb y 0 : ℕ) = t.val / 2 * 1024 + y 0 := by blk_simp [idx t]
  have e1 : (((cfg0.win 3).blk t).view.emb y 1 : ℕ) = t.val % 2 * 1024 + y 1 := by blk_simp [idx t]
  unfold out0_3
  frame_out
  rw [product, ref_result, add_comm]
  refine congrArg₂ (· + ·) (residual m c t _ _ e0 e1) (Finset.sum_congr rfl fun d _ => ?_)
  exact congrArg₂ (· * ·) (rows m c t _ _ e0 rfl) (weights m c t _ _ rfl e1)

theorem final (c : Dev nD) :
    (dats m 0 c).arrAt 3 cfg0.N
      = val_main_v3 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  exact point m c t y

end Blocks

end Cert.OutProduct

end
-- ==== Proof.SsdOutProduct.lean ====
module

public import proofs.«01_k».proof.Proof.Gen.KernelSsdOutIdeal.Value
public import proofs.«01_k».proof.Proof.Gen.ReferenceSsdOutIdeal.Run
public import proofs.«01_k».proof.Proof.Gen.ReferenceSsdOutIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SsdOutProduct

open Cert.KernelSsdOutIdeal Cert.KernelSsdOutIdeal.Gen
open Cert.ReferenceSsdOutIdeal.Read
/-! # The product after the SSD mixer, into the residual stream

The kernel walks 64 blocks of 512 rows and, within each, 2 blocks of 1024 columns. At the first column
block it normalises its rows and keeps them; every column block is then one product with the kept rows,
added to the residual stream. -/

/-- What a row of 4096 is scaled by: one over the root of its mean square (with the small constant added). -/
def scale (x : Fin 4096 → EReal) : EReal :=
  Ideal.rsqrt (Ideal.div (∑ d, x d * x d) (Ideal.ofBits FTy.f32 0x45800000#32) + Ideal.ofBits FTy.f32 0x358637BD#32)

/-- Entry `d` of the normalised row, times the gain. -/
def normed (x g : Fin 4096 → EReal) (d : Fin 4096) : EReal := x d * scale x * g d

theorem normed_congr {x x' g g' : Fin 4096 → EReal} {d d' : Fin 4096} (hx : ∀ d, x d = x' d) (hg : ∀ d, g d = g' d)
    (hd : d = d') : normed x g d = normed x' g' d' := by
  obtain rfl : x = x' := funext hx
  obtain rfl : g = g' := funext hg
  rw [hd]

/-! ## The kernel's two payloads -/

theorem kept (X : Vec Ideal S512x4096 .bf16) (G : Vec Ideal S1x4096 .f32) (y : S512x4096.Idx) :
    k0_pay1 (F := Ideal) X G y = normed (fun d => X (ix2 (y 0) d)) (fun d => G (ix2 0 d)) (y 1) := by
  unfold normed scale
  pointwise [k0_pay1]

theorem product (K : Vec Ideal S512x4096 .bf16) (W : Vec Ideal S4096x1024 .bf16) (H : Vec Ideal S512x1024 .f32)
    (y : S512x1024.Idx) :
    k0_pay2 (F := Ideal) K W H y = (∑ d : Fin 4096, K (ix2 (y 0) d) * W (ix2 d (y 1))) + H (ix2 (y 0) (y 1)) := by
  pointwise [k0_pay2]

/-! ## The reference -/

section Reference

variable (X : FVec Ideal S32768x4096 .bf16) (W : FVec Ideal S4096x2048 .bf16) (G : FVec Ideal S4096 .f32)
  (H : FVec Ideal S32768x2048 .f32)

theorem ref_square (r : Fin 32768) :
    val_main_v2 (F := Ideal) X (ix1 r) = ∑ d : Fin 4096, X (ix2 r d) * X (ix2 r d) := by
  rw [val_main_v2_apply, val_main_cst_apply]
  show Ideal.ofBits FTy.f32 0x00000000#32 + _ = _
  rw [Ideal.ofBits_zero_f32, zero_add]
  refine Finset.sum_congr rfl fun d _ => ?_
  rw [val_main_v1_apply]
  refine congrArg₂ (· * ·) (congrArg X ?_) (congrArg X ?_) <;> funext a <;> fin_cases a <;> rfl

theorem ref_scale (r : Fin 32768) :
    val_main_v8 (F := Ideal) X (ix2 r 0) = scale fun d => X (ix2 r d) := by
  unfold scale
  rw [← ref_square, val_main_v8_apply, val_main_v7_apply, val_main_v6_apply, val_main_v5_apply, val_main_v4_apply,
    val_main_v3_apply, val_main_cst_0_apply, val_main_cst_1_apply]
  show Ideal.rsqrt (Ideal.div (val_main_v2 (F := Ideal) X _) _ + _) = _
  refine congrArg (fun z => Ideal.rsqrt (Ideal.div (val_main_v2 (F := Ideal) X z) _ + _)) ?_
  funext a; fin_cases a; rfl

theorem ref_norm (r : Fin 32768) (d : Fin 4096) :
    val_main_v13 (F := Ideal) X G (ix2 r d) = normed (fun d => X (ix2 r d)) (fun d => G (ix1 d)) d := by
  unfold normed
  rw [← ref_scale, val_main_v13_apply, val_main_v12_apply, val_main_v11_apply, val_main_v10_apply, val_main_v9_apply]
  show X _ * val_main_v8 (F := Ideal) X _ * G _ = _
  refine congrArg₂ (· * ·) (congrArg (_ * val_main_v8 (F := Ideal) X ·) ?_) (congrArg _ ?_) <;> funext a <;> fin_cases a <;> rfl

/-- The array the reference returns. -/
theorem ref_result (j : S32768x2048.Idx) :
    val_main_v16 (F := Ideal) X W G H j
      = H j + ∑ d : Fin 4096, normed (fun d => X (ix2 (j 0) d)) (fun d => G (ix1 d)) d * W (ix2 d (j 1)) := by
  rw [val_main_v16_apply]
  show H j + val_main_v15 (F := Ideal) X W G j = _
  refine congrArg (H j + ·) ((val_main_v15_apply X W G j).trans (Finset.sum_congr rfl fun d _ => ?_))
  refine congrArg₂ (· * ·) (Eq.trans (congrArg _ ?_) (ref_norm X G (j 0) d)) (congrArg W ?_) <;> funext a <;> fin_cases a <;> rfl

end Reference

/-! ## The kernel's blocks -/

section Blocks

variable (m : (ℓ : Loc nD τ sig) → Buf (Elt Ideal) ℓ)

/-- Point `t` takes row block `t / 2` and column block `t % 2`. -/
theorem idx : ∀ t : Fin cfg0.N, win0_0.index t = ![t.val / 2, 0] ∧ win0_1.index t = ![0, 0] ∧ win0_2.index t = ![0, t.val % 2]
    ∧ win0_3.index t = ![t.val / 2, t.val % 2] ∧ win0_4.index t = ![t.val / 2, t.val % 2] :=
  (by decide +kernel : ∀ t : Fin grid0.N, _)

theorem rows (c : Dev nD) (t : Fin cfg0.N) (z : S512x4096.Idx) (w : S32768x4096.Idx)
    (hw0 : (w 0 : ℕ) = t.val / 2 * 512 + z 0) (hw1 : (w 1 : ℕ) = z 1) :
    iblk m c 0 t z = m ((c : Thread nD τ).loc main_arg0) w := by
  have e0 : (((cfg0.win 0).blk t).view.emb z 0 : ℕ) = t.val / 2 * 512 + z 0 := by blk_simp [idx t]
  have e1 : (((cfg0.win 0).blk t).view.emb z 1 : ℕ) = z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem gains (c : Dev nD) (t : Fin cfg0.N) (d : Fin 4096) :
    iblk m c 1 t (ix2 0 d) = m ((c : Thread nD τ).loc main_arg2) (ix1 d) := by
  show shapeCast S1x4096 (m ((c : Thread nD τ).loc main_arg2)) shapeCasts_S4096_S1x4096 (((cfg0.win 1).blk t).view.emb (ix2 0 d)) = _
  refine shapeCast_apply _ _ _ _ ?_
  rewrite [Shape.rowMajor_val_two]
  have e0 : (((cfg0.win 1).blk t).view.emb (ix2 0 d) 0 : ℕ) = 0 := by blk_simp [idx t]; rfl
  have e1 : (((cfg0.win 1).blk t).view.emb (ix2 0 d) 1 : ℕ) = d := by blk_simp [idx t]
  rw [e0, e1]
  refine (Shape.rowMajor_val_one (d := ![4096]) (ix1 d)).trans ?_
  show (d : ℕ) = _
  omega

theorem weights (c : Dev nD) (t : Fin cfg0.N) (z : S4096x1024.Idx) (w : S4096x2048.Idx)
    (hw0 : (w 0 : ℕ) = z 0) (hw1 : (w 1 : ℕ) = t.val % 2 * 1024 + z 1) :
    iblk m c 2 t z = m ((c : Thread nD τ).loc main_arg1) w := by
  have e0 : (((cfg0.win 2).blk t).view.emb z 0 : ℕ) = z 0 := by blk_simp [idx t]
  have e1 : (((cfg0.win 2).blk t).view.emb z 1 : ℕ) = t.val % 2 * 1024 + z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

/-- The kept rows after a point are the normalised rows of that point's row block. -/
theorem kept_after (c : Dev nD) (n : ℕ) : ∀ (hn : n < cfg0.N),
    (outsAt0 m c n hn).2 = k0_pay1 (F := Ideal) (iblk m c 0 ⟨n, hn⟩) (iblk m c 1 ⟨n, hn⟩) := by
  induction n with
  | zero =>
    intro hn
    rw [outsAt0_A m c ⟨0, hn⟩ (Nat.zero_mod _)]
    frame_out
  | succ n ih =>
    intro hn
    by_cases h0 : (n + 1) % 2 = 0
    · rw [outsAt0_A m c ⟨n + 1, hn⟩ h0]
      frame_out
    · rw [outsAt0_B m c ⟨n + 1, hn⟩ h0]
      refine (ih (Nat.lt_of_succ_lt hn)).trans ?_
      funext y
      rw [kept, kept]
      refine normed_congr (fun d => ?_) (fun d => ?_) rfl
      · have hN : n + 1 < 128 := lt_of_lt_of_eq hn N_0
        have y0 : (y 0 : ℕ) < 512 := (y 0).isLt
        have e : n / 2 = (n + 1) / 2 := by omega
        refine (rows m c ⟨n, Nat.lt_of_succ_lt hn⟩ (ix2 (y 0) d) (ix2 ⟨n / 2 * 512 + y 0, by omega⟩ d) rfl rfl).trans
          (rows m c ⟨n + 1, hn⟩ (ix2 (y 0) d) (ix2 ⟨n / 2 * 512 + y 0, by omega⟩ d) ?_ rfl).symm
        show n / 2 * 512 + (y 0 : ℕ) = (n + 1) / 2 * 512 + (y 0 : ℕ)
        rw [e]
      · rw [gains, gains]

theorem residual (c : Dev nD) (t : Fin cfg0.N) (z : S512x1024.Idx) (w : S32768x2048.Idx)
    (hw0 : (w 0 : ℕ) = t.val / 2 * 512 + z 0) (hw1 : (w 1 : ℕ) = t.val % 2 * 1024 + z 1) :
    iblk m c 3 t z = m ((c : Thread nD τ).loc main_arg3) w := by
  have e0 : (((cfg0.win 3).blk t).view.emb z 0 : ℕ) = t.val / 2 * 512 + z 0 := by blk_simp [idx t]
  have e1 : (((cfg0.win 3).blk t).view.emb z 1 : ℕ) = t.val % 2 * 1024 + z 1 := by blk_simp [idx t]
  refine congrArg (m ((c : Thread nD τ).loc main_arg3)) (funext (Fin.forall_fin_two.mpr ⟨Fin.ext ?_, Fin.ext ?_⟩))
  · exact e0.trans hw0.symm
  · exact e1.trans hw1.symm

/-- The output block after a point is the product of the kept rows with that point's columns, into the residual stream. -/
theorem out_after (c : Dev nD) (t : Fin cfg0.N) :
    (outsAt0 m c t.val t.isLt).1 = k0_pay2 (F := Ideal) (outsAt0 m c t.val t.isLt).2 (iblk m c 2 t) (iblk m c 3 t) := by
  by_cases h0 : t.val % 2 = 0
  · rw [outsAt0_A m c t h0]
    frame_out
  · rw [outsAt0_B m c t h0]
    unfold sout0_B_0
    frame_out
    exact congrArg (k0_pay2 (F := Ideal) · (iblk m c 2 t) (iblk m c 3 t)) ((Memref.isWhole_whole cc0_scratch0).read_unread _)

/-- What point `t` stores is the reference's block. -/
theorem point (c : Dev nD) (t : Fin cfg0.N) (y : S512x1024.Idx) :
    (outsAt0 m c t.val t.isLt).1 y
      = val_main_v16 (F := Ideal) (m ((c : Thread nD τ).loc main_arg0)) (m ((c : Thread nD τ).loc main_arg1))
          (m ((c : Thread nD τ).loc main_arg2)) (m ((c : Thread nD τ).loc main_arg3)) (((cfg0.win 4).blk t).view.emb y) := by
  have e0 : (((cfg0.win 4).blk t).view.emb y 0 : ℕ) = t.val / 2 * 512 + y 0 := by blk_simp [idx t]
  have e1 : (((cfg0.win 4).blk t).view.emb y 1 : ℕ) = t.val % 2 * 1024 + y 1 := by blk_simp [idx t]
  rw [out_after, kept_after, product, ref_result, add_comm]
  refine congrArg₂ (· + ·) (residual m c t _ _ e0 e1) (Finset.sum_congr rfl fun d _ => ?_)
  rw [kept]
  refine congrArg₂ (· * ·) (normed_congr (fun d => ?_) (fun d => gains m c t d) rfl) ?_
  · exact rows m c t _ _ e0 rfl
  · exact weights m c t _ _ rfl e1

theorem final (c : Dev nD) :
    (dats m 0 c).arrAt 4 cfg0.N
      = val_main_v16 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Blocks

end Cert.SsdOutProduct

end
-- ==== Proof.MlstmReal.lean ====
module

public import Idealize.ShloMosaic.Lib.Pointwise

@[expose] public section

noncomputable section

namespace Cert.MlstmReal

open Finset

/-! # The mLSTM recurrence of one head, over the real numbers

A head reads its sequence from the end. At position `s` it holds a forget gate (its logarithm `f s`), an input gate
(its logarithm `i s`), a query, a key and a value; the matrix it carries shrinks by the forget gate and takes in
the key times the value. Column 256 and the columns after it take ones for the value: they hold the normaliser. -/

/-- The scale of the keys: the single-precision number nearest to one over the root of 128. -/
def keyScale : ℝ := 11863283 / 134217728

theorem keyScale_pos : 0 < keyScale := by unfold keyScale; norm_num

section Spec

variable (f i : ℕ → ℝ) (Q K : ℕ → Fin 128 → ℝ) (V : ℕ → ℕ → ℝ)

/-- What is left at position `t` of what came in at position `s`. -/
def weight (t s : ℕ) : ℝ := Real.exp (∑ r ∈ Ico t s, f r + i s)
/-- The matrix held once the positions from the end `S` back to `T` are read. -/
def state (S T : ℕ) (x : Fin 128) (j : ℕ) : ℝ := ∑ s ∈ Ico T S, weight f i T s * (keyScale * K s x * V s j)
/-- What the query at position `t` gets out of that matrix. -/
def seen (S t j : ℕ) : ℝ := ∑ s ∈ Ico t S, weight f i t s * ((∑ x, Q t x * K s x) * keyScale * V s j)
/-- The output: the values over the larger of the normaliser and one. -/
def output (S t j : ℕ) : ℝ := seen f i Q K V S t j / max |seen f i Q K V S t 256| 1

theorem seen_eq (S t j : ℕ) : seen f i Q K V S t j = ∑ x, Q t x * state f i K V S t x j := by
  unfold seen state
  simp only [mul_sum]
  rw [sum_comm]
  refine sum_congr rfl fun s _ => ?_
  rw [sum_mul, sum_mul, mul_sum]
  refine sum_congr rfl fun x _ => ?_
  ring

/-! ## One chunk of 128 positions, from `T` on -/

/-- The sum of the logarithms of the forget gates of the chunk from its position `l` on. -/
def tail (T l : ℕ) : ℝ := ∑ r : Fin 128, if l ≤ r.val then f (T + r.val) else 0

theorem chunk_sum (g : ℕ → ℝ) (T l : ℕ) : ∑ s ∈ Ico (T + l) (T + 128), g s = ∑ r ∈ range 128 with l ≤ r, g (T + r) := by
  rw [Nat.add_comm T l, Nat.add_comm T 128, ← sum_Ico_add]
  refine sum_congr ?_ fun _ _ => rfl
  ext a
  simp only [mem_filter, mem_range, mem_Ico]
  omega

theorem tail_eq (T l : ℕ) : tail f T l = ∑ s ∈ Ico (T + l) (T + 128), f s := by
  unfold tail
  rw [Fin.sum_univ_eq_sum_range (fun r => if l ≤ r then f (T + r) else 0) 128, ← sum_filter, chunk_sum]

theorem between (T l r : ℕ) (h : l ≤ r) (hr : r ≤ 128) : ∑ s ∈ Ico (T + l) (T + r), f s = tail f T l - tail f T r := by
  rw [tail_eq, tail_eq, ← sum_Ico_consecutive f (show T + l ≤ T + r by omega) (show T + r ≤ T + 128 by omega)]
  ring

theorem weight_near (T l r : ℕ) (h : l ≤ r) (hr : r ≤ 128) :
    weight f i (T + l) (T + r) = Real.exp (tail f T l + (i (T + r) - tail f T r)) := by
  unfold weight
  rw [between f T l r h hr]
  congr 1
  ring

theorem weight_far (T l s : ℕ) (h : l ≤ 128) (hs : T + 128 ≤ s) :
    weight f i (T + l) s = Real.exp (tail f T l) * weight f i (T + 128) s := by
  unfold weight
  rw [← Real.exp_add, tail_eq, ← sum_Ico_consecutive f (show T + l ≤ T + 128 by omega) hs]
  congr 1
  ring

theorem state_step (S T : ℕ) (hS : T + 128 ≤ S) (x : Fin 128) (j : ℕ) :
    state f i K V S T x j = Real.exp (tail f T 0) * state f i K V S (T + 128) x j
      + ∑ r : Fin 128, Real.exp (tail f T 0 + (i (T + r.val) - tail f T r.val)) * (keyScale * K (T + r.val) x * V (T + r.val) j) := by
  unfold state
  rw [← sum_Ico_consecutive _ (show T ≤ T + 128 by omega) hS, add_comm]
  congr 1
  · rw [mul_sum]
    refine sum_congr rfl fun s hs => ?_
    have e := weight_far f i T 0 s (by omega) (mem_Ico.mp hs).1
    rw [Nat.add_zero] at e
    rw [e, mul_assoc]
  · rw [Fin.sum_univ_eq_sum_range (fun r => Real.exp (tail f T 0 + (i (T + r) - tail f T r)) * (keyScale * K (T + r) x * V (T + r) j)) 128]
    rw [show Ico T (T + 128) = Ico (0 + T) (128 + T) by rw [Nat.zero_add, Nat.add_comm], ← sum_Ico_add', range_eq_Ico]
    refine sum_congr rfl fun r hr => ?_
    have e := weight_near f i T 0 r (Nat.zero_le _) (by have := (mem_Ico.mp hr).2; omega)
    rw [Nat.add_zero] at e
    rw [Nat.add_comm r T, e]

theorem seen_step (S T l : ℕ) (hl : l < 128) (hS : T + 128 ≤ S) (j : ℕ) :
    seen f i Q K V S (T + l) j
      = (∑ r : Fin 128, (if l ≤ r.val then Real.exp (tail f T l + (i (T + r.val) - tail f T r.val)) else 0)
          * ((∑ x, Q (T + l) x * K (T + r.val) x) * keyScale * V (T + r.val) j))
        + Real.exp (tail f T l) * ∑ x, Q (T + l) x * state f i K V S (T + 128) x j := by
  rw [seen_eq f i (fun _ => Q (T + l)) K V S (T + 128) j |>.symm]
  unfold seen
  rw [← sum_Ico_consecutive _ (show T + l ≤ T + 128 by omega) hS]
  congr 1
  · rw [Fin.sum_univ_eq_sum_range (fun r => (if l ≤ r then Real.exp (tail f T l + (i (T + r) - tail f T r)) else 0)
          * ((∑ x, Q (T + l) x * K (T + r) x) * keyScale * V (T + r) j)) 128]
    simp only [ite_mul, zero_mul]
    rw [← sum_filter, chunk_sum]
    refine sum_congr rfl fun r hr => ?_
    have h := mem_filter.mp hr
    have h' := mem_range.mp h.1
    rw [weight_near f i T l r h.2 (by omega)]
  · rw [mul_sum]
    refine sum_congr rfl fun s hs => ?_
    rw [weight_far f i T l s (by omega) (mem_Ico.mp hs).1, mul_assoc]

/-! ## The same with every exponent lowered by a stabiliser -/

theorem seen_stable (S T l : ℕ) (hl : l < 128) (hS : T + 128 ≤ S) (m μ : ℝ) (j : ℕ) :
    (∑ r : Fin 128, (if l ≤ r.val then Real.exp (tail f T l - m + Real.log keyScale + (i (T + r.val) - tail f T r.val)) else 0)
          * (∑ x, Q (T + l) x * K (T + r.val) x) * V (T + r.val) j)
        + Real.exp (tail f T l + μ - m) * ∑ x, Q (T + l) x * (Real.exp (-μ) * state f i K V S (T + 128) x j)
      = Real.exp (-m) * seen f i Q K V S (T + l) j := by
  rw [seen_step f i Q K V S T l hl hS, mul_add]
  refine congrArg₂ (· + ·) ?_ ?_
  · rw [mul_sum]
    refine sum_congr rfl fun r _ => ?_
    by_cases h : l ≤ r.val
    · rw [if_pos h, if_pos h]
      rw [show tail f T l - m + Real.log keyScale + (i (T + r.val) - tail f T r.val)
          = -m + (tail f T l + (i (T + r.val) - tail f T r.val)) + Real.log keyScale by ring, Real.exp_add,
        Real.exp_log keyScale_pos, Real.exp_add]
      ring
    · rw [if_neg h, if_neg h]
      ring
  · simp only [mul_sum]
    refine sum_congr rfl fun x _ => ?_
    have e : Real.exp (tail f T l + μ - m) * Real.exp (-μ) = Real.exp (-m) * Real.exp (tail f T l) := by
      rw [← Real.exp_add, ← Real.exp_add]
      congr 1
      ring
    calc _ = Real.exp (tail f T l + μ - m) * Real.exp (-μ) * (Q (T + l) x * state f i K V S (T + 128) x j) := by ring
      _ = _ := by rw [e]; ring

theorem state_stable (S T : ℕ) (hS : T + 128 ≤ S) (m μ a : ℝ) (x : Fin 128) (j : ℕ) :
    Real.exp (tail f T 0 + μ - m) * (Real.exp (-μ) * state f i K V S (T + 128) x j)
      + Real.exp (a - m) * ∑ r : Fin 128, K (T + r.val) x
          * (Real.exp (tail f T 0 + (i (T + r.val) - tail f T r.val) - a) * keyScale) * V (T + r.val) j
      = Real.exp (-m) * state f i K V S T x j := by
  rw [state_step f i K V S T hS, mul_add]
  congr 1
  · rw [← mul_assoc, ← mul_assoc, ← Real.exp_add, ← Real.exp_add]
    congr 2
    ring
  · rw [mul_sum, mul_sum]
    refine sum_congr rfl fun r _ => ?_
    have e : Real.exp (a - m) * Real.exp (tail f T 0 + (i (T + r.val) - tail f T r.val) - a)
        = Real.exp (-m) * Real.exp (tail f T 0 + (i (T + r.val) - tail f T r.val)) := by
      rw [← Real.exp_add, ← Real.exp_add]
      congr 1
      ring
    calc _ = Real.exp (a - m) * Real.exp (tail f T 0 + (i (T + r.val) - tail f T r.val) - a)
          * (keyScale * K (T + r.val) x * V (T + r.val) j) := by ring
      _ = _ := by rw [e]; ring

end Spec

theorem quotient (m a b : ℝ) :
    Real.exp (-m) * a * (1 / max |Real.exp (-m) * b| (Real.exp (-m))) = a / max |b| 1 := by
  have h : 0 < Real.exp (-m) := Real.exp_pos _
  rw [abs_mul, abs_of_pos h]
  have e : max (Real.exp (-m) * |b|) (Real.exp (-m)) = Real.exp (-m) * max |b| 1 := by
    rw [mul_max_of_nonneg _ _ h.le, mul_one]
  rw [e]
  have h1 : 0 < max |b| 1 := lt_max_of_lt_right one_pos
  field_simp

end Cert.MlstmReal

end
-- ==== Proof.MlstmNumber.lean ====
module

public import proofs.«01_k».proof.Proof.MlstmReal
public import Idealize.ShloMosaic.Lib.Pointwise
public import Idealize.ShloMosaic.Lib.Pipeline.ValueKit

@[expose] public section

noncomputable section

open Idealize.ShloMosaic

namespace Cert.MlstmNumber

open Cert.MlstmReal

/-! # Extended reals that are real numbers -/

/-- An extended real that is neither infinity. -/
def IsReal (x : EReal) : Prop := ∃ r : ℝ, x = (r : EReal)

theorem isReal_coe (r : ℝ) : IsReal (r : EReal) := ⟨r, rfl⟩

theorem isReal_add {x y : EReal} : IsReal x → IsReal y → IsReal (x + y)
  | ⟨a, ha⟩, ⟨b, hb⟩ => ⟨a + b, by rw [ha, hb, EReal.coe_add]⟩

theorem coe_max (a b : ℝ) : max (a : EReal) (b : EReal) = ((max a b : ℝ) : EReal) :=
  (EReal.coe_strictMono.monotone.map_max).symm

theorem isReal_max {x y : EReal} : IsReal x → IsReal y → IsReal (max x y)
  | ⟨a, ha⟩, ⟨b, hb⟩ => ⟨max a b, by rw [ha, hb, coe_max]⟩

/-- The maximum with a number that may be masked. -/
theorem isReal_max_masked {x y : EReal} (c : BitVec 1) (hx : IsReal x) (hy : IsReal y) : IsReal (max x (Scalar.select c y ⊥)) := by
  unfold Scalar.select
  split
  · exact isReal_max hx hy
  · rw [max_eq_left bot_le]
    exact hx

theorem isReal_fold {n : ℕ} [NeZero n] (g : Fin n → EReal) (h : ∀ k, ∃ r : ℝ, g k ≤ (r : EReal)) (h0 : ∃ k, IsReal (g k)) :
    IsReal (Finset.fold max ⊥ g Finset.univ) := by
  obtain ⟨k, r, hr⟩ := h0
  have h1 : g k ≤ Finset.fold max ⊥ g Finset.univ :=
    (Finset.le_fold_max _).mpr (Or.inr ⟨k, Finset.mem_univ _, le_rfl⟩)
  have h2 : Finset.fold max ⊥ g Finset.univ ≠ ⊤ := by
    refine ne_of_lt ((Finset.fold_max_lt _).mpr ⟨bot_lt_top, fun x _ => ?_⟩)
    obtain ⟨r, hr⟩ := h x
    exact lt_of_le_of_lt hr (EReal.coe_lt_top r)
  refine ⟨(Finset.fold max ⊥ g Finset.univ).toReal, (EReal.coe_toReal h2 ?_).symm⟩
  intro e
  rw [e, hr] at h1
  exact absurd (le_bot_iff.mp h1) (EReal.coe_ne_bot r)

theorem sum_coe {ι : Type} (s : Finset ι) (g : ι → ℝ) : ∑ k ∈ s, (g k : EReal) = ((∑ k ∈ s, g k : ℝ) : EReal) :=
  (map_sum (⟨⟨Real.toEReal, EReal.coe_zero⟩, EReal.coe_add⟩ : ℝ →+ EReal) g s).symm

theorem abs_coe (a : ℝ) : max (a : EReal) (-(a : EReal)) = ((|a| : ℝ) : EReal) := by
  rw [← EReal.coe_neg, coe_max]
  rfl

theorem div_coe_coe (a b : ℝ) (h : b ≠ 0) : Ideal.div (a : EReal) (b : EReal) = ((a * (1 / b) : ℝ) : EReal) := by
  rw [Ideal.div_coe h, ← EReal.coe_mul]

theorem one_coe : (1 : EReal) = ((1 : ℝ) : EReal) := rfl

theorem zero_coe : (0 : EReal) = ((0 : ℝ) : EReal) := rfl

theorem keyScale_bits : Ideal.ofBits FTy.f32 0x3DB504F3#32 = (keyScale : EReal) := by
  unfold keyScale
  simp [Ideal.ofBits, Ideal.ieee]
  norm_num
  rw [← EReal.coe_mul]
  norm_num

theorem bottom_bits : Ideal.ofBits FTy.f32 0xFF800000#32 = ⊥ := by
  simp [Ideal.ofBits, Ideal.ieee]

/-! ## The logarithm of the forget gate -/

/-- The logarithm of the sigmoid. -/
def logSigmoid (z : ℝ) : ℝ := -(max (-z) 0 + Real.log (1 + Real.exp (-|-z|)))

theorem logSigmoid_coe (z : ℝ) :
    0 - (max (0 - (z : EReal)) 0 + Ideal.log (1 + Ideal.exp (0 - max (0 - (z : EReal)) (-(0 - (z : EReal))))))
      = (logSigmoid z : EReal) := by
  have h : ¬ (1 + Real.exp (-|-z|) ≤ 0) := not_le.mpr (add_pos one_pos (Real.exp_pos _))
  have e : (0 : EReal) - (z : EReal) = ((-z : ℝ) : EReal) := by rw [zero_sub, EReal.coe_neg]
  have e' : ∀ x : ℝ, (0 : EReal) - (x : EReal) = ((-x : ℝ) : EReal) := fun x => by rw [zero_sub, EReal.coe_neg]
  rw [e, abs_coe, e', Ideal.exp_coe]
  rw [one_coe, ← EReal.coe_add, Ideal.log_coe, if_neg h, zero_coe, coe_max, ← EReal.coe_add, ← EReal.coe_sub]
  unfold logSigmoid
  rw [zero_sub]

end Cert.MlstmNumber

end
-- ==== Proof.MlstmGate.lean ====
module

public import proofs.«01_k».proof.Proof.Gen.KernelMlstmIdeal.Value
public import proofs.«01_k».proof.Proof.MlstmNumber
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MlstmGate

open Cert.KernelMlstmIdeal Cert.KernelMlstmIdeal.Gen
open Cert.MlstmReal Cert.MlstmNumber

/-! # The gates of one chunk of 128 positions

Lane `a` of the gate array holds the forget gates of a head, the lane eight before it the head's input gates.
The stabilisers only have to be real numbers: what they are does not matter to the result. -/

theorem mask_value : (Named.named (F := Ideal) (φ := .f32) κ "mask" 0xF149F2CA#32 : EReal) = ⊥ :=
  IdealRules.named_const.ideal_named_scalar _ _ _ _ rfl

theorem logScale_value : (Named.named (F := Ideal) (φ := .f32) κ "log_scale" 0xC01B43D5#32 : EReal) = ((Real.log keyScale : ℝ) : EReal) :=
  IdealRules.named_const.ideal_named_scalar _ _ _ _ rfl

theorem past_apply (l r : Fin 128) : k0_pay4 (ix2 l r) = if l.val ≤ r.val then 1#1 else 0#1 := by
  have h : ∀ l r : Fin 128, IntOp.cmpi .sle (BitVec.ofNat 32 l.val) (BitVec.ofNat 32 r.val) = if l.val ≤ r.val then 1#1 else 0#1 := by
    decide +kernel
  pointwise [k0_pay4]
  exact h l r

theorem past_number (l r : Fin 128) :
    FloatOps.sitofp (F := Ideal) FTy.f32 (BitVec.setWidth 32 (k0_pay4 (ix2 l r))) = ((if l.val ≤ r.val then 1 else 0 : ℝ) : EReal) := by
  rw [past_apply]
  split
  · show (((BitVec.setWidth 32 1#1).toInt : ℝ) : EReal) = _
    norm_num
  · show (((BitVec.setWidth 32 0#1).toInt : ℝ) : EReal) = _
    norm_num

section Lane

variable (G : Vec Ideal S128x128 .f32) (B : Vec Ideal S1x128 .f32) (a : Fin 128)
variable (f i : ℕ → ℝ) (T : ℕ) (z : Fin 128 → ℝ)

theorem forget (hz : ∀ r, G (ix2 r a) + B (ix2 0 a) = (z r : EReal)) (hf : ∀ r : Fin 128, f (T + r.val) = logSigmoid (z r)) (l : Fin 128) :
    k0_pay6 (F := Ideal) G B (ix2 l a) = (tail f T l.val : EReal) := by
  pointwise [k0_pay6, k0_pay5]
  unfold tail
  rw [← sum_coe]
  refine Finset.sum_congr rfl fun r _ => ?_
  rw [past_number, hz, Ideal.absf_def, logSigmoid_coe, ← EReal.coe_mul, hf]
  congr 1
  split
  · rw [one_mul]
  · rw [zero_mul]

theorem input (hz : ∀ r, G (ix2 r a) + B (ix2 0 a) = (z r : EReal)) (hf : ∀ r : Fin 128, f (T + r.val) = logSigmoid (z r))
    (a' : Fin 128) (ha : a'.val = (a.val + 128 - 8) % 128)
    (hi : ∀ r : Fin 128, G (ix2 r a') + B (ix2 0 a') = (i (T + r.val) : EReal)) (l : Fin 128) :
    k0_pay7 (F := Ideal) G B (ix2 l a) = ((i (T + l.val) - tail f T l.val : ℝ) : EReal) := by
  rw [EReal.coe_sub, ← hi, ← forget G B a f T z hz hf l]
  pointwise [k0_pay7, k0_pay5]
  refine congrArg (· - _) (congrArg₂ (· + ·) ?_ ?_)
  · exact congrArg (fun q => G (ix2 l q)) (Fin.ext ha.symm)
  · exact congrArg (fun q => B (ix2 0 q)) (Fin.ext ha.symm)

end Lane

/-! ## The running maximum -/

theorem masked_step (a : Fin 128) (v : FVec Ideal S128x128 .f32) (n : BitVec 32) (c : IVec S128x128 1)
    (hv : ∀ l : Fin 128, IsReal (v (ix2 l a))) (l : Fin 128) :
    IsReal (maximumf v (select c (dynamicRotate 0 n none v rotates_S128x128_d0)
      (broadcast S128x128 (Named.named (F := Ideal) κ "mask" 0xF149F2CA#32))) (ix2 l a)) := by
  pointwise
  rw [mask_value]
  exact isReal_max_masked _ (hv _) (hv _)

theorem stabiliser (a : Fin 128) (x y w : FVec Ideal S128x128 .f32) (n : IVec S128x128 32) (c : IVec S128x128 1)
    (hx : ∀ l, IsReal (x (ix2 l a))) (hy : ∀ l, IsReal (y (ix2 l a))) (hw : ∀ l, IsReal (w (ix2 l a))) (l : Fin 128) :
    IsReal (k0_pay11 (F := Ideal) x y w n (select c (dynamicRotate 0 127#32 none y rotates_S128x128_d0)
      (broadcast S128x128 (Named.named (F := Ideal) κ "mask" 0xF149F2CA#32))) (ix2 l a)) := by
  have s1 := masked_step a y 127#32 c hy
  have s2 := masked_step a _ 126#32 (cmpi .slt n (broadcast S128x128 126#32)) s1
  have s3 := masked_step a _ 124#32 (cmpi .slt n (broadcast S128x128 124#32)) s2
  have s4 := masked_step a _ 120#32 (cmpi .slt n (broadcast S128x128 120#32)) s3
  have s5 := masked_step a _ 112#32 (cmpi .slt n (broadcast S128x128 112#32)) s4
  have s6 := masked_step a _ 96#32 (cmpi .slt n (broadcast S128x128 96#32)) s5
  have s7 := masked_step a _ 64#32 (cmpi .slt n (broadcast S128x128 64#32)) s6
  exact isReal_max (hw l) (isReal_add (hx l) (s7 l))

/-- The largest exponent a position of the chunk brings to the state. -/
theorem largest (a : Fin 128) (x : FVec Ideal S128x128 .f32) (g : FVec Ideal S1x128 .f32)
    (hx : ∀ l, IsReal (x (ix2 l a))) (hg : IsReal (g (ix2 0 a))) : IsReal (k0_pay18 (F := Ideal) x g (ix2 0 a)) := by
  pointwise [k0_pay18, k0_pay17]
  rw [bottom_bits]
  refine isReal_fold _ (fun k => ?_) ⟨0, isReal_add hg (hx 0)⟩
  obtain ⟨r, hr⟩ := isReal_add hg (hx k)
  exact ⟨r, le_of_eq hr⟩

/-! ## All that a head reads of the gates -/

/-- The gate arrays of a chunk, as the kernel forms them, at the lane `a` of a head. -/
structure Lane (G : Vec Ideal S128x128 .f32) (B M : Vec Ideal S1x128 .f32) (a : Fin 128) (f i : ℕ → ℝ) (T : ℕ) (μ : ℝ)
    (m : Fin 128 → ℝ) (b μ' : ℝ) : Prop where
  near (l : Fin 128) : k0_pay14 (F := Ideal) (k0_pay12 (k0_pay6 G B) (k0_pay7 G B) (k0_pay9 G B M)
      (iota .tc S128x128 32 [0] iota_S128x128_d0_w32) (k0_pay10 G B)) k0_pay13 (ix2 l a)
    = ((tail f T l.val - m l + Real.log keyScale : ℝ) : EReal)
  fresh (r : Fin 128) : k0_pay20 (F := Ideal) (k0_pay7 G B) (ix2 a r) = ((i (T + r.val) - tail f T r.val : ℝ) : EReal)
  far (l : Fin 128) : k0_pay15 (F := Ideal) (k0_pay9 G B M) (k0_pay11 (k0_pay6 G B) (k0_pay7 G B) (k0_pay9 G B M)
      (iota .tc S128x128 32 [0] iota_S128x128_d0_w32) (k0_pay10 G B)) (ix2 l a) = ((Real.exp (tail f T l.val + μ - m l) : ℝ) : EReal)
  floor (l : Fin 128) : k0_pay16 (F := Ideal) (k0_pay11 (k0_pay6 G B) (k0_pay7 G B) (k0_pay9 G B M)
      (iota .tc S128x128 32 [0] iota_S128x128_d0_w32) (k0_pay10 G B)) (ix2 l a) = ((Real.exp (-(m l)) : ℝ) : EReal)
  share (r : Fin 128) : k0_pay19 (F := Ideal) (k0_pay7 G B) (k0_pay8 G B) (ix2 a r)
    = ((Real.exp (tail f T 0 + (i (T + r.val) - tail f T r.val) - b) * keyScale : ℝ) : EReal)
  old : k0_pay22 (F := Ideal) (k0_pay7 G B) M (k0_pay8 G B) (ix2 0 a) = ((Real.exp (tail f T 0 + μ - μ') : ℝ) : EReal)
  new : k0_pay23 (F := Ideal) (k0_pay7 G B) M (k0_pay8 G B) (ix2 0 a) = ((Real.exp (b - μ') : ℝ) : EReal)
  next : k0_pay24 (F := Ideal) (k0_pay7 G B) M (k0_pay8 G B) (ix2 0 a) = (μ' : EReal)

theorem lane (G : Vec Ideal S128x128 .f32) (B M : Vec Ideal S1x128 .f32) (a a' : Fin 128) (f i : ℕ → ℝ) (T : ℕ) (z : Fin 128 → ℝ) (μ : ℝ)
    (hz : ∀ r, G (ix2 r a) + B (ix2 0 a) = (z r : EReal)) (hf : ∀ r : Fin 128, f (T + r.val) = logSigmoid (z r))
    (ha : a'.val = (a.val + 128 - 8) % 128) (hi : ∀ r : Fin 128, G (ix2 r a') + B (ix2 0 a') = (i (T + r.val) : EReal))
    (hM : M (ix2 0 a) = (μ : EReal)) : ∃ m b μ', Lane G B M a f i T μ m b μ' := by
  have h6 := forget G B a f T z hz hf
  have h7 := input G B a f i T z hz hf a' ha hi
  have h8 : k0_pay8 (F := Ideal) G B (ix2 0 a) = (tail f T 0 : EReal) := by
    refine Eq.trans ?_ (h6 0)
    pointwise [k0_pay8]
  have h9 : ∀ l : Fin 128, k0_pay9 (F := Ideal) G B M (ix2 l a) = ((tail f T l.val + μ : ℝ) : EReal) := fun l => by
    rw [EReal.coe_add, ← h6 l, ← hM]
    pointwise [k0_pay9]
  have h11 := stabiliser a (k0_pay6 G B) (k0_pay7 G B) (k0_pay9 G B M) (iota .tc S128x128 32 [0] iota_S128x128_d0_w32)
    (cmpi .slt (iota .tc S128x128 32 [0] iota_S128x128_d0_w32) (broadcast S128x128 127#32))
    (fun l => ⟨_, h6 l⟩) (fun l => ⟨_, h7 l⟩) (fun l => ⟨_, h9 l⟩)
  choose m hm using h11
  replace hm : ∀ l : Fin 128, k0_pay11 (F := Ideal) (k0_pay6 G B) (k0_pay7 G B) (k0_pay9 G B M)
      (iota .tc S128x128 32 [0] iota_S128x128_d0_w32) (k0_pay10 G B) (ix2 l a) = (m l : EReal) := hm
  obtain ⟨b, hb⟩ := largest a (k0_pay7 G B) (k0_pay8 G B) (fun l => ⟨_, h7 l⟩) ⟨_, h8⟩
  have h21 : k0_pay21 (F := Ideal) (k0_pay7 G B) M (k0_pay8 G B) (ix2 0 a) = ((max (tail f T 0 + μ) b : ℝ) : EReal) := by
    rw [← coe_max, EReal.coe_add, ← hb, ← h8, ← hM]
    pointwise [k0_pay21]
  refine ⟨m, b, max (tail f T 0 + μ) b, ?_, ?_, ?_, ?_, ?_, ?_, ?_, ?_⟩
  · intro l
    rw [EReal.coe_add, EReal.coe_sub, ← h6 l, ← hm l, ← logScale_value]
    pointwise [k0_pay14, k0_pay12, k0_pay13]
  · intro r
    rw [← h7 r]
    pointwise [k0_pay20]
  · intro l
    rw [← Ideal.exp_coe, EReal.coe_sub, ← h9 l, ← hm l]
    pointwise [k0_pay15]
  · intro l
    rw [← Ideal.exp_coe, EReal.coe_neg, ← hm l]
    pointwise [k0_pay16]
    rw [zero_sub]
  · intro r
    rw [EReal.coe_mul, ← Ideal.exp_coe, EReal.coe_sub, EReal.coe_add, ← hb, ← h8, ← h7 r, ← keyScale_bits]
    pointwise [k0_pay19, k0_pay17]
  · rw [← Ideal.exp_coe, EReal.coe_sub, ← h21, EReal.coe_add, ← h8, ← hM]
    pointwise [k0_pay22]
  · rw [← Ideal.exp_coe, EReal.coe_sub, ← h21, ← hb]
    pointwise [k0_pay23]
  · rw [← h21]
    pointwise [k0_pay24]

end Cert.MlstmGate

end
-- ==== Proof.MlstmHead.lean ====
module

public import proofs.«01_k».proof.Proof.Gen.KernelMlstmIdeal.Value
public import proofs.«01_k».proof.Proof.MlstmGate
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MlstmHead

open Cert.KernelMlstmIdeal Cert.KernelMlstmIdeal.Gen
open Cert.MlstmNumber

/-! # One head of one chunk of 128 tokens of the mLSTM recurrence

The gates of the eight heads lie in lanes 24 to 31; the head in lane `o` reads column `o` of the gate arrays.
Both blocks below are stated over `o`, so that one reading serves the eight heads. -/

/-- Column `o` of a gate array, in every lane. -/
def column (o : ℕ) (ho : S128x128.Slices ![0, o] S128x1) (x : FVec Ideal S128x128 .f32) : FVec Ideal S128x128 .f32 :=
  broadcastTo S128x128 (shapeCast S128x1 (extractStridedSlice S128x1 ![0, o] x ho) shapeCasts_S128x1_S128x1) broadcasts_S128x1_S128x128

/-- The values of a head, with 128 lanes of ones behind them. -/
def extended (v : Vec Ideal S128x256 .bf16) : FVec Ideal S128x384 .bf16 :=
  concatenate S128x384 1 [⟨S128x256, v⟩, ⟨S128x128, k0_pay25⟩] concatenates_S128x256_S128x128_S128x384_d1

/-- The decayed products of the queries and the keys of the chunk. -/
def decayed (o : ℕ) (ho : S128x128.Slices ![0, o] S128x1) (hu : S128x128.Slices ![o, 0] S1x128)
    (past : IVec S128x128 1) (cv u : FVec Ideal S128x128 .f32) (q k : Vec Ideal S128x128 .bf16) : FVec Ideal S128x128 .f32 :=
  mulf (exp (select past (addf (column o ho cv) (broadcastTo S128x128 (extractStridedSlice S1x128 ![o, 0] u hu) broadcasts_S1x128_S128x128))
      (broadcast S128x128 (Named.named κ "mask" 0xF149F2CA#32))))
    (matmul (φ₁ := .bf16) (φ₂ := .bf16) dot_S128x128_S128x128_S128x128_1_1_0_0_n_n none q k (constant S128x128 .f32 0x00000000#32))

/-- The values seen in the chunk and in the state before it; lanes 256 to 383 hold the normaliser. -/
def mixed (o : ℕ) (ho : S128x128.Slices ![0, o] S128x1) (S : FVec Ideal S128x128 .f32)
    (it : FVec Ideal S128x128 .f32) (q : Vec Ideal S128x128 .bf16) (v : Vec Ideal S128x256 .bf16) (st : Vec Ideal S1x128x384 .f32) :
    FVec Ideal S128x384 .f32 :=
  addf (matmul dot_S128x128_S128x384_S128x384_1_0_0_1_n_n none (truncf .bf16 S bitsLt_bf16_f32) (extended v) (constant S128x384 .f32 0x00000000#32))
    (mulf (concatenate S128x384 1 [⟨S128x128, column o ho it⟩, ⟨S128x128, column o ho it⟩, ⟨S128x128, column o ho it⟩]
        concatenates_S128x128_S128x128_S128x128_S128x384_d1)
      (matmul (φ₁ := .bf16) (φ₂ := .bf16) dot_S128x128_S128x384_S128x384_1_0_0_1_n_n none q
        (truncf .bf16 (shapeCast S128x384 st shapeCasts_S1x128x384_S128x384) bitsLt_bf16_f32) (constant S128x384 .f32 0x00000000#32)))

/-- The values over the larger of the normaliser and the floor. -/
def divided (o : ℕ) (ho : S128x128.Slices ![0, o] S128x1) (acc : FVec Ideal S128x384 .f32) (fl : FVec Ideal S128x128 .f32) :
    FVec Ideal S128x256 .f32 :=
  have over : FVec Ideal S128x128 .f32 :=
    divf (broadcast S128x128 (Scalar.ofBits .f32 0x3F800000#32))
      (maximumf (absf (extractStridedSlice S128x128 ![0, 256] acc slices_S128x384_o0_256_S128x128)) (column o ho fl))
  mulf (extractStridedSlice S128x256 ![0, 0] acc slices_S128x384_o0_0_S128x256)
    (concatenate S128x256 1 [⟨S128x128, over⟩, ⟨S128x128, over⟩] concatenates_S128x128_S128x128_S128x256_d1)

/-- What the head in lane `o` writes. -/
def written (o : ℕ) (ho : S128x128.Slices ![0, o] S128x1) (hu : S128x128.Slices ![o, 0] S1x128)
    (past : IVec S128x128 1) (cv it fl u : FVec Ideal S128x128 .f32) (q k : Vec Ideal S128x128 .bf16)
    (v : Vec Ideal S128x256 .bf16) (st : Vec Ideal S1x128x384 .f32) : FVec Ideal S128x256 .f32 :=
  divided o ho (mixed o ho (decayed o ho hu past cv u q k) it q v st) fl

/-- The state of the head in lane `o` after the chunk. -/
def kept (o : ℕ) (hw : S128x128.Slices ![o, 0] S1x128) (hs : S1x128.Slices ![0, o] S1x1)
    (w : FVec Ideal S128x128 .f32) (so sn : FVec Ideal S1x128 .f32) (k : Vec Ideal S128x128 .bf16)
    (v : Vec Ideal S128x256 .bf16) (st : Vec Ideal S1x128x384 .f32) : FVec Ideal S1x128x384 .f32 :=
  have vx : FVec Ideal S128x384 .bf16 :=
    concatenate S128x384 1 [⟨S128x256, v⟩, ⟨S128x128, k0_pay25⟩] concatenates_S128x256_S128x128_S128x384_d1
  have keys : FVec Ideal S128x128 .bf16 :=
    truncf .bf16 (mulf (transpose S128x128 [1, 0] (extf .f32 k bitsLt_bf16_f32) transposes_S128x128_p1_0_S128x128)
      (broadcastTo S128x128 (extractStridedSlice S1x128 ![o, 0] w hw) broadcasts_S1x128_S128x128)) bitsLt_bf16_f32
  shapeCast S1x128x384
    (addf (mulf (broadcastTo S128x384 (extractStridedSlice S1x1 ![0, o] so hs) broadcasts_S1x1_S128x384)
        (shapeCast S128x384 st shapeCasts_S1x128x384_S128x384))
      (mulf (broadcastTo S128x384 (extractStridedSlice S1x1 ![0, o] sn hs) broadcasts_S1x1_S128x384)
        (matmul dot_S128x128_S128x384_S128x384_1_0_0_1_n_n none keys vx (constant S128x384 .f32 0x00000000#32))))
    shapeCasts_S128x384_S1x128x384

theorem decayed_apply (o : Fin 128) (ho hu) (past : IVec S128x128 1) (cv u : FVec Ideal S128x128 .f32) (q k : Vec Ideal S128x128 .bf16)
    (l r : Fin 128) :
    decayed o ho hu past cv u q k (ix2 l r) = Ideal.exp (Scalar.select (past (ix2 l r)) (cv (ix2 l o) + u (ix2 o r))
      (Named.named (F := Ideal) (φ := .f32) κ "mask" 0xF149F2CA#32)) * ∑ x : Fin 128, q (ix2 l x) * k (ix2 r x) := by
  pointwise [decayed, column]

theorem mixed_apply (o : Fin 128) (ho) (S it : FVec Ideal S128x128 .f32) (q : Vec Ideal S128x128 .bf16)
    (v : Vec Ideal S128x256 .bf16) (st : Vec Ideal S1x128x384 .f32) (l : Fin 128) (j : Fin 384) :
    mixed o ho S it q v st (ix2 l j) = (∑ x : Fin 128, S (ix2 l x) * (if h : j.val < 256 then v (ix2 x ⟨j.val, h⟩) else (1 : EReal)))
      + it (ix2 l o) * ∑ x : Fin 128, q (ix2 l x) * st (ix3 0 x j) := by
  pointwise [mixed, column, extended, k0_pay25]
  refine congrArg (_ + ·) (congrArg (· * _) ?_)
  split_ifs <;> rfl

theorem divided_apply (o : Fin 128) (ho) (acc : FVec Ideal S128x384 .f32) (fl : FVec Ideal S128x128 .f32) (l : Fin 128) (j : Fin 256) :
    ∃ n : Fin 384, 256 ≤ n.val ∧ divided o ho acc fl (ix2 l j) = acc (ix2 l ⟨j.val, by omega⟩)
      * Ideal.div 1 (max (FloatOps.absf (F := Ideal) (φ := .f32) (acc (ix2 l n))) (fl (ix2 l o))) := by
  by_cases h : j.val < 128
  · refine ⟨⟨256 + j.val, by omega⟩, by simp, ?_⟩
    pointwise [divided, column]
    rw [dif_pos h]
  · refine ⟨⟨256 + (j.val - 128), by omega⟩, by simp, ?_⟩
    pointwise [divided, column]
    rw [dif_neg h]

theorem kept_apply (o : Fin 128) (hw hs) (w : FVec Ideal S128x128 .f32) (so sn : FVec Ideal S1x128 .f32) (k : Vec Ideal S128x128 .bf16)
    (v : Vec Ideal S128x256 .bf16) (st : Vec Ideal S1x128x384 .f32) (a : Fin 128) (j : Fin 384) :
    kept o hw hs w so sn k v st (ix3 0 a j) = so (ix2 0 o) * st (ix3 0 a j) + sn (ix2 0 o) * ∑ x : Fin 128, k (ix2 x a) * w (ix2 o x)
      * (if h : j.val < 256 then v (ix2 x ⟨j.val, h⟩) else (1 : EReal)) := by
  pointwise [kept, k0_pay25]

/-! ## The same over the real numbers -/

theorem extended_real {V : ℕ → ℝ} {v : Fin 256 → EReal} (hv : ∀ j : Fin 256, v j = (V j.val : EReal)) (hone : ∀ j, 256 ≤ j → V j = 1)
    (j : Fin 384) : (if h : j.val < 256 then v ⟨j.val, h⟩ else (1 : EReal)) = (V j.val : EReal) := by
  split
  · exact hv _
  · rw [hone _ (by omega), EReal.coe_one]

theorem written_real (o : Fin 128) (ho hu) (past : IVec S128x128 1) (cv it fl u : FVec Ideal S128x128 .f32) (q k : Vec Ideal S128x128 .bf16)
    (v : Vec Ideal S128x256 .bf16) (st : Vec Ideal S1x128x384 .f32) (l : Fin 128)
    (c i₀ f₀ : ℝ) (w Q : Fin 128 → ℝ) (K : Fin 128 → Fin 128 → ℝ) (V : Fin 128 → ℕ → ℝ) (C : Fin 128 → ℕ → ℝ)
    (hp : ∀ r : Fin 128, past (ix2 l r) = if l.val ≤ r.val then 1#1 else 0#1)
    (hc : cv (ix2 l o) = (c : EReal)) (hw : ∀ r, u (ix2 o r) = (w r : EReal))
    (hi : it (ix2 l o) = (i₀ : EReal)) (hf : fl (ix2 l o) = (f₀ : EReal)) (hpos : 0 < f₀)
    (hq : ∀ x, q (ix2 l x) = (Q x : EReal)) (hk : ∀ r x, k (ix2 r x) = (K r x : EReal))
    (hv : ∀ r (j : Fin 256), v (ix2 r j) = (V r j.val : EReal)) (hone : ∀ r j, 256 ≤ j → V r j = 1)
    (hst : ∀ x (j : Fin 384), st (ix3 0 x j) = (C x j.val : EReal)) (hC : ∀ x j, 256 ≤ j → C x j = C x 256) (j : Fin 256) :
    written o ho hu past cv it fl u q k v st (ix2 l j)
      = (((∑ r : Fin 128, (if l.val ≤ r.val then Real.exp (c + w r) else 0) * (∑ x, Q x * K r x) * V r j.val) + i₀ * ∑ x, Q x * C x j.val)
        * (1 / max |(∑ r : Fin 128, (if l.val ≤ r.val then Real.exp (c + w r) else 0) * (∑ x, Q x * K r x) * V r 256) + i₀ * ∑ x, Q x * C x 256| f₀)
        : ℝ) := by
  have hS : ∀ r, decayed o ho hu past cv u q k (ix2 l r)
      = (((if l.val ≤ r.val then Real.exp (c + w r) else 0) * ∑ x, Q x * K r x : ℝ) : EReal) := fun r => by
    rw [decayed_apply, hp, hc, hw, MlstmGate.mask_value, EReal.coe_mul, ← sum_coe]
    refine congrArg₂ (· * ·) ?_ (Finset.sum_congr rfl fun x _ => by rw [hq, hk, EReal.coe_mul])
    split
    · rw [← Ideal.exp_coe, EReal.coe_add]; rfl
    · rfl
  have hN : ∀ n : Fin 384, mixed o ho (decayed o ho hu past cv u q k) it q v st (ix2 l n)
      = (((∑ r : Fin 128, (if l.val ≤ r.val then Real.exp (c + w r) else 0) * (∑ x, Q x * K r x) * V r n.val)
        + i₀ * ∑ x, Q x * C x n.val : ℝ) : EReal) := fun n => by
    rw [mixed_apply, hi, EReal.coe_add, EReal.coe_mul, ← sum_coe, ← sum_coe]
    refine congrArg₂ (· + ·) (Finset.sum_congr rfl fun r _ => ?_) (congrArg (_ * ·) (Finset.sum_congr rfl fun x _ => ?_))
    · rw [hS, extended_real (hv r) (hone r), ← EReal.coe_mul]
    · rw [hq, hst, EReal.coe_mul]
  obtain ⟨n, hn, e⟩ := divided_apply o ho (mixed o ho (decayed o ho hu past cv u q k) it q v st) fl l j
  refine e.trans ?_
  rw [hN, hN, hf, Ideal.absf_def, abs_coe, coe_max, ← EReal.coe_one, div_coe_coe _ _ (lt_of_lt_of_le hpos (le_max_right _ _)).ne', ← EReal.coe_mul]
  simp only [hone _ _ hn, hC _ _ hn, hone _ 256 le_rfl, one_mul]

theorem kept_real (o : Fin 128) (hw hs) (w : FVec Ideal S128x128 .f32) (so sn : FVec Ideal S1x128 .f32) (k : Vec Ideal S128x128 .bf16)
    (v : Vec Ideal S128x256 .bf16) (st : Vec Ideal S1x128x384 .f32)
    (s n : ℝ) (W : Fin 128 → ℝ) (K : Fin 128 → Fin 128 → ℝ) (V : Fin 128 → ℕ → ℝ) (C : Fin 128 → ℕ → ℝ)
    (hW : ∀ r, w (ix2 o r) = (W r : EReal)) (hso : so (ix2 0 o) = (s : EReal)) (hsn : sn (ix2 0 o) = (n : EReal))
    (hk : ∀ r x, k (ix2 r x) = (K r x : EReal))
    (hv : ∀ r (j : Fin 256), v (ix2 r j) = (V r j.val : EReal)) (hone : ∀ r j, 256 ≤ j → V r j = 1)
    (hst : ∀ x (j : Fin 384), st (ix3 0 x j) = (C x j.val : EReal)) (a : Fin 128) (j : Fin 384) :
    kept o hw hs w so sn k v st (ix3 0 a j) = ((s * C a j.val + n * ∑ r : Fin 128, K r a * W r * V r j.val : ℝ) : EReal) := by
  rw [kept_apply, hso, hst, hsn, EReal.coe_add, EReal.coe_mul, EReal.coe_mul, ← sum_coe]
  refine congrArg (_ + _ * ·) (Finset.sum_congr rfl fun r _ => ?_)
  rw [hk, hW, extended_real (hv r) (hone r), EReal.coe_mul, EReal.coe_mul]

end Cert.MlstmHead

end
-- ==== Proof.MlstmInput.lean ====
module

public import proofs.«01_k».proof.Proof.MlstmReal
public import proofs.«01_k».proof.Proof.MlstmNumber

@[expose] public section

noncomputable section

namespace Cert.MlstmInput

open Cert.MlstmReal Cert.MlstmNumber

/-! # What the mLSTM recurrence reads, as real numbers

`P` holds queries, keys and values of the 2 × 16384 tokens, `G` the gates before their bias `B`. -/

variable (P : Fin 32768 → Fin 6144 → EReal) (G : Fin 32768 → Fin 128 → EReal) (B : Fin 128 → EReal)

/-- The row of the token at position `s` of sequence `b`. -/
def place (b : Fin 2) (s : ℕ) : Fin 32768 := ⟨(b.val * 16384 + s) % 32768, Nat.mod_lt _ (by norm_num)⟩

def query (b : Fin 2) (h : Fin 8) (s : ℕ) (x : Fin 128) : ℝ := (P (place b s) ⟨h.val * 128 + x.val, by omega⟩).toReal
def key (b : Fin 2) (h : Fin 8) (s : ℕ) (x : Fin 128) : ℝ := (P (place b s) ⟨1024 + (h.val * 128 + x.val), by omega⟩).toReal
/-- The values of a head, and a one from entry 256 on, which makes the normaliser another entry of the same sum. -/
def value (b : Fin 2) (h : Fin 8) (s j : ℕ) : ℝ :=
  if hj : j < 256 then (P (place b s) ⟨2048 + (h.val * 256 + j), by omega⟩).toReal else 1
/-- The logarithm of the forget gate. -/
def forget (b : Fin 2) (h : Fin 8) (s : ℕ) : ℝ :=
  logSigmoid ((G (place b s) ⟨24 + h.val, by omega⟩).toReal + (B ⟨24 + h.val, by omega⟩).toReal)
/-- The logarithm of the input gate. -/
def input (b : Fin 2) (h : Fin 8) (s : ℕ) : ℝ :=
  (G (place b s) ⟨16 + h.val, by omega⟩).toReal + (B ⟨16 + h.val, by omega⟩).toReal

/-- Entry `j` of what head `h` gives for the token at position `s` of sequence `b`. -/
def answer (b : Fin 2) (h : Fin 8) (s j : ℕ) : ℝ :=
  output (forget G B b h) (input G B b h) (query P b h) (key P b h) (value P b h) 16384 s j

/-- The matrix that head `h` holds once the positions from the last one back to `T` are read. -/
def held (b : Fin 2) (h : Fin 8) (T : ℕ) (x : Fin 128) (j : ℕ) : ℝ :=
  state (forget G B b h) (input G B b h) (key P b h) (value P b h) 16384 T x j

theorem value_one (b : Fin 2) (h : Fin 8) (s j : ℕ) (hj : 256 ≤ j) : value P b h s j = 1 := dif_neg (by omega)

theorem held_one (b : Fin 2) (h : Fin 8) (T : ℕ) (x : Fin 128) (j : ℕ) (hj : 256 ≤ j) :
    held P G B b h T x j = held P G B b h T x 256 := by
  unfold held state
  exact Finset.sum_congr rfl fun s _ => by rw [value_one P b h s j hj, value_one P b h s 256 le_rfl]

theorem held_end (b : Fin 2) (h : Fin 8) (x : Fin 128) (j : ℕ) : held P G B b h 16384 x j = 0 := by
  unfold held state
  rw [Finset.Ico_self, Finset.sum_empty]

theorem coe_toReal {x : EReal} : IsReal x → ((x.toReal : ℝ) : EReal) = x
  | ⟨r, hr⟩ => by rw [hr]; rfl

end Cert.MlstmInput

end
-- ==== Proof.MlstmChunk.lean ====
module

public import proofs.«01_k».proof.Proof.MlstmHead
public import proofs.«01_k».proof.Proof.MlstmInput
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MlstmChunk

open Cert.KernelMlstmIdeal Cert.KernelMlstmIdeal.Gen
open Cert.MlstmReal Cert.MlstmNumber Cert.MlstmInput Cert.MlstmHead

/-! # One chunk of the mLSTM recurrence: its eight heads -/

/-- The lane of the gate arrays that head `h` reads. -/
def lane (h : Fin 8) : Fin 128 := ⟨24 + h.val, by omega⟩

theorem column_in (h : Fin 8) : S128x128.Slices ![0, (lane h).val] S128x1 := by revert h; decide
theorem row_in (h : Fin 8) : S128x128.Slices ![(lane h).val, 0] S1x128 := by revert h; decide
theorem entry_in (h : Fin 8) : S1x128.Slices ![0, (lane h).val] S1x1 := by revert h; decide

theorem keys_in (h : Fin 8) : ∀ a, (![0, 128 * h.val] : Fin 2 → ℕ) a + S128x128.size a ≤ S128x1024.size a := by revert h; decide
theorem values_in (h : Fin 8) : ∀ a, (![0, 256 * h.val] : Fin 2 → ℕ) a + S128x256.size a ≤ S128x2048.size a := by revert h; decide
theorem matrix_in (h : Fin 8) : ∀ a, (![h.val, 0, 0] : Fin 3 → ℕ) a + S1x128x384.size a ≤ S8x128x384.size a := by revert h; decide

section Pieces

variable (x0 x1 : Vec Ideal S128x1024 .bf16) (x2 : Vec Ideal S128x2048 .bf16) (x3 : Vec Ideal S128x128 .f32) (x4 : Vec Ideal S1x128 .f32)
variable (st : Vec Ideal S8x128x384 .f32) (M : Vec Ideal S1x128 .f32)

/-- The stabilisers of the chunk. -/
def top : FVec Ideal S128x128 .f32 :=
  k0_pay11 (k0_pay6 x3 x4) (k0_pay7 x3 x4) (k0_pay9 x3 x4 M) (iota .tc S128x128 32 [0] iota_S128x128_d0_w32) (k0_pay10 x3 x4)

/-- What the chunk stores to the result for head `h`. -/
def outPiece (h : Fin 8) : View.Piece (Elt Ideal) S128x2048 .f32 :=
  ⟨Rect.unit ![0, 256 * h.val] S128x256.size (values_in h),
    written (lane h).val (column_in h) (row_in h) k0_pay4
      (k0_pay14 (k0_pay12 (k0_pay6 x3 x4) (k0_pay7 x3 x4) (k0_pay9 x3 x4 M) (iota .tc S128x128 32 [0] iota_S128x128_d0_w32) (k0_pay10 x3 x4)) k0_pay13)
      (k0_pay15 (k0_pay9 x3 x4 M) (top x3 x4 M)) (k0_pay16 (top x3 x4 M)) (k0_pay20 (k0_pay7 x3 x4))
      (View.ld x0 (Rect.unit ![0, 128 * h.val] S128x128.size (keys_in h))) (View.ld x1 (Rect.unit ![0, 128 * h.val] S128x128.size (keys_in h)))
      (View.ld x2 (Rect.unit ![0, 256 * h.val] S128x256.size (values_in h))) (View.ld st (Rect.unit ![h.val, 0, 0] S1x128x384.size (matrix_in h)))⟩

/-- What the chunk stores to the carried matrices for head `h`. -/
def statePiece (h : Fin 8) : View.Piece (Elt Ideal) S8x128x384 .f32 :=
  ⟨Rect.unit ![h.val, 0, 0] S1x128x384.size (matrix_in h),
    kept (lane h).val (row_in h) (entry_in h) (k0_pay19 (k0_pay7 x3 x4) (k0_pay8 x3 x4))
      (k0_pay22 (k0_pay7 x3 x4) M (k0_pay8 x3 x4)) (k0_pay23 (k0_pay7 x3 x4) M (k0_pay8 x3 x4))
      (View.ld x1 (Rect.unit ![0, 128 * h.val] S128x128.size (keys_in h)))
      (View.ld x2 (Rect.unit ![0, 256 * h.val] S128x256.size (values_in h))) (View.ld st (Rect.unit ![h.val, 0, 0] S1x128x384.size (matrix_in h)))⟩

def outList : List (View.Piece (Elt Ideal) S128x2048 .f32) :=
  [outPiece x0 x1 x2 x3 x4 st M 7, outPiece x0 x1 x2 x3 x4 st M 6, outPiece x0 x1 x2 x3 x4 st M 5, outPiece x0 x1 x2 x3 x4 st M 4,
    outPiece x0 x1 x2 x3 x4 st M 3, outPiece x0 x1 x2 x3 x4 st M 2, outPiece x0 x1 x2 x3 x4 st M 1, outPiece x0 x1 x2 x3 x4 st M 0]

def stateList : List (View.Piece (Elt Ideal) S8x128x384 .f32) :=
  [statePiece x1 x2 x3 x4 st M 7, statePiece x1 x2 x3 x4 st M 6, statePiece x1 x2 x3 x4 st M 5, statePiece x1 x2 x3 x4 st M 4,
    statePiece x1 x2 x3 x4 st M 3, statePiece x1 x2 x3 x4 st M 2, statePiece x1 x2 x3 x4 st M 1, statePiece x1 x2 x3 x4 st M 0]

theorem out_cover (y : S128x2048.Idx) : ∃ p ∈ outList x0 x1 x2 x3 x4 st M, y ∈ p.1.set :=
  View.cover_of_tiledL (outList x0 x1 x2 x3 x4 st M) S128x256.size (by sl_kernel_rfl) y

theorem state_cover (y : S8x128x384.Idx) : ∃ p ∈ stateList x1 x2 x3 x4 st M, y ∈ p.1.set :=
  View.cover_of_tiledL (stateList x1 x2 x3 x4 st M) S1x128x384.size (by sl_kernel_rfl) y

end Pieces

/-! ## Over the real numbers -/

variable (P : Fin 32768 → Fin 6144 → EReal) (G : Fin 32768 → Fin 128 → EReal) (B : Fin 128 → EReal)

/-- The blocks of a chunk hold the 128 positions from `T` on of sequence `b`. -/
structure Block (b : Fin 2) (T : ℕ) (x0 x1 : Vec Ideal S128x1024 .bf16) (x2 : Vec Ideal S128x2048 .bf16) (x3 : Vec Ideal S128x128 .f32)
    (x4 : Vec Ideal S1x128 .f32) : Prop where
  q (h : Fin 8) (l x : Fin 128) : x0 (ix2 l ⟨128 * h.val + x.val, by omega⟩) = (query P b h (T + l.val) x : EReal)
  k (h : Fin 8) (l x : Fin 128) : x1 (ix2 l ⟨128 * h.val + x.val, by omega⟩) = (key P b h (T + l.val) x : EReal)
  v (h : Fin 8) (l : Fin 128) (j : Fin 256) : x2 (ix2 l ⟨256 * h.val + j.val, by omega⟩) = (value P b h (T + l.val) j.val : EReal)
  forget (h : Fin 8) (l : Fin 128) : ∃ z : ℝ, x3 (ix2 l (lane h)) + x4 (ix2 0 (lane h)) = (z : EReal) ∧ forget G B b h (T + l.val) = logSigmoid z
  input (h : Fin 8) (l : Fin 128) : x3 (ix2 l ⟨16 + h.val, by omega⟩) + x4 (ix2 0 ⟨16 + h.val, by omega⟩) = (input G B b h (T + l.val) : EReal)

/-- The carried matrices hold, up to a factor that the carried exponents say, what the positions from `T` on leave. -/
def Carried (b : Fin 2) (T : ℕ) (st : Vec Ideal S8x128x384 .f32) (M : Vec Ideal S1x128 .f32) : Prop :=
  ∀ h : Fin 8, ∃ μ : ℝ, M (ix2 0 (lane h)) = (μ : EReal)
    ∧ ∀ (x : Fin 128) (j : Fin 384), st (ix3 h x j) = ((Real.exp (-μ) * held P G B b h T x j.val : ℝ) : EReal)

section Chunk

variable {P G B}
variable {b : Fin 2} {T : ℕ} {x0 x1 : Vec Ideal S128x1024 .bf16} {x2 : Vec Ideal S128x2048 .bf16} {x3 : Vec Ideal S128x128 .f32}
variable {x4 : Vec Ideal S1x128 .f32} {st : Vec Ideal S8x128x384 .f32} {M : Vec Ideal S1x128 .f32}

theorem Block.lane (H : Block P G B b T x0 x1 x2 x3 x4) (h : Fin 8) (μ : ℝ) (hM : M (ix2 0 (lane h)) = (μ : EReal)) :
    ∃ m b' μ', MlstmGate.Lane x3 x4 M (MlstmChunk.lane h) (MlstmInput.forget G B b h) (MlstmInput.input G B b h) T μ m b' μ' := by
  choose z hz hf using H.forget h
  exact MlstmGate.lane x3 x4 M (MlstmChunk.lane h) ⟨16 + h.val, by omega⟩ _ _ T z μ hz hf
    (by show 16 + h.val = (24 + h.val + 128 - 8) % 128; omega) (H.input h) hM

theorem Block.queries (H : Block P G B b T x0 x1 x2 x3 x4) (h : Fin 8) (l x : Fin 128) :
    View.ld x0 (Rect.unit ![0, 128 * h.val] S128x128.size (keys_in h)) (ix2 l x) = (query P b h (T + l.val) x : EReal) :=
  (View.ld_unit_apply_of x0 _ _ _ _ (ix2 l ⟨128 * h.val + x.val, by omega⟩)
    (Fin.forall_fin_two.mpr ⟨(Nat.zero_add _).symm, rfl⟩)).trans (H.q h l x)

theorem Block.keys (H : Block P G B b T x0 x1 x2 x3 x4) (h : Fin 8) (l x : Fin 128) :
    View.ld x1 (Rect.unit ![0, 128 * h.val] S128x128.size (keys_in h)) (ix2 l x) = (key P b h (T + l.val) x : EReal) :=
  (View.ld_unit_apply_of x1 _ _ _ _ (ix2 l ⟨128 * h.val + x.val, by omega⟩)
    (Fin.forall_fin_two.mpr ⟨(Nat.zero_add _).symm, rfl⟩)).trans (H.k h l x)

theorem Block.values (H : Block P G B b T x0 x1 x2 x3 x4) (h : Fin 8) (l : Fin 128) (j : Fin 256) :
    View.ld x2 (Rect.unit ![0, 256 * h.val] S128x256.size (values_in h)) (ix2 l j) = (value P b h (T + l.val) j.val : EReal) :=
  (View.ld_unit_apply_of x2 _ _ _ _ (ix2 l ⟨256 * h.val + j.val, by omega⟩)
    (Fin.forall_fin_two.mpr ⟨(Nat.zero_add _).symm, rfl⟩)).trans (H.v h l j)

theorem matrix_read (st : Vec Ideal S8x128x384 .f32) (h : Fin 8) (x : Fin 128) (j : Fin 384) :
    View.ld st (Rect.unit ![h.val, 0, 0] S1x128x384.size (matrix_in h)) (ix3 0 x j) = st (ix3 h x j) :=
  View.ld_unit_apply_of st _ _ _ _ (ix3 h x j) (by
    intro a
    fin_cases a
    · exact (Nat.add_zero _).symm
    · exact (Nat.zero_add _).symm
    · exact (Nat.zero_add _).symm)

theorem out_piece (hT : T + 128 ≤ 16384) (H : Block P G B b T x0 x1 x2 x3 x4) (C : Carried P G B b (T + 128) st M) (h : Fin 8)
    (l : Fin 128) (j : Fin 256) :
    (outPiece x0 x1 x2 x3 x4 st M h).2 (ix2 l j) = (answer P G B b h (T + l.val) j.val : EReal) := by
  obtain ⟨μ, hM, hst⟩ := C h
  obtain ⟨m, b', μ', L⟩ := H.lane h μ hM
  refine (written_real (lane h) (column_in h) (row_in h) k0_pay4 _ _ _ _ _ _ _ _ l _ _ _ _ _ _ _ _ (MlstmGate.past_apply l)
    (L.near l) L.fresh (L.far l) (L.floor l) (Real.exp_pos _) (H.queries h l) (H.keys h) (H.values h)
    (fun r j hj => value_one P b h _ j hj) (fun x j => (matrix_read st h x j).trans (hst x j))
    (fun x j hj => congrArg (_ * ·) (held_one P G B b h _ x j hj)) j).trans ?_
  unfold held answer output
  rw [seen_stable _ _ _ _ _ 16384 T l.val l.isLt hT, seen_stable _ _ _ _ _ 16384 T l.val l.isLt hT, quotient]

theorem state_piece (hT : T + 128 ≤ 16384) (H : Block P G B b T x0 x1 x2 x3 x4) (C : Carried P G B b (T + 128) st M) (h : Fin 8) :
    ∃ μ' : ℝ, k0_pay24 (F := Ideal) (k0_pay7 x3 x4) M (k0_pay8 x3 x4) (ix2 0 (lane h)) = (μ' : EReal)
      ∧ ∀ (x : Fin 128) (j : Fin 384), (statePiece x1 x2 x3 x4 st M h).2 (ix3 0 x j) = ((Real.exp (-μ') * held P G B b h T x j.val : ℝ) : EReal) := by
  obtain ⟨μ, hM, hst⟩ := C h
  obtain ⟨m, b', μ', L⟩ := H.lane h μ hM
  refine ⟨μ', L.next, fun x j => ?_⟩
  refine (kept_real (lane h) (row_in h) (entry_in h) _ _ _ _ _ _ _ _ _ _ _
    (fun x j => Real.exp (-μ) * held P G B b h (T + 128) x j) L.share L.old L.new (H.keys h) (H.values h)
    (fun r j hj => value_one P b h _ j hj) (fun x j => (matrix_read st h x j).trans (hst x j)) x j).trans ?_
  unfold held
  rw [state_stable _ _ _ _ 16384 T hT]

/-- What the chunk stores to the result. -/
theorem out_chunk (hT : T + 128 ≤ 16384) (H : Block P G B b T x0 x1 x2 x3 x4) (C : Carried P G B b (T + 128) st M)
    (h : Fin 8) (l : Fin 128) (j : Fin 256) :
    View.canon (outList x0 x1 x2 x3 x4 st M) (ix2 l ⟨256 * h.val + j.val, by omega⟩) = (answer P G B b h (T + l.val) j.val : EReal) := by
  have p : ∀ g : Fin 8, ∀ x : (outPiece x0 x1 x2 x3 x4 st M g).1.shape.Idx, (outPiece x0 x1 x2 x3 x4 st M g).2 x
      = (fun y : S128x2048.Idx => (answer P G B b ⟨(y 1).val / 256, by have := (y 1).isLt; exact Nat.div_lt_of_lt_mul this⟩ (T + (y 0).val) ((y 1).val % 256) : EReal))
        ((outPiece x0 x1 x2 x3 x4 st M g).1.emb x) := fun g x => by
    have e := out_piece hT H C g (x 0) (x 1)
    have e0 : (((outPiece x0 x1 x2 x3 x4 st M g).1.emb x) 0).val = (x 0).val := (Rect.idx_unit_val (s := S128x2048) ![0, 256 * g.val] S128x256.size (values_in g) x 0).trans (Nat.zero_add _)
    have e1 : (((outPiece x0 x1 x2 x3 x4 st M g).1.emb x) 1).val = 256 * g.val + (x 1).val := Rect.idx_unit_val (s := S128x2048) ![0, 256 * g.val] S128x256.size (values_in g) x 1
    have hx : (x 1).val < 256 := (x 1).isLt
    have e2 : (256 * g.val + (x 1).val) / 256 = g.val := by omega
    have e3 : (256 * g.val + (x 1).val) % 256 = (x 1).val := by omega
    refine (congrArg (outPiece x0 x1 x2 x3 x4 st M g).2 (?_ : x = ix2 (x 0) (x 1))).trans (e.trans ?_)
    · funext a; fin_cases a <;> rfl
    · show _ = (answer P G B b ⟨(((outPiece x0 x1 x2 x3 x4 st M g).1.emb x) 1).val / 256, _⟩ (T + (((outPiece x0 x1 x2 x3 x4 st M g).1.emb x) 0).val)
        ((((outPiece x0 x1 x2 x3 x4 st M g).1.emb x) 1).val % 256) : EReal)
      simp only [e0, e1, e2, e3]
  refine (View.canon_append_of_piecesOf
    (fun y : S128x2048.Idx => (answer P G B b ⟨(y 1).val / 256, by have := (y 1).isLt; exact Nat.div_lt_of_lt_mul this⟩ (T + (y 0).val) ((y 1).val % 256) : EReal)) [] (outList x0 x1 x2 x3 x4 st M) ⟨p 7, p 6, p 5, p 4, p 3, p 2, p 1, p 0, trivial⟩ _
    (out_cover x0 x1 x2 x3 x4 st M _)).trans ?_
  show (answer P G B b ⟨(256 * h.val + j.val) / 256, _⟩ (T + l.val) ((256 * h.val + j.val) % 256) : EReal) = _
  have e2 : (256 * h.val + j.val) / 256 = h.val := by omega
  have e3 : (256 * h.val + j.val) % 256 = j.val := by omega
  simp only [e2, e3]

/-- What the chunk leaves in the carried matrices and exponents, over whatever was stored there before. -/
theorem state_chunk (hT : T + 128 ≤ 16384) (H : Block P G B b T x0 x1 x2 x3 x4) (C : Carried P G B b (T + 128) st M)
    (L' : List (View.Piece (Elt Ideal) S8x128x384 .f32)) :
    Carried P G B b T (View.canon (stateList x1 x2 x3 x4 st M ++ L')) (k0_pay24 (F := Ideal) (k0_pay7 x3 x4) M (k0_pay8 x3 x4)) := by
  choose μ' hμ hp using state_piece hT H C
  refine fun h => ⟨μ' h, hμ h, fun x j => ?_⟩
  have p : ∀ g : Fin 8, ∀ x : (statePiece x1 x2 x3 x4 st M g).1.shape.Idx, (statePiece x1 x2 x3 x4 st M g).2 x
      = (fun y : S8x128x384.Idx => ((Real.exp (-μ' (y 0)) * held P G B b (y 0) T (y 1) (y 2).val : ℝ) : EReal))
        ((statePiece x1 x2 x3 x4 st M g).1.emb x) := fun g x => by
    have h0 : (x 0).val < 1 := (x 0).isLt
    have e0 : ((statePiece x1 x2 x3 x4 st M g).1.emb x) 0 = g := by
      refine Fin.ext ((Rect.idx_unit_val (s := S8x128x384) ![g.val, 0, 0] S1x128x384.size (matrix_in g) x 0).trans ?_)
      show g.val + (x 0).val = g.val
      omega
    have e1 : ((statePiece x1 x2 x3 x4 st M g).1.emb x) 1 = x 1 := Fin.ext ((Rect.idx_unit_val (s := S8x128x384) ![g.val, 0, 0] S1x128x384.size (matrix_in g) x 1).trans (Nat.zero_add _))
    have e2 : ((statePiece x1 x2 x3 x4 st M g).1.emb x) 2 = x 2 := Fin.ext ((Rect.idx_unit_val (s := S8x128x384) ![g.val, 0, 0] S1x128x384.size (matrix_in g) x 2).trans (Nat.zero_add _))
    refine (congrArg (statePiece x1 x2 x3 x4 st M g).2 (?_ : x = ix3 0 (x 1) (x 2))).trans ((hp g (x 1) (x 2)).trans ?_)
    · funext a
      fin_cases a
      · exact Fin.ext (by show (x 0).val = 0; omega)
      · rfl
      · rfl
    · show _ = ((Real.exp (-μ' (((statePiece x1 x2 x3 x4 st M g).1.emb x) 0)) * held P G B b (((statePiece x1 x2 x3 x4 st M g).1.emb x) 0) T
        (((statePiece x1 x2 x3 x4 st M g).1.emb x) 1) (((statePiece x1 x2 x3 x4 st M g).1.emb x) 2).val : ℝ) : EReal)
      rw [e0, e1, e2]
  exact View.canon_append_of_piecesOf (fun y : S8x128x384.Idx => ((Real.exp (-μ' (y 0)) * held P G B b (y 0) T (y 1) (y 2).val : ℝ) : EReal)) L' (stateList x1 x2 x3 x4 st M) ⟨p 7, p 6, p 5, p 4, p 3, p 2, p 1, p 0, trivial⟩ _
    (state_cover x1 x2 x3 x4 st M _)

end Chunk

end Cert.MlstmChunk

end
-- ==== Proof.MlstmScan.lean ====
module

public import proofs.«01_k».proof.Proof.MlstmChunk
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlstmScan

open Cert.KernelMlstmIdeal Cert.KernelMlstmIdeal.Gen
open Cert.MlstmReal Cert.MlstmNumber Cert.MlstmInput Cert.MlstmChunk

variable (m : (ℓ : Loc nD τ sig) → Buf (Elt Ideal) ℓ)

/-! # The mLSTM recurrence, from the last position back to the first

The kernel walks the 128 chunks of each of the two sequences from the last to the first. -/

/-! ## What a point leaves, over what the point before left -/

/-- The same column three times side by side. -/
def triple (a : FVec Ideal S128x128 .f32) : FVec Ideal S128x384 .f32 :=
  concatenate S128x384 1 [⟨S128x128, a⟩, ⟨S128x128, a⟩, ⟨S128x128, a⟩] concatenates_S128x128_S128x128_S128x128_S128x384_d1
def double (a : FVec Ideal S128x128 .f32) : FVec Ideal S128x256 .f32 :=
  concatenate S128x256 1 [⟨S128x128, a⟩, ⟨S128x128, a⟩] concatenates_S128x128_S128x128_S128x256_d1
def behind (v : Vec Ideal S128x256 .bf16) (w : FVec Ideal S128x128 .bf16) : FVec Ideal S128x384 .bf16 :=
  concatenate S128x384 1 [⟨S128x256, v⟩, ⟨S128x128, w⟩] concatenates_S128x256_S128x128_S128x384_d1

theorem triple_eq (a : FVec Ideal S128x128 .f32) (h) :
    concatenate S128x384 1 [⟨S128x128, a⟩, ⟨S128x128, a⟩, ⟨S128x128, a⟩] h = triple a := rfl
theorem double_eq (a : FVec Ideal S128x128 .f32) (h) : concatenate S128x256 1 [⟨S128x128, a⟩, ⟨S128x128, a⟩] h = double a := rfl
theorem behind_eq (v : Vec Ideal S128x256 .bf16) (w : FVec Ideal S128x128 .bf16) (h) :
    concatenate S128x384 1 [⟨S128x256, v⟩, ⟨S128x128, w⟩] h = behind v w := rfl

theorem pieces_eq {α : Type} {a b : α} {l k : List α} (h : a = b) (t : l = k) : a :: l = b :: k := by rw [h, t]

set_option maxRecDepth 20000 in
set_option maxHeartbeats 400000 in
theorem out_B (c : Dev nD) (t : Fin cfg0.N) (h0 : ¬ t.val % 128 = 0) : (outsAt0 m c t.val t.isLt).1
    = View.canon (outList (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2) := by
  rw [outsAt0_B m c t h0]
  dsimp only
  unfold out0_B_5
  frame_open
  simp (maxSteps := 3000000) (disch := decide) only [↓ triple_eq, ↓ double_eq, ↓ behind_eq, ↓ View.readCov_skip, ↓ View.readCov_cons_toLoadRect,
    ↓ View.readCov_fill, View.read_writes_junk_eq_canon, View.canon_cons_unit_lit', View.ld_unit_lit', View.readCov_unit_lit',
    View.readCov_cons_unit_lit', View.readAt_eq_ld, Memref.IsWhole.read_unread, read_unread_whole]
  generalize (outsAt0 m c (t.val - 1) (Nat.lt_of_le_of_lt (Nat.sub_le _ _) t.isLt)).2.1 = st
  generalize (outsAt0 m c (t.val - 1) (Nat.lt_of_le_of_lt (Nat.sub_le _ _) t.isLt)).2.2 = M
  generalize iblk m c 0 t = x0
  generalize iblk m c 1 t = x1
  generalize iblk m c 2 t = x2
  generalize iblk m c 3 t = x3
  generalize iblk m c 4 t = x4
  refine congrArg View.canon ?_
  refine pieces_eq ?_ (pieces_eq ?_ (pieces_eq ?_ (pieces_eq ?_ (pieces_eq ?_ (pieces_eq ?_ (pieces_eq ?_ (pieces_eq ?_ ?_)))))))
  all_goals repeat rw [Memref.IsWhole.read_unread]
  all_goals try dsimp only [
    outPiece, MlstmHead.written, MlstmHead.divided, MlstmHead.mixed, MlstmHead.decayed, MlstmHead.column, MlstmHead.extended, triple,
    double, behind, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70]
  all_goals rfl

set_option maxRecDepth 20000 in
set_option maxHeartbeats 400000 in
theorem state_B (c : Dev nD) (t : Fin cfg0.N) (h0 : ¬ t.val % 128 = 0) : (outsAt0 m c t.val t.isLt).2.1
    = View.canon (stateList (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2 ++ []) := by
  rw [outsAt0_B m c t h0]
  dsimp only
  unfold sout0_B_0
  frame_open
  simp (maxSteps := 3000000) (disch := decide) only [↓ triple_eq, ↓ double_eq, ↓ behind_eq, ↓ View.readCov_skip, ↓ View.readCov_cons_toLoadRect,
    ↓ View.readCov_fill, View.read_writes_junk_eq_canon, View.canon_cons_unit_lit', View.ld_unit_lit', View.readCov_unit_lit',
    View.readCov_cons_unit_lit', View.readAt_eq_ld, Memref.IsWhole.read_unread, read_unread_whole]
  generalize (outsAt0 m c (t.val - 1) (Nat.lt_of_le_of_lt (Nat.sub_le _ _) t.isLt)).2.1 = st
  generalize (outsAt0 m c (t.val - 1) (Nat.lt_of_le_of_lt (Nat.sub_le _ _) t.isLt)).2.2 = M
  generalize iblk m c 1 t = x1
  generalize iblk m c 2 t = x2
  generalize iblk m c 3 t = x3
  generalize iblk m c 4 t = x4
  refine congrArg View.canon ?_
  refine pieces_eq ?_ (pieces_eq ?_ (pieces_eq ?_ (pieces_eq ?_ (pieces_eq ?_ (pieces_eq ?_ (pieces_eq ?_ (pieces_eq ?_ ?_)))))))
  all_goals repeat rw [Memref.IsWhole.read_unread]
  all_goals try dsimp only [
    statePiece, MlstmHead.kept, behind, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70]
  all_goals rfl

set_option maxRecDepth 20000 in
set_option maxHeartbeats 400000 in
theorem out_A (c : Dev nD) (t : Fin cfg0.N) (h0 : t.val % 128 = 0) : (outsAt0 m c t.val t.isLt).1
    = View.canon (outList (iblk m c 0 t) (iblk m c 1 t) (iblk m c 2 t) (iblk m c 3 t) (iblk m c 4 t)
      (k0_pay2 (F := Ideal)) (k0_pay3 (F := Ideal))) := by
  rw [outsAt0_A m c t h0]
  dsimp only
  unfold out0_A_5
  frame_open
  simp (maxSteps := 3000000) (disch := decide) only [↓ triple_eq, ↓ double_eq, ↓ behind_eq, ↓ View.readCov_skip, ↓ View.readCov_cons_toLoadRect,
    ↓ View.readCov_fill, View.read_writes_junk_eq_canon, View.canon_cons_unit_lit', View.ld_unit_lit', View.readCov_unit_lit',
    View.readCov_cons_unit_lit', View.readAt_eq_ld, Memref.IsWhole.read_unread, read_unread_whole]
  generalize iblk m c 0 t = x0
  generalize iblk m c 1 t = x1
  generalize iblk m c 2 t = x2
  generalize iblk m c 3 t = x3
  generalize iblk m c 4 t = x4
  refine congrArg View.canon ?_
  refine pieces_eq ?_ (pieces_eq ?_ (pieces_eq ?_ (pieces_eq ?_ (pieces_eq ?_ (pieces_eq ?_ (pieces_eq ?_ (pieces_eq ?_ ?_)))))))
  all_goals repeat rw [Memref.IsWhole.read_unread]
  all_goals try dsimp only [
    outPiece, MlstmHead.written, MlstmHead.divided, MlstmHead.mixed, MlstmHead.decayed, MlstmHead.column, MlstmHead.extended, triple,
    double, behind, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70]
  all_goals rfl

set_option maxRecDepth 20000 in
set_option maxHeartbeats 400000 in
theorem state_A (c : Dev nD) (t : Fin cfg0.N) (h0 : t.val % 128 = 0) : (outsAt0 m c t.val t.isLt).2.1
    = View.canon (stateList (iblk m c 1 t) (iblk m c 2 t) (iblk m c 3 t) (iblk m c 4 t)
      (k0_pay2 (F := Ideal)) (k0_pay3 (F := Ideal)) ++
        [⟨Rect.unit ![0, 0, 0] S8x128x384.size inb_S8x128x384_S8x128x384_0_0_0, k0_pay2 (F := Ideal)⟩]) := by
  rw [outsAt0_A m c t h0]
  dsimp only
  unfold sout0_A_0
  frame_open
  simp (maxSteps := 3000000) (disch := decide) only [↓ triple_eq, ↓ double_eq, ↓ behind_eq, ↓ View.readCov_skip, ↓ View.readCov_cons_toLoadRect,
    ↓ View.readCov_fill, View.read_writes_junk_eq_canon, View.canon_cons_unit_lit', View.ld_unit_lit', View.readCov_unit_lit',
    View.readCov_cons_unit_lit', View.readAt_eq_ld, Memref.IsWhole.read_unread, read_unread_whole]
  generalize iblk m c 1 t = x1
  generalize iblk m c 2 t = x2
  generalize iblk m c 3 t = x3
  generalize iblk m c 4 t = x4
  refine congrArg View.canon ?_
  refine pieces_eq ?_ (pieces_eq ?_ (pieces_eq ?_ (pieces_eq ?_ (pieces_eq ?_ (pieces_eq ?_ (pieces_eq ?_ (pieces_eq ?_ ?_)))))))
  all_goals repeat rw [Memref.IsWhole.read_unread]
  all_goals try dsimp only [
    statePiece, MlstmHead.kept, behind, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70]
  all_goals rfl

theorem exponent_B (c : Dev nD) (t : Fin cfg0.N) (h0 : ¬ t.val % 128 = 0) : (outsAt0 m c t.val t.isLt).2.2
    = k0_pay24 (F := Ideal) (k0_pay7 (iblk m c 3 t) (iblk m c 4 t))
      (outsAt0 m c (t.val - 1) (Nat.lt_of_le_of_lt (Nat.sub_le _ _) t.isLt)).2.2 (k0_pay8 (iblk m c 3 t) (iblk m c 4 t)) := by
  rw [outsAt0_B m c t h0]
  dsimp only
  unfold sout0_B_1
  frame_out
  simp only [read_unread_whole]

theorem exponent_A (c : Dev nD) (t : Fin cfg0.N) (h0 : t.val % 128 = 0) : (outsAt0 m c t.val t.isLt).2.2
    = k0_pay24 (F := Ideal) (k0_pay7 (iblk m c 3 t) (iblk m c 4 t)) (k0_pay3 (F := Ideal)) (k0_pay8 (iblk m c 3 t) (iblk m c 4 t)) := by
  rw [outsAt0_A m c t h0]
  dsimp only
  unfold sout0_A_1
  frame_out

/-! ## What a point reads -/

theorem idx : ∀ t : Fin cfg0.N, win0_0.index t = ![t.val / 128 * 128 + (127 - t.val % 128), 0]
    ∧ win0_1.index t = ![t.val / 128 * 128 + (127 - t.val % 128), 1] ∧ win0_2.index t = ![t.val / 128 * 128 + (127 - t.val % 128), 1]
    ∧ win0_3.index t = ![t.val / 128 * 128 + (127 - t.val % 128), 0] ∧ win0_4.index t = ![0, 0]
    ∧ win0_5.index t = ![t.val / 128 * 128 + (127 - t.val % 128), 0] :=
  (by decide +kernel : ∀ t : Fin grid0.N, _)

theorem count (t : Fin cfg0.N) : t.val < 256 := lt_of_lt_of_eq t.isLt (show cfg0.N = 256 from N_0)

theorem queries (c : Dev nD) (t : Fin cfg0.N) (z : S128x1024.Idx) (w : S32768x6144.Idx)
    (hw0 : (w 0 : ℕ) = (t.val / 128 * 128 + (127 - t.val % 128)) * 128 + z 0) (hw1 : (w 1 : ℕ) = z 1) :
    iblk m c 0 t z = m ((c : Thread nD τ).loc main_arg0) w := by
  have e0 : (((cfg0.win 0).blk t).view.emb z 0 : ℕ) = (t.val / 128 * 128 + (127 - t.val % 128)) * 128 + z 0 := by blk_simp [idx t]
  have e1 : (((cfg0.win 0).blk t).view.emb z 1 : ℕ) = z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem keys (c : Dev nD) (t : Fin cfg0.N) (z : S128x1024.Idx) (w : S32768x6144.Idx)
    (hw0 : (w 0 : ℕ) = (t.val / 128 * 128 + (127 - t.val % 128)) * 128 + z 0) (hw1 : (w 1 : ℕ) = 1024 + z 1) :
    iblk m c 1 t z = m ((c : Thread nD τ).loc main_arg0) w := by
  have e0 : (((cfg0.win 1).blk t).view.emb z 0 : ℕ) = (t.val / 128 * 128 + (127 - t.val % 128)) * 128 + z 0 := by blk_simp [idx t]
  have e1 : (((cfg0.win 1).blk t).view.emb z 1 : ℕ) = 1024 + z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem values (c : Dev nD) (t : Fin cfg0.N) (z : S128x2048.Idx) (w : S32768x6144.Idx)
    (hw0 : (w 0 : ℕ) = (t.val / 128 * 128 + (127 - t.val % 128)) * 128 + z 0) (hw1 : (w 1 : ℕ) = 2048 + z 1) :
    iblk m c 2 t z = m ((c : Thread nD τ).loc main_arg0) w := by
  have e0 : (((cfg0.win 2).blk t).view.emb z 0 : ℕ) = (t.val / 128 * 128 + (127 - t.val % 128)) * 128 + z 0 := by blk_simp [idx t]
  have e1 : (((cfg0.win 2).blk t).view.emb z 1 : ℕ) = 2048 + z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem gates (c : Dev nD) (t : Fin cfg0.N) (z : S128x128.Idx) (w : S32768x128.Idx)
    (hw0 : (w 0 : ℕ) = (t.val / 128 * 128 + (127 - t.val % 128)) * 128 + z 0) (hw1 : (w 1 : ℕ) = z 1) :
    iblk m c 3 t z = m ((c : Thread nD τ).loc main_arg1) w := by
  have e0 : (((cfg0.win 3).blk t).view.emb z 0 : ℕ) = (t.val / 128 * 128 + (127 - t.val % 128)) * 128 + z 0 := by blk_simp [idx t]
  have e1 : (((cfg0.win 3).blk t).view.emb z 1 : ℕ) = z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

theorem bias (c : Dev nD) (t : Fin cfg0.N) (z : S1x128.Idx) (w : S1x128.Idx) (hw0 : (w 0 : ℕ) = z 0) (hw1 : (w 1 : ℕ) = z 1) :
    iblk m c 4 t z = m ((c : Thread nD τ).loc main_arg2) w := by
  have e0 : (((cfg0.win 4).blk t).view.emb z 0 : ℕ) = z 0 := by blk_simp [idx t]
  have e1 : (((cfg0.win 4).blk t).view.emb z 1 : ℕ) = z 1 := by blk_simp [idx t]
  refine congrArg (m ((c : Thread nD τ).loc main_arg2)) (funext (Fin.forall_fin_two.mpr ⟨Fin.ext ?_, Fin.ext ?_⟩))
  · exact e0.trans hw0.symm
  · exact e1.trans hw1.symm

/-! ## The arguments as real numbers -/

def rows (c : Dev nD) : Fin 32768 → Fin 6144 → EReal := fun n d => m ((c : Thread nD τ).loc main_arg0) (ix2 n d)
def gateRows (c : Dev nD) : Fin 32768 → Fin 128 → EReal := fun n d => m ((c : Thread nD τ).loc main_arg1) (ix2 n d)
def biasRow (c : Dev nD) : Fin 128 → EReal := fun d => m ((c : Thread nD τ).loc main_arg2) (ix2 0 d)

/-- Every argument is a real number. -/
structure Finite (c : Dev nD) : Prop where
  rows (n : Fin 32768) (d : Fin 6144) : IsReal (rows m c n d)
  gates (n : Fin 32768) (d : Fin 128) : IsReal (gateRows m c n d)
  bias (d : Fin 128) : IsReal (biasRow m c d)

/-- The sequence that point `t` works on. -/
def seq (t : Fin cfg0.N) : Fin 2 := ⟨t.val / 128, by have := count t; omega⟩

theorem place_val (t : Fin cfg0.N) (l : Fin 128) :
    (place (seq t) ((127 - t.val % 128) * 128 + l.val)).val = (t.val / 128 * 128 + (127 - t.val % 128)) * 128 + l.val := by
  have := count t
  show (t.val / 128 * 16384 + ((127 - t.val % 128) * 128 + l.val)) % 32768 = _
  omega

variable {m}

theorem block {c : Dev nD} (H : Finite m c) (t : Fin cfg0.N) :
    Block (rows m c) (gateRows m c) (biasRow m c) (seq t) ((127 - t.val % 128) * 128)
      (iblk m c 0 t) (iblk m c 1 t) (iblk m c 2 t) (iblk m c 3 t) (iblk m c 4 t) where
  q h l x := by
    unfold query
    rw [coe_toReal (H.rows _ _)]
    exact queries m c t _ _ (place_val t l) (by show h.val * 128 + x.val = 128 * h.val + x.val; omega)
  k h l x := by
    unfold key
    rw [coe_toReal (H.rows _ _)]
    exact keys m c t _ _ (place_val t l) (by show 1024 + (h.val * 128 + x.val) = 1024 + (128 * h.val + x.val); omega)
  v h l j := by
    unfold value
    rw [dif_pos j.isLt, coe_toReal (H.rows _ _)]
    exact values m c t _ _ (place_val t l) (by show 2048 + (h.val * 256 + j.val) = 2048 + (256 * h.val + j.val); omega)
  forget h l := by
    refine ⟨_, ?_, rfl⟩
    rw [EReal.coe_add, coe_toReal (H.gates _ _), coe_toReal (H.bias _)]
    exact congrArg₂ (· + ·) (gates m c t _ _ (place_val t l) rfl) (bias m c t _ _ rfl rfl)
  input h l := by
    unfold input
    rw [EReal.coe_add, coe_toReal (H.gates _ _), coe_toReal (H.bias _)]
    exact congrArg₂ (· + ·) (gates m c t _ _ (place_val t l) rfl) (bias m c t _ _ rfl rfl)

/-! ## What is carried from chunk to chunk -/

/-- A sequence begins with empty matrices. -/
theorem carried_start (P : Fin 32768 → Fin 6144 → EReal) (G : Fin 32768 → Fin 128 → EReal) (B : Fin 128 → EReal) (b : Fin 2) :
    Carried P G B b 16384 (k0_pay2 (F := Ideal)) (k0_pay3 (F := Ideal)) := by
  refine fun h => ⟨0, ?_, fun x j => ?_⟩
  · pointwise [k0_pay3]
    rfl
  · rw [held_end, mul_zero]
    pointwise [k0_pay2]
    rfl

theorem carried {c : Dev nD} (H : Finite m c) : ∀ (n : ℕ) (hn : n < cfg0.N),
    Carried (rows m c) (gateRows m c) (biasRow m c) (seq ⟨n, hn⟩) ((127 - n % 128) * 128) (outsAt0 m c n hn).2.1 (outsAt0 m c n hn).2.2
  | 0, hn => by
    rw [state_A m c ⟨0, hn⟩ rfl, exponent_A m c ⟨0, hn⟩ rfl]
    exact state_chunk (by norm_num) (block H ⟨0, hn⟩) (carried_start _ _ _ _) _
  | n + 1, hn => by
    by_cases h0 : (n + 1) % 128 = 0
    · rw [state_A m c ⟨n + 1, hn⟩ h0, exponent_A m c ⟨n + 1, hn⟩ h0]
      refine state_chunk (by omega) (block H ⟨n + 1, hn⟩) ?_ _
      show Carried _ _ _ _ ((127 - (n + 1) % 128) * 128 + 128) _ _
      rw [h0]
      exact carried_start _ _ _ _
    · rw [state_B m c ⟨n + 1, hn⟩ h0, exponent_B m c ⟨n + 1, hn⟩ h0]
      refine state_chunk (by omega) (block H ⟨n + 1, hn⟩) ?_ _
      have e := carried H n (Nat.lt_of_succ_lt hn)
      have e1 : (127 - (n + 1) % 128) * 128 + 128 = (127 - n % 128) * 128 := by omega
      have e2 : seq ⟨n + 1, hn⟩ = seq ⟨n, Nat.lt_of_succ_lt hn⟩ := Fin.ext (by show (n + 1) / 128 = n / 128; omega)
      show Carried _ _ _ _ ((127 - (n + 1) % 128) * 128 + 128) _ _
      rw [e1, e2]
      exact e

theorem point {c : Dev nD} (H : Finite m c) (t : Fin cfg0.N) (h : Fin 8) (l : Fin 128) (j : Fin 256) :
    (outsAt0 m c t.val t.isLt).1 (ix2 l ⟨256 * h.val + j.val, by omega⟩)
      = (answer (rows m c) (gateRows m c) (biasRow m c) (seq t) h ((127 - t.val % 128) * 128 + l.val) j.val : EReal) := by
  by_cases h0 : t.val % 128 = 0
  · rw [out_A m c t h0]
    refine out_chunk (by omega) (block H t) ?_ h l j
    rw [h0]
    exact carried_start _ _ _ _
  · rw [out_B m c t h0]
    refine out_chunk (by omega) (block H t) ?_ h l j
    have hp : 0 < t.val := by by_contra hz; exact h0 (by rw [Nat.eq_zero_of_not_pos hz])
    have e := carried H (t.val - 1) (Nat.lt_of_le_of_lt (Nat.sub_le _ _) t.isLt)
    have e1 : (127 - t.val % 128) * 128 + 128 = (127 - (t.val - 1) % 128) * 128 := by omega
    have e2 : seq t = seq ⟨t.val - 1, Nat.lt_of_le_of_lt (Nat.sub_le _ _) t.isLt⟩ :=
      Fin.ext (by show t.val / 128 = (t.val - 1) / 128; omega)
    rw [e1, e2]
    exact e

/-! ## The result of the kernel -/

/-- The result, entry by entry. -/
def result (P : Fin 32768 → Fin 6144 → EReal) (G : Fin 32768 → Fin 128 → EReal) (B : Fin 128 → EReal) (n : Fin 32768) (d : Fin 2048) : EReal :=
  (answer P G B ⟨n.val / 16384, by omega⟩ ⟨d.val / 256, by omega⟩ (n.val % 16384) (d.val % 256) : EReal)

theorem final {c : Dev nD} (H : Finite m c) :
    (dats m 0 c).arrAt 5 cfg0.N = fun w : S32768x2048.Idx => result (rows m c) (gateRows m c) (biasRow m c) (w 0) (w 1) := by
  refine (dats m 0 c).arrAt_eq_of_covers 5 _ (by decide +kernel) fun t hf y => ?_
  have e0 : (((cfg0.win 5).blk t).view.emb y 0 : ℕ) = (t.val / 128 * 128 + (127 - t.val % 128)) * 128 + y 0 := by blk_simp [idx t]
  have e1 : (((cfg0.win 5).blk t).view.emb y 1 : ℕ) = y 1 := by blk_simp [idx t]
  blk_simp
  rw [after0_5]
  have hy0 : (y 0).val < 128 := (y 0).isLt
  have hy1 : (y 1).val < 2048 := (y 1).isLt
  have ht := count t
  have hp := point H t ⟨(y 1).val / 256, by omega⟩ ⟨(y 0).val, hy0⟩ ⟨(y 1).val % 256, by omega⟩
  have hy : y = ix2 (⟨(y 0).val, hy0⟩ : Fin 128) (⟨256 * ((y 1).val / 256) + (y 1).val % 256, by omega⟩ : Fin 2048) := by
    funext a
    fin_cases a
    · rfl
    · exact Fin.ext (by show (y 1).val = 256 * ((y 1).val / 256) + (y 1).val % 256; omega)
  refine (congrArg (outsAt0 m c t.val t.isLt).1 hy).trans (hp.trans ?_)
  unfold result
  have a0 : seq t = ⟨((((cfg0.win 5).blk t).view.emb y 0 : ℕ)) / 16384, by rw [e0]; omega⟩ := Fin.ext (by show t.val / 128 = _ / 16384; rw [e0]; omega)
  have a1 : (127 - t.val % 128) * 128 + (y 0).val = (((cfg0.win 5).blk t).view.emb y 0 : ℕ) % 16384 := by rw [e0]; omega
  have a2 : (y 1).val = (((cfg0.win 5).blk t).view.emb y 1 : ℕ) := e1.symm
  rw [a0]
  show (answer _ _ _ _ ⟨(y 1).val / 256, _⟩ ((127 - t.val % 128) * 128 + (y 0).val) ((y 1).val % 256) : EReal) = _
  simp only [a1, a2]

end Cert.MlstmScan

end
-- ==== Proof.MlstmReference.lean ====
module

public import proofs.«01_k».proof.Proof.Gen.ReferenceMlstmIdeal.Run
public import proofs.«01_k».proof.Proof.Gen.ReferenceMlstmIdeal.Read
public import proofs.«01_k».proof.Proof.MlstmInput
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MlstmReference

open Cert.ReferenceMlstmIdeal Cert.ReferenceMlstmIdeal.Gen Cert.ReferenceMlstmIdeal.Read
open Cert.MlstmReal Cert.MlstmNumber Cert.MlstmInput

/-! # The reference of the mLSTM recurrence, stage by stage

The reference weighs every pair of positions at once. With real arguments each of its stages is a real number. -/

/-! ## Over the real numbers -/

section Real

variable (f i : ℕ → ℝ)

/-- The sum of the logarithms of the forget gates from position `t` on. -/
def rest (t : ℕ) : ℝ := ∑ r ∈ Finset.Ico t 16384, f r

theorem rest_eq (t : ℕ) : ∑ r : Fin 16384, f r.val * (if t ≤ r.val then 1 else 0) = rest f t := by
  unfold rest
  rw [Fin.sum_univ_eq_sum_range (fun r => f r * (if t ≤ r then 1 else 0)) 16384]
  simp only [mul_ite, mul_one, mul_zero]
  rw [← Finset.sum_filter]
  refine Finset.sum_congr ?_ fun _ _ => rfl
  ext a
  simp only [Finset.mem_filter, Finset.mem_range, Finset.mem_Ico]
  omega

theorem weight_rest (t s : ℕ) (h : t ≤ s) (hs : s ≤ 16384) (m : ℝ) :
    Real.exp (rest f t - rest f s + i s - m) = Real.exp (-m) * weight f i t s := by
  unfold weight rest
  rw [← Real.exp_add, ← Finset.sum_Ico_consecutive f h hs]
  congr 1
  ring

theorem seen_sum (Q K : ℕ → Fin 128 → ℝ) (V : ℕ → ℕ → ℝ) (t j : ℕ) (m : ℝ) :
    ∑ s : Fin 16384, (if t ≤ s.val then Real.exp (-m) * weight f i t s.val else 0) * ((∑ x, Q t x * K s.val x) * keyScale) * V s.val j
      = Real.exp (-m) * seen f i Q K V 16384 t j := by
  rw [Fin.sum_univ_eq_sum_range (fun s => (if t ≤ s then Real.exp (-m) * weight f i t s else 0) * ((∑ x, Q t x * K s x) * keyScale) * V s j) 16384]
  simp only [ite_mul, zero_mul]
  rw [← Finset.sum_filter]
  unfold seen
  rw [Finset.mul_sum]
  refine Finset.sum_congr ?_ fun s _ => by ring
  ext a
  simp only [Finset.mem_filter, Finset.mem_range, Finset.mem_Ico]
  omega

end Real

/-! ## The stages -/

section Stages

variable {X : FVec Ideal S32768x6144 .bf16} {G : FVec Ideal S32768x128 .f32} {B : FVec Ideal S1x128 .f32}

theorem place_eq (b : Fin 2) (s : Fin 16384) : place b s.val = ⟨b.val * 16384 + s.val, by omega⟩ :=
  Fin.ext (Nat.mod_eq_of_lt (by omega))

variable (hX : ∀ (n : Fin 32768) (d : Fin 6144), IsReal (X (ix2 n d)))
variable (hG : ∀ (n : Fin 32768) (d : Fin 128), IsReal (G (ix2 n d)))
variable (hB : ∀ d : Fin 128, IsReal (B (ix2 0 d)))

include hX

theorem ref_query (b : Fin 2) (s : Fin 16384) (h : Fin 8) (x : Fin 128) :
    val_main_v6 (F := Ideal) X (ix4 b s h x) = (query (fun n d => X (ix2 n d)) b h s.val x : EReal) := by
  unfold query
  rw [coe_toReal (hX _ _), place_eq]
  pointwise [val_main_v6, val_main_v2, val_main_v1, val_main_v0]
  all_goals blk_ext

theorem ref_key (b : Fin 2) (s : Fin 16384) (h : Fin 8) (x : Fin 128) :
    val_main_v9 (F := Ideal) X (ix4 b s h x) = ((key (fun n d => X (ix2 n d)) b h s.val x * keyScale : ℝ) : EReal) := by
  unfold key
  rw [EReal.coe_mul, coe_toReal (hX _ _), place_eq, ← keyScale_bits]
  pointwise [val_main_v9, val_main_v8, val_main_cst, val_main_v7, val_main_v3, val_main_v1, val_main_v0]
  all_goals blk_ext

theorem ref_value (b : Fin 2) (s : Fin 16384) (h : Fin 8) (j : Fin 256) :
    val_main_v10 (F := Ideal) X (ix4 b s h j) = (value (fun n d => X (ix2 n d)) b h s.val j.val : EReal) := by
  unfold value
  rw [dif_pos j.isLt, coe_toReal (hX _ _), place_eq]
  pointwise [val_main_v10, val_main_v4, val_main_v1, val_main_v0]
  all_goals blk_ext

omit hX
include hG hB

theorem ref_input (b : Fin 2) (s : Fin 16384) (h : Fin 8) :
    val_main_v16 (F := Ideal) G B (ix3 b s h) = (input (fun n d => G (ix2 n d)) (fun d => B (ix2 0 d)) b h s.val : EReal) := by
  unfold input
  rw [EReal.coe_add, coe_toReal (hG _ _), coe_toReal (hB _), place_eq]
  pointwise [val_main_v16, val_main_v15, val_main_v14, val_main_v13, val_main_v12, val_main_v11]
  all_goals blk_ext

theorem ref_gate (b : Fin 2) (s : Fin 16384) (h : Fin 8) :
    val_main_v18 (F := Ideal) G B (ix3 b s h) = (((G (ix2 (place b s.val) ⟨24 + h.val, by omega⟩)).toReal + (B (ix2 0 ⟨24 + h.val, by omega⟩)).toReal : ℝ) : EReal) := by
  rw [EReal.coe_add, coe_toReal (hG _ _), coe_toReal (hB _), place_eq]
  pointwise [val_main_v18, val_main_v17, val_main_v14, val_main_v13, val_main_v12, val_main_v11]
  all_goals blk_ext

theorem ref_forget (b : Fin 2) (s : Fin 16384) (h : Fin 8) :
    val_main_v19 (F := Ideal) G B (ix3 b s h) = (forget (fun n d => G (ix2 n d)) (fun d => B (ix2 0 d)) b h s.val : EReal) := by
  unfold forget
  rw [← logSigmoid_coe, ← ref_gate hG hB]
  pointwise [val_main_v19, val_main_call0_v1, val_main_call0_call0_v11, val_main_call0_call0_v10, val_main_call0_call0_v9, val_main_call0_call0_v8,
    val_main_call0_call0_v7, val_main_call0_call0_v6, val_main_call0_call0_v5, val_main_call0_call0_v4, val_main_call0_call0_v3, val_main_call0_call0_v2,
    val_main_call0_call0_v1, val_main_call0_call0_v0, val_main_call0_v0, val_main_call0_call0_cst]
  rw [if_neg (by simp), zero_sub, zero_sub, zero_sub]
  rfl

omit hG hB

theorem order_bit (t r : ℕ) (ht : t < 16384) (hr : r < 16384) :
    IntOp.cmpi .sge (IntOp.addi (BitVec.ofNat 32 t) 4294967295#32) (BitVec.ofNat 32 r) = if t ≤ r then 0#1 else 1#1 := by
  have er : (BitVec.ofNat 32 r).toInt = r := by rw [BitVec.toInt_eq_toNat_cond, BitVec.toNat_ofNat]; split <;> omega
  have et : (IntOp.addi (BitVec.ofNat 32 t) 4294967295#32).toInt = t - 1 := by
    show (BitVec.ofNat 32 t + 4294967295#32).toInt = _
    rw [BitVec.toInt_eq_toNat_cond, BitVec.toNat_add, BitVec.toNat_ofNat, BitVec.toNat_ofNat]
    split <;> omega
  show BitVec.ofBool ((BitVec.ofNat 32 r).sle (IntOp.addi (BitVec.ofNat 32 t) 4294967295#32)) = _
  rw [BitVec.sle, et, er]
  by_cases h : t ≤ r
  · rw [if_pos h, decide_eq_false (by omega)]; rfl
  · rw [if_neg h, decide_eq_true (by omega)]; rfl

/-- Whether position `r` comes no earlier than `t`. -/
theorem ref_before (t r : Fin 16384) : val_main_v21 (F := Ideal) (ix2 t r) = if t.val ≤ r.val then 1#1 else 0#1 := by
  pointwise [val_main_v21, val_main_call1_v4, val_main_call1_v5, val_main_call1_c_0, val_main_v20, val_main_c, val_main_call1_v2,
    val_main_call1_v3, val_main_call1_v1, val_main_call1_c, val_main_call1_v0]
  rw [order_bit t.val r.val t.isLt r.isLt]
  split <;> rfl

theorem ref_order (t r : Fin 16384) : val_main_v22 (F := Ideal) (ix2 t r) = ((if t.val ≤ r.val then 1 else 0 : ℝ) : EReal) := by
  rw [val_main_v22_apply, ref_before]
  split
  · show (((1#1).toNat : ℝ) : EReal) = _
    norm_num
  · show (((0#1).toNat : ℝ) : EReal) = _
    norm_num

include hG hB

theorem ref_rest (b : Fin 2) (h : Fin 8) (t : Fin 16384) :
    val_main_v23 (F := Ideal) G B (ix3 b h t) = (rest (forget (fun n d => G (ix2 n d)) (fun d => B (ix2 0 d)) b h) t.val : EReal) := by
  rw [val_main_v23_apply, ← rest_eq, ← sum_coe]
  refine Finset.sum_congr rfl fun k _ => ?_
  rw [EReal.coe_mul, ← ref_forget hG hB, ← ref_order]
  refine congrArg₂ (· * ·) (congrArg _ ?_) (congrArg _ ?_) <;> funext a <;> fin_cases a <;> rfl

/-- The exponent of a pair of positions. -/
theorem ref_exponent (b : Fin 2) (h : Fin 8) (t s : Fin 16384) :
    val_main_v33 (F := Ideal) G B (ix4 b h t s) = if t.val ≤ s.val then
      ((rest (forget (fun n d => G (ix2 n d)) (fun d => B (ix2 0 d)) b h) t.val - rest (forget (fun n d => G (ix2 n d)) (fun d => B (ix2 0 d)) b h) s.val
        + input (fun n d => G (ix2 n d)) (fun d => B (ix2 0 d)) b h s.val : ℝ) : EReal) else ⊥ := by
  rw [EReal.coe_add, EReal.coe_sub, ← ref_rest hG hB, ← ref_rest hG hB, ← ref_input hG hB, ← bottom_bits]
  rw [val_main_v33_apply, val_main_v32_apply, val_main_v31_apply, val_main_v30_apply, val_main_v29_apply, val_main_v28_apply, val_main_v27_apply,
    val_main_v26_apply, val_main_v25_apply, val_main_v24_apply, val_main_call2_v1_apply, val_main_call2_v2_apply]
  rw [show idx_main_call2_v1 (ix4 b h t s) = ix2 t s by funext a; fin_cases a <;> rfl,
    show idx_main_v24 (idx_main_v26 (ix4 b h t s)) = ix3 b h t by funext a; fin_cases a <;> rfl,
    show idx_main_v25 (idx_main_v27 (ix4 b h t s)) = ix3 b h s by funext a; fin_cases a <;> rfl,
    show idx_main_v29 (idx_main_v30 (idx_main_v31 (ix4 b h t s))) = ix3 b s h by funext a; fin_cases a <;> rfl, ref_before]
  by_cases hs : t.val ≤ s.val
  · rw [if_pos hs, if_pos hs]; rfl
  · rw [if_neg hs, if_neg hs]; rfl

/-- The largest exponent of a position is a real number. -/
theorem ref_top (b : Fin 2) (h : Fin 8) (t : Fin 16384) : IsReal (val_main_v34 (F := Ideal) G B (ix3 b h t)) := by
  have e := ref_exponent hG hB b h t
  generalize he : val_main_v33 (F := Ideal) G B = w at e
  unfold val_main_v34
  rw [he]
  pointwise [val_main_cst_1]
  rw [bottom_bits]
  refine isReal_fold _ (fun s => ?_) ⟨t, ?_⟩
  · rw [e]
    split
    · exact ⟨_, le_rfl⟩
    · exact ⟨0, bot_le⟩
  · rw [e, if_pos le_rfl]
    exact isReal_coe _

theorem ref_weight (b : Fin 2) (h : Fin 8) (t s : Fin 16384) (m : ℝ) (hm : val_main_v34 (F := Ideal) G B (ix3 b h t) = (m : EReal)) :
    val_main_v38 (F := Ideal) G B (ix4 b h t s) = ((if t.val ≤ s.val then
      Real.exp (-m) * weight (forget (fun n d => G (ix2 n d)) (fun d => B (ix2 0 d)) b h) (input (fun n d => G (ix2 n d)) (fun d => B (ix2 0 d)) b h) t.val s.val
      else 0 : ℝ) : EReal) := by
  rw [val_main_v38_apply, val_main_v37_apply, val_main_v36_apply, val_main_v35_apply, ref_exponent hG hB,
    show idx_main_v35 (idx_main_v36 (ix4 b h t s)) = ix3 b h t by funext a; fin_cases a <;> rfl, hm]
  show Ideal.exp (_ - (m : EReal)) = _
  by_cases hs : t.val ≤ s.val
  · rw [if_pos hs, if_pos hs, ← weight_rest _ _ _ _ hs s.isLt.le, ← EReal.coe_sub, Ideal.exp_coe]
  · rw [if_neg hs, if_neg hs, EReal.bot_sub]
    rfl

include hX

omit hG hB in
theorem ref_score (b : Fin 2) (h : Fin 8) (t s : Fin 16384) :
    val_main_v39 (F := Ideal) X (ix4 b h t s)
      = (((∑ x, query (fun n d => X (ix2 n d)) b h t.val x * key (fun n d => X (ix2 n d)) b h s.val x) * keyScale : ℝ) : EReal) := by
  rw [val_main_v39_apply, Finset.sum_mul, ← sum_coe]
  refine Finset.sum_congr rfl fun x _ => ?_
  rw [mul_assoc, EReal.coe_mul, ← ref_query hX, ← ref_key hX]
  refine congrArg₂ (· * ·) (congrArg _ ?_) (congrArg _ ?_) <;> funext a <;> fin_cases a <;> rfl

theorem ref_pair (b : Fin 2) (h : Fin 8) (t s : Fin 16384) (m : ℝ) (hm : val_main_v34 (F := Ideal) G B (ix3 b h t) = (m : EReal)) :
    val_main_v40 (F := Ideal) X G B (ix4 b h t s) = (((if t.val ≤ s.val then
      Real.exp (-m) * weight (forget (fun n d => G (ix2 n d)) (fun d => B (ix2 0 d)) b h) (input (fun n d => G (ix2 n d)) (fun d => B (ix2 0 d)) b h) t.val s.val
      else 0) * ((∑ x, query (fun n d => X (ix2 n d)) b h t.val x * key (fun n d => X (ix2 n d)) b h s.val x) * keyScale) : ℝ) : EReal) := by
  rw [val_main_v40_apply, ref_weight hG hB b h t s m hm, ref_score hX, EReal.coe_mul]
  rfl

theorem ref_numerator (b : Fin 2) (h : Fin 8) (t : Fin 16384) (j : Fin 256) (m : ℝ) (hm : val_main_v34 (F := Ideal) G B (ix3 b h t) = (m : EReal)) :
    val_main_v41 (F := Ideal) X G B (ix4 b h t j) = ((Real.exp (-m) * seen (forget (fun n d => G (ix2 n d)) (fun d => B (ix2 0 d)) b h)
      (input (fun n d => G (ix2 n d)) (fun d => B (ix2 0 d)) b h) (query (fun n d => X (ix2 n d)) b h) (key (fun n d => X (ix2 n d)) b h)
      (value (fun n d => X (ix2 n d)) b h) 16384 t.val j.val : ℝ) : EReal) := by
  rw [val_main_v41_apply, ← seen_sum, ← sum_coe]
  refine Finset.sum_congr rfl fun s _ => ?_
  rw [EReal.coe_mul, ← ref_pair hX hG hB b h t s m hm, ← ref_value hX]
  refine congrArg₂ (· * ·) (congrArg _ ?_) (congrArg _ ?_) <;> funext a <;> fin_cases a <;> rfl

theorem ref_normaliser (b : Fin 2) (h : Fin 8) (t : Fin 16384) (m : ℝ) (hm : val_main_v34 (F := Ideal) G B (ix3 b h t) = (m : EReal)) :
    val_main_v42 (F := Ideal) X G B (ix3 b h t) = ((Real.exp (-m) * seen (forget (fun n d => G (ix2 n d)) (fun d => B (ix2 0 d)) b h)
      (input (fun n d => G (ix2 n d)) (fun d => B (ix2 0 d)) b h) (query (fun n d => X (ix2 n d)) b h) (key (fun n d => X (ix2 n d)) b h)
      (value (fun n d => X (ix2 n d)) b h) 16384 t.val 256 : ℝ) : EReal) := by
  rw [val_main_v42_apply, val_main_cst_2_apply, ← seen_sum, ← sum_coe]
  refine (congrArg (· + _) Ideal.ofBits_zero_f32).trans ?_
  rw [zero_add]
  refine Finset.sum_congr rfl fun s _ => ?_
  rw [value_one _ b h _ 256 le_rfl, mul_one, ← ref_pair hX hG hB b h t s m hm]
  refine congrArg _ ?_
  funext a; fin_cases a <;> rfl

theorem ref_answer (b : Fin 2) (h : Fin 8) (t : Fin 16384) (j : Fin 256) :
    val_main_v49 (F := Ideal) X G B (ix4 b h t j)
      = (answer (fun n d => X (ix2 n d)) (fun n d => G (ix2 n d)) (fun d => B (ix2 0 d)) b h t.val j.val : EReal) := by
  obtain ⟨m, hm⟩ := ref_top hG hB b h t
  rw [val_main_v49_apply, val_main_v48_apply, val_main_v47_apply, val_main_v46_apply, val_main_v45_apply, val_main_v44_apply, val_main_v43_apply,
    show idx_main_v47 (idx_main_v48 (ix4 b h t j)) = ix3 b h t by funext a; fin_cases a <;> rfl, hm, ref_numerator hX hG hB b h t j m hm,
    ref_normaliser hX hG hB b h t m hm]
  generalize ha : Real.exp (-m) * seen _ _ _ _ _ _ _ 256 = a
  show Ideal.div _ (max (max (a : EReal) (-(a : EReal))) (Ideal.exp (-(m : EReal)))) = _
  have h0 : max |a| (Real.exp (-m)) ≠ 0 := (lt_max_of_lt_right (Real.exp_pos _)).ne'
  rw [abs_coe, ← EReal.coe_neg, Ideal.exp_coe, coe_max, div_coe_coe _ _ h0, ← ha, quotient]
  rfl

/-- The reference, entry by entry. -/
theorem ref_result (n : Fin 32768) (d : Fin 2048) :
    val_main_v51 (F := Ideal) X G B (ix2 n d)
      = (answer (fun n d => X (ix2 n d)) (fun n d => G (ix2 n d)) (fun d => B (ix2 0 d)) ⟨n.val / 16384, by omega⟩ ⟨d.val / 256, by omega⟩
          (n.val % 16384) (d.val % 256) : EReal) := by
  rw [val_main_v51_apply, val_main_v50_apply, ← ref_answer hX hG hB ⟨n.val / 16384, by omega⟩ ⟨d.val / 256, by omega⟩ ⟨n.val % 16384, by omega⟩ ⟨d.val % 256, by omega⟩]
  refine congrArg _ ?_
  funext a
  fin_cases a
  · exact Fin.ext (by show (n.val * 2048 + d.val) / 33554432 = n.val / 16384; omega)
  · exact Fin.ext (by show (n.val * 2048 + d.val) / 256 % 8 = d.val / 256; omega)
  · exact Fin.ext (by show (n.val * 2048 + d.val) / 2048 % 16384 = n.val % 16384; omega)
  · exact Fin.ext (by show (n.val * 2048 + d.val) % 256 = d.val % 256; omega)

end Stages

end Cert.MlstmReference

end
-- ==== Proof.MlstmFinite.lean ====
module

public import proofs.«01_k».proof.Pre_finite
public import proofs.«01_k».proof.Proof.MlstmScan
public import proofs.«01_k».proof.Proof.MlstmReference
public import Idealize.ShloMosaic.Lib.ReduceAll

@[expose] public section

noncomputable section

open Idealize.ShloMosaic Idealize.ShloMosaic.TcCoe Idealize.SL.Sem

namespace Cert.MlstmFinite

open Cert.MlstmNumber

/-! # Finite arguments are real numbers -/

theorem infinity_bf16 : Ideal.ofBits FTy.bf16 0x7F80#16 = ⊤ := by simp [Ideal.ofBits, Ideal.ieee]
theorem infinity_f32 : Ideal.ofBits FTy.f32 0x7F800000#32 = ⊤ := by simp [Ideal.ofBits, Ideal.ieee]

theorem isReal_of_abs {x : EReal} (h : max x (-x) < ⊤) : IsReal x := by
  have h1 : x < ⊤ := lt_of_le_of_lt (le_max_left _ _) h
  have h2 : -x < ⊤ := lt_of_le_of_lt (le_max_right _ _) h
  refine ⟨x.toReal, (EReal.coe_toReal h1.ne ?_).symm⟩
  rintro rfl
  exact absurd h2 (by simp)

theorem isReal_of_bit {φ : FTy} {x b : Ideal φ} (hb : b = (⊤ : EReal)) (h : FloatOps.cmpf .olt (FloatOps.absf x) b = 1#1) : IsReal x := by
  rw [hb] at h
  have h' : BitVec.ofBool (decide (max (x : EReal) (-(x : EReal)) < ⊤)) = 1#1 := h
  refine isReal_of_abs (by_contra fun hn => ?_)
  rw [decide_eq_false hn] at h'
  exact absurd h' (by decide)

theorem both {a b : BitVec 1} (h : IntOp.andi a b = 1#1) : a = 1#1 ∧ b = 1#1 := by
  revert a b; decide

theorem real [Cert.Pre_finite.Facts] (X : FVec Ideal Cert.Pre_finite.S32768x6144 .bf16) (G : FVec Ideal Cert.Pre_finite.S32768x128 .f32)
    (B : FVec Ideal Cert.Pre_finite.S1x128 .f32) (h : Cert.Pre_finite.fn (F := Ideal) X G B = fun _ => 1#1) :
    (∀ i, IsReal (X i)) ∧ (∀ i, IsReal (G i)) ∧ ∀ i, IsReal (B i) := by
  dsimp only [Cert.Pre_finite.fn] at h
  have e := congrFun h (Shape.Idx.first Cert.Pre_finite.Facts.h_S_)
  obtain ⟨e1, e2⟩ := both e
  obtain ⟨e3, e4⟩ := both e1
  refine ⟨fun i => ?_, fun i => ?_, fun i => ?_⟩
  · exact isReal_of_bit (φ := .bf16) infinity_bf16 (Host.reduce_andi_all _ _ _ _ _ e3 i)
  · exact isReal_of_bit (φ := .f32) infinity_f32 (Host.reduce_andi_all _ _ _ _ _ e4 i)
  · exact isReal_of_bit (φ := .f32) infinity_f32 (Host.reduce_andi_all _ _ _ _ _ e2 i)

end Cert.MlstmFinite

end
-- ==== Proof.SsdReal.lean ====
module

public import proofs.«01_k».proof.Proof.MlstmReal
public import Mathlib.Analysis.SpecialFunctions.Pow.Real

@[expose] public section

noncomputable section

namespace Cert.SsdReal

open Finset

/-! # The state-space recurrence of one head, over the real numbers

The sequence is read from its end, in chunks of 128 positions. `cum t` is the exponent to which two is raised for what is left
at position `t` of what came in after its chunk; `cum (128 c)` is that of the whole chunk `c`. Within a chunk, two to
`cum t - src s` is left at `t` of what came in at `s`; and `w s` is what the input at `s` brings to the edge of its chunk. -/

section Spec

variable (cum src w : ℕ → ℝ) (Q K : ℕ → Fin 128 → ℝ) (V : ℕ → ℝ)

/-- The exponent of the chunks from `a` up to `b`. -/
def gap (a b : ℕ) : ℝ := ∑ d ∈ Ico a b, cum (128 * d)
/-- What is left, when chunk `c` is read, of what came in at position `s`. -/
def carry (c s : ℕ) : ℝ := (2 : ℝ) ^ gap cum c (s / 128) * w s
/-- What is left at position `t` of what came in at position `s`. -/
def weight (t s : ℕ) : ℝ :=
  if t / 128 = s / 128 then (2 : ℝ) ^ (cum t - src s) else (2 : ℝ) ^ (cum t + gap cum (t / 128 + 1) (s / 128)) * w s
/-- The matrix held once the chunks from the last one back to `c` are read. -/
def state (c : ℕ) (n : Fin 128) : ℝ := ∑ s ∈ Ico (128 * c) 16384, carry cum w c s * K s n * V s
/-- What position `t` gets out of all that came in from the end of the sequence back to it. -/
def answer (t : ℕ) : ℝ := ∑ s ∈ Ico t 16384, weight cum src w t s * (∑ n, Q t n * K s n) * V s

theorem carry_near (c r : ℕ) (hr : r < 128) : carry cum w c (128 * c + r) = w (128 * c + r) := by
  unfold carry gap
  rw [show (128 * c + r) / 128 = c by omega, Ico_self, sum_empty, Real.rpow_zero, one_mul]

theorem gap_step (c s : ℕ) (hs : 128 * (c + 1) ≤ s) : gap cum c (s / 128) = cum (128 * c) + gap cum (c + 1) (s / 128) := by
  unfold gap
  exact sum_eq_sum_Ico_succ_bot (show c < s / 128 by omega) _

theorem carry_far (c s : ℕ) (hs : 128 * (c + 1) ≤ s) : carry cum w c s = (2 : ℝ) ^ cum (128 * c) * carry cum w (c + 1) s := by
  unfold carry
  rw [gap_step cum c s hs, Real.rpow_add two_pos, mul_assoc]

theorem weight_near (c l r : ℕ) (hl : l < 128) (hr : r < 128) :
    weight cum src w (128 * c + l) (128 * c + r) = (2 : ℝ) ^ (cum (128 * c + l) - src (128 * c + r)) := by
  unfold weight
  rw [if_pos (by omega)]

theorem weight_far (c l s : ℕ) (hl : l < 128) (hs : 128 * (c + 1) ≤ s) :
    weight cum src w (128 * c + l) s = (2 : ℝ) ^ cum (128 * c + l) * carry cum w (c + 1) s := by
  unfold weight carry
  rw [if_neg (by omega), show (128 * c + l) / 128 + 1 = c + 1 by omega, Real.rpow_add two_pos, mul_assoc]

theorem state_end (n : Fin 128) : state cum w K V 128 n = 0 := by
  unfold state
  rw [show 128 * 128 = 16384 from rfl, Ico_self, sum_empty]

theorem state_step (c : ℕ) (hc : c < 128) (n : Fin 128) :
    state cum w K V c n = state cum w K V (c + 1) n * (2 : ℝ) ^ cum (128 * c)
      + ∑ r : Fin 128, K (128 * c + r.val) n * w (128 * c + r.val) * V (128 * c + r.val) := by
  unfold state
  rw [← sum_Ico_consecutive _ (show 128 * c ≤ 128 * (c + 1) by omega) (show 128 * (c + 1) ≤ 16384 by omega), add_comm]
  congr 1
  · rw [sum_mul]
    refine sum_congr rfl fun s hs => ?_
    rw [carry_far cum w c s (mem_Ico.mp hs).1]
    ring
  · rw [Fin.sum_univ_eq_sum_range (fun r => K (128 * c + r) n * w (128 * c + r) * V (128 * c + r)) 128]
    rw [show Ico (128 * c) (128 * (c + 1)) = Ico (128 * c + 0) (128 * c + 128) from rfl, MlstmReal.chunk_sum]
    refine sum_congr (by simp) fun r hr => ?_
    rw [carry_near cum w c r (by simpa using hr)]
    ring

theorem answer_step (c l : ℕ) (hc : c < 128) (hl : l < 128) :
    answer cum src w Q K V (128 * c + l)
      = (∑ r : Fin 128, (∑ n, Q (128 * c + l) n * K (128 * c + r.val) n)
          * (if l ≤ r.val then (2 : ℝ) ^ (cum (128 * c + l) - src (128 * c + r.val)) else 0) * V (128 * c + r.val))
        + (2 : ℝ) ^ cum (128 * c + l) * ∑ n, Q (128 * c + l) n * state cum w K V (c + 1) n := by
  unfold answer state
  rw [← sum_Ico_consecutive _ (show 128 * c + l ≤ 128 * c + 128 by omega) (show 128 * c + 128 ≤ 16384 by omega)]
  congr 1
  · rw [Fin.sum_univ_eq_sum_range (fun r => (∑ n, Q (128 * c + l) n * K (128 * c + r) n)
          * (if l ≤ r then (2 : ℝ) ^ (cum (128 * c + l) - src (128 * c + r)) else 0) * V (128 * c + r)) 128]
    simp only [mul_ite, ite_mul, mul_zero, zero_mul]
    rw [← sum_filter, MlstmReal.chunk_sum]
    refine sum_congr rfl fun r hr => ?_
    have h := mem_range.mp (mem_filter.mp hr).1
    rw [weight_near cum src w c l r hl h]
    ring
  · simp only [mul_sum]
    rw [sum_comm]
    refine sum_congr rfl fun s hs => ?_
    rw [weight_far cum src w c l s hl (mem_Ico.mp hs).1, sum_mul]
    refine sum_congr rfl fun n _ => ?_
    ring

end Spec

end Cert.SsdReal

end
-- ==== Proof.SsdHead.lean ====
module

public import proofs.«01_k».proof.Proof.Gen.KernelSsdIdeal.Value
public import proofs.«01_k».proof.Proof.MlstmNumber
public import proofs.«01_k».proof.Proof.SsdReal
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SsdHead

open Cert.KernelSsdIdeal Cert.KernelSsdIdeal.Gen
open Cert.MlstmNumber

/-! # Two heads of one chunk of 128 positions of the state-space recurrence

The kernel takes the heads in pairs: the first head of a pair has the lanes below 64 of a block of values, the second the others,
and one product of 256 rows and 256 columns serves what both write and what both carry on. The decays of the two heads lie in lanes `o`
and `o'`; both readings below are stated over them, so that one of each serves all 32 pairs. -/

/-- Column `o` of the decays, in every lane. -/
def column (o : ℕ) (ho : S128x128.Slices ![0, o] S128x1) (x : Vec Ideal S128x128 .f32) : FVec Ideal S128x128 .f32 :=
  broadcastTo S128x128 (shapeCast S128x1 (extractStridedSlice S128x1 ![0, o] x ho) shapeCasts_S128x1_S128x1) broadcasts_S128x1_S128x128

/-- The decayed products of two positions of the chunk. -/
def decayed (o : ℕ) (ho : S128x128.Slices ![0, o] S128x1) (hr : S128x128.Slices ![o, 0] S1x128)
    (cum src : Vec Ideal S128x128 .f32) (s : FVec Ideal S128x128 .bf16) : FVec Ideal S128x128 .bf16 :=
  mulf s (truncf .bf16 (exp2 (select k0_pay3
    (subf (column o ho cum) (broadcastTo S128x128 (extractStridedSlice S1x128 ![o, 0] src hr) broadcasts_S1x128_S128x128))
    (broadcast S128x128 (Named.named κ "mask" 0xF149F2CA#32)))) bitsLt_bf16_f32)

/-- What each position brings to the edge of the chunk. -/
def brought (o : ℕ) (hr : S128x128.Slices ![o, 0] S1x128) (w : Vec Ideal S128x128 .f32) (b : FVec Ideal S128x128 .bf16) : FVec Ideal S128x128 .bf16 :=
  mulf b (truncf .bf16 (broadcastTo S128x128 (shapeCast S1x128 (extractStridedSlice S1x128 ![o, 0] w hr) shapeCasts_S1x128_S1x128)
    broadcasts_S1x128_S128x128) bitsLt_bf16_f32)

/-- The product that serves both heads. -/
def product (o o' : ℕ) (ho : S128x128.Slices ![0, o] S128x1) (hr : S128x128.Slices ![o, 0] S1x128)
    (ho' : S128x128.Slices ![0, o'] S128x1) (hr' : S128x128.Slices ![o', 0] S1x128)
    (cum src w : Vec Ideal S128x128 .f32) (s b : FVec Ideal S128x128 .bf16) (x : Vec Ideal S128x128 .bf16) : FVec Ideal S256x128 .f32 :=
  matmul (φ₁ := .bf16) (φ₂ := .bf16) dot_S256x256_S256x128_S256x128_1_0_0_1_n_n none
    (concatenate S256x256 0
      [⟨S128x256, concatenate S128x256 1 [⟨S128x128, decayed o ho hr cum src s⟩, ⟨S128x128, decayed o' ho' hr' cum src s⟩]
        concatenates_S128x128_S128x128_S128x256_d1⟩,
       ⟨S128x256, concatenate S128x256 1 [⟨S128x128, brought o hr w b⟩, ⟨S128x128, brought o' hr' w b⟩]
        concatenates_S128x128_S128x128_S128x256_d1⟩] concatenates_S128x256_S128x256_S256x256_d0)
    (concatenate S256x128 0
      [⟨S128x128, select k0_pay4 x (broadcast S128x128 (Scalar.ofBits (F := Ideal) .bf16 0x0000#16))⟩,
       ⟨S128x128, select k0_pay4 (broadcast S128x128 (Scalar.ofBits (F := Ideal) .bf16 0x0000#16)) x⟩] concatenates_S128x128_S128x128_S256x128_d0)
    (constant S256x128 .f32 0x00000000#32)

/-- The exponents of the two heads, each in its lanes. -/
def exponents (o o' : ℕ) (ho : S128x128.Slices ![0, o] S128x1) (ho' : S128x128.Slices ![0, o'] S128x1) (cum : Vec Ideal S128x128 .f32) :
    FVec Ideal S128x128 .f32 :=
  select k0_pay4 (column o ho cum) (column o' ho' cum)

/-- What the two heads write, over what `y` says of the state before the chunk. -/
def written (o o' j : ℕ) (ho : S128x128.Slices ![0, o] S128x1) (hr : S128x128.Slices ![o, 0] S1x128)
    (ho' : S128x128.Slices ![0, o'] S128x1) (hr' : S128x128.Slices ![o', 0] S1x128) (hj : S128x512.Slices ![0, j] S128x128)
    (cum src w : Vec Ideal S128x128 .f32) (s b : FVec Ideal S128x128 .bf16) (x : Vec Ideal S128x128 .bf16) (y : FVec Ideal S128x512 .f32) :
    FVec Ideal S128x128 .f32 :=
  addf (extractStridedSlice S128x128 ![0, 0] (product o o' ho hr ho' hr' cum src w s b x) slices_S256x128_o0_0_S128x128)
    (mulf (exp2 (exponents o o' ho ho' cum)) (extractStridedSlice S128x128 ![0, j] y hj))

/-- What the two heads carry on, over the state `st` before the chunk. -/
def kept (o o' : ℕ) (ho : S128x128.Slices ![0, o] S128x1) (hr : S128x128.Slices ![o, 0] S1x128)
    (ho' : S128x128.Slices ![0, o'] S128x1) (hr' : S128x128.Slices ![o', 0] S1x128)
    (cum src w : Vec Ideal S128x128 .f32) (s b : FVec Ideal S128x128 .bf16) (x : Vec Ideal S128x128 .bf16) (st : Vec Ideal S128x128 .f32) :
    FVec Ideal S128x128 .f32 :=
  shapeCast S128x128 (addf
    (mulf st (broadcastTo S128x128 (exp2 (extractStridedSlice S1x128 ![0, 0] (exponents o o' ho ho' cum) slices_S128x128_o0_0_S1x128))
      broadcasts_S1x128_S128x128))
    (extractStridedSlice S128x128 ![128, 0] (product o o' ho hr ho' hr' cum src w s b x) slices_S256x128_o128_0_S128x128))
    shapeCasts_S128x128_S128x128

theorem mask_value : (Named.named (F := Ideal) (φ := .f32) κ "mask" 0xF149F2CA#32 : EReal) = ⊥ :=
  IdealRules.named_const.ideal_named_scalar _ _ _ _ rfl

theorem past_apply (l r : Fin 128) : k0_pay3 (ix2 l r) = if l.val ≤ r.val then 1#1 else 0#1 := by
  have h : ∀ l r : Fin 128, IntOp.cmpi .sle (BitVec.ofNat 32 l.val) (BitVec.ofNat 32 r.val) = if l.val ≤ r.val then 1#1 else 0#1 := by
    decide +kernel
  pointwise [k0_pay3]
  exact h l r

theorem low_apply (l p : Fin 128) : k0_pay4 (ix2 l p) = if p.val < 64 then 1#1 else 0#1 := by
  have h : ∀ r : Fin 128, IntOp.cmpi .slt (BitVec.ofNat 32 r.val) 64#32 = if r.val < 64 then 1#1 else 0#1 := by
    decide +kernel
  pointwise [k0_pay4]
  exact h p

/-- The lane of the decays of the head that lane `p` of the values belongs to. -/
def own (o o' p : Fin 128) : Fin 128 := if p.val < 64 then o else o'

theorem decayed_apply (o : Fin 128) (ho hr) (cum src : Vec Ideal S128x128 .f32) (s : FVec Ideal S128x128 .bf16) (l r : Fin 128) :
    decayed o ho hr cum src s (ix2 l r) = s (ix2 l r) * Ideal.exp2 (if l.val ≤ r.val then cum (ix2 l o) - src (ix2 o r) else ⊥) := by
  pointwise [decayed, column]
  rw [past_apply, mask_value]
  split <;> rfl

theorem brought_apply (o : Fin 128) (hr) (w : Vec Ideal S128x128 .f32) (b : FVec Ideal S128x128 .bf16) (n r : Fin 128) :
    brought o hr w b (ix2 n r) = b (ix2 n r) * w (ix2 o r) := by
  pointwise [brought]

theorem exponents_apply (o o' : Fin 128) (ho ho') (cum : Vec Ideal S128x128 .f32) (l p : Fin 128) :
    exponents o o' ho ho' cum (ix2 l p) = cum (ix2 l (own o o' p)) := by
  pointwise [exponents, column]
  rw [low_apply]
  unfold own
  split <;> rfl

section Product

variable (o o' : Fin 128) (ho : S128x128.Slices ![0, o.val] S128x1) (hr : S128x128.Slices ![o.val, 0] S1x128)
variable (ho' : S128x128.Slices ![0, o'.val] S128x1) (hr' : S128x128.Slices ![o'.val, 0] S1x128)
variable (cum src w : Vec Ideal S128x128 .f32) (s b : FVec Ideal S128x128 .bf16) (x : Vec Ideal S128x128 .bf16)

theorem halves (A B X : Fin 128 → EReal) (p : Fin 128) :
    (∑ r, A r * Scalar.select (if p.val < 64 then 1#1 else 0#1) (X r) 0) + (∑ r, B r * Scalar.select (if p.val < 64 then 1#1 else 0#1) 0 (X r))
      = ∑ r, (if p.val < 64 then A r else B r) * X r := by
  split
  · show (∑ r, A r * X r) + (∑ r, B r * 0) = _
    simp
  · show (∑ r, A r * 0) + (∑ r, B r * X r) = _
    simp

theorem product_low (l p : Fin 128) : product o o' ho hr ho' hr' cum src w s b x (ix2 ⟨l.val, by omega⟩ p)
    = ∑ r, (if p.val < 64 then decayed o ho hr cum src s (ix2 l r) else decayed o' ho' hr' cum src s (ix2 l r)) * x (ix2 r p) := by
  rw [← halves]
  generalize ha : decayed o ho hr cum src s = a
  generalize ha' : decayed o' ho' hr' cum src s = a'
  generalize hz : brought o hr w b = z
  generalize hz' : brought o' hr' w b = z'
  pointwise [product, ha, ha', hz, hz']
  simp only [low_apply]

theorem product_high (n p : Fin 128) : product o o' ho hr ho' hr' cum src w s b x (ix2 ⟨128 + n.val, by omega⟩ p)
    = ∑ r, (if p.val < 64 then brought o hr w b (ix2 n r) else brought o' hr' w b (ix2 n r)) * x (ix2 r p) := by
  rw [← halves]
  generalize ha : decayed o ho hr cum src s = a
  generalize ha' : decayed o' ho' hr' cum src s = a'
  generalize hz : brought o hr w b = z
  generalize hz' : brought o' hr' w b = z'
  pointwise [product, ha, ha', hz, hz']
  simp only [low_apply]

theorem written_apply (j : ℕ) (hj : S128x512.Slices ![0, j] S128x128) (y : FVec Ideal S128x512 .f32) (l p : Fin 128) (q : Fin 512)
    (hq : q.val = j + p.val) : written o o' j ho hr ho' hr' hj cum src w s b x y (ix2 l p)
    = (∑ r, s (ix2 l r) * Ideal.exp2 (if l.val ≤ r.val then cum (ix2 l (own o o' p)) - src (ix2 (own o o' p) r) else ⊥) * x (ix2 r p))
      + Ideal.exp2 (cum (ix2 l (own o o' p))) * y (ix2 l q) := by
  have e : ∀ r, (if p.val < 64 then decayed o ho hr cum src s (ix2 l r) else decayed o' ho' hr' cum src s (ix2 l r))
      = s (ix2 l r) * Ideal.exp2 (if l.val ≤ r.val then cum (ix2 l (own o o' p)) - src (ix2 (own o o' p) r) else ⊥) := fun r => by
    rw [decayed_apply, decayed_apply]
    unfold own
    split <;> rfl
  have e' := product_low o o' ho hr ho' hr' cum src w s b x l p
  have e'' := exponents_apply o o' ho ho' cum l p
  simp only [e] at e'
  generalize hv : product o o' ho hr ho' hr' cum src w s b x = v at e'
  generalize hu : exponents o o' ho ho' cum = u at e''
  rw [← e', ← e'']
  have hq' : q = ⟨j + p.val, by have := q.isLt; omega⟩ := Fin.ext hq
  rw [hq']
  pointwise [written, hv, hu]
  rfl

theorem kept_apply (st : Vec Ideal S128x128 .f32) (n p : Fin 128) : kept o o' ho hr ho' hr' cum src w s b x st (ix2 n p)
    = st (ix2 n p) * Ideal.exp2 (cum (ix2 0 (own o o' p))) + ∑ r, b (ix2 n r) * w (ix2 (own o o' p) r) * x (ix2 r p) := by
  have e : ∀ r, (if p.val < 64 then brought o hr w b (ix2 n r) else brought o' hr' w b (ix2 n r))
      = b (ix2 n r) * w (ix2 (own o o' p) r) := fun r => by
    rw [brought_apply, brought_apply]
    unfold own
    split <;> rfl
  have e' := product_high o o' ho hr ho' hr' cum src w s b x n p
  have e'' := exponents_apply o o' ho ho' cum 0 p
  simp only [e] at e'
  generalize hv : product o o' ho hr ho' hr' cum src w s b x = v at e'
  generalize hu : exponents o o' ho ho' cum = u at e''
  rw [← e', ← e'']
  pointwise [kept, hv, hu]
  rfl

end Product

/-! ## The same over the real numbers -/

theorem exp2_masked (c : Prop) [Decidable c] (a b : ℝ) :
    Ideal.exp2 (if c then (a : EReal) - (b : EReal) else ⊥) = ((if c then (2 : ℝ) ^ (a - b) else 0 : ℝ) : EReal) := by
  split
  · rw [← EReal.coe_sub, Ideal.exp2_coe]
    rfl
  · rfl

theorem exp2_real (a : ℝ) : Ideal.exp2 (a : EReal) = (((2 : ℝ) ^ a : ℝ) : EReal) := rfl

end Cert.SsdHead

end
-- ==== Proof.SsdInput.lean ====
module

public import proofs.«01_k».proof.Proof.MlstmNumber
public import proofs.«01_k».proof.Proof.SsdReal

@[expose] public section

set_option maxRecDepth 16384

noncomputable section

open Idealize.ShloMosaic Idealize.ShloMosaic.TcCoe Idealize.SL.Sem

namespace Cert.SsdInput

open Cert.MlstmNumber

/-! # What the state-space recurrence reads, as real numbers

`P` holds values, keys and queries of the 2 × 16384 tokens, `A`, `S` and `W` the decays of their steps. Everything is said of a column `d`
of the result, which belongs to head `d / 64` and to group `d / 512`. The arrays `S` and `W` hold each chunk of 128 positions transposed:
a row is a head, a column a position. -/

variable (P : Fin 32768 → Fin 6144 → EReal) (A S W : Fin 32768 → Fin 128 → EReal)

/-- The row of the token at position `s` of sequence `b`. -/
def place (b : Fin 2) (s : ℕ) : Fin 32768 := ⟨(b.val * 16384 + s) % 32768, Nat.mod_lt _ (by norm_num)⟩
/-- The lane of the decays of column `d`. -/
def lane (d : Fin 4096) : Fin 128 := ⟨64 + d.val / 64, by omega⟩

def value (b : Fin 2) (d : Fin 4096) (s : ℕ) : ℝ := (P (place b s) ⟨d.val, by omega⟩).toReal
def key (b : Fin 2) (d : Fin 4096) (s : ℕ) (n : Fin 128) : ℝ := (P (place b s) ⟨4096 + (128 * (d.val / 512) + n.val), by omega⟩).toReal
def query (b : Fin 2) (d : Fin 4096) (s : ℕ) (n : Fin 128) : ℝ := (P (place b s) ⟨5120 + (128 * (d.val / 512) + n.val), by omega⟩).toReal
def cum (b : Fin 2) (d : Fin 4096) (s : ℕ) : ℝ := (A (place b s) (lane d)).toReal
/-- An entry of an array that holds its chunks transposed. -/
def turned (b : Fin 2) (d : Fin 4096) (s : ℕ) : ℝ := (S (place b (128 * (s / 128) + (lane d).val)) ⟨s % 128, Nat.mod_lt _ (by norm_num)⟩).toReal

/-- Column `d` of what the recurrence gives for the token at position `s` of sequence `b`. -/
def answer (b : Fin 2) (d : Fin 4096) (s : ℕ) : ℝ :=
  SsdReal.answer (cum A b d) (turned S b d) (turned W b d) (query P b d) (key P b d) (value P b d) s

/-- Column `d` of the matrix held once the chunks from the last one back to `c` are read. -/
def held (b : Fin 2) (d : Fin 4096) (c : ℕ) (n : Fin 128) : ℝ :=
  SsdReal.state (cum A b d) (turned W b d) (key P b d) (value P b d) c n

theorem turned_chunk (b : Fin 2) (d : Fin 4096) (c r : ℕ) (hr : r < 128) :
    turned S b d (128 * c + r) = (S (place b (128 * c + (lane d).val)) ⟨r, hr⟩).toReal := by
  unfold turned
  have e1 : (128 * c + r) / 128 = c := by omega
  have e2 : (128 * c + r) % 128 = r := by omega
  simp only [e1, e2]

theorem coe_toReal {x : EReal} : IsReal x → ((x.toReal : ℝ) : EReal) = x
  | ⟨r, hr⟩ => by rw [hr]; rfl

end Cert.SsdInput

end
-- ==== Proof.SsdChunk.lean ====
module

public import proofs.«01_k».proof.Proof.SsdHead
public import proofs.«01_k».proof.Proof.SsdInput
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.SsdChunk

open Cert.KernelSsdIdeal Cert.KernelSsdIdeal.Gen
open Cert.MlstmNumber Cert.SsdInput Cert.SsdHead

/-! # One chunk of the state-space recurrence: its 32 pairs of heads -/

/-- The lanes of the decays of the two heads of pair `u`. -/
def first (u : Fin 32) : Fin 128 := ⟨64 + 2 * u.val, by omega⟩
def second (u : Fin 32) : Fin 128 := ⟨65 + 2 * u.val, by omega⟩

theorem column_first (u : Fin 32) : S128x128.Slices ![0, (first u).val] S128x1 := by revert u; decide
theorem row_first (u : Fin 32) : S128x128.Slices ![(first u).val, 0] S1x128 := by revert u; decide
theorem column_second (u : Fin 32) : S128x128.Slices ![0, (second u).val] S128x1 := by revert u; decide
theorem row_second (u : Fin 32) : S128x128.Slices ![(second u).val, 0] S1x128 := by revert u; decide
theorem part_in (u : Fin 32) : S128x512.Slices ![0, 128 * (u.val % 4)] S128x128 := by revert u; decide

theorem group_in (u : Fin 32) : ∀ a, (![0, 128 * (u.val / 4)] : Fin 2 → ℕ) a + S128x128.size a ≤ S128x1024.size a := by revert u; decide
theorem pair_in (u : Fin 32) : ∀ a, (![0, 128 * u.val] : Fin 2 → ℕ) a + S128x128.size a ≤ S128x4096.size a := by revert u; decide
theorem states_in (u : Fin 32) : ∀ a, (![0, 512 * (u.val / 4)] : Fin 2 → ℕ) a + S128x512.size a ≤ S128x4096.size a := by revert u; decide

section Pieces

variable (x0 : Vec Ideal S128x4096 .bf16) (x1 x2 : Vec Ideal S128x1024 .bf16) (x3 x4 x5 : Vec Ideal S128x128 .f32)
variable (st : Vec Ideal S128x4096 .f32)

/-- What the chunk stores to the result for pair `u`. -/
def outPiece (u : Fin 32) : View.Piece (Elt Ideal) S128x4096 .f32 :=
  ⟨Rect.unit ![0, 128 * u.val] S128x128.size (pair_in u),
    written (first u).val (second u).val (128 * (u.val % 4)) (column_first u) (row_first u) (column_second u) (row_second u) (part_in u) x3 x4 x5
      (k0_pay5 (View.ld x1 (Rect.unit ![0, 128 * (u.val / 4)] S128x128.size (group_in u)))
        (View.ld x2 (Rect.unit ![0, 128 * (u.val / 4)] S128x128.size (group_in u))))
      (k0_pay6 (View.ld x1 (Rect.unit ![0, 128 * (u.val / 4)] S128x128.size (group_in u))))
      (View.ld x0 (Rect.unit ![0, 128 * u.val] S128x128.size (pair_in u)))
      (k0_pay7 (View.ld x2 (Rect.unit ![0, 128 * (u.val / 4)] S128x128.size (group_in u)))
        (View.ld st (Rect.unit ![0, 512 * (u.val / 4)] S128x512.size (states_in u))))⟩

/-- What the chunk stores to the carried matrices for pair `u`. -/
def statePiece (u : Fin 32) : View.Piece (Elt Ideal) S128x4096 .f32 :=
  ⟨Rect.unit ![0, 128 * u.val] S128x128.size (pair_in u),
    kept (first u).val (second u).val (column_first u) (row_first u) (column_second u) (row_second u) x3 x4 x5
      (k0_pay5 (View.ld x1 (Rect.unit ![0, 128 * (u.val / 4)] S128x128.size (group_in u)))
        (View.ld x2 (Rect.unit ![0, 128 * (u.val / 4)] S128x128.size (group_in u))))
      (k0_pay6 (View.ld x1 (Rect.unit ![0, 128 * (u.val / 4)] S128x128.size (group_in u))))
      (View.ld x0 (Rect.unit ![0, 128 * u.val] S128x128.size (pair_in u)))
      (View.ld st (Rect.unit ![0, 128 * u.val] S128x128.size (pair_in u)))⟩

def outList : List (View.Piece (Elt Ideal) S128x4096 .f32) :=
  List.map (outPiece x0 x1 x2 x3 x4 x5 st) [31, 30, 29, 28, 27, 26, 25, 24, 23, 22, 21, 20, 19, 18, 17, 16, 15, 14, 13, 12, 11, 10, 9, 8, 7, 6, 5, 4, 3, 2, 1, 0]

def stateList : List (View.Piece (Elt Ideal) S128x4096 .f32) :=
  List.map (statePiece x0 x1 x2 x3 x4 x5 st) [31, 30, 29, 28, 27, 26, 25, 24, 23, 22, 21, 20, 19, 18, 17, 16, 15, 14, 13, 12, 11, 10, 9, 8, 7, 6, 5, 4, 3, 2, 1, 0]

theorem out_cover (y : S128x4096.Idx) : ∃ p ∈ outList x0 x1 x2 x3 x4 x5 st, y ∈ p.1.set :=
  View.cover_of_tiledL (outList x0 x1 x2 x3 x4 x5 st) S128x128.size (by sl_kernel_rfl) y

theorem state_cover (y : S128x4096.Idx) : ∃ p ∈ stateList x0 x1 x2 x3 x4 x5 st, y ∈ p.1.set :=
  View.cover_of_tiledL (stateList x0 x1 x2 x3 x4 x5 st) S128x128.size (by sl_kernel_rfl) y

end Pieces

/-! ## Over the real numbers -/

variable (P : Fin 32768 → Fin 6144 → EReal) (A S W : Fin 32768 → Fin 128 → EReal)

/-- The blocks of a point hold chunk `c` of sequence `b`. -/
structure Block (b : Fin 2) (c : ℕ) (x0 : Vec Ideal S128x4096 .bf16) (x1 x2 : Vec Ideal S128x1024 .bf16) (x3 x4 x5 : Vec Ideal S128x128 .f32) :
    Prop where
  v (d : Fin 4096) (l : Fin 128) : x0 (ix2 l d) = (value P b d (128 * c + l.val) : EReal)
  k (d : Fin 4096) (l n : Fin 128) : x1 (ix2 l ⟨128 * (d.val / 512) + n.val, by omega⟩) = (key P b d (128 * c + l.val) n : EReal)
  q (d : Fin 4096) (l n : Fin 128) : x2 (ix2 l ⟨128 * (d.val / 512) + n.val, by omega⟩) = (query P b d (128 * c + l.val) n : EReal)
  a (d : Fin 4096) (l : Fin 128) : x3 (ix2 l (lane d)) = (cum A b d (128 * c + l.val) : EReal)
  s (d : Fin 4096) (l : Fin 128) : x4 (ix2 (lane d) l) = (turned S b d (128 * c + l.val) : EReal)
  w (d : Fin 4096) (l : Fin 128) : x5 (ix2 (lane d) l) = (turned W b d (128 * c + l.val) : EReal)

/-- The carried matrices hold what the chunks from `c` on leave. -/
def Carried (b : Fin 2) (c : ℕ) (st : Vec Ideal S128x4096 .f32) : Prop :=
  ∀ (n : Fin 128) (d : Fin 4096), st (ix2 n d) = (held P A W b d c n : EReal)

section Chunk

variable {P A S W}
variable {b : Fin 2} {c : ℕ} {x0 : Vec Ideal S128x4096 .bf16} {x1 x2 : Vec Ideal S128x1024 .bf16} {x3 x4 x5 : Vec Ideal S128x128 .f32}
variable {st : Vec Ideal S128x4096 .f32}

/-- The column of the result that is lane `p` of pair `u`. -/
def at_ (u : Fin 32) (p : Fin 128) : Fin 4096 := ⟨128 * u.val + p.val, by omega⟩

theorem own_lane (u : Fin 32) (p : Fin 128) : own (first u) (second u) p = lane (at_ u p) := by
  refine Fin.ext ?_
  have h : (own (first u) (second u) p).val = if p.val < 64 then 64 + 2 * u.val else 65 + 2 * u.val := by
    unfold own
    split <;> rfl
  rw [h]
  show _ = 64 + (128 * u.val + p.val) / 64
  split <;> omega

theorem group_read (x : Vec Ideal S128x1024 .bf16) (u : Fin 32) (p l n : Fin 128) :
    View.ld x (Rect.unit ![0, 128 * (u.val / 4)] S128x128.size (group_in u)) (ix2 l n)
      = x (ix2 l ⟨128 * ((at_ u p).val / 512) + n.val, by have := (at_ u p).isLt; omega⟩) :=
  View.ld_unit_apply_of x _ _ _ _ _ (Fin.forall_fin_two.mpr ⟨(Nat.zero_add _).symm, by
    show 128 * ((128 * u.val + p.val) / 512) + n.val = 128 * (u.val / 4) + n.val
    omega⟩)

theorem pair_read {e : EltTy} (x : Vec Ideal S128x4096 e) (u : Fin 32) (l p : Fin 128) :
    View.ld x (Rect.unit ![0, 128 * u.val] S128x128.size (pair_in u)) (ix2 l p) = x (ix2 l (at_ u p)) :=
  View.ld_unit_apply_of x _ _ _ _ _ (Fin.forall_fin_two.mpr ⟨(Nat.zero_add _).symm, rfl⟩)

theorem states_read (u : Fin 32) (n p : Fin 128) :
    View.ld st (Rect.unit ![0, 512 * (u.val / 4)] S128x512.size (states_in u)) (ix2 n ⟨128 * (u.val % 4) + p.val, by omega⟩) = st (ix2 n (at_ u p)) :=
  View.ld_unit_apply_of st _ _ _ _ _ (Fin.forall_fin_two.mpr ⟨(Nat.zero_add _).symm, by
    show 128 * u.val + p.val = 512 * (u.val / 4) + (128 * (u.val % 4) + p.val)
    omega⟩)

theorem products (k q : Vec Ideal S128x128 .bf16) (l r : Fin 128) : k0_pay5 (F := Ideal) k q (ix2 l r) = ∑ n, q (ix2 l n) * k (ix2 r n) := by
  pointwise [k0_pay5]

theorem keys (k : Vec Ideal S128x128 .bf16) (n r : Fin 128) : k0_pay6 (F := Ideal) k (ix2 n r) = k (ix2 r n) := by
  pointwise [k0_pay6]

theorem past (q : Vec Ideal S128x128 .bf16) (s : Vec Ideal S128x512 .f32) (l : Fin 128) (j : Fin 512) :
    k0_pay7 (F := Ideal) q s (ix2 l j) = ∑ n, q (ix2 l n) * s (ix2 n j) := by
  pointwise [k0_pay7]

theorem out_piece (hc : c < 128) (H : Block P A S W b c x0 x1 x2 x3 x4 x5) (C : Carried P A W b (c + 1) st) (u : Fin 32) (l p : Fin 128) :
    (outPiece x0 x1 x2 x3 x4 x5 st u).2 (ix2 l p) = (answer P A S W b (at_ u p) (128 * c + l.val) : EReal) := by
  refine (written_apply (first u) (second u) _ _ _ _ _ _ _ _ _ _ _ _ _ l p ⟨128 * (u.val % 4) + p.val, by omega⟩ rfl).trans ?_
  unfold answer
  rw [SsdReal.answer_step _ _ _ _ _ _ c l.val hc l.isLt, EReal.coe_add, EReal.coe_mul, ← sum_coe, ← sum_coe, own_lane, H.a, past, exp2_real]
  refine congrArg₂ (· + ·) (Finset.sum_congr rfl fun r _ => ?_) (congrArg (_ * ·) (Finset.sum_congr rfl fun n _ => ?_))
  · rw [H.s, exp2_masked, pair_read, H.v, products, EReal.coe_mul, EReal.coe_mul, ← sum_coe]
    refine congrArg (· * _ * _) (Finset.sum_congr rfl fun n _ => ?_)
    rw [group_read _ u p, group_read _ u p, H.q, H.k, EReal.coe_mul]
  · rw [states_read, group_read _ u p, H.q, C, EReal.coe_mul]
    rfl

theorem state_piece (hc : c < 128) (H : Block P A S W b c x0 x1 x2 x3 x4 x5) (C : Carried P A W b (c + 1) st) (u : Fin 32) (n p : Fin 128) :
    (statePiece x0 x1 x2 x3 x4 x5 st u).2 (ix2 n p) = (held P A W b (at_ u p) c n : EReal) := by
  refine (kept_apply (first u) (second u) _ _ _ _ _ _ _ _ _ _ _ n p).trans ?_
  have e : x3 (ix2 0 (lane (at_ u p))) = (cum A b (at_ u p) (128 * c) : EReal) := H.a (at_ u p) 0
  unfold held
  rw [SsdReal.state_step _ _ _ _ c hc n, EReal.coe_add, EReal.coe_mul, ← sum_coe, own_lane, e, exp2_real, pair_read, C]
  refine congrArg (_ + ·) (Finset.sum_congr rfl fun r _ => ?_)
  rw [keys, group_read _ u p, H.k, H.w, pair_read, H.v, EReal.coe_mul, EReal.coe_mul]

/-- What the chunk stores to the result. -/
theorem out_chunk (hc : c < 128) (H : Block P A S W b c x0 x1 x2 x3 x4 x5) (C : Carried P A W b (c + 1) st) (l : Fin 128) (d : Fin 4096) :
    View.canon (outList x0 x1 x2 x3 x4 x5 st) (ix2 l d) = (answer P A S W b d (128 * c + l.val) : EReal) := by
  have p : ∀ u : Fin 32, ∀ x : (outPiece x0 x1 x2 x3 x4 x5 st u).1.shape.Idx, (outPiece x0 x1 x2 x3 x4 x5 st u).2 x
      = (fun y : S128x4096.Idx => (answer P A S W b (y 1) (128 * c + (y 0).val) : EReal)) ((outPiece x0 x1 x2 x3 x4 x5 st u).1.emb x) := fun u x => by
    have e0 : (((outPiece x0 x1 x2 x3 x4 x5 st u).1.emb x) 0).val = (x 0).val := (Rect.idx_unit_val (s := S128x4096) ![0, 128 * u.val] S128x128.size (pair_in u) x 0).trans (Nat.zero_add _)
    have e1 : ((outPiece x0 x1 x2 x3 x4 x5 st u).1.emb x) 1 = at_ u (x 1) := Fin.ext (Rect.idx_unit_val (s := S128x4096) ![0, 128 * u.val] S128x128.size (pair_in u) x 1)
    refine (congrArg (outPiece x0 x1 x2 x3 x4 x5 st u).2 (?_ : x = ix2 (x 0) (x 1))).trans ((out_piece hc H C u (x 0) (x 1)).trans ?_)
    · funext a; fin_cases a <;> rfl
    · show _ = (answer P A S W b (((outPiece x0 x1 x2 x3 x4 x5 st u).1.emb x) 1) (128 * c + (((outPiece x0 x1 x2 x3 x4 x5 st u).1.emb x) 0).val) : EReal)
      rw [e0, e1]
  exact View.canon_append_of_piecesOf (fun y : S128x4096.Idx => (answer P A S W b (y 1) (128 * c + (y 0).val) : EReal)) []
    (outList x0 x1 x2 x3 x4 x5 st) ⟨p 31, p 30, p 29, p 28, p 27, p 26, p 25, p 24, p 23, p 22, p 21, p 20, p 19, p 18, p 17, p 16, p 15, p 14, p 13, p 12, p 11, p 10, p 9, p 8, p 7, p 6, p 5, p 4, p 3, p 2, p 1, p 0, trivial⟩ _ (out_cover x0 x1 x2 x3 x4 x5 st _)

/-- What the chunk leaves in the carried matrices, over whatever was stored there before. -/
theorem state_chunk (hc : c < 128) (H : Block P A S W b c x0 x1 x2 x3 x4 x5) (C : Carried P A W b (c + 1) st)
    (L : List (View.Piece (Elt Ideal) S128x4096 .f32)) : Carried P A W b c (View.canon (stateList x0 x1 x2 x3 x4 x5 st ++ L)) := by
  intro n d
  have p : ∀ u : Fin 32, ∀ x : (statePiece x0 x1 x2 x3 x4 x5 st u).1.shape.Idx, (statePiece x0 x1 x2 x3 x4 x5 st u).2 x
      = (fun y : S128x4096.Idx => (held P A W b (y 1) c (y 0) : EReal)) ((statePiece x0 x1 x2 x3 x4 x5 st u).1.emb x) := fun u x => by
    have e0 : ((statePiece x0 x1 x2 x3 x4 x5 st u).1.emb x) 0 = x 0 := Fin.ext ((Rect.idx_unit_val (s := S128x4096) ![0, 128 * u.val] S128x128.size (pair_in u) x 0).trans (Nat.zero_add _))
    have e1 : ((statePiece x0 x1 x2 x3 x4 x5 st u).1.emb x) 1 = at_ u (x 1) := Fin.ext (Rect.idx_unit_val (s := S128x4096) ![0, 128 * u.val] S128x128.size (pair_in u) x 1)
    refine (congrArg (statePiece x0 x1 x2 x3 x4 x5 st u).2 (?_ : x = ix2 (x 0) (x 1))).trans ((state_piece hc H C u (x 0) (x 1)).trans ?_)
    · funext a; fin_cases a <;> rfl
    · show _ = (held P A W b (((statePiece x0 x1 x2 x3 x4 x5 st u).1.emb x) 1) c (((statePiece x0 x1 x2 x3 x4 x5 st u).1.emb x) 0) : EReal)
      rw [e0, e1]
  exact View.canon_append_of_piecesOf (fun y : S128x4096.Idx => (held P A W b (y 1) c (y 0) : EReal)) L
    (stateList x0 x1 x2 x3 x4 x5 st) ⟨p 31, p 30, p 29, p 28, p 27, p 26, p 25, p 24, p 23, p 22, p 21, p 20, p 19, p 18, p 17, p 16, p 15, p 14, p 13, p 12, p 11, p 10, p 9, p 8, p 7, p 6, p 5, p 4, p 3, p 2, p 1, p 0, trivial⟩ _ (state_cover x0 x1 x2 x3 x4 x5 st _)

end Chunk

end Cert.SsdChunk

end
-- ==== Proof.SsdScan.lean ====
module

public import proofs.«01_k».proof.Proof.SsdChunk
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsdScan

open Cert.KernelSsdIdeal Cert.KernelSsdIdeal.Gen
open Cert.MlstmNumber Cert.SsdInput Cert.SsdChunk

variable (m : (ℓ : Loc nD τ sig) → Buf (Elt Ideal) ℓ)

/-! # The state-space recurrence, from the last chunk back to the first

The kernel walks the 128 chunks of each of the two sequences from the last to the first. -/

/-! ## What a point leaves, over what the point before left -/

theorem pieces_eq {α : Type} {a b : α} {l k : List α} (h : a = b) (t : l = k) : a :: l = b :: k := by rw [h, t]

set_option maxRecDepth 20000 in
set_option maxHeartbeats 1000000 in
theorem out_B (c : Dev nD) (t : Fin cfg0.N) (h0 : ¬ t.val % 128 = 0) : (outsAt0 m c t.val t.isLt).1
    = View.canon (outList (X0_0 m c t) (iblk m c 1 t) (iblk m c 2 t) (iblk m c 3 t) (iblk m c 4 t) (iblk m c 5 t)
      (outsAt0 m c (t.val - 1) (Nat.lt_of_le_of_lt (Nat.sub_le _ _) t.isLt)).2) := by
  rw [outsAt0_B m c t h0]
  dsimp only
  unfold out0_B_6
  frame_open
  simp (maxSteps := 3000000) (disch := decide) only [↓ View.readCov_skip, ↓ View.readCov_cons_toLoadRect, ↓ View.readCov_fill,
    View.read_writes_junk_eq_canon, View.canon_cons_unit_lit', View.ld_unit_lit', View.readCov_unit_lit', View.readCov_cons_unit_lit',
    View.readAt_eq_ld, Memref.IsWhole.read_unread, read_unread_whole]
  generalize (outsAt0 m c (t.val - 1) (Nat.lt_of_le_of_lt (Nat.sub_le _ _) t.isLt)).2 = st
  generalize X0_0 m c t = x0
  generalize iblk m c 1 t = x1
  generalize iblk m c 2 t = x2
  generalize iblk m c 3 t = x3
  generalize iblk m c 4 t = x4
  generalize iblk m c 5 t = x5
  refine congrArg View.canon ?_
  simp only [outList, List.map_cons, List.map_nil, List.cons_append, List.nil_append]
  refine pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ ?_)))))))))))))))))))))))))))))))
  all_goals repeat rw [Memref.IsWhole.read_unread]
  all_goals rfl

set_option maxRecDepth 20000 in
set_option maxHeartbeats 1000000 in
theorem state_B (c : Dev nD) (t : Fin cfg0.N) (h0 : ¬ t.val % 128 = 0) : (outsAt0 m c t.val t.isLt).2
    = View.canon (stateList (X0_0 m c t) (iblk m c 1 t) (iblk m c 2 t) (iblk m c 3 t) (iblk m c 4 t) (iblk m c 5 t)
      (outsAt0 m c (t.val - 1) (Nat.lt_of_le_of_lt (Nat.sub_le _ _) t.isLt)).2 ++ []) := by
  rw [outsAt0_B m c t h0]
  dsimp only
  unfold sout0_B_0
  frame_open
  simp (maxSteps := 3000000) (disch := decide) only [↓ View.readCov_skip, ↓ View.readCov_cons_toLoadRect, ↓ View.readCov_fill,
    View.read_writes_junk_eq_canon, View.canon_cons_unit_lit', View.ld_unit_lit', View.readCov_unit_lit', View.readCov_cons_unit_lit',
    View.readAt_eq_ld, Memref.IsWhole.read_unread, read_unread_whole]
  generalize (outsAt0 m c (t.val - 1) (Nat.lt_of_le_of_lt (Nat.sub_le _ _) t.isLt)).2 = st
  generalize X0_0 m c t = x0
  generalize iblk m c 1 t = x1
  generalize iblk m c 2 t = x2
  generalize iblk m c 3 t = x3
  generalize iblk m c 4 t = x4
  generalize iblk m c 5 t = x5
  refine congrArg View.canon ?_
  simp only [stateList, List.map_cons, List.map_nil, List.cons_append, List.nil_append]
  refine pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ ?_)))))))))))))))))))))))))))))))
  all_goals repeat rw [Memref.IsWhole.read_unread]
  all_goals rfl

set_option maxRecDepth 20000 in
set_option maxHeartbeats 1000000 in
theorem out_A (c : Dev nD) (t : Fin cfg0.N) (h0 : t.val % 128 = 0) : (outsAt0 m c t.val t.isLt).1
    = View.canon (outList (X0_0 m c t) (iblk m c 1 t) (iblk m c 2 t) (iblk m c 3 t) (iblk m c 4 t) (iblk m c 5 t)
      (k0_pay2 (F := Ideal))) := by
  rw [outsAt0_A m c t h0]
  dsimp only
  unfold out0_A_6
  frame_open
  simp (maxSteps := 3000000) (disch := decide) only [↓ View.readCov_skip, ↓ View.readCov_cons_toLoadRect, ↓ View.readCov_fill,
    View.read_writes_junk_eq_canon, View.canon_cons_unit_lit', View.ld_unit_lit', View.readCov_unit_lit', View.readCov_cons_unit_lit',
    View.readAt_eq_ld, Memref.IsWhole.read_unread, read_unread_whole]
  generalize X0_0 m c t = x0
  generalize iblk m c 1 t = x1
  generalize iblk m c 2 t = x2
  generalize iblk m c 3 t = x3
  generalize iblk m c 4 t = x4
  generalize iblk m c 5 t = x5
  refine congrArg View.canon ?_
  simp only [outList, List.map_cons, List.map_nil, List.cons_append, List.nil_append]
  refine pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ ?_)))))))))))))))))))))))))))))))
  all_goals repeat rw [Memref.IsWhole.read_unread]
  all_goals rfl

set_option maxRecDepth 20000 in
set_option maxHeartbeats 1000000 in
theorem state_A (c : Dev nD) (t : Fin cfg0.N) (h0 : t.val % 128 = 0) : (outsAt0 m c t.val t.isLt).2
    = View.canon (stateList (X0_0 m c t) (iblk m c 1 t) (iblk m c 2 t) (iblk m c 3 t) (iblk m c 4 t) (iblk m c 5 t)
      (k0_pay2 (F := Ideal)) ++
        [⟨Rect.unit ![0, 0] S128x4096.size inb_S128x4096_S128x4096_0_0, k0_pay2 (F := Ideal)⟩]) := by
  rw [outsAt0_A m c t h0]
  dsimp only
  unfold sout0_A_0
  frame_open
  simp (maxSteps := 3000000) (disch := decide) only [↓ View.readCov_skip, ↓ View.readCov_cons_toLoadRect, ↓ View.readCov_fill,
    View.read_writes_junk_eq_canon, View.canon_cons_unit_lit', View.ld_unit_lit', View.readCov_unit_lit', View.readCov_cons_unit_lit',
    View.readAt_eq_ld, Memref.IsWhole.read_unread, read_unread_whole]
  generalize X0_0 m c t = x0
  generalize iblk m c 1 t = x1
  generalize iblk m c 2 t = x2
  generalize iblk m c 3 t = x3
  generalize iblk m c 4 t = x4
  generalize iblk m c 5 t = x5
  refine congrArg View.canon ?_
  simp only [stateList, List.map_cons, List.map_nil, List.cons_append, List.nil_append]
  refine pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ (pieces_eq ?_ ?_)))))))))))))))))))))))))))))))
  all_goals repeat rw [Memref.IsWhole.read_unread]
  all_goals rfl

/-! ## What a point reads -/

theorem idx : ∀ t : Fin cfg0.N, win0_0.index t = ![t.val / 128 * 128 + (127 - t.val % 128), 0]
    ∧ win0_1.index t = ![t.val / 128 * 128 + (127 - t.val % 128), 4] ∧ win0_2.index t = ![t.val / 128 * 128 + (127 - t.val % 128), 5]
    ∧ win0_3.index t = ![t.val / 128 * 128 + (127 - t.val % 128), 0] ∧ win0_4.index t = ![t.val / 128 * 128 + (127 - t.val % 128), 0]
    ∧ win0_5.index t = ![t.val / 128 * 128 + (127 - t.val % 128), 0] ∧ win0_6.index t = ![t.val / 128 * 128 + (127 - t.val % 128), 0] :=
  (by decide +kernel : ∀ t : Fin grid0.N, _)

theorem count (t : Fin cfg0.N) : t.val < 256 := lt_of_lt_of_eq t.isLt (show cfg0.N = 256 from N_0)

theorem first_block (i q : ℕ) (h : i = 0) : i * 4096 + q = q := by rw [h, Nat.zero_mul, Nat.zero_add]

theorem moved_values (c : Dev nD) (t : Fin cfg0.N) (z : ((cfg0.win 0).xblock (cfg0.grid.coords t)).Idx) (w : S32768x6144.Idx)
    (hw0 : (w 0 : ℕ) = (t.val / 128 * 128 + (127 - t.val % 128)) * 128 + z 0) (hw1 : (w 1 : ℕ) = z 1) : iblk m c 0 t z = m ((c : Thread nD τ).loc main_arg0) w := by
  have e0 : (((cfg0.win 0).blk t).view.emb z 0 : ℕ) = (t.val / 128 * 128 + (127 - t.val % 128)) * 128 + z 0 :=
    (Pipeline.Window.rect_emb_val (cfg0.win 0) t z 0 rfl).trans (congrArg (fun i : ℕ => i * 128 + (z 0).val) (congrFun (idx t).1 0))
  have e1 : (((cfg0.win 0).blk t).view.emb z 1 : ℕ) = z 1 :=
    (Pipeline.Window.rect_emb_val (cfg0.win 0) t z 1 rfl).trans (first_block _ _ (congrFun (idx t).1 1))
  refine congrArg (m ((c : Thread nD τ).loc main_arg0)) (funext (Fin.forall_fin_two.mpr ⟨Fin.ext ?_, Fin.ext ?_⟩))
  · exact e0.trans hw0.symm
  · exact e1.trans hw1.symm

theorem values (c : Dev nD) (t : Fin cfg0.N) (z : S128x4096.Idx) (w : S32768x6144.Idx)
    (hw0 : (w 0 : ℕ) = (t.val / 128 * 128 + (127 - t.val % 128)) * 128 + z 0) (hw1 : (w 1 : ℕ) = z 1) :
    X0_0 m c t z = m ((c : Thread nD τ).loc main_arg0) w := by
  unfold X0_0 Pipeline.Window.fill
  rw [dif_pos (moved0_0 t z)]
  exact moved_values m c t _ w hw0 hw1

theorem keyRows (c : Dev nD) (t : Fin cfg0.N) (z : S128x1024.Idx) (w : S32768x6144.Idx)
    (hw0 : (w 0 : ℕ) = (t.val / 128 * 128 + (127 - t.val % 128)) * 128 + z 0) (hw1 : (w 1 : ℕ) = 4096 + z 1) :
    iblk m c 1 t z = m ((c : Thread nD τ).loc main_arg0) w := by
  have e0 : (((cfg0.win 1).blk t).view.emb z 0 : ℕ) = (t.val / 128 * 128 + (127 - t.val % 128)) * 128 + z 0 := by blk_simp [idx t]
  have e1 : (((cfg0.win 1).blk t).view.emb z 1 : ℕ) = 4096 + z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem queries (c : Dev nD) (t : Fin cfg0.N) (z : S128x1024.Idx) (w : S32768x6144.Idx)
    (hw0 : (w 0 : ℕ) = (t.val / 128 * 128 + (127 - t.val % 128)) * 128 + z 0) (hw1 : (w 1 : ℕ) = 5120 + z 1) :
    iblk m c 2 t z = m ((c : Thread nD τ).loc main_arg0) w := by
  have e0 : (((cfg0.win 2).blk t).view.emb z 0 : ℕ) = (t.val / 128 * 128 + (127 - t.val % 128)) * 128 + z 0 := by blk_simp [idx t]
  have e1 : (((cfg0.win 2).blk t).view.emb z 1 : ℕ) = 5120 + z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem sums (c : Dev nD) (t : Fin cfg0.N) (z : S128x128.Idx) (w : S32768x128.Idx)
    (hw0 : (w 0 : ℕ) = (t.val / 128 * 128 + (127 - t.val % 128)) * 128 + z 0) (hw1 : (w 1 : ℕ) = z 1) :
    iblk m c 3 t z = m ((c : Thread nD τ).loc main_arg1) w := by
  have e0 : (((cfg0.win 3).blk t).view.emb z 0 : ℕ) = (t.val / 128 * 128 + (127 - t.val % 128)) * 128 + z 0 := by blk_simp [idx t]
  have e1 : (((cfg0.win 3).blk t).view.emb z 1 : ℕ) = z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

theorem sources (c : Dev nD) (t : Fin cfg0.N) (z : S128x128.Idx) (w : S32768x128.Idx)
    (hw0 : (w 0 : ℕ) = (t.val / 128 * 128 + (127 - t.val % 128)) * 128 + z 0) (hw1 : (w 1 : ℕ) = z 1) :
    iblk m c 4 t z = m ((c : Thread nD τ).loc main_arg2) w := by
  have e0 : (((cfg0.win 4).blk t).view.emb z 0 : ℕ) = (t.val / 128 * 128 + (127 - t.val % 128)) * 128 + z 0 := by blk_simp [idx t]
  have e1 : (((cfg0.win 4).blk t).view.emb z 1 : ℕ) = z 1 := by blk_simp [idx t]
  refine congrArg (m ((c : Thread nD τ).loc main_arg2)) (funext (Fin.forall_fin_two.mpr ⟨Fin.ext ?_, Fin.ext ?_⟩))
  · exact e0.trans hw0.symm
  · exact e1.trans hw1.symm

theorem weights (c : Dev nD) (t : Fin cfg0.N) (z : S128x128.Idx) (w : S32768x128.Idx)
    (hw0 : (w 0 : ℕ) = (t.val / 128 * 128 + (127 - t.val % 128)) * 128 + z 0) (hw1 : (w 1 : ℕ) = z 1) :
    iblk m c 5 t z = m ((c : Thread nD τ).loc main_arg3) w := by
  have e0 : (((cfg0.win 5).blk t).view.emb z 0 : ℕ) = (t.val / 128 * 128 + (127 - t.val % 128)) * 128 + z 0 := by blk_simp [idx t]
  have e1 : (((cfg0.win 5).blk t).view.emb z 1 : ℕ) = z 1 := by blk_simp [idx t]
  refine congrArg (m ((c : Thread nD τ).loc main_arg3)) (funext (Fin.forall_fin_two.mpr ⟨Fin.ext ?_, Fin.ext ?_⟩))
  · exact e0.trans hw0.symm
  · exact e1.trans hw1.symm

/-! ## The arguments as real numbers -/

def rows (c : Dev nD) : Fin 32768 → Fin 6144 → EReal := fun n d => m ((c : Thread nD τ).loc main_arg0) (ix2 n d)
def sumRows (c : Dev nD) : Fin 32768 → Fin 128 → EReal := fun n d => m ((c : Thread nD τ).loc main_arg1) (ix2 n d)
def sourceRows (c : Dev nD) : Fin 32768 → Fin 128 → EReal := fun n d => m ((c : Thread nD τ).loc main_arg2) (ix2 n d)
def weightRows (c : Dev nD) : Fin 32768 → Fin 128 → EReal := fun n d => m ((c : Thread nD τ).loc main_arg3) (ix2 n d)

/-- Every argument is a real number. -/
structure Finite (c : Dev nD) : Prop where
  rows (n : Fin 32768) (d : Fin 6144) : IsReal (rows m c n d)
  sums (n : Fin 32768) (d : Fin 128) : IsReal (sumRows m c n d)
  sources (n : Fin 32768) (d : Fin 128) : IsReal (sourceRows m c n d)
  weights (n : Fin 32768) (d : Fin 128) : IsReal (weightRows m c n d)

/-- The sequence that point `t` works on. -/
def seq (t : Fin cfg0.N) : Fin 2 := ⟨t.val / 128, by have := count t; omega⟩

theorem place_val (t : Fin cfg0.N) (l : ℕ) (hl : l < 128) :
    (place (seq t) (128 * (127 - t.val % 128) + l)).val = (t.val / 128 * 128 + (127 - t.val % 128)) * 128 + l := by
  have := count t
  show (t.val / 128 * 16384 + (128 * (127 - t.val % 128) + l)) % 32768 = _
  omega

variable {m}

theorem block {c : Dev nD} (H : Finite m c) (t : Fin cfg0.N) :
    Block (rows m c) (sumRows m c) (sourceRows m c) (weightRows m c) (seq t) (127 - t.val % 128)
      (X0_0 m c t) (iblk m c 1 t) (iblk m c 2 t) (iblk m c 3 t) (iblk m c 4 t) (iblk m c 5 t) where
  v d l := by
    unfold value
    rw [coe_toReal (H.rows _ _)]
    exact values m c t _ _ (place_val t l.val l.isLt) rfl
  k d l n := by
    unfold key
    rw [coe_toReal (H.rows _ _)]
    exact keyRows m c t _ _ (place_val t l.val l.isLt) rfl
  q d l n := by
    unfold query
    rw [coe_toReal (H.rows _ _)]
    exact queries m c t _ _ (place_val t l.val l.isLt) rfl
  a d l := by
    unfold cum
    rw [coe_toReal (H.sums _ _)]
    exact sums m c t _ _ (place_val t l.val l.isLt) rfl
  s d l := by
    rw [turned_chunk _ _ _ _ _ l.isLt, coe_toReal (H.sources _ _)]
    exact sources m c t _ _ (place_val t (lane d).val (lane d).isLt) rfl
  w d l := by
    rw [turned_chunk _ _ _ _ _ l.isLt, coe_toReal (H.weights _ _)]
    exact weights m c t _ _ (place_val t (lane d).val (lane d).isLt) rfl

/-! ## What is carried from chunk to chunk -/

/-- A sequence begins with empty matrices. -/
theorem carried_start (P : Fin 32768 → Fin 6144 → EReal) (A W : Fin 32768 → Fin 128 → EReal) (b : Fin 2) :
    Carried P A W b 128 (k0_pay2 (F := Ideal)) := by
  intro n d
  unfold held
  rw [SsdReal.state_end]
  pointwise [k0_pay2]
  rfl

theorem carried {c : Dev nD} (H : Finite m c) : ∀ (n : ℕ) (hn : n < cfg0.N),
    Carried (rows m c) (sumRows m c) (weightRows m c) (seq ⟨n, hn⟩) (127 - n % 128) (outsAt0 m c n hn).2
  | 0, hn => by
    rw [state_A m c ⟨0, hn⟩ rfl]
    exact state_chunk (by norm_num) (block H ⟨0, hn⟩) (carried_start _ _ _ _) _
  | n + 1, hn => by
    by_cases h0 : (n + 1) % 128 = 0
    · rw [state_A m c ⟨n + 1, hn⟩ h0]
      refine state_chunk (c := 127 - (n + 1) % 128) (by omega) (block H ⟨n + 1, hn⟩) ?_ _
      rw [h0]
      exact carried_start _ _ _ _
    · rw [state_B m c ⟨n + 1, hn⟩ h0]
      refine state_chunk (c := 127 - (n + 1) % 128) (by omega) (block H ⟨n + 1, hn⟩) ?_ _
      have e := carried H n (Nat.lt_of_succ_lt hn)
      have e1 : 127 - (n + 1) % 128 + 1 = 127 - n % 128 := by omega
      have e2 : seq ⟨n + 1, hn⟩ = seq ⟨n, Nat.lt_of_succ_lt hn⟩ := Fin.ext (by show (n + 1) / 128 = n / 128; omega)
      rw [e1, e2]
      exact e

theorem point {c : Dev nD} (H : Finite m c) (t : Fin cfg0.N) (l : Fin 128) (d : Fin 4096) :
    (outsAt0 m c t.val t.isLt).1 (ix2 l d)
      = (answer (rows m c) (sumRows m c) (sourceRows m c) (weightRows m c) (seq t) d (128 * (127 - t.val % 128) + l.val) : EReal) := by
  by_cases h0 : t.val % 128 = 0
  · rw [out_A m c t h0]
    refine out_chunk (by omega) (block H t) ?_ l d
    rw [h0]
    exact carried_start _ _ _ _
  · rw [out_B m c t h0]
    refine out_chunk (by omega) (block H t) ?_ l d
    have hp : 0 < t.val := by by_contra hz; exact h0 (by rw [Nat.eq_zero_of_not_pos hz])
    have e := carried H (t.val - 1) (Nat.lt_of_le_of_lt (Nat.sub_le _ _) t.isLt)
    have e1 : 127 - t.val % 128 + 1 = 127 - (t.val - 1) % 128 := by omega
    have e2 : seq t = seq ⟨t.val - 1, Nat.lt_of_le_of_lt (Nat.sub_le _ _) t.isLt⟩ :=
      Fin.ext (by show t.val / 128 = (t.val - 1) / 128; omega)
    rw [e1, e2]
    exact e

/-! ## The result of the kernel -/

/-- The result, entry by entry. -/
def result (P : Fin 32768 → Fin 6144 → EReal) (A S W : Fin 32768 → Fin 128 → EReal) (n : Fin 32768) (d : Fin 4096) : EReal :=
  (answer P A S W ⟨n.val / 16384, by omega⟩ d (n.val % 16384) : EReal)

theorem result_at (P : Fin 32768 → Fin 6144 → EReal) (A S W : Fin 32768 → Fin 128 → EReal) (b : Fin 2) (d : Fin 4096) (s : ℕ) (n : Fin 32768)
    (d' : Fin 4096) (hb : b.val = n.val / 16384) (hs : n.val % 16384 = s) (hd : d'.val = d.val) :
    (answer P A S W b d s : EReal) = result P A S W n d' := by
  have e : b = ⟨n.val / 16384, by omega⟩ := Fin.ext hb
  obtain rfl : d' = d := Fin.ext hd
  rw [← hs, e]
  rfl

theorem final {c : Dev nD} (H : Finite m c) : (dats m 0 c).arrAt 6 cfg0.N
    = fun w : S32768x4096.Idx => result (rows m c) (sumRows m c) (sourceRows m c) (weightRows m c) (w 0) (w 1) := by
  refine (dats m 0 c).arrAt_eq_of_covers 6 _ (by decide +kernel) fun t hf y => ?_
  have e0 : (((cfg0.win 6).blk t).view.emb y 0 : ℕ) = (t.val / 128 * 128 + (127 - t.val % 128)) * 128 + y 0 := by blk_simp [idx t]
  have e1 : (((cfg0.win 6).blk t).view.emb y 1 : ℕ) = y 1 := by blk_simp [idx t]
  blk_simp
  rw [after0_6]
  have hy0 : (y 0).val < 128 := (y 0).isLt
  have ht := count t
  have hy1 : (y 1).val < 4096 := (y 1).isLt
  have hp := point H t ⟨(y 0).val, hy0⟩ ⟨(y 1).val, hy1⟩
  have hy : y = ix2 (⟨(y 0).val, hy0⟩ : Fin 128) (⟨(y 1).val, hy1⟩ : Fin 4096) := by
    funext a
    fin_cases a <;> rfl
  refine (congrArg (outsAt0 m c t.val t.isLt).1 hy).trans (hp.trans ?_)
  exact result_at _ _ _ _ _ _ _ _ _ (by rw [e0]; show t.val / 128 = _; omega) (by rw [e0]; show _ = 128 * (127 - t.val % 128) + (y 0).val; omega) e1

end Cert.SsdScan

end
-- ==== Proof.SsdReference.lean ====
module

public import proofs.«01_k».proof.Proof.Gen.ReferenceSsdIdeal.Run
public import proofs.«01_k».proof.Proof.Gen.ReferenceSsdIdeal.Read
public import proofs.«01_k».proof.Proof.SsdInput
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SsdReference

open Cert.ReferenceSsdIdeal Cert.ReferenceSsdIdeal.Gen Cert.ReferenceSsdIdeal.Read
open Cert.MlstmNumber Cert.SsdInput

/-! # The reference of the state-space recurrence, stage by stage

The reference weighs every pair of positions at once. With real arguments each of its stages is a real number. -/

/-! ## Over the real numbers -/

section Real

variable (cum src w : ℕ → ℝ) (Q K : ℕ → Fin 128 → ℝ) (V : ℕ → ℝ)

theorem tail_eq (c : ℕ) : ∑ e : Fin 128, cum (128 * e.val) * (if c < e.val then 1 else 0) = SsdReal.gap cum (c + 1) 128 := by
  unfold SsdReal.gap
  rw [Fin.sum_univ_eq_sum_range (fun e => cum (128 * e) * (if c < e then 1 else 0)) 128]
  simp only [mul_ite, mul_one, mul_zero]
  rw [← Finset.sum_filter]
  refine Finset.sum_congr ?_ fun _ _ => rfl
  ext a
  simp only [Finset.mem_filter, Finset.mem_range, Finset.mem_Ico]
  omega

theorem full_eq (c : ℕ) (hc : c < 128) : SsdReal.gap cum (c + 1) 128 + cum (128 * c) = SsdReal.gap cum c 128 := by
  unfold SsdReal.gap
  rw [Finset.sum_eq_sum_Ico_succ_bot hc, add_comm]

theorem weight_eq (t s : ℕ) (hts : t ≤ s) (hs : s < 16384) :
    (if t / 128 = s / 128 then (2 : ℝ) ^ (cum t - src s)
      else (2 : ℝ) ^ (cum t + SsdReal.gap cum (t / 128 + 1) 128 - SsdReal.gap cum (s / 128) 128) * w s) = SsdReal.weight cum src w t s := by
  unfold SsdReal.weight
  split
  · rfl
  · have h : SsdReal.gap cum (t / 128 + 1) (s / 128) + SsdReal.gap cum (s / 128) 128 = SsdReal.gap cum (t / 128 + 1) 128 :=
      Finset.sum_Ico_consecutive _ (by omega) (by omega)
    rw [← h]
    congr 2
    ring

theorem answer_eq (t : ℕ) : ∑ s : Fin 16384, V s.val * ((if t ≤ s.val then SsdReal.weight cum src w t s.val else 0) * ∑ n, Q t n * K s.val n)
    = SsdReal.answer cum src w Q K V t := by
  rw [Fin.sum_univ_eq_sum_range (fun s => V s * ((if t ≤ s then SsdReal.weight cum src w t s else 0) * ∑ n, Q t n * K s n)) 16384]
  simp only [ite_mul, zero_mul, mul_ite, mul_zero]
  rw [← Finset.sum_filter]
  unfold SsdReal.answer
  refine Finset.sum_congr ?_ fun s _ => by ring
  ext a
  simp only [Finset.mem_filter, Finset.mem_range, Finset.mem_Ico]
  omega

end Real

/-! ## Comparisons and powers -/

theorem toInt_small (a : ℕ) (ha : a < 16384) : (BitVec.ofNat 32 a).toInt = a := by
  rw [BitVec.toInt_eq_toNat_cond, BitVec.toNat_ofNat]
  split <;> omega

theorem less (a b : ℕ) (ha : a < 16384) (hb : b < 16384) : IntOp.cmpi .slt (BitVec.ofNat 32 a) (BitVec.ofNat 32 b) = if a < b then 1#1 else 0#1 := by
  show BitVec.ofBool ((BitVec.ofNat 32 a).slt (BitVec.ofNat 32 b)) = _
  rw [BitVec.slt, toInt_small a ha, toInt_small b hb]
  by_cases h : a < b
  · rw [if_pos h, decide_eq_true (by omega)]; rfl
  · rw [if_neg h, decide_eq_false (by omega)]; rfl

theorem at_most (a b : ℕ) (ha : a < 16384) (hb : b < 16384) : IntOp.cmpi .sle (BitVec.ofNat 32 a) (BitVec.ofNat 32 b) = if a ≤ b then 1#1 else 0#1 := by
  show BitVec.ofBool ((BitVec.ofNat 32 a).sle (BitVec.ofNat 32 b)) = _
  rw [BitVec.sle, toInt_small a ha, toInt_small b hb]
  by_cases h : a ≤ b
  · rw [if_pos h, decide_eq_true (by omega)]; rfl
  · rw [if_neg h, decide_eq_false (by omega)]; rfl

theorem same (a b : ℕ) (ha : a < 16384) (hb : b < 16384) : IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h, beq_self_eq_true]; rfl
  · have hn : BitVec.ofNat 32 a ≠ BitVec.ofNat 32 b := fun e => h (by
      have e' := congrArg BitVec.toInt e
      rw [toInt_small a ha, toInt_small b hb] at e'
      omega)
    rw [if_neg h, beq_false_of_ne hn]; rfl

theorem two_bits : Ideal.ofBits FTy.f32 0x40000000#32 = ((2 : ℝ) : EReal) := by
  simp [Ideal.ofBits, Ideal.ieee]
  norm_num
  rw [← EReal.coe_mul]
  norm_num

theorem two_pow (b : ℝ) : Ideal.pow ((2 : ℝ) : EReal) (b : EReal) = (((2 : ℝ) ^ b : ℝ) : EReal) := rfl

/-! ## The stages -/

section Stages

variable {X : FVec Ideal S32768x6144 .bf16} {A S W : FVec Ideal S32768x128 .f32}

theorem place_val (b : Fin 2) (s : ℕ) (hs : s < 16384) : (place b s).val = b.val * 16384 + s := Nat.mod_eq_of_lt (by omega)

/-- The head of a column, and its entry there. -/
def head (d : Fin 4096) : Fin 64 := ⟨d.val / 64, by omega⟩
def entry (d : Fin 4096) : Fin 64 := ⟨d.val % 64, by omega⟩

variable (hX : ∀ (n : Fin 32768) (d : Fin 6144), IsReal (X (ix2 n d)))
variable (hA : ∀ (n : Fin 32768) (d : Fin 128), IsReal (A (ix2 n d)))
variable (hS : ∀ (n : Fin 32768) (d : Fin 128), IsReal (S (ix2 n d)))
variable (hW : ∀ (n : Fin 32768) (d : Fin 128), IsReal (W (ix2 n d)))

include hX

theorem ref_value (b : Fin 2) (s : Fin 16384) (d : Fin 4096) :
    val_main_v2 (F := Ideal) X (ix4 b s (head d) (entry d)) = (value (fun n d => X (ix2 n d)) b d s.val : EReal) := by
  unfold value
  rw [coe_toReal (hX _ _), val_main_v2_apply, val_main_v1_apply, val_main_v0_apply]
  show X _ = X _
  refine congrArg X (funext (Fin.forall_fin_two.mpr ⟨Fin.ext ?_, Fin.ext ?_⟩))
  · show (((b.val * 16384 + s.val) * 64 + d.val / 64) * 64 + d.val % 64) / 4096 = (place b s.val).val
    rw [place_val b s.val s.isLt]
    omega
  · show (((b.val * 16384 + s.val) * 64 + d.val / 64) * 64 + d.val % 64) % 4096 = d.val
    omega

theorem ref_key (b : Fin 2) (s : Fin 16384) (d : Fin 4096) (n : Fin 128) :
    val_main_v7 (F := Ideal) X (ix4 b s (head d) n) = (key (fun n d => X (ix2 n d)) b d s.val n : EReal) := by
  unfold key
  have e : idx_main_v7 (ix4 b s (head d) n) = ix5 b s (⟨d.val / 512, by omega⟩ : Fin 8) (⟨d.val / 64 % 8, by omega⟩ : Fin 8) n := by
    funext a
    fin_cases a
    · exact Fin.ext (by show (((b.val * 16384 + s.val) * 64 + d.val / 64) * 128 + n.val) / 134217728 = b.val; omega)
    · exact Fin.ext (by show (((b.val * 16384 + s.val) * 64 + d.val / 64) * 128 + n.val) / 8192 % 16384 = s.val; omega)
    · exact Fin.ext (by show (((b.val * 16384 + s.val) * 64 + d.val / 64) * 128 + n.val) / 1024 % 8 = d.val / 512; omega)
    · exact Fin.ext (by show (((b.val * 16384 + s.val) * 64 + d.val / 64) * 128 + n.val) / 128 % 8 = d.val / 64 % 8; omega)
    · exact Fin.ext (by show (((b.val * 16384 + s.val) * 64 + d.val / 64) * 128 + n.val) % 128 = n.val; omega)
  rw [coe_toReal (hX _ _), val_main_v7_apply, e, val_main_v6_apply, val_main_v5_apply, val_main_v4_apply, val_main_v3_apply]
  show X _ = X _
  refine congrArg X (funext (Fin.forall_fin_two.mpr ⟨Fin.ext ?_, Fin.ext ?_⟩))
  · show ((((b.val * 16384 + s.val) * 8 + d.val / 512) * 1 + 0) * 128 + n.val) / 1024 = (place b s.val).val
    rw [place_val b s.val s.isLt]
    omega
  · show 4096 + ((((b.val * 16384 + s.val) * 8 + d.val / 512) * 1 + 0) * 128 + n.val) % 1024 = 4096 + (128 * (d.val / 512) + n.val)
    omega

theorem ref_query (b : Fin 2) (s : Fin 16384) (d : Fin 4096) (n : Fin 128) :
    val_main_v12 (F := Ideal) X (ix4 b s (head d) n) = (query (fun n d => X (ix2 n d)) b d s.val n : EReal) := by
  unfold query
  have e : idx_main_v12 (ix4 b s (head d) n) = ix5 b s (⟨d.val / 512, by omega⟩ : Fin 8) (⟨d.val / 64 % 8, by omega⟩ : Fin 8) n := by
    funext a
    fin_cases a
    · exact Fin.ext (by show (((b.val * 16384 + s.val) * 64 + d.val / 64) * 128 + n.val) / 134217728 = b.val; omega)
    · exact Fin.ext (by show (((b.val * 16384 + s.val) * 64 + d.val / 64) * 128 + n.val) / 8192 % 16384 = s.val; omega)
    · exact Fin.ext (by show (((b.val * 16384 + s.val) * 64 + d.val / 64) * 128 + n.val) / 1024 % 8 = d.val / 512; omega)
    · exact Fin.ext (by show (((b.val * 16384 + s.val) * 64 + d.val / 64) * 128 + n.val) / 128 % 8 = d.val / 64 % 8; omega)
    · exact Fin.ext (by show (((b.val * 16384 + s.val) * 64 + d.val / 64) * 128 + n.val) % 128 = n.val; omega)
  rw [coe_toReal (hX _ _), val_main_v12_apply, e, val_main_v11_apply, val_main_v10_apply, val_main_v9_apply, val_main_v8_apply]
  show X _ = X _
  refine congrArg X (funext (Fin.forall_fin_two.mpr ⟨Fin.ext ?_, Fin.ext ?_⟩))
  · show ((((b.val * 16384 + s.val) * 8 + d.val / 512) * 1 + 0) * 128 + n.val) / 1024 = (place b s.val).val
    rw [place_val b s.val s.isLt]
    omega
  · show 5120 + ((((b.val * 16384 + s.val) * 8 + d.val / 512) * 1 + 0) * 128 + n.val) % 1024 = 5120 + (128 * (d.val / 512) + n.val)
    omega

omit hX
include hA

theorem ref_cum (b : Fin 2) (s : Fin 16384) (d : Fin 4096) :
    val_main_v14 (F := Ideal) A (ix3 b s (head d)) = (cum (fun n d => A (ix2 n d)) b d s.val : EReal) := by
  unfold cum
  rw [coe_toReal (hA _ _), val_main_v14_apply, val_main_v13_apply]
  refine congrArg A (funext (Fin.forall_fin_two.mpr ⟨Fin.ext ?_, Fin.ext ?_⟩))
  · show ((b.val * 16384 + s.val) * 64 + d.val / 64) / 64 = (place b s.val).val
    rw [place_val b s.val s.isLt]
    omega
  · show 64 + ((b.val * 16384 + s.val) * 64 + d.val / 64) % 64 = 64 + d.val / 64
    omega

theorem ref_edge (b : Fin 2) (c : Fin 128) (d : Fin 4096) :
    val_main_v25 (F := Ideal) A (ix3 b c (head d)) = (cum (fun n d => A (ix2 n d)) b d (128 * c.val) : EReal) := by
  rw [val_main_v25_apply, val_main_v24_apply, val_main_v23_apply, ← ref_cum hA b ⟨128 * c.val, by omega⟩ d]
  refine congrArg (val_main_v14 (F := Ideal) A) ?_
  funext a
  fin_cases a
  · exact Fin.ext (by
      show (((((b.val * 128 + c.val) * 64 + d.val / 64) / 8192 * 128 + ((b.val * 128 + c.val) * 64 + d.val / 64) / 64 % 128) * 128 + 0) * 64
        + ((b.val * 128 + c.val) * 64 + d.val / 64) % 64) / 1048576 = b.val
      omega)
  · exact Fin.ext (by
      show (((((b.val * 128 + c.val) * 64 + d.val / 64) / 8192 * 128 + ((b.val * 128 + c.val) * 64 + d.val / 64) / 64 % 128) * 128 + 0) * 64
        + ((b.val * 128 + c.val) * 64 + d.val / 64) % 64) / 64 % 16384 = 128 * c.val
      omega)
  · exact Fin.ext (by
      show (((((b.val * 128 + c.val) * 64 + d.val / 64) / 8192 * 128 + ((b.val * 128 + c.val) * 64 + d.val / 64) / 64 % 128) * 128 + 0) * 64
        + ((b.val * 128 + c.val) * 64 + d.val / 64) % 64) % 64 = d.val / 64
      omega)

omit hA

theorem ref_after (c e : Fin 128) : val_main_v32 (F := Ideal) (ix2 c e) = ((if c.val < e.val then 1 else 0 : ℝ) : EReal) := by
  have h : val_main_v31 (F := Ideal) (ix2 c e) = if c.val < e.val then 1#1 else 0#1 := by
    rw [val_main_v31_apply, val_main_v29_apply, val_main_v30_apply, val_main_v27_apply, val_main_v28_apply, val_main_v26_apply, val_main_v26_apply]
    exact less c.val e.val (by omega) (by omega)
  rw [val_main_v32_apply, h]
  split
  · show (((1#1).toNat : ℝ) : EReal) = _
    norm_num
  · show (((0#1).toNat : ℝ) : EReal) = _
    norm_num

include hA

theorem ref_tail (b : Fin 2) (c : Fin 128) (d : Fin 4096) :
    val_main_v34 (F := Ideal) A (ix3 b c (head d)) = (SsdReal.gap (cum (fun n d => A (ix2 n d)) b d) (c.val + 1) 128 : EReal) := by
  rw [val_main_v34_apply, val_main_v33_apply, ← tail_eq, ← sum_coe]
  refine Finset.sum_congr rfl fun e _ => ?_
  rw [EReal.coe_mul, ← ref_edge hA, ← ref_after]
  refine congrArg₂ (· * ·) (congrArg _ ?_) (congrArg _ ?_) <;> funext a <;> fin_cases a <;> rfl

theorem ref_full (b : Fin 2) (c : Fin 128) (d : Fin 4096) :
    val_main_v35 (F := Ideal) A (ix3 b c (head d)) = (SsdReal.gap (cum (fun n d => A (ix2 n d)) b d) c.val 128 : EReal) := by
  rw [val_main_v35_apply, ref_tail hA, ref_edge hA, ← full_eq _ _ c.isLt, EReal.coe_add]
  rfl

theorem ref_tails (b : Fin 2) (d : Fin 4096) (t : Fin 16384) :
    val_main_v45 (F := Ideal) A (ix3 b (head d) t) = (SsdReal.gap (cum (fun n d => A (ix2 n d)) b d) (t.val / 128 + 1) 128 : EReal) := by
  have e : idx_main_v38 (idx_main_v45 (ix3 b (head d) t)) = ix4 b (⟨t.val / 128, by omega⟩ : Fin 128) (⟨t.val % 128, by omega⟩ : Fin 128) (head d) := by
    funext a
    fin_cases a
    · exact Fin.ext (by show ((b.val * 16384 + t.val) * 64 + d.val / 64) / 1048576 = b.val; omega)
    · exact Fin.ext (by show ((b.val * 16384 + t.val) * 64 + d.val / 64) / 8192 % 128 = t.val / 128; omega)
    · exact Fin.ext (by show ((b.val * 16384 + t.val) * 64 + d.val / 64) / 64 % 128 = t.val % 128; omega)
    · exact Fin.ext (by show ((b.val * 16384 + t.val) * 64 + d.val / 64) % 64 = d.val / 64; omega)
  rw [val_main_v45_apply, val_main_v38_apply, e, val_main_v37_apply, val_main_v36_apply]
  refine (congrArg (val_main_v34 (F := Ideal) A) ?_).trans (ref_tail hA b ⟨t.val / 128, by omega⟩ d)
  funext a
  fin_cases a <;> rfl

theorem ref_fulls (b : Fin 2) (d : Fin 4096) (t : Fin 16384) :
    val_main_v46 (F := Ideal) A (ix3 b (head d) t) = (SsdReal.gap (cum (fun n d => A (ix2 n d)) b d) (t.val / 128) 128 : EReal) := by
  have e : idx_main_v41 (idx_main_v46 (ix3 b (head d) t)) = ix4 b (⟨t.val / 128, by omega⟩ : Fin 128) (⟨t.val % 128, by omega⟩ : Fin 128) (head d) := by
    funext a
    fin_cases a
    · exact Fin.ext (by show ((b.val * 16384 + t.val) * 64 + d.val / 64) / 1048576 = b.val; omega)
    · exact Fin.ext (by show ((b.val * 16384 + t.val) * 64 + d.val / 64) / 8192 % 128 = t.val / 128; omega)
    · exact Fin.ext (by show ((b.val * 16384 + t.val) * 64 + d.val / 64) / 64 % 128 = t.val % 128; omega)
    · exact Fin.ext (by show ((b.val * 16384 + t.val) * 64 + d.val / 64) % 64 = d.val / 64; omega)
  rw [val_main_v46_apply, val_main_v41_apply, e, val_main_v40_apply, val_main_v39_apply]
  refine (congrArg (val_main_v35 (F := Ideal) A) ?_).trans (ref_full hA b ⟨t.val / 128, by omega⟩ d)
  funext a
  fin_cases a <;> rfl

omit hA

include hS in
theorem ref_source (b : Fin 2) (s : Fin 16384) (d : Fin 4096) :
    val_main_v18 (F := Ideal) S (ix3 b s (head d)) = (turned (fun n d => S (ix2 n d)) b d s.val : EReal) := by
  unfold turned
  have e : idx_main_v16 (idx_main_v17 (idx_main_v18 (ix3 b s (head d))))
      = ix3 (⟨b.val * 128 + s.val / 128, by omega⟩ : Fin 256) (lane d) (⟨s.val % 128, by omega⟩ : Fin 128) := by
    funext a
    fin_cases a
    · exact Fin.ext (by show ((b.val * 16384 + s.val) * 64 + d.val / 64) / 8192 = b.val * 128 + s.val / 128; omega)
    · exact Fin.ext (by show 64 + ((b.val * 16384 + s.val) * 64 + d.val / 64) % 64 = 64 + d.val / 64; omega)
    · exact Fin.ext (by show ((b.val * 16384 + s.val) * 64 + d.val / 64) / 64 % 128 = s.val % 128; omega)
  rw [coe_toReal (hS _ _), val_main_v18_apply, val_main_v17_apply, val_main_v16_apply, e, val_main_v15_apply]
  refine congrArg S (funext (Fin.forall_fin_two.mpr ⟨Fin.ext ?_, Fin.ext ?_⟩))
  · show (((b.val * 128 + s.val / 128) * 128 + (64 + d.val / 64)) * 128 + s.val % 128) / 128 = (place b (128 * (s.val / 128) + (64 + d.val / 64))).val
    rw [place_val b _ (by omega)]
    omega
  · show (((b.val * 128 + s.val / 128) * 128 + (64 + d.val / 64)) * 128 + s.val % 128) % 128 = s.val % 128
    omega

include hW in
theorem ref_input (b : Fin 2) (s : Fin 16384) (d : Fin 4096) :
    val_main_v22 (F := Ideal) W (ix3 b s (head d)) = (turned (fun n d => W (ix2 n d)) b d s.val : EReal) := by
  unfold turned
  have e : idx_main_v20 (idx_main_v21 (idx_main_v22 (ix3 b s (head d))))
      = ix3 (⟨b.val * 128 + s.val / 128, by omega⟩ : Fin 256) (lane d) (⟨s.val % 128, by omega⟩ : Fin 128) := by
    funext a
    fin_cases a
    · exact Fin.ext (by show ((b.val * 16384 + s.val) * 64 + d.val / 64) / 8192 = b.val * 128 + s.val / 128; omega)
    · exact Fin.ext (by show 64 + ((b.val * 16384 + s.val) * 64 + d.val / 64) % 64 = 64 + d.val / 64; omega)
    · exact Fin.ext (by show ((b.val * 16384 + s.val) * 64 + d.val / 64) / 64 % 128 = s.val % 128; omega)
  rw [coe_toReal (hW _ _), val_main_v22_apply, val_main_v21_apply, val_main_v20_apply, e, val_main_v19_apply]
  refine congrArg W (funext (Fin.forall_fin_two.mpr ⟨Fin.ext ?_, Fin.ext ?_⟩))
  · show (((b.val * 128 + s.val / 128) * 128 + (64 + d.val / 64)) * 128 + s.val % 128) / 128 = (place b (128 * (s.val / 128) + (64 + d.val / 64))).val
    rw [place_val b _ (by omega)]
    omega
  · show (((b.val * 128 + s.val / 128) * 128 + (64 + d.val / 64)) * 128 + s.val % 128) % 128 = s.val % 128
    omega

include hA hS in
/-- What is left of an input within its own chunk. -/
theorem ref_near (b : Fin 2) (d : Fin 4096) (t s : Fin 16384) : val_main_v53 (F := Ideal) A S (ix4 b (head d) t s)
    = (((2 : ℝ) ^ (cum (fun n d => A (ix2 n d)) b d t.val - turned (fun n d => S (ix2 n d)) b d s.val) : ℝ) : EReal) := by
  rw [val_main_v53_apply, val_main_v52_apply, val_main_v51_apply, val_main_v50_apply, val_main_v49_apply, val_main_v48_apply, val_main_v47_apply,
    val_main_cst_apply, val_main_v43_apply, val_main_v42_apply,
    show idx_main_v42 (idx_main_v48 (idx_main_v50 (ix4 b (head d) t s))) = ix3 b t (head d) by funext a; fin_cases a <;> rfl,
    show idx_main_v43 (idx_main_v49 (idx_main_v51 (ix4 b (head d) t s))) = ix3 b s (head d) by funext a; fin_cases a <;> rfl,
    ref_cum hA, ref_source hS]
  refine (congrArg (fun z => Ideal.pow z _) two_bits).trans ?_
  rw [← two_pow, EReal.coe_sub]
  rfl

include hA hW in
/-- What is left of an input of a later chunk. -/
theorem ref_far (b : Fin 2) (d : Fin 4096) (t s : Fin 16384) : val_main_v63 (F := Ideal) A W (ix4 b (head d) t s)
    = (((2 : ℝ) ^ (cum (fun n d => A (ix2 n d)) b d t.val + SsdReal.gap (cum (fun n d => A (ix2 n d)) b d) (t.val / 128 + 1) 128
        - SsdReal.gap (cum (fun n d => A (ix2 n d)) b d) (s.val / 128) 128) * turned (fun n d => W (ix2 n d)) b d s.val : ℝ) : EReal) := by
  rw [val_main_v63_apply, val_main_v62_apply, val_main_v61_apply, val_main_v60_apply, val_main_v59_apply, val_main_v58_apply, val_main_v57_apply,
    val_main_v56_apply, val_main_v55_apply, val_main_v54_apply, val_main_v47_apply, val_main_cst_apply, val_main_v44_apply, val_main_v42_apply,
    show idx_main_v42 (idx_main_v55 (idx_main_v57 (ix4 b (head d) t s))) = ix3 b t (head d) by funext a; fin_cases a <;> rfl,
    show idx_main_v55 (idx_main_v57 (ix4 b (head d) t s)) = ix3 b (head d) t by funext a; fin_cases a <;> rfl,
    show idx_main_v56 (idx_main_v58 (ix4 b (head d) t s)) = ix3 b (head d) s by funext a; fin_cases a <;> rfl,
    show idx_main_v44 (idx_main_v61 (idx_main_v62 (ix4 b (head d) t s))) = ix3 b s (head d) by funext a; fin_cases a <;> rfl,
    ref_cum hA, ref_tails hA, ref_fulls hA, ref_input hW]
  refine (congrArg (fun z => Ideal.pow z _ * _) two_bits).trans ?_
  rw [EReal.coe_mul, ← two_pow, EReal.coe_sub, EReal.coe_add]
  rfl

theorem ref_same (t s : Fin 16384) : val_main_v71 (F := Ideal) (ix2 t s) = if t.val / 128 = s.val / 128 then 1#1 else 0#1 := by
  rw [val_main_v71_apply, val_main_v70_apply, val_main_v69_apply, val_main_v68_apply, val_main_v67_apply, val_main_v66_apply, val_main_v66_apply,
    val_main_v65_apply, val_main_v65_apply]
  exact same (t.val / 128) (s.val / 128) (by omega) (by omega)

theorem ref_before (t s : Fin 16384) : val_main_v77 (F := Ideal) (ix2 t s) = if t.val ≤ s.val then 1#1 else 0#1 := by
  rw [val_main_v77_apply, val_main_v76_apply, val_main_v75_apply, val_main_v74_apply, val_main_v73_apply, val_main_v64_apply, val_main_v64_apply]
  exact at_most t.val s.val t.isLt s.isLt

include hA hS hW in
theorem ref_weight (b : Fin 2) (d : Fin 4096) (t s : Fin 16384) : val_main_v78 (F := Ideal) A S W (ix4 b (head d) t s)
    = ((if t.val ≤ s.val then SsdReal.weight (cum (fun n d => A (ix2 n d)) b d) (turned (fun n d => S (ix2 n d)) b d)
        (turned (fun n d => W (ix2 n d)) b d) t.val s.val else 0 : ℝ) : EReal) := by
  rw [val_main_v78_apply, val_main_call1_v1_apply, val_main_call1_v2_apply, val_main_call1_v0_apply, val_main_cst_0_apply, val_main_v72_apply,
    val_main_call0_v0_apply, show idx_main_call1_v1 (ix4 b (head d) t s) = ix2 t s by funext a; fin_cases a <;> rfl,
    show idx_main_call0_v0 (ix4 b (head d) t s) = ix2 t s by funext a; fin_cases a <;> rfl, ref_before, ref_same, ref_near hA hS, ref_far hA hW]
  by_cases h : t.val ≤ s.val
  · rw [if_pos h, if_pos h, ← weight_eq _ _ _ _ _ h s.isLt]
    by_cases e : t.val / 128 = s.val / 128
    · rw [if_pos e, if_pos e]
      rfl
    · rw [if_neg e, if_neg e]
      rfl
  · rw [if_neg h, if_neg h]
    exact Ideal.ofBits_zero_f32

include hX in
theorem ref_score (b : Fin 2) (d : Fin 4096) (t s : Fin 16384) : val_main_v79 (F := Ideal) X (ix4 b (head d) t s)
    = ((∑ n, query (fun n d => X (ix2 n d)) b d t.val n * key (fun n d => X (ix2 n d)) b d s.val n : ℝ) : EReal) := by
  rw [val_main_v79_apply, ← sum_coe]
  refine Finset.sum_congr rfl fun n _ => ?_
  rw [EReal.coe_mul, ← ref_query hX, ← ref_key hX]
  refine congrArg₂ (· * ·) (congrArg _ ?_) (congrArg _ ?_) <;> funext a <;> fin_cases a <;> rfl

include hX hA hS hW

theorem ref_answer (b : Fin 2) (d : Fin 4096) (t : Fin 16384) : val_main_v82 (F := Ideal) X A S W (ix4 b t (head d) (entry d))
    = (answer (fun n d => X (ix2 n d)) (fun n d => A (ix2 n d)) (fun n d => S (ix2 n d)) (fun n d => W (ix2 n d)) b d t.val : EReal) := by
  unfold answer
  rw [val_main_v82_apply, val_main_v81_apply, ← answer_eq, ← sum_coe]
  refine Finset.sum_congr rfl fun s _ => ?_
  rw [EReal.coe_mul, EReal.coe_mul, ← ref_value hX, ← ref_weight hA hS hW, ← ref_score hX]
  refine congrArg₂ (· * ·) (congrArg _ ?_) ((val_main_v80_apply _ _ _ _ _).trans (congrArg₂ (· * ·) (congrArg _ ?_) (congrArg _ ?_))) <;> funext a <;>
    fin_cases a <;> rfl

/-- The reference, entry by entry. -/
theorem ref_result (n : Fin 32768) (d : Fin 4096) : val_main_v83 (F := Ideal) X A S W (ix2 n d)
    = (answer (fun n d => X (ix2 n d)) (fun n d => A (ix2 n d)) (fun n d => S (ix2 n d)) (fun n d => W (ix2 n d)) ⟨n.val / 16384, by omega⟩ d
        (n.val % 16384) : EReal) := by
  rw [val_main_v83_apply, ← ref_answer hX hA hS hW ⟨n.val / 16384, by omega⟩ d ⟨n.val % 16384, by omega⟩]
  refine congrArg _ ?_
  funext a
  fin_cases a
  · exact Fin.ext (by show (n.val * 4096 + d.val) / 67108864 = n.val / 16384; omega)
  · exact Fin.ext (by show (n.val * 4096 + d.val) / 4096 % 16384 = n.val % 16384; omega)
  · exact Fin.ext (by show (n.val * 4096 + d.val) / 64 % 64 = d.val / 64; omega)
  · exact Fin.ext (by show (n.val * 4096 + d.val) % 64 = d.val % 64; omega)

end Stages

end Cert.SsdReference

end
-- ==== Proof.SsdFinite.lean ====
module

public import proofs.«01_k».proof.Pre_finite_ssd
public import proofs.«01_k».proof.Proof.MlstmFinite
public import proofs.«01_k».proof.Proof.SsdScan
public import proofs.«01_k».proof.Proof.SsdReference
public import Idealize.ShloMosaic.Lib.ReduceAll

@[expose] public section

noncomputable section

open Idealize.ShloMosaic Idealize.ShloMosaic.TcCoe Idealize.SL.Sem

namespace Cert.SsdFinite

open Cert.MlstmNumber Cert.MlstmFinite

/-! # Finite arguments of the state-space recurrence are real numbers -/

theorem real [Cert.Pre_finite_ssd.Facts] (X : FVec Ideal Cert.Pre_finite_ssd.S32768x6144 .bf16) (A S W : FVec Ideal Cert.Pre_finite_ssd.S32768x128 .f32)
    (h : Cert.Pre_finite_ssd.fn (F := Ideal) X A S W = fun _ => 1#1) :
    (∀ i, IsReal (X i)) ∧ (∀ i, IsReal (A i)) ∧ (∀ i, IsReal (S i)) ∧ ∀ i, IsReal (W i) := by
  dsimp only [Cert.Pre_finite_ssd.fn, Cert.Pre_finite_ssd.fn_part1] at h
  have e := congrFun h (Shape.Idx.first Cert.Pre_finite_ssd.Facts.h_S_)
  obtain ⟨e1, eW⟩ := both e
  obtain ⟨e2, eS⟩ := both e1
  obtain ⟨eX, eA⟩ := both e2
  refine ⟨fun i => ?_, fun i => ?_, fun i => ?_, fun i => ?_⟩
  · exact isReal_of_bit (φ := .bf16) infinity_bf16 (Host.reduce_andi_all _ _ _ _ _ eX i)
  · exact isReal_of_bit (φ := .f32) infinity_f32 (Host.reduce_andi_all _ _ _ _ _ eA i)
  · exact isReal_of_bit (φ := .f32) infinity_f32 (Host.reduce_andi_all _ _ _ _ _ eS i)
  · exact isReal_of_bit (φ := .f32) infinity_f32 (Host.reduce_andi_all _ _ _ _ _ eW i)

end Cert.SsdFinite

end
-- ==== Proof.KvProduct.lean ====
module

public import proofs.«01_k».proof.Proof.Gen.KernelKvIdeal.Value
public import proofs.«01_k».proof.Proof.Gen.ReferenceKvIdeal.Run
public import proofs.«01_k».proof.Proof.Gen.ReferenceKvIdeal.Read
public import proofs.«01_k».proof.Proof.Norm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KvProduct

open Cert.KernelKvIdeal Cert.KernelKvIdeal.Gen
open Cert.ReferenceKvIdeal.Read
open Cert.Norm

/-! # The keys and values of the cross attention, from the memory

The kernel takes all 512 rows of the memory at once and walks 4 blocks of 1024 columns. At the first column block it normalises
the rows and keeps them; every column block is then one product with the kept rows. -/

/-! ## The kernel's two payloads -/

theorem kept (X : Vec Ideal S512x2048 .f32) (G : Vec Ideal S1x2048 .f32) (y : S512x2048.Idx) :
    k0_pay1 (F := Ideal) X G y = normed (fun d => X (ix2 (y 0) d)) (fun d => G (ix2 0 d)) (y 1)  := by
  unfold normed scale
  pointwise [k0_pay1]

theorem product (K : Vec Ideal S512x2048 .bf16) (W : Vec Ideal S2048x1024 .bf16) (y : S512x1024.Idx) :
    k0_pay2 (F := Ideal) K W y = ∑ d : Fin 2048, K (ix2 (y 0) d) * W (ix2 d (y 1)) := by
  pointwise [k0_pay2]

/-! ## The reference -/

section Reference

variable (X : FVec Ideal S512x2048 .f32) (G : FVec Ideal S2048 .f32)

theorem ref_square (r : Fin 512) :
    val_main_v1 (F := Ideal) X (ix1 r) = ∑ d : Fin 2048, X (ix2 r d) * X (ix2 r d) := by
  rw [val_main_v1_apply, val_main_cst_apply]
  show Ideal.ofBits FTy.f32 0x00000000#32 + _ = _
  rw [Ideal.ofBits_zero_f32, zero_add]
  refine Finset.sum_congr rfl fun d _ => ?_
  rw [val_main_v0_apply]
  refine congrArg₂ (· * ·) (congrArg _ ?_) (congrArg _ ?_) <;> funext a <;> fin_cases a <;> rfl

theorem ref_scale (r : Fin 512) :
    val_main_v7 (F := Ideal) X (ix2 r 0) = scale fun d => X (ix2 r d) := by
  unfold scale
  rw [← ref_square, val_main_v7_apply, val_main_v6_apply, val_main_v5_apply, val_main_v4_apply, val_main_v3_apply,
    val_main_v2_apply, val_main_cst_0_apply, val_main_cst_1_apply]
  show Ideal.rsqrt (Ideal.div (val_main_v1 (F := Ideal) X _) _ + _) = _
  refine congrArg (fun z => Ideal.rsqrt (Ideal.div (val_main_v1 (F := Ideal) X z) _ + _)) ?_
  funext a; fin_cases a; rfl

theorem ref_norm (r : Fin 512) (d : Fin 2048) :
    val_main_v12 (F := Ideal) X G (ix2 r d) = normed (fun d => X (ix2 r d)) (fun d => G (ix1 d)) d := by
  unfold normed
  rw [← ref_scale, val_main_v12_apply, val_main_v11_apply, val_main_v10_apply, val_main_v9_apply, val_main_v8_apply]
  show X _ * val_main_v7 (F := Ideal) X _ * G _ = _
  refine congrArg₂ (· * ·) (congrArg (_ * val_main_v7 (F := Ideal) X ·) ?_) (congrArg _ ?_) <;> funext a <;> fin_cases a <;> rfl

end Reference

/-- The array the reference returns. -/
theorem ref_result (X : FVec Ideal S512x2048 .f32) (W : FVec Ideal S2048x4096 .bf16) (G : FVec Ideal S2048 .f32)
    (j : S512x4096.Idx) :
    val_main_v15 (F := Ideal) X W G j
      = ∑ d : Fin 2048, normed (fun d => X (ix2 (j 0) d)) (fun d => G (ix1 d)) d * W (ix2 d (j 1)) := by
  rw [val_main_v15_apply]
  refine (val_main_v14_apply X W G j).trans (Finset.sum_congr rfl fun d _ => ?_)
  rw [val_main_v13_apply]
  refine congrArg₂ (· * ·) (Eq.trans (congrArg _ ?_) (ref_norm X G (j 0) d)) (congrArg W ?_) <;> funext a <;>
    fin_cases a <;> rfl

/-! ## The kernel's blocks -/

section Blocks

variable (m : (ℓ : Loc nD τ sig) → Buf (Elt Ideal) ℓ)

/-- Point `t` takes row block `t / 2` and column block `t % 2`. -/
theorem idx : ∀ t : Fin cfg0.N, win0_0.index t = ![t.val / 4, 0] ∧ win0_1.index t = ![0, 0] ∧ win0_2.index t = ![0, t.val % 4]
    ∧ win0_3.index t = ![t.val / 4, t.val % 4] :=
  (by decide +kernel : ∀ t : Fin grid0.N, _)

theorem rows (c : Dev nD) (t : Fin cfg0.N) (z : S512x2048.Idx) (w : S512x2048.Idx)
    (hw0 : (w 0 : ℕ) = t.val / 4 * 512 + z 0) (hw1 : (w 1 : ℕ) = z 1) :
    iblk m c 0 t z = m ((c : Thread nD τ).loc main_arg0) w := by
  have e0 : (((cfg0.win 0).blk t).view.emb z 0 : ℕ) = t.val / 4 * 512 + z 0 := by blk_simp [idx t]
  have e1 : (((cfg0.win 0).blk t).view.emb z 1 : ℕ) = z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem gains (c : Dev nD) (t : Fin cfg0.N) (d : Fin 2048) :
    iblk m c 1 t (ix2 0 d) = m ((c : Thread nD τ).loc main_arg2) (ix1 d) := by
  show shapeCast S1x2048 (m ((c : Thread nD τ).loc main_arg2)) shapeCasts_S2048_S1x2048 (((cfg0.win 1).blk t).view.emb (ix2 0 d)) = _
  refine shapeCast_apply _ _ _ _ ?_
  rewrite [Shape.rowMajor_val_two]
  have e0 : (((cfg0.win 1).blk t).view.emb (ix2 0 d) 0 : ℕ) = 0 := by blk_simp [idx t]; rfl
  have e1 : (((cfg0.win 1).blk t).view.emb (ix2 0 d) 1 : ℕ) = d := by blk_simp [idx t]
  rw [e0, e1]
  refine (Shape.rowMajor_val_one (d := ![2048]) (ix1 d)).trans ?_
  show (d : ℕ) = _
  omega

theorem weights (c : Dev nD) (t : Fin cfg0.N) (z : S2048x1024.Idx) (w : S2048x4096.Idx)
    (hw0 : (w 0 : ℕ) = z 0) (hw1 : (w 1 : ℕ) = t.val % 4 * 1024 + z 1) :
    iblk m c 2 t z = m ((c : Thread nD τ).loc main_arg1) w := by
  have e0 : (((cfg0.win 2).blk t).view.emb z 0 : ℕ) = z 0 := by blk_simp [idx t]
  have e1 : (((cfg0.win 2).blk t).view.emb z 1 : ℕ) = t.val % 4 * 1024 + z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

/-- The kept rows after a point are the normalised rows of that point's row block. -/
theorem kept_after (c : Dev nD) (n : ℕ) : ∀ (hn : n < cfg0.N),
    (outsAt0 m c n hn).2 = k0_pay1 (F := Ideal) (iblk m c 0 ⟨n, hn⟩) (iblk m c 1 ⟨n, hn⟩) := by
  induction n with
  | zero =>
    intro hn
    rw [outsAt0_A m c ⟨0, hn⟩ (Nat.zero_mod _)]
    frame_out
  | succ n ih =>
    intro hn
    by_cases h0 : (n + 1) % 4 = 0
    · rw [outsAt0_A m c ⟨n + 1, hn⟩ h0]
      frame_out
    · rw [outsAt0_B m c ⟨n + 1, hn⟩ h0]
      refine (ih (Nat.lt_of_succ_lt hn)).trans ?_
      funext y
      rw [kept, kept]
      refine normed_congr (fun d => ?_) (fun d => ?_) rfl
      · have hN : n + 1 < 4 := lt_of_lt_of_eq hn N_0
        have y0 : (y 0 : ℕ) < 512 := (y 0).isLt
        have e : n / 4 = (n + 1) / 4 := by omega
        refine (rows m c ⟨n, Nat.lt_of_succ_lt hn⟩ (ix2 (y 0) d) (ix2 ⟨n / 4 * 512 + y 0, by omega⟩ d) rfl rfl).trans
          (rows m c ⟨n + 1, hn⟩ (ix2 (y 0) d) (ix2 ⟨n / 4 * 512 + y 0, by omega⟩ d) ?_ rfl).symm
        show n / 4 * 512 + (y 0 : ℕ) = (n + 1) / 4 * 512 + (y 0 : ℕ)
        rw [e]
      · rw [gains, gains]

/-- The output block after a point is the product of the kept rows with that point's columns. -/
theorem out_after (c : Dev nD) (t : Fin cfg0.N) :
    (outsAt0 m c t.val t.isLt).1 = k0_pay2 (F := Ideal) (outsAt0 m c t.val t.isLt).2 (iblk m c 2 t) := by
  by_cases h0 : t.val % 4 = 0
  · rw [outsAt0_A m c t h0]
    frame_out
  · rw [outsAt0_B m c t h0]
    unfold sout0_B_0
    frame_out
    exact congrArg (k0_pay2 (F := Ideal) · (iblk m c 2 t)) ((Memref.isWhole_whole cc0_scratch0).read_unread _)

/-- What point `t` stores is the reference's block. -/
theorem point (c : Dev nD) (t : Fin cfg0.N) (y : S512x1024.Idx) :
    (outsAt0 m c t.val t.isLt).1 y
      = val_main_v15 (F := Ideal) (m ((c : Thread nD τ).loc main_arg0)) (m ((c : Thread nD τ).loc main_arg1))
          (m ((c : Thread nD τ).loc main_arg2)) (((cfg0.win 3).blk t).view.emb y) := by
  have e0 : (((cfg0.win 3).blk t).view.emb y 0 : ℕ) = t.val / 4 * 512 + y 0 := by blk_simp [idx t]
  have e1 : (((cfg0.win 3).blk t).view.emb y 1 : ℕ) = t.val % 4 * 1024 + y 1 := by blk_simp [idx t]
  rw [out_after, kept_after, product, ref_result]
  refine Finset.sum_congr rfl fun d _ => ?_
  rw [kept]
  refine congrArg₂ (· * ·) (normed_congr (fun d => ?_) (fun d => gains m c t d) rfl) ?_
  · exact rows m c t _ _ e0 rfl
  · exact weights m c t _ _ rfl e1

theorem final (c : Dev nD) :
    (dats m 0 c).arrAt 3 cfg0.N
      = val_main_v15 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  exact point m c t y

end Blocks

end Cert.KvProduct

end
-- ==== Proof.GateProduct.lean ====
module

public import proofs.«01_k».proof.Proof.Gen.KernelGateIdeal.Value
public import proofs.«01_k».proof.Proof.Gen.ReferenceGateIdeal.Run
public import proofs.«01_k».proof.Proof.Gen.ReferenceGateIdeal.Read
public import proofs.«01_k».proof.Proof.UpProduct
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateProduct

open Cert.KernelGateIdeal Cert.KernelGateIdeal.Gen
open Cert.ReferenceGateIdeal.Read
open Cert.Norm

/-! # The gates of a mixer, from the residual stream

The kernel walks 32 blocks of 1024 rows, normalises each and multiplies it by the 128 columns of weights. -/

/-! ## The kernel's two payloads -/

theorem kept (X : Vec Ideal S1024x2048 .f32) (G : Vec Ideal S1x2048 .f32) (y : S1024x2048.Idx) :
    k0_pay1 (F := Ideal) X G y = normed (fun d => X (ix2 (y 0) d)) (fun d => G (ix2 0 d)) (y 1) :=
  Cert.UpProduct.kept X G y

theorem product (K : Vec Ideal S1024x2048 .bf16) (W : Vec Ideal S2048x128 .bf16) (y : S1024x128.Idx) :
    k0_pay2 (F := Ideal) K W y = ∑ d : Fin 2048, K (ix2 (y 0) d) * W (ix2 d (y 1)) := by
  pointwise [k0_pay2]

/-! ## The reference -/

/-- The array the reference returns: its rows are normalised as the up projection's are. -/
theorem ref_result (X : FVec Ideal S32768x2048 .f32) (W : FVec Ideal S2048x128 .bf16) (G : FVec Ideal S2048 .f32)
    (j : S32768x128.Idx) :
    val_main_v14 (F := Ideal) X W G j
      = ∑ d : Fin 2048, normed (fun d => X (ix2 (j 0) d)) (fun d => G (ix1 d)) d * W (ix2 d (j 1)) := by
  refine (val_main_v14_apply X W G j).trans (Finset.sum_congr rfl fun d _ => ?_)
  rw [val_main_v13_apply]
  refine congrArg₂ (· * ·) (Eq.trans (congrArg _ ?_) (Cert.UpProduct.ref_norm X G (j 0) d)) (congrArg W ?_) <;> funext a <;>
    fin_cases a <;> rfl

/-! ## The kernel's blocks -/

section Blocks

variable (m : (ℓ : Loc nD τ sig) → Buf (Elt Ideal) ℓ)

/-- Point `t` takes row block `t / 2` and column block `t % 2`. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

theorem rows (c : Dev nD) (t : Fin cfg0.N) (z : S1024x2048.Idx) (w : S32768x2048.Idx)
    (hw0 : (w 0 : ℕ) = t.val * 1024 + z 0) (hw1 : (w 1 : ℕ) = z 1) :
    iblk m c 0 t z = m ((c : Thread nD τ).loc main_arg0) w := by
  have e0 : (((cfg0.win 0).blk t).view.emb z 0 : ℕ) = t.val * 1024 + z 0 := by blk_simp [idx t]
  have e1 : (((cfg0.win 0).blk t).view.emb z 1 : ℕ) = z 1 := by blk_simp [idx t]
  refine congrArg (m ((c : Thread nD τ).loc main_arg0)) (funext (Fin.forall_fin_two.mpr ⟨Fin.ext ?_, Fin.ext ?_⟩))
  · exact e0.trans hw0.symm
  · exact e1.trans hw1.symm

theorem gains (c : Dev nD) (t : Fin cfg0.N) (d : Fin 2048) :
    iblk m c 1 t (ix2 0 d) = m ((c : Thread nD τ).loc main_arg2) (ix1 d) := by
  show shapeCast S1x2048 (m ((c : Thread nD τ).loc main_arg2)) shapeCasts_S2048_S1x2048 (((cfg0.win 1).blk t).view.emb (ix2 0 d)) = _
  refine shapeCast_apply _ _ _ _ ?_
  rewrite [Shape.rowMajor_val_two]
  have e0 : (((cfg0.win 1).blk t).view.emb (ix2 0 d) 0 : ℕ) = 0 := by blk_simp [idx t]; rfl
  have e1 : (((cfg0.win 1).blk t).view.emb (ix2 0 d) 1 : ℕ) = d := by blk_simp [idx t]
  rw [e0, e1]
  refine (Shape.rowMajor_val_one (d := ![2048]) (ix1 d)).trans ?_
  show (d : ℕ) = _
  omega

theorem weights (c : Dev nD) (t : Fin cfg0.N) (z : S2048x128.Idx) (w : S2048x128.Idx)
    (hw0 : (w 0 : ℕ) = z 0) (hw1 : (w 1 : ℕ) = z 1) :
    iblk m c 2 t z = m ((c : Thread nD τ).loc main_arg1) w := by
  have e0 : (((cfg0.win 2).blk t).view.emb z 0 : ℕ) = z 0 := by blk_simp [idx t]
  have e1 : (((cfg0.win 2).blk t).view.emb z 1 : ℕ) = z 1 := by blk_simp [idx t]
  refine congrArg (m ((c : Thread nD τ).loc main_arg1)) (funext (Fin.forall_fin_two.mpr ⟨Fin.ext ?_, Fin.ext ?_⟩))
  · exact e0.trans hw0.symm
  · exact e1.trans hw1.symm

/-- The output block after a point is the product of its normalised rows with the weights. -/
theorem out_after (c : Dev nD) (t : Fin cfg0.N) :
    outsAt0 m c t = k0_pay2 (F := Ideal) (k0_pay1 (F := Ideal) (iblk m c 0 t) (iblk m c 1 t)) (iblk m c 2 t) := by
  unfold outsAt0
  frame_out

/-- What point `t` stores is the reference's block. -/
theorem point (c : Dev nD) (t : Fin cfg0.N) (y : S1024x128.Idx) :
    (outsAt0 m c t) y
      = val_main_v14 (F := Ideal) (m ((c : Thread nD τ).loc main_arg0)) (m ((c : Thread nD τ).loc main_arg1))
          (m ((c : Thread nD τ).loc main_arg2)) (((cfg0.win 3).blk t).view.emb y) := by
  have e0 : (((cfg0.win 3).blk t).view.emb y 0 : ℕ) = t.val * 1024 + y 0 := by blk_simp [idx t]
  have e1 : (((cfg0.win 3).blk t).view.emb y 1 : ℕ) = y 1 := by blk_simp [idx t]
  rw [out_after, product, ref_result]
  refine Finset.sum_congr rfl fun d _ => ?_
  rw [kept]
  refine congrArg₂ (· * ·) (normed_congr (fun d => ?_) (fun d => gains m c t d) rfl) ?_
  · exact rows m c t _ _ e0 rfl
  · exact weights m c t _ _ rfl e1

theorem final (c : Dev nD) :
    (dats m 0 c).arrAt 3 cfg0.N
      = val_main_v14 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  exact point m c t y

end Blocks

end Cert.GateProduct

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelGlu
public import proofs.«01_k».proof.Proof.Gen.KernelGlu.Skeleton
public import proofs.«01_k».proof.Proof.Gen.KernelGlu.Launch
public import proofs.«01_k».proof.Proof.Gen.KernelGlu.Points
public import proofs.«01_k».proof.Proof.Gen.KernelGlu.Frame
public import proofs.«01_k».proof.Proof.Gen.KernelGluIdeal
public import proofs.«01_k».proof.Proof.Gen.KernelGluIdeal.Skeleton
public import proofs.«01_k».proof.Proof.Gen.KernelGluIdeal.Launch
public import proofs.«01_k».proof.Proof.Gen.KernelGluIdeal.Points
public import proofs.«01_k».proof.Proof.Gen.KernelGluIdeal.Frame
public import proofs.«01_k».proof.Proof.Gen.KernelGluIdeal.Value
public import proofs.«01_k».proof.Proof.Gen.ReferenceGluIdeal
public import proofs.«01_k».proof.Proof.Gen.ReferenceGluIdeal.Run
public import proofs.«01_k».proof.Proof.Gen.ReferenceGluIdeal.Read
public import proofs.«01_k».proof.Proof.Gen.KernelQuery
public import proofs.«01_k».proof.Proof.Gen.KernelQuery.Skeleton
public import proofs.«01_k».proof.Proof.Gen.KernelQuery.Launch
public import proofs.«01_k».proof.Proof.Gen.KernelQuery.Points
public import proofs.«01_k».proof.Proof.Gen.KernelQuery.Frame
public import proofs.«01_k».proof.Proof.Gen.KernelQueryIdeal
public import proofs.«01_k».proof.Proof.Gen.KernelQueryIdeal.Skeleton
public import proofs.«01_k».proof.Proof.Gen.KernelQueryIdeal.Launch
public import proofs.«01_k».proof.Proof.Gen.KernelQueryIdeal.Points
public import proofs.«01_k».proof.Proof.Gen.KernelQueryIdeal.Frame
public import proofs.«01_k».proof.Proof.Gen.KernelQueryIdeal.Value
public import proofs.«01_k».proof.Proof.Gen.ReferenceQueryIdeal
public import proofs.«01_k».proof.Proof.Gen.ReferenceQueryIdeal.Run
public import proofs.«01_k».proof.Proof.Gen.ReferenceQueryIdeal.Read
public import proofs.«01_k».proof.Proof.Gen.KernelSsdIn
public import proofs.«01_k».proof.Proof.Gen.KernelSsdIn.Skeleton
public import proofs.«01_k».proof.Proof.Gen.KernelSsdIn.Launch
public import proofs.«01_k».proof.Proof.Gen.KernelSsdIn.Points
public import proofs.«01_k».proof.Proof.Gen.KernelSsdIn.Frame
public import proofs.«01_k».proof.Proof.Gen.KernelSsdInIdeal
public import proofs.«01_k».proof.Proof.Gen.KernelSsdInIdeal.Skeleton
public import proofs.«01_k».proof.Proof.Gen.KernelSsdInIdeal.Launch
public import proofs.«01_k».proof.Proof.Gen.KernelSsdInIdeal.Points
public import proofs.«01_k».proof.Proof.Gen.KernelSsdInIdeal.Frame
public import proofs.«01_k».proof.Proof.Gen.KernelSsdInIdeal.Value
public import proofs.«01_k».proof.Proof.Gen.ReferenceSsdInIdeal
public import proofs.«01_k».proof.Proof.Gen.ReferenceSsdInIdeal.Run
public import proofs.«01_k».proof.Proof.Gen.ReferenceSsdInIdeal.Read
public import proofs.«01_k».proof.Proof.Gen.KernelMlstmIn
public import proofs.«01_k».proof.Proof.Gen.KernelMlstmIn.Skeleton
public import proofs.«01_k».proof.Proof.Gen.KernelMlstmIn.Launch
public import proofs.«01_k».proof.Proof.Gen.KernelMlstmIn.Points
public import proofs.«01_k».proof.Proof.Gen.KernelMlstmIn.Frame
public import proofs.«01_k».proof.Proof.Gen.KernelMlstmInIdeal
public import proofs.«01_k».proof.Proof.Gen.KernelMlstmInIdeal.Skeleton
public import proofs.«01_k».proof.Proof.Gen.KernelMlstmInIdeal.Launch
public import proofs.«01_k».proof.Proof.Gen.KernelMlstmInIdeal.Points
public import proofs.«01_k».proof.Proof.Gen.KernelMlstmInIdeal.Frame
public import proofs.«01_k».proof.Proof.Gen.KernelMlstmInIdeal.Value
public import proofs.«01_k».proof.Proof.Gen.ReferenceMlstmInIdeal
public import proofs.«01_k».proof.Proof.Gen.ReferenceMlstmInIdeal.Run
public import proofs.«01_k».proof.Proof.Gen.ReferenceMlstmInIdeal.Read
public import proofs.«01_k».proof.Proof.Gen.KernelRglruIn
public import proofs.«01_k».proof.Proof.Gen.KernelRglruIn.Skeleton
public import proofs.«01_k».proof.Proof.Gen.KernelRglruIn.Launch
public import proofs.«01_k».proof.Proof.Gen.KernelRglruIn.Points
public import proofs.«01_k».proof.Proof.Gen.KernelRglruIn.Frame
public import proofs.«01_k».proof.Proof.Gen.KernelRglruInIdeal
public import proofs.«01_k».proof.Proof.Gen.KernelRglruInIdeal.Skeleton
public import proofs.«01_k».proof.Proof.Gen.KernelRglruInIdeal.Launch
public import proofs.«01_k».proof.Proof.Gen.KernelRglruInIdeal.Points
public import proofs.«01_k».proof.Proof.Gen.KernelRglruInIdeal.Frame
public import proofs.«01_k».proof.Proof.Gen.KernelRglruInIdeal.Value
public import proofs.«01_k».proof.Proof.Gen.ReferenceRglruInIdeal
public import proofs.«01_k».proof.Proof.Gen.ReferenceRglruInIdeal.Run
public import proofs.«01_k».proof.Proof.Gen.ReferenceRglruInIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelSsdOut
public import proofs.«01_k».proof.Proof.Gen.KernelSsdOut.Skeleton
public import proofs.«01_k».proof.Proof.Gen.KernelSsdOut.Launch
public import proofs.«01_k».proof.Proof.Gen.KernelSsdOut.Points
public import proofs.«01_k».proof.Proof.Gen.KernelSsdOut.Frame
public import proofs.«01_k».proof.Proof.Gen.KernelSsdOutIdeal
public import proofs.«01_k».proof.Proof.Gen.KernelSsdOutIdeal.Skeleton
public import proofs.«01_k».proof.Proof.Gen.KernelSsdOutIdeal.Launch
public import proofs.«01_k».proof.Proof.Gen.KernelSsdOutIdeal.Points
public import proofs.«01_k».proof.Proof.Gen.KernelSsdOutIdeal.Frame
public import proofs.«01_k».proof.Proof.Gen.KernelSsdOutIdeal.Value
public import proofs.«01_k».proof.Proof.Gen.ReferenceSsdOutIdeal
public import proofs.«01_k».proof.Proof.Gen.ReferenceSsdOutIdeal.Run
public import proofs.«01_k».proof.Proof.Gen.ReferenceSsdOutIdeal.Read
public import proofs.«01_k».proof.Proof.Gen.KernelMlstm
public import proofs.«01_k».proof.Proof.Gen.KernelMlstm.Skeleton
public import proofs.«01_k».proof.Proof.Gen.KernelMlstm.Launch
public import proofs.«01_k».proof.Proof.Gen.KernelMlstm.Points
public import proofs.«01_k».proof.Proof.Gen.KernelMlstm.Frame
public import proofs.«01_k».proof.Proof.Gen.KernelMlstmIdeal
public import proofs.«01_k».proof.Proof.Gen.KernelMlstmIdeal.Skeleton
public import proofs.«01_k».proof.Proof.Gen.KernelMlstmIdeal.Launch
public import proofs.«01_k».proof.Proof.Gen.KernelMlstmIdeal.Points
public import proofs.«01_k».proof.Proof.Gen.KernelMlstmIdeal.Frame
public import proofs.«01_k».proof.Proof.Gen.KernelMlstmIdeal.Value
public import proofs.«01_k».proof.Proof.Gen.ReferenceMlstmIdeal
public import proofs.«01_k».proof.Proof.Gen.ReferenceMlstmIdeal.Run
public import proofs.«01_k».proof.Proof.Gen.ReferenceMlstmIdeal.Read
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.KernelKvIdeal.Value
public import proofs.«01_k».proof.Proof.Gen.ReferenceKvIdeal
public import proofs.«01_k».proof.Proof.Gen.ReferenceKvIdeal.Run
public import proofs.«01_k».proof.Proof.Gen.ReferenceKvIdeal.Read
public import proofs.«01_k».proof.Proof.Gen.KernelGate
public import proofs.«01_k».proof.Proof.Gen.KernelGate.Skeleton
public import proofs.«01_k».proof.Proof.Gen.KernelGate.Launch
public import proofs.«01_k».proof.Proof.Gen.KernelGate.Points
public import proofs.«01_k».proof.Proof.Gen.KernelGate.Frame
public import proofs.«01_k».proof.Proof.Gen.KernelGateIdeal
public import proofs.«01_k».proof.Proof.Gen.KernelGateIdeal.Skeleton
public import proofs.«01_k».proof.Proof.Gen.KernelGateIdeal.Launch
public import proofs.«01_k».proof.Proof.Gen.KernelGateIdeal.Points
public import proofs.«01_k».proof.Proof.Gen.KernelGateIdeal.Frame
public import proofs.«01_k».proof.Proof.Gen.KernelGateIdeal.Value
public import proofs.«01_k».proof.Proof.Gen.ReferenceGateIdeal
public import proofs.«01_k».proof.Proof.Gen.ReferenceGateIdeal.Run
public import proofs.«01_k».proof.Proof.Gen.ReferenceGateIdeal.Read
public import proofs.«01_k».proof.Proof.Gen.KernelSsd
public import proofs.«01_k».proof.Proof.Gen.KernelSsd.Skeleton
public import proofs.«01_k».proof.Proof.Gen.KernelSsd.Launch
public import proofs.«01_k».proof.Proof.Gen.KernelSsd.Points
public import proofs.«01_k».proof.Proof.Gen.KernelSsd.Frame
public import proofs.«01_k».proof.Proof.Gen.KernelSsdIdeal
public import proofs.«01_k».proof.Proof.Gen.KernelSsdIdeal.Skeleton
public import proofs.«01_k».proof.Proof.Gen.KernelSsdIdeal.Launch
public import proofs.«01_k».proof.Proof.Gen.KernelSsdIdeal.Points
public import proofs.«01_k».proof.Proof.Gen.KernelSsdIdeal.Frame
public import proofs.«01_k».proof.Proof.Gen.KernelSsdIdeal.Value
public import proofs.«01_k».proof.Proof.Gen.ReferenceSsdIdeal
public import proofs.«01_k».proof.Proof.Gen.ReferenceSsdIdeal.Run
public import proofs.«01_k».proof.Proof.Gen.ReferenceSsdIdeal.Read
public import proofs.«01_k».proof.Proof.Gen.Pre_finite
public import proofs.«01_k».proof.Proof.Gen.Pre_finite_ssd
public import proofs.«01_k».proof.Proof.Attention
public import proofs.«01_k».proof.Proof.UpProduct
public import proofs.«01_k».proof.Proof.DownProduct
public import proofs.«01_k».proof.Proof.GluProduct
public import proofs.«01_k».proof.Proof.QueryProduct
public import proofs.«01_k».proof.Proof.SsdInProduct
public import proofs.«01_k».proof.Proof.MlstmInProduct
public import proofs.«01_k».proof.Proof.RglruInProduct
public import proofs.«01_k».proof.Proof.OutProduct
public import proofs.«01_k».proof.Proof.SsdOutProduct
public import proofs.«01_k».proof.Proof.MlstmFinite
public import proofs.«01_k».proof.Proof.SsdFinite
public import proofs.«01_k».proof.Proof.KvProduct
public import proofs.«01_k».proof.Proof.GateProduct
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The kernel's attention and the reference's are one function of the queries and the memory. -/
theorem attention : Cert.algebraic_KernelIdeal_ReferenceIdeal := by
  pair_intro
  · run_from Cert.KernelIdeal.Gen.run_main m g
  · hlo_run
    exact (Cert.Attention.final m c).symm

/-- The up projection of the normalised rows, by kernel and reference. -/
theorem up : Cert.algebraic_KernelUpIdeal_ReferenceUpIdeal := by
  pair_intro
  · run_from Cert.KernelUpIdeal.Gen.run_main m g
  · hlo_run
    exact (Cert.UpProduct.final m c).symm

set_option maxHeartbeats 1600000 in
/-- The gated down projection into the residual stream and the last normalisation, by kernel and reference. -/
theorem down : Cert.algebraic_KernelDownIdeal_ReferenceDownIdeal := by
  pair_intro
  · run_from Cert.KernelDownIdeal.Gen.run_main m g
  · hlo_run
    exact (Cert.DownProduct.final m c).symm

set_option maxHeartbeats 1600000 in
/-- The gated down projection of an inner layer, by kernel and reference. -/
theorem glu : Cert.algebraic_KernelGluIdeal_ReferenceGluIdeal := by
  pair_intro
  · run_from Cert.KernelGluIdeal.Gen.run_main m g
  · hlo_run
    exact (Cert.GluProduct.final m c).symm

/-- The attention's queries from the normalised rows, by kernel and reference. -/
theorem query : Cert.algebraic_KernelQueryIdeal_ReferenceQueryIdeal := by
  pair_intro
  · run_from Cert.KernelQueryIdeal.Gen.run_main m g
  · hlo_run
    exact (Cert.QueryProduct.final m c).symm

/-- The state-space layer's projection of the normalised rows, by kernel and reference. -/
theorem ssd_in : Cert.algebraic_KernelSsdInIdeal_ReferenceSsdInIdeal := by
  pair_intro
  · run_from Cert.KernelSsdInIdeal.Gen.run_main m g
  · hlo_run
    exact (Cert.SsdInProduct.final m c).symm

/-- The matrix-memory layer's projection of the normalised rows, by kernel and reference. -/
theorem mlstm_in : Cert.algebraic_KernelMlstmInIdeal_ReferenceMlstmInIdeal := by
  pair_intro
  · run_from Cert.KernelMlstmInIdeal.Gen.run_main m g
  · hlo_run
    exact (Cert.MlstmInProduct.final m c).symm

/-- The gated linear recurrence's projection of the normalised rows, by kernel and reference. -/
theorem rglru_in : Cert.algebraic_KernelRglruInIdeal_ReferenceRglruInIdeal := by
  pair_intro
  · run_from Cert.KernelRglruInIdeal.Gen.run_main m g
  · hlo_run
    exact (Cert.RglruInProduct.final m c).symm

/-- The output projection into the residual stream, by kernel and reference. -/
theorem out : Cert.algebraic_KernelOutIdeal_ReferenceOutIdeal := by
  pair_intro
  · run_from Cert.KernelOutIdeal.Gen.run_main m g
  · hlo_run
    exact (Cert.OutProduct.final m c).symm

/-- The state-space layer's normalised output projection into the residual stream, by kernel and reference. -/
theorem ssd_out : Cert.algebraic_KernelSsdOutIdeal_ReferenceSsdOutIdeal := by
  pair_intro
  · run_from Cert.KernelSsdOutIdeal.Gen.run_main m g
  · hlo_run
    exact (Cert.SsdOutProduct.final m c).symm

/-- The matrix-memory recurrence over real arguments, by kernel and reference. -/
theorem mlstm : Cert.algebraic_KernelMlstmIdeal_ReferenceMlstmIdeal_pre_finite := by
  pair_intro
  · run_from Cert.KernelMlstmIdeal.Gen.run_main m g
  · refine (θ_run Cert.ReferenceMlstmIdeal.defs _ _).mono (fun r h c => ⟨(h c).1.trans ?_, (h c).2⟩) (Cert.ReferenceMlstmIdeal.Value.run m' g')
    obtain ⟨hX, hG, hB⟩ := Cert.MlstmFinite.real _ _ _ (hpre c)
    refine Eq.trans ?_ (Cert.MlstmScan.final (m := m) (c := c) ⟨fun _ _ => hX _, fun _ _ => hG _, fun _ => hB _⟩).symm
    rw [Cert.ReferenceMlstmIdeal.Read.val_main_v51_eq, (hagree c).1, (hagree c).2.1, (hagree c).2.2]
    funext w
    refine Eq.trans ?_ (Cert.MlstmReference.ref_result (fun _ _ => hX _) (fun _ _ => hG _) (fun _ => hB _) (w 0) (w 1))
    refine congrArg _ ?_
    funext a; fin_cases a <;> rfl

/-- The attention's keys and values from the memory, by kernel and reference. -/
theorem kv : Cert.algebraic_KernelKvIdeal_ReferenceKvIdeal := by
  pair_intro
  · run_from Cert.KernelKvIdeal.Gen.run_main m g
  · hlo_run
    exact (Cert.KvProduct.final m c).symm

/-- A mixer's gates from the normalised rows, by kernel and reference. -/
theorem gate : Cert.algebraic_KernelGateIdeal_ReferenceGateIdeal := by
  pair_intro
  · run_from Cert.KernelGateIdeal.Gen.run_main m g
  · hlo_run
    exact (Cert.GateProduct.final m c).symm

/-- The state-space recurrence read from the end, by kernel and reference, of inputs that are real numbers. -/
theorem ssd : Cert.algebraic_KernelSsdIdeal_ReferenceSsdIdeal_pre_finite_ssd := by
  pair_intro
  · run_from Cert.KernelSsdIdeal.Gen.run_main m g
  · refine (θ_run Cert.ReferenceSsdIdeal.defs _ _).mono (fun r h c => ⟨(h c).1.trans ?_, (h c).2⟩) (Cert.ReferenceSsdIdeal.Value.run m' g')
    obtain ⟨hX, hA, hS, hW⟩ := Cert.SsdFinite.real _ _ _ _ (hpre c)
    refine Eq.trans ?_ (Cert.SsdScan.final (m := m) (c := c) ⟨fun _ _ => hX _, fun _ _ => hA _, fun _ _ => hS _, fun _ _ => hW _⟩).symm
    rw [Cert.ReferenceSsdIdeal.Read.val_main_v83_eq, (hagree c).1, (hagree c).2.1, (hagree c).2.2.1, (hagree c).2.2.2]
    funext w
    refine Eq.trans ?_ (Cert.SsdReference.ref_result (fun _ _ => hX _) (fun _ _ => hA _) (fun _ _ => hS _) (fun _ _ => hW _) (w 0) (w 1))
    refine congrArg _ ?_
    funext a; fin_cases a <;> rfl

/-- The attention's reference leaves its arguments as they were; it declares no semaphore. -/
theorem reference_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- So does the up projection's. -/
theorem reference_up_frame : Cert.quiescent_ReferenceUpIdeal := fun m g _ =>
  (θ_run Cert.ReferenceUpIdeal.defs _ _).mono
    (fun r h => ⟨fun c => (h c).2, sem_eq_zero_of_no_sems (by decide) r.2⟩) (Cert.ReferenceUpIdeal.Value.run m g)

/-- So does the down projection's. -/
theorem reference_down_frame : Cert.quiescent_ReferenceDownIdeal := fun m g _ =>
  (θ_run Cert.ReferenceDownIdeal.defs _ _).mono
    (fun r h => ⟨fun c => (h c).2, sem_eq_zero_of_no_sems (by decide) r.2⟩) (Cert.ReferenceDownIdeal.Value.run m g)

/-- So does an inner layer's. -/
theorem reference_glu_frame : Cert.quiescent_ReferenceGluIdeal := fun m g _ =>
  (θ_run Cert.ReferenceGluIdeal.defs _ _).mono
    (fun r h => ⟨fun c => (h c).2, sem_eq_zero_of_no_sems (by decide) r.2⟩) (Cert.ReferenceGluIdeal.Value.run m g)

/-- So does the queries'. -/
theorem reference_query_frame : Cert.quiescent_ReferenceQueryIdeal := fun m g _ =>
  (θ_run Cert.ReferenceQueryIdeal.defs _ _).mono
    (fun r h => ⟨fun c => (h c).2, sem_eq_zero_of_no_sems (by decide) r.2⟩) (Cert.ReferenceQueryIdeal.Value.run m g)

/-- So does the state-space layer's projection's. -/
theorem reference_ssd_in_frame : Cert.quiescent_ReferenceSsdInIdeal := fun m g _ =>
  (θ_run Cert.ReferenceSsdInIdeal.defs _ _).mono
    (fun r h => ⟨fun c => (h c).2, sem_eq_zero_of_no_sems (by decide) r.2⟩) (Cert.ReferenceSsdInIdeal.Value.run m g)

/-- So does the matrix-memory layer's projection's. -/
theorem reference_mlstm_in_frame : Cert.quiescent_ReferenceMlstmInIdeal := fun m g _ =>
  (θ_run Cert.ReferenceMlstmInIdeal.defs _ _).mono
    (fun r h => ⟨fun c => (h c).2, sem_eq_zero_of_no_sems (by decide) r.2⟩) (Cert.ReferenceMlstmInIdeal.Value.run m g)

/-- So does the gated linear recurrence's projection's. -/
theorem reference_rglru_in_frame : Cert.quiescent_ReferenceRglruInIdeal := fun m g _ =>
  (θ_run Cert.ReferenceRglruInIdeal.defs _ _).mono
    (fun r h => ⟨fun c => (h c).2, sem_eq_zero_of_no_sems (by decide) r.2⟩) (Cert.ReferenceRglruInIdeal.Value.run m g)

/-- So does the output projection's. -/
theorem reference_out_frame : Cert.quiescent_ReferenceOutIdeal := fun m g _ =>
  (θ_run Cert.ReferenceOutIdeal.defs _ _).mono
    (fun r h => ⟨fun c => (h c).2, sem_eq_zero_of_no_sems (by decide) r.2⟩) (Cert.ReferenceOutIdeal.Value.run m g)

/-- So does the state-space layer's output projection's. -/
theorem reference_ssd_out_frame : Cert.quiescent_ReferenceSsdOutIdeal := fun m g _ =>
  (θ_run Cert.ReferenceSsdOutIdeal.defs _ _).mono
    (fun r h => ⟨fun c => (h c).2, sem_eq_zero_of_no_sems (by decide) r.2⟩) (Cert.ReferenceSsdOutIdeal.Value.run m g)

/-- So does the matrix-memory recurrence's. -/
theorem reference_mlstm_frame : Cert.quiescent_ReferenceMlstmIdeal := fun m g _ =>
  (θ_run Cert.ReferenceMlstmIdeal.defs _ _).mono
    (fun r h => ⟨fun c => (h c).2, sem_eq_zero_of_no_sems (by decide) r.2⟩) (Cert.ReferenceMlstmIdeal.Value.run m g)

/-- So does the keys' and values'. -/
theorem reference_kv_frame : Cert.quiescent_ReferenceKvIdeal := fun m g _ =>
  (θ_run Cert.ReferenceKvIdeal.defs _ _).mono
    (fun r h => ⟨fun c => (h c).2, sem_eq_zero_of_no_sems (by decide) r.2⟩) (Cert.ReferenceKvIdeal.Value.run m g)

/-- So does the gates'. -/
theorem reference_gate_frame : Cert.quiescent_ReferenceGateIdeal := fun m g _ =>
  (θ_run Cert.ReferenceGateIdeal.defs _ _).mono
    (fun r h => ⟨fun c => (h c).2, sem_eq_zero_of_no_sems (by decide) r.2⟩) (Cert.ReferenceGateIdeal.Value.run m g)

/-- So does the state-space recurrence's. -/
theorem reference_ssd_frame : Cert.quiescent_ReferenceSsdIdeal := fun m g _ =>
  (θ_run Cert.ReferenceSsdIdeal.defs _ _).mono
    (fun r h => ⟨fun c => (h c).2, sem_eq_zero_of_no_sems (by decide) r.2⟩) (Cert.ReferenceSsdIdeal.Value.run m g)

theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelGlu.Gen.facts, Cert.KernelGluIdeal.Gen.facts, Cert.ReferenceGluIdeal.Gen.facts,
  Cert.KernelQuery.Gen.facts, Cert.KernelQueryIdeal.Gen.facts, Cert.ReferenceQueryIdeal.Gen.facts,
  Cert.KernelSsdIn.Gen.facts, Cert.KernelSsdInIdeal.Gen.facts, Cert.ReferenceSsdInIdeal.Gen.facts,
  Cert.KernelMlstmIn.Gen.facts, Cert.KernelMlstmInIdeal.Gen.facts, Cert.ReferenceMlstmInIdeal.Gen.facts,
  Cert.KernelRglruIn.Gen.facts, Cert.KernelRglruInIdeal.Gen.facts, Cert.ReferenceRglruInIdeal.Gen.facts,
  Cert.KernelOut.Gen.facts, Cert.KernelOutIdeal.Gen.facts, Cert.ReferenceOutIdeal.Gen.facts,
  Cert.KernelSsdOut.Gen.facts, Cert.KernelSsdOutIdeal.Gen.facts, Cert.ReferenceSsdOutIdeal.Gen.facts,
  Cert.KernelMlstm.Gen.facts, Cert.KernelMlstmIdeal.Gen.facts, Cert.ReferenceMlstmIdeal.Gen.facts,
  Cert.KernelKv.Gen.facts, Cert.KernelKvIdeal.Gen.facts, Cert.ReferenceKvIdeal.Gen.facts,
  Cert.KernelGate.Gen.facts, Cert.KernelGateIdeal.Gen.facts, Cert.ReferenceGateIdeal.Gen.facts,
  Cert.KernelSsd.Gen.facts, Cert.KernelSsdIdeal.Gen.facts, Cert.ReferenceSsdIdeal.Gen.facts,
  Cert.Pre_finite.Gen.facts, Cert.Pre_finite_ssd.Gen.facts,
  fun m ρ _ => Cert.Kernel.Gen.frame m ρ,
  fun m ρ _ => Cert.KernelIdeal.Gen.frame m ρ,
  reference_frame,
  fun m ρ _ => Cert.KernelUp.Gen.frame m ρ,
  fun m ρ _ => Cert.KernelUpIdeal.Gen.frame m ρ,
  reference_up_frame,
  fun m ρ _ => Cert.KernelDown.Gen.frame m ρ,
  fun m ρ _ => Cert.KernelDownIdeal.Gen.frame m ρ,
  reference_down_frame,
  fun m ρ _ => Cert.KernelGlu.Gen.frame m ρ,
  fun m ρ _ => Cert.KernelGluIdeal.Gen.frame m ρ,
  reference_glu_frame,
  fun m ρ _ => Cert.KernelQuery.Gen.frame m ρ,
  fun m ρ _ => Cert.KernelQueryIdeal.Gen.frame m ρ,
  reference_query_frame,
  fun m ρ _ => Cert.KernelSsdIn.Gen.frame m ρ,
  fun m ρ _ => Cert.KernelSsdInIdeal.Gen.frame m ρ,
  reference_ssd_in_frame,
  fun m ρ _ => Cert.KernelMlstmIn.Gen.frame m ρ,
  fun m ρ _ => Cert.KernelMlstmInIdeal.Gen.frame m ρ,
  reference_mlstm_in_frame,
  fun m ρ _ => Cert.KernelRglruIn.Gen.frame m ρ,
  fun m ρ _ => Cert.KernelRglruInIdeal.Gen.frame m ρ,
  reference_rglru_in_frame,
  fun m ρ _ => Cert.KernelOut.Gen.frame m ρ,
  fun m ρ _ => Cert.KernelOutIdeal.Gen.frame m ρ,
  reference_out_frame,
  fun m ρ _ => Cert.KernelSsdOut.Gen.frame m ρ,
  fun m ρ _ => Cert.KernelSsdOutIdeal.Gen.frame m ρ,
  reference_ssd_out_frame,
  fun m ρ _ => Cert.KernelMlstm.Gen.frame m ρ,
  fun m ρ _ => Cert.KernelMlstmIdeal.Gen.frame m ρ,
  fun m ρ _ => Cert.KernelMlstmIdeal.Gen.frame m ρ,
  reference_mlstm_frame,
  fun m g _ => reference_mlstm_frame m g trivial,
  fun m ρ _ => Cert.KernelKv.Gen.frame m ρ,
  fun m ρ _ => Cert.KernelKvIdeal.Gen.frame m ρ,
  reference_kv_frame,
  fun m ρ _ => Cert.KernelGate.Gen.frame m ρ,
  fun m ρ _ => Cert.KernelGateIdeal.Gen.frame m ρ,
  reference_gate_frame,
  fun m ρ _ => Cert.KernelSsd.Gen.frame m ρ,
  fun m ρ _ => Cert.KernelSsdIdeal.Gen.frame m ρ,
  fun m ρ _ => Cert.KernelSsdIdeal.Gen.frame m ρ,
  reference_ssd_frame,
  fun m g _ => reference_ssd_frame m g trivial,
  trivial,
  attention,
  trivial,
  up,
  IdealRules.named_const.statement Cert.KernelDownIdeal.κ "neg_log2_e" .bf16 0xBFB9#16 _ rfl,
  down,
  IdealRules.named_const.statement Cert.KernelGluIdeal.κ "neg_log2_e" .bf16 0xBFB9#16 _ rfl,
  glu,
  trivial,
  query,
  trivial,
  ssd_in,
  trivial,
  mlstm_in,
  trivial,
  rglru_in,
  trivial,
  out,
  trivial,
  ssd_out,
  ⟨IdealRules.named_const.statement Cert.KernelMlstmIdeal.κ "mask" .f32 0xF149F2CA#32 _ rfl,
   IdealRules.named_const.statement Cert.KernelMlstmIdeal.κ "log_scale" .f32 0xC01B43D5#32 _ rfl⟩,
  mlstm,
  trivial,
  kv,
  trivial,
  gate,
  IdealRules.named_const.statement Cert.KernelSsdIdeal.κ "mask" .f32 0xF149F2CA#32 _ rfl,
  ssd⟩

end Cert.Proof

end
